-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S16384x8x192 : Shape := ⟨3, ![16384, 8, 192]⟩
abbrev S16384x8x128 : Shape := ⟨3, ![16384, 8, 128]⟩
abbrev S_ : Shape := ⟨0, ![]⟩

class Facts : Prop where
  bcast_S_S16384x8x192 : S_.BroadcastsInDim S16384x8x192 (![] : Fin 0 → Fin S16384x8x192.rank)
  reducesTo_S16384x8x192_S_d0_1_2 : S16384x8x192.ReducesTo [0, 1, 2] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_

variable [Facts]

def fn_part1 {F : FTy → Type} [FloatOps F] (main_v13 : IVec S_ 1) (main_v16 : IVec S16384x8x128 1) : IVec S_ 1 :=
  let main_c_5 : IVec S_ 1 := constantI S_ 1 1#1
  let main_v17 : IVec S_ 1 := (fun x v => Host.reduce IntOp.andi x v reducesTo_S16384x8x128_S_d0_1_2 h_S_) main_v16 main_c_5
  let main_v18 : IVec S_ 1 := andi main_v13 main_v17
  main_v18

def fn {F : FTy → Type} [FloatOps F] (main_arg0 : FVec F S16384x8x192 .f32) (main_arg1 : FVec F S16384x8x192 .f32) (main_arg2 : FVec F S16384x8x128 .f32) (main_arg3 : FVec F S16384x8x128 .f32) : IVec S_ 1 :=
  let main_v0 : FVec F S16384x8x192 .f32 := Host.absf main_arg0
  let main_cst : FVec F S_ .f32 := constant S_ .f32 0x7F800000#32
  let main_v1 : FVec F S16384x8x192 .f32 := broadcastInDim S16384x8x192 ![] bcast_S_S16384x8x192 main_cst
  let main_v2 : IVec S16384x8x192 1 := cmpf .olt main_v0 main_v1
  let main_c : IVec S_ 1 := constantI S_ 1 1#1
  let main_v3 : IVec S_ 1 := (fun x v => Host.reduce IntOp.andi x v reducesTo_S16384x8x192_S_d0_1_2 h_S_) main_v2 main_c
  let main_v4 : FVec F S16384x8x192 .f32 := Host.absf main_arg1
  let main_cst_0 : FVec F S_ .f32 := constant S_ .f32 0x7F800000#32
  let main_v5 : FVec F S16384x8x192 .f32 := broadcastInDim S16384x8x192 ![] bcast_S_S16384x8x192 main_cst_0
  let main_v6 : IVec S16384x8x192 1 := cmpf .olt main_v4 main_v5
  let main_c_1 : IVec S_ 1 := constantI S_ 1 1#1
  let main_v7 : IVec S_ 1 := (fun x v => Host.reduce IntOp.andi x v reducesTo_S16384x8x192_S_d0_1_2 h_S_) main_v6 main_c_1
  let main_v8 : IVec S_ 1 := andi main_v3 main_v7
  let main_v9 : FVec F S16384x8x128 .f32 := Host.absf main_arg2
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  let main_c_3 : IVec S_ 1 := constantI S_ 1 1#1
  let main_v12 : IVec S_ 1 := (fun x v => Host.reduce IntOp.andi x v reducesTo_S16384x8x128_S_d0_1_2 h_S_) main_v11 main_c_3
  let main_v13 : IVec S_ 1 := andi main_v8 main_v12
  let main_v14 : FVec F S16384x8x128 .f32 := Host.absf main_arg3
  let main_cst_4 : FVec F S_ .f32 := constant S_ .f32 0x7F800000#32
  let main_v15 : FVec F S16384x8x128 .f32 := broadcastInDim S16384x8x128 ![] bcast_S_S16384x8x128 main_cst_4
  let main_v16 : IVec S16384x8x128 1 := cmpf .olt main_v14 main_v15
  fn_part1 (F := F) main_v13 main_v16
-- ==== Pre_finite2.lean ====
abbrev S16384x8x192 : Shape := ⟨3, ![16384, 8, 192]⟩
abbrev S16384x8x128 : Shape := ⟨3, ![16384, 8, 128]⟩
abbrev S_ : Shape := ⟨0, ![]⟩

class Facts : Prop where
  bcast_S_S16384x8x192 : S_.BroadcastsInDim S16384x8x192 (![] : Fin 0 → Fin S16384x8x192.rank)
  reducesTo_S16384x8x192_S_d0_1_2 : S16384x8x192.ReducesTo [0, 1, 2] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_

variable [Facts]

def fn {F : FTy → Type} [FloatOps F] (main_arg0 : FVec F S16384x8x192 .f32) (main_arg1 : FVec F S16384x8x192 .f32) (main_arg2 : FVec F S16384x8x128 .f32) : IVec S_ 1 :=
  let main_v0 : FVec F S16384x8x192 .f32 := Host.absf main_arg0
  let main_cst : FVec F S_ .f32 := constant S_ .f32 0x7F800000#32
  let main_v1 : FVec F S16384x8x192 .f32 := broadcastInDim S16384x8x192 ![] bcast_S_S16384x8x192 main_cst
  let main_v2 : IVec S16384x8x192 1 := cmpf .olt main_v0 main_v1
  let main_c : IVec S_ 1 := constantI S_ 1 1#1
  let main_v3 : IVec S_ 1 := (fun x v => Host.reduce IntOp.andi x v reducesTo_S16384x8x192_S_d0_1_2 h_S_) main_v2 main_c
  let main_v4 : FVec F S16384x8x192 .f32 := Host.absf main_arg1
  let main_cst_0 : FVec F S_ .f32 := constant S_ .f32 0x7F800000#32
  let main_v5 : FVec F S16384x8x192 .f32 := broadcastInDim S16384x8x192 ![] bcast_S_S16384x8x192 main_cst_0
  let main_v6 : IVec S16384x8x192 1 := cmpf .olt main_v4 main_v5
  let main_c_1 : IVec S_ 1 := constantI S_ 1 1#1
  let main_v7 : IVec S_ 1 := (fun x v => Host.reduce IntOp.andi x v reducesTo_S16384x8x192_S_d0_1_2 h_S_) main_v6 main_c_1
  let main_v8 : IVec S_ 1 := andi main_v3 main_v7
  let main_v9 : FVec F S16384x8x128 .f32 := Host.absf main_arg2
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  let main_c_3 : IVec S_ 1 := constantI S_ 1 1#1
  let main_v12 : IVec S_ 1 := (fun x v => Host.reduce IntOp.andi x v reducesTo_S16384x8x128_S_d0_1_2 h_S_) main_v11 main_c_3
  let main_v13 : IVec S_ 1 := andi main_v8 main_v12
  main_v13
-- ==== Kernel.lean ====
abbrev S16384x8x192 : Shape := ⟨3, ![16384, 8, 192]⟩
abbrev S16384x8x128 : Shape := ⟨3, ![16384, 8, 128]⟩
abbrev S_ : Shape := ⟨0, ![]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x8 : Shape := ⟨2, ![16384, 8]⟩
abbrev S8x1x16384 : Shape := ⟨3, ![8, 1, 16384]⟩
abbrev S16384x8x256 : Shape := ⟨3, ![16384, 8, 256]⟩
abbrev S16384x2048 : Shape := ⟨2, ![16384, 2048]⟩
abbrev S16384x1024 : Shape := ⟨2, ![16384, 1024]⟩
abbrev S1024x16384 : Shape := ⟨2, ![1024, 16384]⟩
abbrev S8x16384x256 : Shape := ⟨3, ![8, 16384, 256]⟩
abbrev S512x256 : Shape := ⟨2, ![512, 256]⟩
abbrev S512x128 : Shape := ⟨2, ![512, 128]⟩
abbrev S1x1x16384 : Shape := ⟨3, ![1, 1, 16384]⟩
abbrev S256x16384 : Shape := ⟨2, ![256, 16384]⟩
abbrev S128x512 : Shape := ⟨2, ![128, 512]⟩
abbrev S512x512 : Shape := ⟨2, ![512, 512]⟩
abbrev S2x16384x256 : Shape := ⟨3, ![2, 16384, 256]⟩
abbrev S2x128x16384 : Shape := ⟨3, ![2, 128, 16384]⟩
abbrev S2x2 : Shape := ⟨2, ![2, 2]⟩
abbrev S256x512 : Shape := ⟨2, ![256, 512]⟩
abbrev S1x1 : Shape := ⟨2, ![1, 1]⟩
abbrev S1x16384x256 : Shape := ⟨3, ![1, 16384, 256]⟩
abbrev S16384x256 : Shape := ⟨2, ![16384, 256]⟩
abbrev S1x128x16384 : Shape := ⟨3, ![1, 128, 16384]⟩
abbrev S128x16384 : Shape := ⟨2, ![128, 16384]⟩
abbrev S1x512x256 : Shape := ⟨3, ![1, 512, 256]⟩
abbrev S1x128x512 : Shape := ⟨3, ![1, 128, 512]⟩
abbrev S1x1x512 : Shape := ⟨3, ![1, 1, 512]⟩
abbrev S1x512 : Shape := ⟨2, ![1, 512]⟩

abbrev nBuf : Space → Nat
  | .hbm => 71
  | .vmem => 22
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S16384x8x128, .f32⟩
  | .hbm, ⟨4, _⟩ => ⟨S_, .f32⟩
  | .hbm, ⟨5, _⟩ => ⟨S16384x8x192, .f32⟩
  | .hbm, ⟨6, _⟩ => ⟨S16384x8x192, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384, .f32⟩
  | .hbm, ⟨22, _⟩ => ⟨S8x16384x1, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S8x128x16384, .f32⟩
  | .hbm, ⟨32, _⟩ => ⟨S16384x8x128, .f32⟩
  | .hbm, ⟨33, _⟩ => ⟨S8x16384x1, .f32⟩
  | .hbm, ⟨34, _⟩ => ⟨S8x16384x1, .f32⟩
  | .hbm, ⟨35, _⟩ => ⟨S_, .f32⟩
  | .hbm, ⟨36, _⟩ => ⟨S_, .f32⟩
  | .hbm, ⟨37, _⟩ => ⟨S8x16384x1, .f32⟩
  | .hbm, ⟨38, _⟩ => ⟨S8x16384x1, .f32⟩
  | .hbm, ⟨39, _⟩ => ⟨S8x16384, .f32⟩
  | .hbm, ⟨40, _⟩ => ⟨S16384x8x128, .f32⟩
  | .hbm, ⟨41, _⟩ => ⟨S_, .f32⟩
  | .hbm, ⟨42, _⟩ => ⟨S16384x8, .f32⟩
  | .hbm, ⟨43, _⟩ => ⟨S8x16384, .f32⟩
  | .hbm, ⟨44, _⟩ => ⟨S8x1x16384, .f32⟩
  | .hbm, ⟨45, _⟩ => ⟨S8x1x16384, .f32⟩
  | .hbm, ⟨46, _⟩ => ⟨S_, .f32⟩
  | .hbm, ⟨47, _⟩ => ⟨S16384x8x192, .f32⟩
  | .hbm, ⟨48, _⟩ => ⟨S16384x8x192, .f32⟩
  | .hbm, ⟨49, _⟩ => ⟨S_, .f32⟩
  | .hbm, ⟨50, _⟩ => ⟨S_, .f32⟩
  | .hbm, ⟨51, _⟩ => ⟨S16384x8x192, .f32⟩
  | .hbm, ⟨52, _⟩ => ⟨S16384x8x192, .f32⟩
  | .hbm, ⟨53, _⟩ => ⟨S_, .i32⟩
  | .hbm, ⟨54, _⟩ => ⟨S_, .f32⟩
  | .hbm, ⟨55, _⟩ => ⟨S16384x8x256, .f32⟩
  | .hbm, ⟨56, _⟩ => ⟨S16384x2048, .f32⟩
  | .hbm, ⟨57, _⟩ => ⟨S16384x2048, .bf16⟩
  | .hbm, ⟨58, _⟩ => ⟨S_, .i32⟩
  | .hbm, ⟨59, _⟩ => ⟨S_, .f32⟩
  | .hbm, ⟨60, _⟩ => ⟨S16384x8x256, .f32⟩
  | .hbm, ⟨61, _⟩ => ⟨S16384x2048, .f32⟩
  | .hbm, ⟨62, _⟩ => ⟨S16384x2048, .bf16⟩
  | .hbm, ⟨63, _⟩ => ⟨S16384x1024, .f32⟩
  | .hbm, ⟨64, _⟩ => ⟨S16384x1024, .bf16⟩
  | .hbm, ⟨65, _⟩ => ⟨S16384x1024, .f32⟩
  | .hbm, ⟨66, _⟩ => ⟨S1024x16384, .f32⟩
  | .hbm, ⟨67, _⟩ => ⟨S1024x16384, .bf16⟩
  | .hbm, ⟨68, _⟩ => ⟨S16384x2048, .bf16⟩
  | .hbm, ⟨69, _⟩ => ⟨S16384x1024, .bf16⟩
  | .hbm, ⟨70, _⟩ => ⟨S8x16384x256, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S1x1x16384, .f32⟩
  | .local _ .vmem, ⟨5, _⟩ => ⟨S1x1x16384, .f32⟩
  | .local _ .vmem, ⟨6, _⟩ => ⟨S1x1x16384, .f32⟩
  | .local _ .vmem, ⟨7, _⟩ => ⟨S1x1x16384, .f32⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S256x16384, .f32⟩
  | .local _ .vmem, ⟨13, _⟩ => ⟨S512x256, .f32⟩
  | .local _ .vmem, ⟨14, _⟩ => ⟨S128x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x256, .bf16⟩
  | .local _ .vmem, ⟨20, _⟩ => ⟨S2x16384x256, .bf16⟩
  | .local _ .vmem, ⟨21, _⟩ => ⟨S2x128x16384, .bf16⟩
  | _, _ => ⟨S16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_call1_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_call2_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v49_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_3 : BitVec 32 := 0#32
  let v10 : BitVec 1 := Scalar.cmpi .ne v9 c0_i32_3
  v10

def k0_cond2 (i : grid0.Coords) : BitVec 1 :=
  let arg0 : BitVec 32 := BitVec.ofNat 32 (i 0).val
  let c0_i32_108 : BitVec 32 := 0#32
  let v179 : BitVec 1 := Scalar.cmpi .eq arg0 c0_i32_108
  let v180 : BitVec 32 := Scalar.extui v179
  let c0_i32_109 : BitVec 32 := 0#32
  let v181 : BitVec 1 := Scalar.cmpi .ne v180 c0_i32_109
  v181

def k0_mult1 : BitVec 32 :=
  let c0_i32_124 : BitVec 32 := 0#32
  c0_i32_124
def k0_mult2 : BitVec 32 :=
  let c0_i32_125 : BitVec 32 := 0#32
  c0_i32_125
def k0_mult3 (i : grid0.Coords) : BitVec 32 :=
  let arg0 : BitVec 32 := BitVec.ofNat 32 (i 0).val
  let c256_i32 : BitVec 32 := 256#32
  let v182 : BitVec 32 := Scalar.muli arg0 c256_i32
  v182
def k0_mult4 (i : grid0.Coords) : BitVec 32 :=
  let arg0 : BitVec 32 := BitVec.ofNat 32 (i 0).val
  let c128_i32 : BitVec 32 := 128#32
  let v184 : BitVec 32 := Scalar.muli arg0 c128_i32
  v184
def k0_off1 (i : grid0.Coords) : Fin 2 → Nat :=
  let arg0 : BitVec 32 := BitVec.ofNat 32 (i 0).val
  let c2_i32 : BitVec 32 := 2#32
  let v7 : BitVec 32 := Scalar.remsi arg0 c2_i32
  let c0_i32_110 : BitVec 32 := 0#32
  ![v7.toNat, 0]
def k0_off2 (i : grid0.Coords) : Fin 3 → Nat :=
  let arg0 : BitVec 32 := BitVec.ofNat 32 (i 0).val
  let c2_i32 : BitVec 32 := 2#32
  let v7 : BitVec 32 := Scalar.remsi arg0 c2_i32
  let c0_i32_111 : BitVec 32 := 0#32
  let c0_i32_112 : BitVec 32 := 0#32
  ![v7.toNat, 0, 0]
def k0_off3 (i : grid0.Coords) : Fin 2 → Nat :=
  let c0_i32_113 : BitVec 32 := 0#32
  let arg0 : BitVec 32 := BitVec.ofNat 32 (i 0).val
  let c256_i32 : BitVec 32 := 256#32
  let v182 : BitVec 32 := Scalar.muli arg0 c256_i32
  let v183 : BitVec 32 := v182
  ![0, v183.toNat]
def k0_off4 (i : grid0.Coords) : Fin 2 → Nat :=
  let arg0 : BitVec 32 := BitVec.ofNat 32 (i 0).val
  let c2_i32 : BitVec 32 := 2#32
  let v7 : BitVec 32 := Scalar.remsi arg0 c2_i32
  let c1_i32_114 : BitVec 32 := 1#32
  ![v7.toNat, 1]
def k0_off5 (i : grid0.Coords) : Fin 3 → Nat :=
  let arg0 : BitVec 32 := BitVec.ofNat 32 (i 0).val
  let c2_i32 : BitVec 32 := 2#32
  let v7 : BitVec 32 := Scalar.remsi arg0 c2_i32
  let c0_i32_115 : BitVec 32 := 0#32
  let c0_i32_116 : BitVec 32 := 0#32
  ![v7.toNat, 0, 0]
def k0_off6 (i : grid0.Coords) : Fin 2 → Nat :=
  let arg0 : BitVec 32 := BitVec.ofNat 32 (i 0).val
  let c128_i32 : BitVec 32 := 128#32
  let v184 : BitVec 32 := Scalar.muli arg0 c128_i32
  let v185 : BitVec 32 := v184
  let c0_i32_117 : BitVec 32 := 0#32
  ![v185.toNat, 0]
def k0_cond3 (i : grid0.Coords) : BitVec 1 :=
  let arg0 : BitVec 32 := BitVec.ofNat 32 (i 0).val
  let c1_i32_118 : BitVec 32 := 1#32
  let v196 : BitVec 32 := Scalar.addi arg0 c1_i32_118
  let c8_i32_119 : BitVec 32 := 8#32
  let v197 : BitVec 1 := Scalar.cmpi .slt v196 c8_i32_119
  let v198 : BitVec 32 := Scalar.extui v197
  let c0_i32_120 : BitVec 32 := 0#32
  let v199 : BitVec 1 := Scalar.cmpi .ne v198 c0_i32_120
  v199

def k0_mult5 (i : grid0.Coords) : BitVec 32 :=
  let arg0 : BitVec 32 := BitVec.ofNat 32 (i 0).val
  let c1_i32_124 : BitVec 32 := 1#32
  let v204 : BitVec 32 := Scalar.addi arg0 c1_i32_124
  let c256_i32_126 : BitVec 32 := 256#32
  let v206 : BitVec 32 := Scalar.muli v204 c256_i32_126
  v206
def k0_mult6 (i : grid0.Coords) : BitVec 32 :=
  let arg0 : BitVec 32 := BitVec.ofNat 32 (i 0).val
  let c1_i32_124 : BitVec 32 := 1#32
  let v204 : BitVec 32 := Scalar.addi arg0 c1_i32_124
  let c128_i32_127 : BitVec 32 := 128#32
  let v208 : BitVec 32 := Scalar.muli v204 c128_i32_127
  v208
def k0_off7 (i : grid0.Coords) : Fin 2 → Nat :=
  let c1_i32_125 : BitVec 32 := 1#32
  let arg0 : BitVec 32 := BitVec.ofNat 32 (i 0).val
  let c2_i32 : BitVec 32 := 2#32
  let v7 : BitVec 32 := Scalar.remsi arg0 c2_i32
  let v205 : BitVec 32 := Scalar.subi c1_i32_125 v7
  let c0_i32_128 : BitVec 32 := 0#32
  ![v205.toNat, 0]
def k0_off8 (i : grid0.Coords) : Fin 3 → Nat :=
  let c1_i32_125 : BitVec 32 := 1#32
  let arg0 : BitVec 32 := BitVec.ofNat 32 (i 0).val
  let c2_i32 : BitVec 32 := 2#32
  let v7 : BitVec 32 := Scalar.remsi arg0 c2_i32
  let v205 : BitVec 32 := Scalar.subi c1_i32_125 v7
  let c0_i32_129 : BitVec 32 := 0#32
  let c0_i32_130 : BitVec 32 := 0#32
  ![v205.toNat, 0, 0]
def k0_off9 (i : grid0.Coords) : Fin 2 → Nat :=
  let c0_i32_131 : BitVec 32 := 0#32
  let arg0 : BitVec 32 := BitVec.ofNat 32 (i 0).val
  let c1_i32_124 : BitVec 32 := 1#32
  let v204 : BitVec 32 := Scalar.addi arg0 c1_i32_124
  let c256_i32_126 : BitVec 32 := 256#32
  let v206 : BitVec 32 := Scalar.muli v204 c256_i32_126
  let v207 : BitVec 32 := v206
  ![0, v207.toNat]
def k0_off10 (i : grid0.Coords) : Fin 2 → Nat :=
  let c1_i32_125 : BitVec 32 := 1#32
  let arg0 : BitVec 32 := BitVec.ofNat 32 (i 0).val
  let c2_i32 : BitVec 32 := 2#32
  let v7 : BitVec 32 := Scalar.remsi arg0 c2_i32
  let v205 : BitVec 32 := Scalar.subi c1_i32_125 v7
  let c1_i32_132 : BitVec 32 := 1#32
  ![v205.toNat, 1]
def k0_off11 (i : grid0.Coords) : Fin 3 → Nat :=
  let c1_i32_125 : BitVec 32 := 1#32
  let arg0 : BitVec 32 := BitVec.ofNat 32 (i 0).val
  let c2_i32 : BitVec 32 := 2#32
  let v7 : BitVec 32 := Scalar.remsi arg0 c2_i32
  let v205 : BitVec 32 := Scalar.subi c1_i32_125 v7
  let c0_i32_133 : BitVec 32 := 0#32
  let c0_i32_134 : BitVec 32 := 0#32
  ![v205.toNat, 0, 0]
def k0_off12 (i : grid0.Coords) : Fin 2 → Nat :=
  let arg0 : BitVec 32 := BitVec.ofNat 32 (i 0).val
  let c1_i32_124 : BitVec 32 := 1#32
  let v204 : BitVec 32 := Scalar.addi arg0 c1_i32_124
  let c128_i32_127 : BitVec 32 := 128#32
  let v208 : BitVec 32 := Scalar.muli v204 c128_i32_127
  let v209 : BitVec 32 := v208
  let c0_i32_135 : BitVec 32 := 0#32
  ![v209.toNat, 0]
def k0_mult7 (i : grid0.Coords) : BitVec 32 :=
  let arg1 : BitVec 32 := BitVec.ofNat 32 (i 1).val
  let c512_i32 : BitVec 32 := 512#32
  let v20 : BitVec 32 := Scalar.muli arg1 c512_i32
  v20
def k0_off13 (i : grid0.Coords) : Fin 3 → Nat :=
  let arg0 : BitVec 32 := BitVec.ofNat 32 (i 0).val
  let c2_i32 : BitVec 32 := 2#32
  let v7 : BitVec 32 := Scalar.remsi arg0 c2_i32
  let v22 : Index := Scalar.indexCast v7
  let arg1 : BitVec 32 := BitVec.ofNat 32 (i 1).val
  let c512_i32 : BitVec 32 := 512#32
  let v20 : BitVec 32 := Scalar.muli arg1 c512_i32
  let v21 : BitVec 32 := v20
  let v23 : Index := Scalar.indexCast v21
  let c0_9 : Index := 0#32
  ![v22.toNat, v23.toNat, 0]
def k0_off14 (i : grid0.Coords) : Fin 3 → Nat :=
  let arg0 : BitVec 32 := BitVec.ofNat 32 (i 0).val
  let c2_i32 : BitVec 32 := 2#32
  let v7 : BitVec 32 := Scalar.remsi arg0 c2_i32
  let v30 : Index := Scalar.indexCast v7
  let c0_13 : Index := 0#32
  let arg1 : BitVec 32 := BitVec.ofNat 32 (i 1).val
  let c512_i32 : BitVec 32 := 512#32
  let v20 : BitVec 32 := Scalar.muli arg1 c512_i32
  let v21 : BitVec 32 := v20
  let v31 : Index := Scalar.indexCast v21
  ![v30.toNat, 0, v31.toNat]
def k0_cond4 (i : grid0.Coords) : BitVec 1 :=
  let c31_i32 : BitVec 32 := 31#32
  let arg1 : BitVec 32 := BitVec.ofNat 32 (i 1).val
  let v19 : BitVec 32 := Scalar.subi c31_i32 arg1
  let c1_i32 : BitVec 32 := 1#32
  let v38 : BitVec 1 := Scalar.cmpi .sge v19 c1_i32
  let v39 : BitVec 32 := Scalar.extui v38
  let c0_i32_17 : BitVec 32 := 0#32
  let v40 : BitVec 1 := Scalar.cmpi .ne v39 c0_i32_17
  v40

def k0_mult8 (i : grid0.Coords) : BitVec 32 :=
  let arg1 : BitVec 32 := BitVec.ofNat 32 (i 1).val
  let c1_i32_108 : BitVec 32 := 1#32
  let v179 : BitVec 32 := Scalar.addi arg1 c1_i32_108
  let c512_i32_109 : BitVec 32 := 512#32
  let v180 : BitVec 32 := Scalar.muli v179 c512_i32_109
  v180
def k0_off15 (i : grid0.Coords) : Fin 3 → Nat :=
  let arg0 : BitVec 32 := BitVec.ofNat 32 (i 0).val
  let c2_i32 : BitVec 32 := 2#32
  let v7 : BitVec 32 := Scalar.remsi arg0 c2_i32
  let v182 : Index := Scalar.indexCast v7
  let arg1 : BitVec 32 := BitVec.ofNat 32 (i 1).val
  let c1_i32_108 : BitVec 32 := 1#32
  let v179 : BitVec 32 := Scalar.addi arg1 c1_i32_108
  let c512_i32_109 : BitVec 32 := 512#32
  let v180 : BitVec 32 := Scalar.muli v179 c512_i32_109
  let v181 : BitVec 32 := v180
  let v183 : Index := Scalar.indexCast v181
  let c0_110 : Index := 0#32
  ![v182.toNat, v183.toNat, 0]
def k0_off16 (i : grid0.Coords) : Fin 3 → Nat :=
  let arg0 : BitVec 32 := BitVec.ofNat 32 (i 0).val
  let c2_i32 : BitVec 32 := 2#32
  let v7 : BitVec 32 := Scalar.remsi arg0 c2_i32
  let v190 : Index := Scalar.indexCast v7
  let c0_114 : Index := 0#32
  let arg1 : BitVec 32 := BitVec.ofNat 32 (i 1).val
  let c1_i32_108 : BitVec 32 := 1#32
  let v179 : BitVec 32 := Scalar.addi arg1 c1_i32_108
  let c512_i32_109 : BitVec 32 := 512#32
  let v180 : BitVec 32 := Scalar.muli v179 c512_i32_109
  let v181 : BitVec 32 := v180
  let v191 : Index := Scalar.indexCast v181
  ![v190.toNat, 0, v191.toNat]
def k0_mult9 (i : grid0.Coords) : BitVec 32 :=
  let arg1 : BitVec 32 := BitVec.ofNat 32 (i 1).val
  let c512_i32_18 : BitVec 32 := 512#32
  let v41 : BitVec 32 := Scalar.muli arg1 c512_i32_18
  v41
def k0_off17 (i : grid0.Coords) : Fin 3 → Nat :=
  let c0_23 : Index := 0#32
  let c0_24 : Index := 0#32
  let arg1 : BitVec 32 := BitVec.ofNat 32 (i 1).val
  let c512_i32_18 : BitVec 32 := 512#32
  let v41 : BitVec 32 := Scalar.muli arg1 c512_i32_18
  let v42 : BitVec 32 := v41
  let v53 : Index := Scalar.indexCast v42
  ![0, 0, v53.toNat]
def k0_off18 (i : grid0.Coords) : Fin 2 → Nat :=
  let c0_40 : Index := 0#32
  let arg1 : BitVec 32 := BitVec.ofNat 32 (i 1).val
  let c512_i32_18 : BitVec 32 := 512#32
  let v41 : BitVec 32 := Scalar.muli arg1 c512_i32_18
  let v42 : BitVec 32 := v41
  let v84 : Index := Scalar.indexCast v42
  ![0, v84.toNat]
@[reducible] def k0_t1_loop (i : grid0.Coords) : Scf.Loop 32 :=
  let c0_i32_48 : BitVec 32 := 0#32
  let c31_i32 : BitVec 32 := 31#32
  let arg1 : BitVec 32 := BitVec.ofNat 32 (i 1).val
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_50 : BitVec 32 := 1#32
  ⟨c0_i32_48, v101, c1_i32_50⟩
def k0_mult10 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off19 (i : grid0.Coords) (k0_t1 : Fin (k0_t1_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off20 (i : grid0.Coords) (k0_t1 : Fin (k0_t1_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult11 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off21 (i : grid0.Coords) (k0_t1 : Fin (k0_t1_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off22 (i : grid0.Coords) (k0_t1 : Fin (k0_t1_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off23 (i : grid0.Coords) (k0_t1 : Fin (k0_t1_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off24 (i : grid0.Coords) (k0_t1 : Fin (k0_t1_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult12 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult13 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c1_i32_156 : BitVec 32 := 1#32
  let v268 : BitVec 32 := Scalar.addi v180 c1_i32_156
  let c512_i32_157 : BitVec 32 := 512#32
  let v269 : BitVec 32 := Scalar.muli v268 c512_i32_157
  v269
def k0_mult14 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c2_i32_181 : BitVec 32 := 2#32
  let v315 : BitVec 32 := Scalar.addi v180 c2_i32_181
  let c1_i32_182 : BitVec 32 := 1#32
  let v316 : BitVec 32 := Scalar.addi v315 c1_i32_182
  let c512_i32_183 : BitVec 32 := 512#32
  let v317 : BitVec 32 := Scalar.muli v316 c512_i32_183
  v317
def k0_mult15 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c2_i32_192 : BitVec 32 := 2#32
  let v335 : BitVec 32 := Scalar.addi v180 c2_i32_192
  let c512_i32_193 : BitVec 32 := 512#32
  let v336 : BitVec 32 := Scalar.muli v335 c512_i32_193
  v336
def k0_mult16 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c3_i32 : BitVec 32 := 3#32
  let v382 : BitVec 32 := Scalar.addi v180 c3_i32
  let c1_i32_217 : BitVec 32 := 1#32
  let v383 : BitVec 32 := Scalar.addi v382 c1_i32_217
  let c512_i32_218 : BitVec 32 := 512#32
  let v384 : BitVec 32 := Scalar.muli v383 c512_i32_218
  v384
def k0_mult17 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c3_i32_227 : BitVec 32 := 3#32
  let v402 : BitVec 32 := Scalar.addi v180 c3_i32_227
  let c512_i32_228 : BitVec 32 := 512#32
  let v403 : BitVec 32 := Scalar.muli v402 c512_i32_228
  v403
def k0_mult18 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c4_i32_252 : BitVec 32 := 4#32
  let v449 : BitVec 32 := Scalar.addi v180 c4_i32_252
  let c1_i32_253 : BitVec 32 := 1#32
  let v450 : BitVec 32 := Scalar.addi v449 c1_i32_253
  let c512_i32_254 : BitVec 32 := 512#32
  let v451 : BitVec 32 := Scalar.muli v450 c512_i32_254
  v451
def k0_mult19 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c4_i32_263 : BitVec 32 := 4#32
  let v469 : BitVec 32 := Scalar.addi v180 c4_i32_263
  let c512_i32_264 : BitVec 32 := 512#32
  let v470 : BitVec 32 := Scalar.muli v469 c512_i32_264
  v470
def k0_mult20 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c5_i32 : BitVec 32 := 5#32
  let v516 : BitVec 32 := Scalar.addi v180 c5_i32
  let c1_i32_288 : BitVec 32 := 1#32
  let v517 : BitVec 32 := Scalar.addi v516 c1_i32_288
  let c512_i32_289 : BitVec 32 := 512#32
  let v518 : BitVec 32 := Scalar.muli v517 c512_i32_289
  v518
def k0_mult21 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c5_i32_298 : BitVec 32 := 5#32
  let v536 : BitVec 32 := Scalar.addi v180 c5_i32_298
  let c512_i32_299 : BitVec 32 := 512#32
  let v537 : BitVec 32 := Scalar.muli v536 c512_i32_299
  v537
def k0_mult22 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c6_i32 : BitVec 32 := 6#32
  let v583 : BitVec 32 := Scalar.addi v180 c6_i32
  let c1_i32_323 : BitVec 32 := 1#32
  let v584 : BitVec 32 := Scalar.addi v583 c1_i32_323
  let c512_i32_324 : BitVec 32 := 512#32
  let v585 : BitVec 32 := Scalar.muli v584 c512_i32_324
  v585
def k0_mult23 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c6_i32_333 : BitVec 32 := 6#32
  let v603 : BitVec 32 := Scalar.addi v180 c6_i32_333
  let c512_i32_334 : BitVec 32 := 512#32
  let v604 : BitVec 32 := Scalar.muli v603 c512_i32_334
  v604
def k0_mult24 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c7_i32 : BitVec 32 := 7#32
  let v650 : BitVec 32 := Scalar.addi v180 c7_i32
  let c1_i32_358 : BitVec 32 := 1#32
  let v651 : BitVec 32 := Scalar.addi v650 c1_i32_358
  let c512_i32_359 : BitVec 32 := 512#32
  let v652 : BitVec 32 := Scalar.muli v651 c512_i32_359
  v652
def k0_mult25 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c7_i32_368 : BitVec 32 := 7#32
  let v670 : BitVec 32 := Scalar.addi v180 c7_i32_368
  let c512_i32_369 : BitVec 32 := 512#32
  let v671 : BitVec 32 := Scalar.muli v670 c512_i32_369
  v671
def k0_mult26 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c8_i32_393 : BitVec 32 := 8#32
  let v717 : BitVec 32 := Scalar.addi v180 c8_i32_393
  let c1_i32_394 : BitVec 32 := 1#32
  let v718 : BitVec 32 := Scalar.addi v717 c1_i32_394
  let c512_i32_395 : BitVec 32 := 512#32
  let v719 : BitVec 32 := Scalar.muli v718 c512_i32_395
  v719
def k0_mult27 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c8_i32_404 : BitVec 32 := 8#32
  let v737 : BitVec 32 := Scalar.addi v180 c8_i32_404
  let c512_i32_405 : BitVec 32 := 512#32
  let v738 : BitVec 32 := Scalar.muli v737 c512_i32_405
  v738
def k0_mult28 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c9_i32 : BitVec 32 := 9#32
  let v784 : BitVec 32 := Scalar.addi v180 c9_i32
  let c1_i32_429 : BitVec 32 := 1#32
  let v785 : BitVec 32 := Scalar.addi v784 c1_i32_429
  let c512_i32_430 : BitVec 32 := 512#32
  let v786 : BitVec 32 := Scalar.muli v785 c512_i32_430
  v786
def k0_mult29 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c9_i32_439 : BitVec 32 := 9#32
  let v804 : BitVec 32 := Scalar.addi v180 c9_i32_439
  let c512_i32_440 : BitVec 32 := 512#32
  let v805 : BitVec 32 := Scalar.muli v804 c512_i32_440
  v805
def k0_mult30 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c10_i32 : BitVec 32 := 10#32
  let v851 : BitVec 32 := Scalar.addi v180 c10_i32
  let c1_i32_464 : BitVec 32 := 1#32
  let v852 : BitVec 32 := Scalar.addi v851 c1_i32_464
  let c512_i32_465 : BitVec 32 := 512#32
  let v853 : BitVec 32 := Scalar.muli v852 c512_i32_465
  v853
def k0_mult31 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c10_i32_474 : BitVec 32 := 10#32
  let v871 : BitVec 32 := Scalar.addi v180 c10_i32_474
  let c512_i32_475 : BitVec 32 := 512#32
  let v872 : BitVec 32 := Scalar.muli v871 c512_i32_475
  v872
def k0_mult32 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c11_i32 : BitVec 32 := 11#32
  let v918 : BitVec 32 := Scalar.addi v180 c11_i32
  let c1_i32_499 : BitVec 32 := 1#32
  let v919 : BitVec 32 := Scalar.addi v918 c1_i32_499
  let c512_i32_500 : BitVec 32 := 512#32
  let v920 : BitVec 32 := Scalar.muli v919 c512_i32_500
  v920
def k0_mult33 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c11_i32_509 : BitVec 32 := 11#32
  let v938 : BitVec 32 := Scalar.addi v180 c11_i32_509
  let c512_i32_510 : BitVec 32 := 512#32
  let v939 : BitVec 32 := Scalar.muli v938 c512_i32_510
  v939
def k0_mult34 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c12_i32 : BitVec 32 := 12#32
  let v985 : BitVec 32 := Scalar.addi v180 c12_i32
  let c1_i32_534 : BitVec 32 := 1#32
  let v986 : BitVec 32 := Scalar.addi v985 c1_i32_534
  let c512_i32_535 : BitVec 32 := 512#32
  let v987 : BitVec 32 := Scalar.muli v986 c512_i32_535
  v987
def k0_mult35 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c12_i32_544 : BitVec 32 := 12#32
  let v1005 : BitVec 32 := Scalar.addi v180 c12_i32_544
  let c512_i32_545 : BitVec 32 := 512#32
  let v1006 : BitVec 32 := Scalar.muli v1005 c512_i32_545
  v1006
def k0_mult36 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c13_i32 : BitVec 32 := 13#32
  let v1052 : BitVec 32 := Scalar.addi v180 c13_i32
  let c1_i32_569 : BitVec 32 := 1#32
  let v1053 : BitVec 32 := Scalar.addi v1052 c1_i32_569
  let c512_i32_570 : BitVec 32 := 512#32
  let v1054 : BitVec 32 := Scalar.muli v1053 c512_i32_570
  v1054
def k0_mult37 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c13_i32_579 : BitVec 32 := 13#32
  let v1072 : BitVec 32 := Scalar.addi v180 c13_i32_579
  let c512_i32_580 : BitVec 32 := 512#32
  let v1073 : BitVec 32 := Scalar.muli v1072 c512_i32_580
  v1073
def k0_mult38 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c14_i32 : BitVec 32 := 14#32
  let v1119 : BitVec 32 := Scalar.addi v180 c14_i32
  let c1_i32_604 : BitVec 32 := 1#32
  let v1120 : BitVec 32 := Scalar.addi v1119 c1_i32_604
  let c512_i32_605 : BitVec 32 := 512#32
  let v1121 : BitVec 32 := Scalar.muli v1120 c512_i32_605
  v1121
def k0_mult39 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c14_i32_614 : BitVec 32 := 14#32
  let v1139 : BitVec 32 := Scalar.addi v180 c14_i32_614
  let c512_i32_615 : BitVec 32 := 512#32
  let v1140 : BitVec 32 := Scalar.muli v1139 c512_i32_615
  v1140
def k0_mult40 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c15_i32 : BitVec 32 := 15#32
  let v1186 : BitVec 32 := Scalar.addi v180 c15_i32
  let c1_i32_639 : BitVec 32 := 1#32
  let v1187 : BitVec 32 := Scalar.addi v1186 c1_i32_639
  let c512_i32_640 : BitVec 32 := 512#32
  let v1188 : BitVec 32 := Scalar.muli v1187 c512_i32_640
  v1188
def k0_mult41 (i : grid0.Coords) (k0_t1 : Fin (k0_t1_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c1_i32_50 : BitVec 32 := 1#32
  let arg23 : BitVec 32 := Scf.iv c0_i32_48 c1_i32_50 k0_t1
  let v179 : BitVec 32 := Scalar.muli c16_i32_108 arg23
  let v180 : BitVec 32 := Scalar.addi v92 v179
  let c15_i32_649 : BitVec 32 := 15#32
  let v1206 : BitVec 32 := Scalar.addi v180 c15_i32_649
  let c512_i32_650 : BitVec 32 := 512#32
  let v1207 : BitVec 32 := Scalar.muli v1206 c512_i32_650
  v1207
@[reducible] def k0_t2_loop (i : grid0.Coords) : Scf.Loop 32 :=
  let c0_i32_48 : BitVec 32 := 0#32
  let c31_i32 : BitVec 32 := 31#32
  let arg1 : BitVec 32 := BitVec.ofNat 32 (i 1).val
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let v98 : BitVec 32 := Scalar.addi c0_i32_48 v97
  let c1_i32_51 : BitVec 32 := 1#32
  ⟨v101, v98, c1_i32_51⟩
def k0_mult42 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off25 (i : grid0.Coords) (k0_t2 : Fin (k0_t2_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off26 (i : grid0.Coords) (k0_t2 : Fin (k0_t2_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult43 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off27 (i : grid0.Coords) (k0_t2 : Fin (k0_t2_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off28 (i : grid0.Coords) (k0_t2 : Fin (k0_t2_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off29 (i : grid0.Coords) (k0_t2 : Fin (k0_t2_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off30 (i : grid0.Coords) (k0_t2 : Fin (k0_t2_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult44 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult45 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c1_i32_156 : BitVec 32 := 1#32
  let v268 : BitVec 32 := Scalar.addi v180 c1_i32_156
  let c512_i32_157 : BitVec 32 := 512#32
  let v269 : BitVec 32 := Scalar.muli v268 c512_i32_157
  v269
def k0_mult46 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c2_i32_181 : BitVec 32 := 2#32
  let v315 : BitVec 32 := Scalar.addi v180 c2_i32_181
  let c1_i32_182 : BitVec 32 := 1#32
  let v316 : BitVec 32 := Scalar.addi v315 c1_i32_182
  let c512_i32_183 : BitVec 32 := 512#32
  let v317 : BitVec 32 := Scalar.muli v316 c512_i32_183
  v317
def k0_mult47 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c2_i32_192 : BitVec 32 := 2#32
  let v335 : BitVec 32 := Scalar.addi v180 c2_i32_192
  let c512_i32_193 : BitVec 32 := 512#32
  let v336 : BitVec 32 := Scalar.muli v335 c512_i32_193
  v336
def k0_mult48 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c3_i32 : BitVec 32 := 3#32
  let v382 : BitVec 32 := Scalar.addi v180 c3_i32
  let c1_i32_217 : BitVec 32 := 1#32
  let v383 : BitVec 32 := Scalar.addi v382 c1_i32_217
  let c512_i32_218 : BitVec 32 := 512#32
  let v384 : BitVec 32 := Scalar.muli v383 c512_i32_218
  v384
def k0_mult49 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c3_i32_227 : BitVec 32 := 3#32
  let v402 : BitVec 32 := Scalar.addi v180 c3_i32_227
  let c512_i32_228 : BitVec 32 := 512#32
  let v403 : BitVec 32 := Scalar.muli v402 c512_i32_228
  v403
def k0_mult50 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c4_i32_252 : BitVec 32 := 4#32
  let v449 : BitVec 32 := Scalar.addi v180 c4_i32_252
  let c1_i32_253 : BitVec 32 := 1#32
  let v450 : BitVec 32 := Scalar.addi v449 c1_i32_253
  let c512_i32_254 : BitVec 32 := 512#32
  let v451 : BitVec 32 := Scalar.muli v450 c512_i32_254
  v451
def k0_mult51 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c4_i32_263 : BitVec 32 := 4#32
  let v469 : BitVec 32 := Scalar.addi v180 c4_i32_263
  let c512_i32_264 : BitVec 32 := 512#32
  let v470 : BitVec 32 := Scalar.muli v469 c512_i32_264
  v470
def k0_mult52 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c5_i32 : BitVec 32 := 5#32
  let v516 : BitVec 32 := Scalar.addi v180 c5_i32
  let c1_i32_288 : BitVec 32 := 1#32
  let v517 : BitVec 32 := Scalar.addi v516 c1_i32_288
  let c512_i32_289 : BitVec 32 := 512#32
  let v518 : BitVec 32 := Scalar.muli v517 c512_i32_289
  v518
def k0_mult53 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c5_i32_298 : BitVec 32 := 5#32
  let v536 : BitVec 32 := Scalar.addi v180 c5_i32_298
  let c512_i32_299 : BitVec 32 := 512#32
  let v537 : BitVec 32 := Scalar.muli v536 c512_i32_299
  v537
def k0_mult54 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c6_i32 : BitVec 32 := 6#32
  let v583 : BitVec 32 := Scalar.addi v180 c6_i32
  let c1_i32_323 : BitVec 32 := 1#32
  let v584 : BitVec 32 := Scalar.addi v583 c1_i32_323
  let c512_i32_324 : BitVec 32 := 512#32
  let v585 : BitVec 32 := Scalar.muli v584 c512_i32_324
  v585
def k0_mult55 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c6_i32_333 : BitVec 32 := 6#32
  let v603 : BitVec 32 := Scalar.addi v180 c6_i32_333
  let c512_i32_334 : BitVec 32 := 512#32
  let v604 : BitVec 32 := Scalar.muli v603 c512_i32_334
  v604
def k0_mult56 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c7_i32 : BitVec 32 := 7#32
  let v650 : BitVec 32 := Scalar.addi v180 c7_i32
  let c1_i32_358 : BitVec 32 := 1#32
  let v651 : BitVec 32 := Scalar.addi v650 c1_i32_358
  let c512_i32_359 : BitVec 32 := 512#32
  let v652 : BitVec 32 := Scalar.muli v651 c512_i32_359
  v652
def k0_mult57 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c7_i32_368 : BitVec 32 := 7#32
  let v670 : BitVec 32 := Scalar.addi v180 c7_i32_368
  let c512_i32_369 : BitVec 32 := 512#32
  let v671 : BitVec 32 := Scalar.muli v670 c512_i32_369
  v671
def k0_mult58 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c8_i32_393 : BitVec 32 := 8#32
  let v717 : BitVec 32 := Scalar.addi v180 c8_i32_393
  let c1_i32_394 : BitVec 32 := 1#32
  let v718 : BitVec 32 := Scalar.addi v717 c1_i32_394
  let c512_i32_395 : BitVec 32 := 512#32
  let v719 : BitVec 32 := Scalar.muli v718 c512_i32_395
  v719
def k0_mult59 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c8_i32_404 : BitVec 32 := 8#32
  let v737 : BitVec 32 := Scalar.addi v180 c8_i32_404
  let c512_i32_405 : BitVec 32 := 512#32
  let v738 : BitVec 32 := Scalar.muli v737 c512_i32_405
  v738
def k0_mult60 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c9_i32 : BitVec 32 := 9#32
  let v784 : BitVec 32 := Scalar.addi v180 c9_i32
  let c1_i32_429 : BitVec 32 := 1#32
  let v785 : BitVec 32 := Scalar.addi v784 c1_i32_429
  let c512_i32_430 : BitVec 32 := 512#32
  let v786 : BitVec 32 := Scalar.muli v785 c512_i32_430
  v786
def k0_mult61 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c9_i32_439 : BitVec 32 := 9#32
  let v804 : BitVec 32 := Scalar.addi v180 c9_i32_439
  let c512_i32_440 : BitVec 32 := 512#32
  let v805 : BitVec 32 := Scalar.muli v804 c512_i32_440
  v805
def k0_mult62 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c10_i32 : BitVec 32 := 10#32
  let v851 : BitVec 32 := Scalar.addi v180 c10_i32
  let c1_i32_464 : BitVec 32 := 1#32
  let v852 : BitVec 32 := Scalar.addi v851 c1_i32_464
  let c512_i32_465 : BitVec 32 := 512#32
  let v853 : BitVec 32 := Scalar.muli v852 c512_i32_465
  v853
def k0_mult63 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c10_i32_474 : BitVec 32 := 10#32
  let v871 : BitVec 32 := Scalar.addi v180 c10_i32_474
  let c512_i32_475 : BitVec 32 := 512#32
  let v872 : BitVec 32 := Scalar.muli v871 c512_i32_475
  v872
def k0_mult64 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c11_i32 : BitVec 32 := 11#32
  let v918 : BitVec 32 := Scalar.addi v180 c11_i32
  let c1_i32_499 : BitVec 32 := 1#32
  let v919 : BitVec 32 := Scalar.addi v918 c1_i32_499
  let c512_i32_500 : BitVec 32 := 512#32
  let v920 : BitVec 32 := Scalar.muli v919 c512_i32_500
  v920
def k0_mult65 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c11_i32_509 : BitVec 32 := 11#32
  let v938 : BitVec 32 := Scalar.addi v180 c11_i32_509
  let c512_i32_510 : BitVec 32 := 512#32
  let v939 : BitVec 32 := Scalar.muli v938 c512_i32_510
  v939
def k0_mult66 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c12_i32 : BitVec 32 := 12#32
  let v985 : BitVec 32 := Scalar.addi v180 c12_i32
  let c1_i32_534 : BitVec 32 := 1#32
  let v986 : BitVec 32 := Scalar.addi v985 c1_i32_534
  let c512_i32_535 : BitVec 32 := 512#32
  let v987 : BitVec 32 := Scalar.muli v986 c512_i32_535
  v987
def k0_mult67 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c12_i32_544 : BitVec 32 := 12#32
  let v1005 : BitVec 32 := Scalar.addi v180 c12_i32_544
  let c512_i32_545 : BitVec 32 := 512#32
  let v1006 : BitVec 32 := Scalar.muli v1005 c512_i32_545
  v1006
def k0_mult68 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c13_i32 : BitVec 32 := 13#32
  let v1052 : BitVec 32 := Scalar.addi v180 c13_i32
  let c1_i32_569 : BitVec 32 := 1#32
  let v1053 : BitVec 32 := Scalar.addi v1052 c1_i32_569
  let c512_i32_570 : BitVec 32 := 512#32
  let v1054 : BitVec 32 := Scalar.muli v1053 c512_i32_570
  v1054
def k0_mult69 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c13_i32_579 : BitVec 32 := 13#32
  let v1072 : BitVec 32 := Scalar.addi v180 c13_i32_579
  let c512_i32_580 : BitVec 32 := 512#32
  let v1073 : BitVec 32 := Scalar.muli v1072 c512_i32_580
  v1073
def k0_mult70 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c14_i32 : BitVec 32 := 14#32
  let v1119 : BitVec 32 := Scalar.addi v180 c14_i32
  let c1_i32_604 : BitVec 32 := 1#32
  let v1120 : BitVec 32 := Scalar.addi v1119 c1_i32_604
  let c512_i32_605 : BitVec 32 := 512#32
  let v1121 : BitVec 32 := Scalar.muli v1120 c512_i32_605
  v1121
def k0_mult71 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c14_i32_614 : BitVec 32 := 14#32
  let v1139 : BitVec 32 := Scalar.addi v180 c14_i32_614
  let c512_i32_615 : BitVec 32 := 512#32
  let v1140 : BitVec 32 := Scalar.muli v1139 c512_i32_615
  v1140
def k0_mult72 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c15_i32 : BitVec 32 := 15#32
  let v1186 : BitVec 32 := Scalar.addi v180 c15_i32
  let c1_i32_639 : BitVec 32 := 1#32
  let v1187 : BitVec 32 := Scalar.addi v1186 c1_i32_639
  let c512_i32_640 : BitVec 32 := 512#32
  let v1188 : BitVec 32 := Scalar.muli v1187 c512_i32_640
  v1188
def k0_mult73 (i : grid0.Coords) (k0_t2 : Fin (k0_t2_loop i).trips) : BitVec 32 :=
  let arg1 : BitVec 32 := BitVec.ofNat 32 (i 1).val
  let c1_i32_43 : BitVec 32 := 1#32
  let v92 : BitVec 32 := Scalar.addi arg1 c1_i32_43
  let c16_i32_108 : BitVec 32 := 16#32
  let c0_i32_48 : BitVec 32 := 0#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v97 : BitVec 32 := Scalar.subi v96 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg23 : BitVec 32 := Scf.iv v101 c1_i32_51 k0_t2
  let v179 : BitVec 32 := Scalar.muli c16_i32_108 arg23
  let v180 : BitVec 32 := Scalar.addi v92 v179
  let c15_i32_649 : BitVec 32 := 15#32
  let v1206 : BitVec 32 := Scalar.addi v180 c15_i32_649
  let c512_i32_650 : BitVec 32 := 512#32
  let v1207 : BitVec 32 := Scalar.muli v1206 c512_i32_650
  v1207
@[reducible] def k0_t3_loop (i : grid0.Coords) : Scf.Loop 32 :=
  let c0_i32_58 : BitVec 32 := 0#32
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_60 : BitVec 32 := 1#32
  ⟨c0_i32_58, v114, c1_i32_60⟩
def k0_mult74 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off31 (i : grid0.Coords) (k0_t3 : Fin (k0_t3_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off32 (i : grid0.Coords) (k0_t3 : Fin (k0_t3_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult75 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off33 (i : grid0.Coords) (k0_t3 : Fin (k0_t3_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off34 (i : grid0.Coords) (k0_t3 : Fin (k0_t3_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off35 (i : grid0.Coords) (k0_t3 : Fin (k0_t3_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off36 (i : grid0.Coords) (k0_t3 : Fin (k0_t3_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult76 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult77 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c1_i32_156 : BitVec 32 := 1#32
  let v268 : BitVec 32 := Scalar.addi v180 c1_i32_156
  let c512_i32_157 : BitVec 32 := 512#32
  let v269 : BitVec 32 := Scalar.muli v268 c512_i32_157
  v269
def k0_mult78 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c2_i32_181 : BitVec 32 := 2#32
  let v315 : BitVec 32 := Scalar.addi v180 c2_i32_181
  let c1_i32_182 : BitVec 32 := 1#32
  let v316 : BitVec 32 := Scalar.addi v315 c1_i32_182
  let c512_i32_183 : BitVec 32 := 512#32
  let v317 : BitVec 32 := Scalar.muli v316 c512_i32_183
  v317
def k0_mult79 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c2_i32_192 : BitVec 32 := 2#32
  let v335 : BitVec 32 := Scalar.addi v180 c2_i32_192
  let c512_i32_193 : BitVec 32 := 512#32
  let v336 : BitVec 32 := Scalar.muli v335 c512_i32_193
  v336
def k0_mult80 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c3_i32 : BitVec 32 := 3#32
  let v382 : BitVec 32 := Scalar.addi v180 c3_i32
  let c1_i32_217 : BitVec 32 := 1#32
  let v383 : BitVec 32 := Scalar.addi v382 c1_i32_217
  let c512_i32_218 : BitVec 32 := 512#32
  let v384 : BitVec 32 := Scalar.muli v383 c512_i32_218
  v384
def k0_mult81 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c3_i32_227 : BitVec 32 := 3#32
  let v402 : BitVec 32 := Scalar.addi v180 c3_i32_227
  let c512_i32_228 : BitVec 32 := 512#32
  let v403 : BitVec 32 := Scalar.muli v402 c512_i32_228
  v403
def k0_mult82 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c4_i32_252 : BitVec 32 := 4#32
  let v449 : BitVec 32 := Scalar.addi v180 c4_i32_252
  let c1_i32_253 : BitVec 32 := 1#32
  let v450 : BitVec 32 := Scalar.addi v449 c1_i32_253
  let c512_i32_254 : BitVec 32 := 512#32
  let v451 : BitVec 32 := Scalar.muli v450 c512_i32_254
  v451
def k0_mult83 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c4_i32_263 : BitVec 32 := 4#32
  let v469 : BitVec 32 := Scalar.addi v180 c4_i32_263
  let c512_i32_264 : BitVec 32 := 512#32
  let v470 : BitVec 32 := Scalar.muli v469 c512_i32_264
  v470
def k0_mult84 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c5_i32 : BitVec 32 := 5#32
  let v516 : BitVec 32 := Scalar.addi v180 c5_i32
  let c1_i32_288 : BitVec 32 := 1#32
  let v517 : BitVec 32 := Scalar.addi v516 c1_i32_288
  let c512_i32_289 : BitVec 32 := 512#32
  let v518 : BitVec 32 := Scalar.muli v517 c512_i32_289
  v518
def k0_mult85 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c5_i32_298 : BitVec 32 := 5#32
  let v536 : BitVec 32 := Scalar.addi v180 c5_i32_298
  let c512_i32_299 : BitVec 32 := 512#32
  let v537 : BitVec 32 := Scalar.muli v536 c512_i32_299
  v537
def k0_mult86 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c6_i32 : BitVec 32 := 6#32
  let v583 : BitVec 32 := Scalar.addi v180 c6_i32
  let c1_i32_323 : BitVec 32 := 1#32
  let v584 : BitVec 32 := Scalar.addi v583 c1_i32_323
  let c512_i32_324 : BitVec 32 := 512#32
  let v585 : BitVec 32 := Scalar.muli v584 c512_i32_324
  v585
def k0_mult87 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c6_i32_333 : BitVec 32 := 6#32
  let v603 : BitVec 32 := Scalar.addi v180 c6_i32_333
  let c512_i32_334 : BitVec 32 := 512#32
  let v604 : BitVec 32 := Scalar.muli v603 c512_i32_334
  v604
def k0_mult88 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c7_i32 : BitVec 32 := 7#32
  let v650 : BitVec 32 := Scalar.addi v180 c7_i32
  let c1_i32_358 : BitVec 32 := 1#32
  let v651 : BitVec 32 := Scalar.addi v650 c1_i32_358
  let c512_i32_359 : BitVec 32 := 512#32
  let v652 : BitVec 32 := Scalar.muli v651 c512_i32_359
  v652
def k0_mult89 (i : grid0.Coords) (k0_t3 : Fin (k0_t3_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c1_i32_60 : BitVec 32 := 1#32
  let arg23 : BitVec 32 := Scf.iv c0_i32_58 c1_i32_60 k0_t3
  let v179 : BitVec 32 := Scalar.muli c8_i32_108 arg23
  let v180 : BitVec 32 := Scalar.addi v103 v179
  let c7_i32_368 : BitVec 32 := 7#32
  let v670 : BitVec 32 := Scalar.addi v180 c7_i32_368
  let c512_i32_369 : BitVec 32 := 512#32
  let v671 : BitVec 32 := Scalar.muli v670 c512_i32_369
  v671
@[reducible] def k0_t4_loop (i : grid0.Coords) : Scf.Loop 32 :=
  let c0_i32_58 : BitVec 32 := 0#32
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let v111 : BitVec 32 := Scalar.addi c0_i32_58 v110
  let c1_i32_61 : BitVec 32 := 1#32
  ⟨v114, v111, c1_i32_61⟩
def k0_mult90 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off37 (i : grid0.Coords) (k0_t4 : Fin (k0_t4_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off38 (i : grid0.Coords) (k0_t4 : Fin (k0_t4_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult91 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off39 (i : grid0.Coords) (k0_t4 : Fin (k0_t4_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off40 (i : grid0.Coords) (k0_t4 : Fin (k0_t4_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off41 (i : grid0.Coords) (k0_t4 : Fin (k0_t4_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off42 (i : grid0.Coords) (k0_t4 : Fin (k0_t4_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult92 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult93 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c1_i32_156 : BitVec 32 := 1#32
  let v268 : BitVec 32 := Scalar.addi v180 c1_i32_156
  let c512_i32_157 : BitVec 32 := 512#32
  let v269 : BitVec 32 := Scalar.muli v268 c512_i32_157
  v269
def k0_mult94 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c2_i32_181 : BitVec 32 := 2#32
  let v315 : BitVec 32 := Scalar.addi v180 c2_i32_181
  let c1_i32_182 : BitVec 32 := 1#32
  let v316 : BitVec 32 := Scalar.addi v315 c1_i32_182
  let c512_i32_183 : BitVec 32 := 512#32
  let v317 : BitVec 32 := Scalar.muli v316 c512_i32_183
  v317
def k0_mult95 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c2_i32_192 : BitVec 32 := 2#32
  let v335 : BitVec 32 := Scalar.addi v180 c2_i32_192
  let c512_i32_193 : BitVec 32 := 512#32
  let v336 : BitVec 32 := Scalar.muli v335 c512_i32_193
  v336
def k0_mult96 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c3_i32 : BitVec 32 := 3#32
  let v382 : BitVec 32 := Scalar.addi v180 c3_i32
  let c1_i32_217 : BitVec 32 := 1#32
  let v383 : BitVec 32 := Scalar.addi v382 c1_i32_217
  let c512_i32_218 : BitVec 32 := 512#32
  let v384 : BitVec 32 := Scalar.muli v383 c512_i32_218
  v384
def k0_mult97 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c3_i32_227 : BitVec 32 := 3#32
  let v402 : BitVec 32 := Scalar.addi v180 c3_i32_227
  let c512_i32_228 : BitVec 32 := 512#32
  let v403 : BitVec 32 := Scalar.muli v402 c512_i32_228
  v403
def k0_mult98 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c4_i32_252 : BitVec 32 := 4#32
  let v449 : BitVec 32 := Scalar.addi v180 c4_i32_252
  let c1_i32_253 : BitVec 32 := 1#32
  let v450 : BitVec 32 := Scalar.addi v449 c1_i32_253
  let c512_i32_254 : BitVec 32 := 512#32
  let v451 : BitVec 32 := Scalar.muli v450 c512_i32_254
  v451
def k0_mult99 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c4_i32_263 : BitVec 32 := 4#32
  let v469 : BitVec 32 := Scalar.addi v180 c4_i32_263
  let c512_i32_264 : BitVec 32 := 512#32
  let v470 : BitVec 32 := Scalar.muli v469 c512_i32_264
  v470
def k0_mult100 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c5_i32 : BitVec 32 := 5#32
  let v516 : BitVec 32 := Scalar.addi v180 c5_i32
  let c1_i32_288 : BitVec 32 := 1#32
  let v517 : BitVec 32 := Scalar.addi v516 c1_i32_288
  let c512_i32_289 : BitVec 32 := 512#32
  let v518 : BitVec 32 := Scalar.muli v517 c512_i32_289
  v518
def k0_mult101 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c5_i32_298 : BitVec 32 := 5#32
  let v536 : BitVec 32 := Scalar.addi v180 c5_i32_298
  let c512_i32_299 : BitVec 32 := 512#32
  let v537 : BitVec 32 := Scalar.muli v536 c512_i32_299
  v537
def k0_mult102 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c6_i32 : BitVec 32 := 6#32
  let v583 : BitVec 32 := Scalar.addi v180 c6_i32
  let c1_i32_323 : BitVec 32 := 1#32
  let v584 : BitVec 32 := Scalar.addi v583 c1_i32_323
  let c512_i32_324 : BitVec 32 := 512#32
  let v585 : BitVec 32 := Scalar.muli v584 c512_i32_324
  v585
def k0_mult103 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c6_i32_333 : BitVec 32 := 6#32
  let v603 : BitVec 32 := Scalar.addi v180 c6_i32_333
  let c512_i32_334 : BitVec 32 := 512#32
  let v604 : BitVec 32 := Scalar.muli v603 c512_i32_334
  v604
def k0_mult104 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c7_i32 : BitVec 32 := 7#32
  let v650 : BitVec 32 := Scalar.addi v180 c7_i32
  let c1_i32_358 : BitVec 32 := 1#32
  let v651 : BitVec 32 := Scalar.addi v650 c1_i32_358
  let c512_i32_359 : BitVec 32 := 512#32
  let v652 : BitVec 32 := Scalar.muli v651 c512_i32_359
  v652
def k0_mult105 (i : grid0.Coords) (k0_t4 : Fin (k0_t4_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_108 : BitVec 32 := 8#32
  let c0_i32_58 : BitVec 32 := 0#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v110 : BitVec 32 := Scalar.subi v109 c0_i32_58
  let c1_i32_59 : BitVec 32 := 1#32
  let v112 : BitVec 32 := Scalar.divsi v110 c1_i32_59
  let v113 : BitVec 32 := Scalar.muli v112 c1_i32_59
  let v114 : BitVec 32 := Scalar.addi c0_i32_58 v113
  let c1_i32_61 : BitVec 32 := 1#32
  let arg23 : BitVec 32 := Scf.iv v114 c1_i32_61 k0_t4
  let v179 : BitVec 32 := Scalar.muli c8_i32_108 arg23
  let v180 : BitVec 32 := Scalar.addi v103 v179
  let c7_i32_368 : BitVec 32 := 7#32
  let v670 : BitVec 32 := Scalar.addi v180 c7_i32_368
  let c512_i32_369 : BitVec 32 := 512#32
  let v671 : BitVec 32 := Scalar.muli v670 c512_i32_369
  v671
@[reducible] def k0_t5_loop (i : grid0.Coords) : Scf.Loop 32 :=
  let c0_i32_68 : BitVec 32 := 0#32
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c8_i32_63 : BitVec 32 := 8#32
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_70 : BitVec 32 := 1#32
  ⟨c0_i32_68, v127, c1_i32_70⟩
def k0_mult106 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off43 (i : grid0.Coords) (k0_t5 : Fin (k0_t5_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off44 (i : grid0.Coords) (k0_t5 : Fin (k0_t5_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult107 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off45 (i : grid0.Coords) (k0_t5 : Fin (k0_t5_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off46 (i : grid0.Coords) (k0_t5 : Fin (k0_t5_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off47 (i : grid0.Coords) (k0_t5 : Fin (k0_t5_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off48 (i : grid0.Coords) (k0_t5 : Fin (k0_t5_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult108 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult109 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c1_i32_156 : BitVec 32 := 1#32
  let v268 : BitVec 32 := Scalar.addi v180 c1_i32_156
  let c512_i32_157 : BitVec 32 := 512#32
  let v269 : BitVec 32 := Scalar.muli v268 c512_i32_157
  v269
def k0_mult110 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c2_i32_181 : BitVec 32 := 2#32
  let v315 : BitVec 32 := Scalar.addi v180 c2_i32_181
  let c1_i32_182 : BitVec 32 := 1#32
  let v316 : BitVec 32 := Scalar.addi v315 c1_i32_182
  let c512_i32_183 : BitVec 32 := 512#32
  let v317 : BitVec 32 := Scalar.muli v316 c512_i32_183
  v317
def k0_mult111 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c2_i32_192 : BitVec 32 := 2#32
  let v335 : BitVec 32 := Scalar.addi v180 c2_i32_192
  let c512_i32_193 : BitVec 32 := 512#32
  let v336 : BitVec 32 := Scalar.muli v335 c512_i32_193
  v336
def k0_mult112 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c3_i32 : BitVec 32 := 3#32
  let v382 : BitVec 32 := Scalar.addi v180 c3_i32
  let c1_i32_217 : BitVec 32 := 1#32
  let v383 : BitVec 32 := Scalar.addi v382 c1_i32_217
  let c512_i32_218 : BitVec 32 := 512#32
  let v384 : BitVec 32 := Scalar.muli v383 c512_i32_218
  v384
def k0_mult113 (i : grid0.Coords) (k0_t5 : Fin (k0_t5_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c1_i32_70 : BitVec 32 := 1#32
  let arg23 : BitVec 32 := Scf.iv c0_i32_68 c1_i32_70 k0_t5
  let v179 : BitVec 32 := Scalar.muli c4_i32_108 arg23
  let v180 : BitVec 32 := Scalar.addi v116 v179
  let c3_i32_227 : BitVec 32 := 3#32
  let v402 : BitVec 32 := Scalar.addi v180 c3_i32_227
  let c512_i32_228 : BitVec 32 := 512#32
  let v403 : BitVec 32 := Scalar.muli v402 c512_i32_228
  v403
@[reducible] def k0_t6_loop (i : grid0.Coords) : Scf.Loop 32 :=
  let c0_i32_68 : BitVec 32 := 0#32
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c8_i32_63 : BitVec 32 := 8#32
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let v124 : BitVec 32 := Scalar.addi c0_i32_68 v123
  let c1_i32_71 : BitVec 32 := 1#32
  ⟨v127, v124, c1_i32_71⟩
def k0_mult114 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off49 (i : grid0.Coords) (k0_t6 : Fin (k0_t6_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off50 (i : grid0.Coords) (k0_t6 : Fin (k0_t6_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult115 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off51 (i : grid0.Coords) (k0_t6 : Fin (k0_t6_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off52 (i : grid0.Coords) (k0_t6 : Fin (k0_t6_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off53 (i : grid0.Coords) (k0_t6 : Fin (k0_t6_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off54 (i : grid0.Coords) (k0_t6 : Fin (k0_t6_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult116 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult117 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c1_i32_156 : BitVec 32 := 1#32
  let v268 : BitVec 32 := Scalar.addi v180 c1_i32_156
  let c512_i32_157 : BitVec 32 := 512#32
  let v269 : BitVec 32 := Scalar.muli v268 c512_i32_157
  v269
def k0_mult118 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c2_i32_181 : BitVec 32 := 2#32
  let v315 : BitVec 32 := Scalar.addi v180 c2_i32_181
  let c1_i32_182 : BitVec 32 := 1#32
  let v316 : BitVec 32 := Scalar.addi v315 c1_i32_182
  let c512_i32_183 : BitVec 32 := 512#32
  let v317 : BitVec 32 := Scalar.muli v316 c512_i32_183
  v317
def k0_mult119 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c2_i32_192 : BitVec 32 := 2#32
  let v335 : BitVec 32 := Scalar.addi v180 c2_i32_192
  let c512_i32_193 : BitVec 32 := 512#32
  let v336 : BitVec 32 := Scalar.muli v335 c512_i32_193
  v336
def k0_mult120 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c3_i32 : BitVec 32 := 3#32
  let v382 : BitVec 32 := Scalar.addi v180 c3_i32
  let c1_i32_217 : BitVec 32 := 1#32
  let v383 : BitVec 32 := Scalar.addi v382 c1_i32_217
  let c512_i32_218 : BitVec 32 := 512#32
  let v384 : BitVec 32 := Scalar.muli v383 c512_i32_218
  v384
def k0_mult121 (i : grid0.Coords) (k0_t6 : Fin (k0_t6_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_108 : BitVec 32 := 4#32
  let c0_i32_68 : BitVec 32 := 0#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v123 : BitVec 32 := Scalar.subi v122 c0_i32_68
  let c1_i32_69 : BitVec 32 := 1#32
  let v125 : BitVec 32 := Scalar.divsi v123 c1_i32_69
  let v126 : BitVec 32 := Scalar.muli v125 c1_i32_69
  let v127 : BitVec 32 := Scalar.addi c0_i32_68 v126
  let c1_i32_71 : BitVec 32 := 1#32
  let arg23 : BitVec 32 := Scf.iv v127 c1_i32_71 k0_t6
  let v179 : BitVec 32 := Scalar.muli c4_i32_108 arg23
  let v180 : BitVec 32 := Scalar.addi v116 v179
  let c3_i32_227 : BitVec 32 := 3#32
  let v402 : BitVec 32 := Scalar.addi v180 c3_i32_227
  let c512_i32_228 : BitVec 32 := 512#32
  let v403 : BitVec 32 := Scalar.muli v402 c512_i32_228
  v403
@[reducible] def k0_t7_loop (i : grid0.Coords) : Scf.Loop 32 :=
  let c0_i32_79 : BitVec 32 := 0#32
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c8_i32_63 : BitVec 32 := 8#32
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v117 : BitVec 32 := Scalar.muli c8_i32_63 v109
  let v118 : BitVec 32 := Scalar.subi v105 v117
  let c4_i32_73 : BitVec 32 := 4#32
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_81 : BitVec 32 := 1#32
  ⟨c0_i32_79, v140, c1_i32_81⟩
def k0_mult122 (i : grid0.Coords) (k0_t7 : Fin (k0_t7_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off55 (i : grid0.Coords) (k0_t7 : Fin (k0_t7_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off56 (i : grid0.Coords) (k0_t7 : Fin (k0_t7_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult123 (i : grid0.Coords) (k0_t7 : Fin (k0_t7_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off57 (i : grid0.Coords) (k0_t7 : Fin (k0_t7_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off58 (i : grid0.Coords) (k0_t7 : Fin (k0_t7_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off59 (i : grid0.Coords) (k0_t7 : Fin (k0_t7_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off60 (i : grid0.Coords) (k0_t7 : Fin (k0_t7_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult124 (i : grid0.Coords) (k0_t7 : Fin (k0_t7_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult125 (i : grid0.Coords) (k0_t7 : Fin (k0_t7_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c1_i32_81 : BitVec 32 := 1#32
  let arg23 : BitVec 32 := Scf.iv c0_i32_79 c1_i32_81 k0_t7
  let v179 : BitVec 32 := Scalar.muli c2_i32_108 arg23
  let v180 : BitVec 32 := Scalar.addi v129 v179
  let c1_i32_156 : BitVec 32 := 1#32
  let v268 : BitVec 32 := Scalar.addi v180 c1_i32_156
  let c512_i32_157 : BitVec 32 := 512#32
  let v269 : BitVec 32 := Scalar.muli v268 c512_i32_157
  v269
@[reducible] def k0_t8_loop (i : grid0.Coords) : Scf.Loop 32 :=
  let c0_i32_79 : BitVec 32 := 0#32
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c8_i32_63 : BitVec 32 := 8#32
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v117 : BitVec 32 := Scalar.muli c8_i32_63 v109
  let v118 : BitVec 32 := Scalar.subi v105 v117
  let c4_i32_73 : BitVec 32 := 4#32
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let v137 : BitVec 32 := Scalar.addi c0_i32_79 v136
  let c1_i32_82 : BitVec 32 := 1#32
  ⟨v140, v137, c1_i32_82⟩
def k0_mult126 (i : grid0.Coords) (k0_t8 : Fin (k0_t8_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let c0_i32_109 : BitVec 32 := 0#32
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  v183
def k0_off61 (i : grid0.Coords) (k0_t8 : Fin (k0_t8_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v185 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v186 : Index := Scalar.indexCast v184
  let c0_112 : Index := 0#32
  ![v185.toNat, v186.toNat, 0]
def k0_off62 (i : grid0.Coords) (k0_t8 : Fin (k0_t8_loop i).trips) (c0_i32_109 : BitVec 32) : Fin 3 → Nat :=
  let arg0 : BitVec 32 := BitVec.ofNat 32 (i 0).val
  let c2_i32 : BitVec 32 := 2#32
  let v7 : BitVec 32 := Scalar.remsi arg0 c2_i32
  let v193 : Index := Scalar.indexCast v7
  let c0_116 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let v181 : BitVec 32 := Scalar.addi v180 c0_i32_109
  let c1_i32_110 : BitVec 32 := 1#32
  let v182 : BitVec 32 := Scalar.addi v181 c1_i32_110
  let c512_i32_111 : BitVec 32 := 512#32
  let v183 : BitVec 32 := Scalar.muli v182 c512_i32_111
  let v184 : BitVec 32 := v183
  let v194 : Index := Scalar.indexCast v184
  ![v193.toNat, 0, v194.toNat]
def k0_mult127 (i : grid0.Coords) (k0_t8 : Fin (k0_t8_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let c0_i32_120 : BitVec 32 := 0#32
  let v201 : BitVec 32 := Scalar.addi v180 c0_i32_120
  let c512_i32_121 : BitVec 32 := 512#32
  let v202 : BitVec 32 := Scalar.muli v201 c512_i32_121
  v202
def k0_off63 (i : grid0.Coords) (k0_t8 : Fin (k0_t8_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v204 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v205 : Index := Scalar.indexCast v203
  let c0_122 : Index := 0#32
  ![v204.toNat, v205.toNat, 0]
def k0_off64 (i : grid0.Coords) (k0_t8 : Fin (k0_t8_loop i).trips) (c0_i32_120 : BitVec 32) : Fin 3 → Nat :=
  let c0_125 : Index := 0#32
  let c0_126 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v209 : Index := Scalar.indexCast v203
  ![0, 0, v209.toNat]
def k0_off65 (i : grid0.Coords) (k0_t8 : Fin (k0_t8_loop i).trips) (c0_i32_120 : BitVec 32) : Fin 3 → Nat :=
  let arg0 : BitVec 32 := BitVec.ofNat 32 (i 0).val
  let c2_i32 : BitVec 32 := 2#32
  let v7 : BitVec 32 := Scalar.remsi arg0 c2_i32
  let v224 : Index := Scalar.indexCast v7
  let c0_133 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v225 : Index := Scalar.indexCast v203
  ![v224.toNat, 0, v225.toNat]
def k0_off66 (i : grid0.Coords) (k0_t8 : Fin (k0_t8_loop i).trips) (c0_i32_120 : BitVec 32) : Fin 2 → Nat :=
  let c0_142 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let v201 : BitVec 32 := Scalar.addi v180 c0_i32_120
  let c512_i32_121 : BitVec 32 := 512#32
  let v202 : BitVec 32 := Scalar.muli v201 c512_i32_121
  let v203 : BitVec 32 := v202
  let v240 : Index := Scalar.indexCast v203
  ![0, v240.toNat]
def k0_mult128 (i : grid0.Coords) (k0_t8 : Fin (k0_t8_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let c1_i32_145 : BitVec 32 := 1#32
  let v248 : BitVec 32 := Scalar.addi v180 c1_i32_145
  let c1_i32_146 : BitVec 32 := 1#32
  let v249 : BitVec 32 := Scalar.addi v248 c1_i32_146
  let c512_i32_147 : BitVec 32 := 512#32
  let v250 : BitVec 32 := Scalar.muli v249 c512_i32_147
  v250
def k0_mult129 (i : grid0.Coords) (k0_t8 : Fin (k0_t8_loop i).trips) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_108 : BitVec 32 := 2#32
  let c0_i32_79 : BitVec 32 := 0#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v136 : BitVec 32 := Scalar.subi v135 c0_i32_79
  let c1_i32_80 : BitVec 32 := 1#32
  let v138 : BitVec 32 := Scalar.divsi v136 c1_i32_80
  let v139 : BitVec 32 := Scalar.muli v138 c1_i32_80
  let v140 : BitVec 32 := Scalar.addi c0_i32_79 v139
  let c1_i32_82 : BitVec 32 := 1#32
  let arg23 : BitVec 32 := Scf.iv v140 c1_i32_82 k0_t8
  let v179 : BitVec 32 := Scalar.muli c2_i32_108 arg23
  let v180 : BitVec 32 := Scalar.addi v129 v179
  let c1_i32_156 : BitVec 32 := 1#32
  let v268 : BitVec 32 := Scalar.addi v180 c1_i32_156
  let c512_i32_157 : BitVec 32 := 512#32
  let v269 : BitVec 32 := Scalar.muli v268 c512_i32_157
  v269
def k0_cond5 (i : grid0.Coords) : BitVec 1 :=
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c8_i32_63 : BitVec 32 := 8#32
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v117 : BitVec 32 := Scalar.muli c8_i32_63 v109
  let v118 : BitVec 32 := Scalar.subi v105 v117
  let c4_i32_73 : BitVec 32 := 4#32
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v130 : BitVec 32 := Scalar.muli c4_i32_73 v122
  let v131 : BitVec 32 := Scalar.subi v118 v130
  let c2_i32_84 : BitVec 32 := 2#32
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v143 : BitVec 32 := Scalar.muli c2_i32_84 v135
  let v144 : BitVec 32 := Scalar.subi v131 v143
  let c1_i32_85 : BitVec 32 := 1#32
  let v145 : BitVec 1 := Scalar.cmpi .eq v144 c1_i32_85
  let v146 : BitVec 32 := Scalar.extui v145
  let c0_i32_86 : BitVec 32 := 0#32
  let v147 : BitVec 1 := Scalar.cmpi .ne v146 c0_i32_86
  v147

def k0_mult130 (i : grid0.Coords) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_108 : BitVec 32 := 512#32
  let v179 : BitVec 32 := Scalar.muli v142 c512_i32_108
  v179
def k0_off67 (i : grid0.Coords) : Fin 3 → Nat :=
  let arg0 : BitVec 32 := BitVec.ofNat 32 (i 0).val
  let c2_i32 : BitVec 32 := 2#32
  let v7 : BitVec 32 := Scalar.remsi arg0 c2_i32
  let v181 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_108 : BitVec 32 := 512#32
  let v179 : BitVec 32 := Scalar.muli v142 c512_i32_108
  let v180 : BitVec 32 := v179
  let v182 : Index := Scalar.indexCast v180
  let c0_109 : Index := 0#32
  ![v181.toNat, v182.toNat, 0]
def k0_off68 (i : grid0.Coords) : Fin 3 → Nat :=
  let c0_112 : Index := 0#32
  let c0_113 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_108 : BitVec 32 := 512#32
  let v179 : BitVec 32 := Scalar.muli v142 c512_i32_108
  let v180 : BitVec 32 := v179
  let v186 : Index := Scalar.indexCast v180
  ![0, 0, v186.toNat]
def k0_off69 (i : grid0.Coords) : Fin 3 → Nat :=
  let arg0 : BitVec 32 := BitVec.ofNat 32 (i 0).val
  let c2_i32 : BitVec 32 := 2#32
  let v7 : BitVec 32 := Scalar.remsi arg0 c2_i32
  let v201 : Index := Scalar.indexCast v7
  let c0_120 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_108 : BitVec 32 := 512#32
  let v179 : BitVec 32 := Scalar.muli v142 c512_i32_108
  let v180 : BitVec 32 := v179
  let v202 : Index := Scalar.indexCast v180
  ![v201.toNat, 0, v202.toNat]
def k0_off70 (i : grid0.Coords) : Fin 2 → Nat :=
  let c0_129 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_108 : BitVec 32 := 512#32
  let v179 : BitVec 32 := Scalar.muli v142 c512_i32_108
  let v180 : BitVec 32 := v179
  let v217 : Index := Scalar.indexCast v180
  ![0, v217.toNat]
def k0_cond6 (i : grid0.Coords) : BitVec 1 :=
  let c31_i32 : BitVec 32 := 31#32
  let arg1 : BitVec 32 := BitVec.ofNat 32 (i 1).val
  let v19 : BitVec 32 := Scalar.subi c31_i32 arg1
  let c16_i32_53 : BitVec 32 := 16#32
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v104 : BitVec 32 := Scalar.muli c16_i32_53 v96
  let v105 : BitVec 32 := Scalar.subi v19 v104
  let c8_i32_63 : BitVec 32 := 8#32
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v117 : BitVec 32 := Scalar.muli c8_i32_63 v109
  let v118 : BitVec 32 := Scalar.subi v105 v117
  let c4_i32_73 : BitVec 32 := 4#32
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v130 : BitVec 32 := Scalar.muli c4_i32_73 v122
  let v131 : BitVec 32 := Scalar.subi v118 v130
  let c2_i32_84 : BitVec 32 := 2#32
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v143 : BitVec 32 := Scalar.muli c2_i32_84 v135
  let v144 : BitVec 32 := Scalar.subi v131 v143
  let c2_i32_87 : BitVec 32 := 2#32
  let v148 : BitVec 1 := Scalar.cmpi .eq v144 c2_i32_87
  let v149 : BitVec 32 := Scalar.extui v148
  let c0_i32_88 : BitVec 32 := 0#32
  let v150 : BitVec 1 := Scalar.cmpi .ne v149 c0_i32_88
  v150

def k0_mult131 (i : grid0.Coords) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c1_i32_108 : BitVec 32 := 1#32
  let v179 : BitVec 32 := Scalar.addi v142 c1_i32_108
  let c512_i32_109 : BitVec 32 := 512#32
  let v180 : BitVec 32 := Scalar.muli v179 c512_i32_109
  v180
def k0_off71 (i : grid0.Coords) : Fin 3 → Nat :=
  let arg0 : BitVec 32 := BitVec.ofNat 32 (i 0).val
  let c2_i32 : BitVec 32 := 2#32
  let v7 : BitVec 32 := Scalar.remsi arg0 c2_i32
  let v182 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c1_i32_108 : BitVec 32 := 1#32
  let v179 : BitVec 32 := Scalar.addi v142 c1_i32_108
  let c512_i32_109 : BitVec 32 := 512#32
  let v180 : BitVec 32 := Scalar.muli v179 c512_i32_109
  let v181 : BitVec 32 := v180
  let v183 : Index := Scalar.indexCast v181
  let c0_110 : Index := 0#32
  ![v182.toNat, v183.toNat, 0]
def k0_off72 (i : grid0.Coords) : Fin 3 → Nat :=
  let arg0 : BitVec 32 := BitVec.ofNat 32 (i 0).val
  let c2_i32 : BitVec 32 := 2#32
  let v7 : BitVec 32 := Scalar.remsi arg0 c2_i32
  let v190 : Index := Scalar.indexCast v7
  let c0_114 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c1_i32_108 : BitVec 32 := 1#32
  let v179 : BitVec 32 := Scalar.addi v142 c1_i32_108
  let c512_i32_109 : BitVec 32 := 512#32
  let v180 : BitVec 32 := Scalar.muli v179 c512_i32_109
  let v181 : BitVec 32 := v180
  let v191 : Index := Scalar.indexCast v181
  ![v190.toNat, 0, v191.toNat]
def k0_mult132 (i : grid0.Coords) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_118 : BitVec 32 := 512#32
  let v198 : BitVec 32 := Scalar.muli v142 c512_i32_118
  v198
def k0_off73 (i : grid0.Coords) : Fin 3 → Nat :=
  let arg0 : BitVec 32 := BitVec.ofNat 32 (i 0).val
  let c2_i32 : BitVec 32 := 2#32
  let v7 : BitVec 32 := Scalar.remsi arg0 c2_i32
  let v200 : Index := Scalar.indexCast v7
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_118 : BitVec 32 := 512#32
  let v198 : BitVec 32 := Scalar.muli v142 c512_i32_118
  let v199 : BitVec 32 := v198
  let v201 : Index := Scalar.indexCast v199
  let c0_119 : Index := 0#32
  ![v200.toNat, v201.toNat, 0]
def k0_off74 (i : grid0.Coords) : Fin 3 → Nat :=
  let c0_122 : Index := 0#32
  let c0_123 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_118 : BitVec 32 := 512#32
  let v198 : BitVec 32 := Scalar.muli v142 c512_i32_118
  let v199 : BitVec 32 := v198
  let v205 : Index := Scalar.indexCast v199
  ![0, 0, v205.toNat]
def k0_off75 (i : grid0.Coords) : Fin 3 → Nat :=
  let arg0 : BitVec 32 := BitVec.ofNat 32 (i 0).val
  let c2_i32 : BitVec 32 := 2#32
  let v7 : BitVec 32 := Scalar.remsi arg0 c2_i32
  let v220 : Index := Scalar.indexCast v7
  let c0_130 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_118 : BitVec 32 := 512#32
  let v198 : BitVec 32 := Scalar.muli v142 c512_i32_118
  let v199 : BitVec 32 := v198
  let v221 : Index := Scalar.indexCast v199
  ![v220.toNat, 0, v221.toNat]
def k0_off76 (i : grid0.Coords) : Fin 2 → Nat :=
  let c0_139 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c512_i32_118 : BitVec 32 := 512#32
  let v198 : BitVec 32 := Scalar.muli v142 c512_i32_118
  let v199 : BitVec 32 := v198
  let v236 : Index := Scalar.indexCast v199
  ![0, v236.toNat]
def k0_mult133 (i : grid0.Coords) : BitVec 32 :=
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c1_i32_142 : BitVec 32 := 1#32
  let v244 : BitVec 32 := Scalar.addi v142 c1_i32_142
  let c512_i32_143 : BitVec 32 := 512#32
  let v245 : BitVec 32 := Scalar.muli v244 c512_i32_143
  v245
def k0_off77 (i : grid0.Coords) : Fin 3 → Nat :=
  let c0_147 : Index := 0#32
  let c0_148 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c1_i32_142 : BitVec 32 := 1#32
  let v244 : BitVec 32 := Scalar.addi v142 c1_i32_142
  let c512_i32_143 : BitVec 32 := 512#32
  let v245 : BitVec 32 := Scalar.muli v244 c512_i32_143
  let v246 : BitVec 32 := v245
  let v252 : Index := Scalar.indexCast v246
  ![0, 0, v252.toNat]
def k0_off78 (i : grid0.Coords) : Fin 2 → Nat :=
  let c0_164 : Index := 0#32
  let arg1 : BitVec 32 := BitVec.ofNat 32 (i 1).val
  let c1_i32_43 : BitVec 32 := 1#32
  let v92 : BitVec 32 := Scalar.addi arg1 c1_i32_43
  let c16_i32_52 : BitVec 32 := 16#32
  let c31_i32 : BitVec 32 := 31#32
  let v19 : BitVec 32 := Scalar.subi c31_i32 arg1
  let c1_i32_44 : BitVec 32 := 1#32
  let v93 : BitVec 1 := Scalar.cmpi .sge v19 c1_i32_44
  let c1_i32_45 : BitVec 32 := 1#32
  let v94 : BitVec 32 := Scalar.subi v19 c1_i32_45
  let c16_i32 : BitVec 32 := 16#32
  let v95 : BitVec 32 := Scalar.divsi v94 c16_i32
  let c0_i32_46 : BitVec 32 := 0#32
  let v96 : BitVec 32 := Scalar.select v93 v95 c0_i32_46
  let v102 : BitVec 32 := Scalar.muli c16_i32_52 v96
  let v103 : BitVec 32 := Scalar.addi v92 v102
  let c8_i32_62 : BitVec 32 := 8#32
  let c16_i32_53 : BitVec 32 := 16#32
  let v104 : BitVec 32 := Scalar.muli c16_i32_53 v96
  let v105 : BitVec 32 := Scalar.subi v19 v104
  let c1_i32_54 : BitVec 32 := 1#32
  let v106 : BitVec 1 := Scalar.cmpi .sge v105 c1_i32_54
  let c1_i32_55 : BitVec 32 := 1#32
  let v107 : BitVec 32 := Scalar.subi v105 c1_i32_55
  let c8_i32 : BitVec 32 := 8#32
  let v108 : BitVec 32 := Scalar.divsi v107 c8_i32
  let c0_i32_56 : BitVec 32 := 0#32
  let v109 : BitVec 32 := Scalar.select v106 v108 c0_i32_56
  let v115 : BitVec 32 := Scalar.muli c8_i32_62 v109
  let v116 : BitVec 32 := Scalar.addi v103 v115
  let c4_i32_72 : BitVec 32 := 4#32
  let c8_i32_63 : BitVec 32 := 8#32
  let v117 : BitVec 32 := Scalar.muli c8_i32_63 v109
  let v118 : BitVec 32 := Scalar.subi v105 v117
  let c1_i32_64 : BitVec 32 := 1#32
  let v119 : BitVec 1 := Scalar.cmpi .sge v118 c1_i32_64
  let c1_i32_65 : BitVec 32 := 1#32
  let v120 : BitVec 32 := Scalar.subi v118 c1_i32_65
  let c4_i32 : BitVec 32 := 4#32
  let v121 : BitVec 32 := Scalar.divsi v120 c4_i32
  let c0_i32_66 : BitVec 32 := 0#32
  let v122 : BitVec 32 := Scalar.select v119 v121 c0_i32_66
  let v128 : BitVec 32 := Scalar.muli c4_i32_72 v122
  let v129 : BitVec 32 := Scalar.addi v116 v128
  let c2_i32_83 : BitVec 32 := 2#32
  let c4_i32_73 : BitVec 32 := 4#32
  let v130 : BitVec 32 := Scalar.muli c4_i32_73 v122
  let v131 : BitVec 32 := Scalar.subi v118 v130
  let c1_i32_74 : BitVec 32 := 1#32
  let v132 : BitVec 1 := Scalar.cmpi .sge v131 c1_i32_74
  let c1_i32_75 : BitVec 32 := 1#32
  let v133 : BitVec 32 := Scalar.subi v131 c1_i32_75
  let c2_i32_76 : BitVec 32 := 2#32
  let v134 : BitVec 32 := Scalar.divsi v133 c2_i32_76
  let c0_i32_77 : BitVec 32 := 0#32
  let v135 : BitVec 32 := Scalar.select v132 v134 c0_i32_77
  let v141 : BitVec 32 := Scalar.muli c2_i32_83 v135
  let v142 : BitVec 32 := Scalar.addi v129 v141
  let c1_i32_142 : BitVec 32 := 1#32
  let v244 : BitVec 32 := Scalar.addi v142 c1_i32_142
  let c512_i32_143 : BitVec 32 := 512#32
  let v245 : BitVec 32 := Scalar.muli v244 c512_i32_143
  let v246 : BitVec 32 := v245
  let v283 : Index := Scalar.indexCast v246
  ![0, v283.toNat]
def k0_cond7 (i : grid0.Coords) : BitVec 1 :=
  let arg1 : BitVec 32 := BitVec.ofNat 32 (i 1).val
  let c0_i32_98 : BitVec 32 := 0#32
  let v160 : BitVec 1 := Scalar.cmpi .sgt arg1 c0_i32_98
  let v161 : BitVec 32 := Scalar.extui v160
  let c0_i32_99 : BitVec 32 := 0#32
  let v162 : BitVec 1 := Scalar.cmpi .ne v161 c0_i32_99
  v162

def k0_mult134 (i : grid0.Coords) : BitVec 32 :=
  let arg1 : BitVec 32 := BitVec.ofNat 32 (i 1).val
  let c1_i32_108 : BitVec 32 := 1#32
  let v179 : BitVec 32 := Scalar.subi arg1 c1_i32_108
  let c512_i32_109 : BitVec 32 := 512#32
  let v180 : BitVec 32 := Scalar.muli v179 c512_i32_109
  v180
def k0_off79 (i : grid0.Coords) : Fin 3 → Nat :=
  let arg0 : BitVec 32 := BitVec.ofNat 32 (i 0).val
  let arg1 : BitVec 32 := BitVec.ofNat 32 (i 1).val
  let c1_i32_108 : BitVec 32 := 1#32
  let v179 : BitVec 32 := Scalar.subi arg1 c1_i32_108
  let c512_i32_109 : BitVec 32 := 512#32
  let v180 : BitVec 32 := Scalar.muli v179 c512_i32_109
  let v181 : BitVec 32 := v180
  let c0_i32_110 : BitVec 32 := 0#32
  ![arg0.toNat, v181.toNat, 0]
def k0_mult135 (i : grid0.Coords) : BitVec 32 :=
  let arg1 : BitVec 32 := BitVec.ofNat 32 (i 1).val
  let c512_i32_100 : BitVec 32 := 512#32
  let v163 : BitVec 32 := Scalar.muli arg1 c512_i32_100
  v163
def k0_mult136 (i : grid0.Coords) : BitVec 32 :=
  let arg1 : BitVec 32 := BitVec.ofNat 32 (i 1).val
  let c512_i32_104 : BitVec 32 := 512#32
  let v172 : BitVec 32 := Scalar.muli arg1 c512_i32_104
  v172
def k0_off80 (i : grid0.Coords) : Fin 3 → Nat :=
  let arg0 : BitVec 32 := BitVec.ofNat 32 (i 0).val
  let arg1 : BitVec 32 := BitVec.ofNat 32 (i 1).val
  let c512_i32_104 : BitVec 32 := 512#32
  let v172 : BitVec 32 := Scalar.muli arg1 c512_i32_104
  let v173 : BitVec 32 := v172
  let c0_i32_105 : BitVec 32 := 0#32
  ![arg0.toNat, v173.toNat, 0]
def k0_cond8 (i : grid0.Coords) : BitVec 1 :=
  let arg1 : BitVec 32 := BitVec.ofNat 32 (i 1).val
  let c31_i32_106 : BitVec 32 := 31#32
  let v176 : BitVec 1 := Scalar.cmpi .eq arg1 c31_i32_106
  let v177 : BitVec 32 := Scalar.extui v176
  let c0_i32_107 : BitVec 32 := 0#32
  let v178 : BitVec 1 := Scalar.cmpi .ne v177 c0_i32_107
  v178

def k0_mult137 (i : grid0.Coords) : BitVec 32 :=
  let arg1 : BitVec 32 := BitVec.ofNat 32 (i 1).val
  let c512_i32_108 : BitVec 32 := 512#32
  let v179 : BitVec 32 := Scalar.muli arg1 c512_i32_108
  v179
def k0_off81 (i : grid0.Coords) : Fin 3 → Nat :=
  let arg0 : BitVec 32 := BitVec.ofNat 32 (i 0).val
  let arg1 : BitVec 32 := BitVec.ofNat 32 (i 1).val
  let c512_i32_108 : BitVec 32 := 512#32
  let v179 : BitVec 32 := Scalar.muli arg1 c512_i32_108
  let v180 : BitVec 32 := v179
  let c0_i32_109 : BitVec 32 := 0#32
  ![arg0.toNat, v180.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S16384x8x192 : Shape := ⟨3, ![16384, 8, 192]⟩
abbrev S16384x8x128 : Shape := ⟨3, ![16384, 8, 128]⟩
abbrev S_ : Shape := ⟨0, ![]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16384x192 : Shape := ⟨3, ![8, 16384, 192]⟩
abbrev S16384x8x256 : Shape := ⟨3, ![16384, 8, 256]⟩
abbrev S16384x2048 : Shape := ⟨2, ![16384, 2048]⟩
abbrev S16384x1024 : Shape := ⟨2, ![16384, 1024]⟩
abbrev S8x16384x256 : Shape := ⟨3, ![8, 16384, 256]⟩

abbrev nBuf : Space → Nat
  | .hbm => 99
  | .vmem => 0
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S16384x8x128, .f32⟩
  | .hbm, ⟨4, _⟩ => ⟨S_, .f32⟩
  | .hbm, ⟨5, _⟩ => ⟨S16384x8x192, .f32⟩
  | .hbm, ⟨6, _⟩ => ⟨S16384x8x192, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S_, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .i1⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S8x16384, .f32⟩
  | .hbm, ⟨33, _⟩ => ⟨S_, .f32⟩
  | .hbm, ⟨34, _⟩ => ⟨S8x16384, .f32⟩
  | .hbm, ⟨35, _⟩ => ⟨S8x16384, .i1⟩
  | .hbm, ⟨36, _⟩ => ⟨S_, .f32⟩
  | .hbm, ⟨37, _⟩ => ⟨S8x16384, .f32⟩
  | .hbm, ⟨38, _⟩ => ⟨S8x16384, .i1⟩
  | .hbm, ⟨39, _⟩ => ⟨S_, .f32⟩
  | .hbm, ⟨40, _⟩ => ⟨S8x16384, .f32⟩
  | .hbm, ⟨41, _⟩ => ⟨S_, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x1, .f32⟩
  | .hbm, ⟨57, _⟩ => ⟨S_, .f32⟩
  | .hbm, ⟨58, _⟩ => ⟨S8x16384x1, .f32⟩
  | .hbm, ⟨59, _⟩ => ⟨S8x16384x1, .f32⟩
  | .hbm, ⟨60, _⟩ => ⟨S8x128x16384, .f32⟩
  | .hbm, ⟨61, _⟩ => ⟨S16384x8x128, .f32⟩
  | .hbm, ⟨62, _⟩ => ⟨S8x128x16384, .f32⟩
  | .hbm, ⟨63, _⟩ => ⟨S8x16384x16384, .f32⟩
  | .hbm, ⟨64, _⟩ => ⟨S8x128x16384, .f32⟩
  | .hbm, ⟨65, _⟩ => ⟨S16384x8x128, .f32⟩
  | .hbm, ⟨66, _⟩ => ⟨S8x16384x16384, .f32⟩
  | .hbm, ⟨67, _⟩ => ⟨S8x16384x16384, .f32⟩
  | .hbm, ⟨68, _⟩ => ⟨S8x16384x16384, .f32⟩
  | .hbm, ⟨69, _⟩ => ⟨S_, .f32⟩
  | .hbm, ⟨70, _⟩ => ⟨S8x16384, .f32⟩
  | .hbm, ⟨71, _⟩ => ⟨S8x16384x1, .f32⟩
  | .hbm, ⟨72, _⟩ => ⟨S8x16384x1, .f32⟩
  | .hbm, ⟨73, _⟩ => ⟨S8x16384x16384, .f32⟩
  | .hbm, ⟨74, _⟩ => ⟨S8x16384x16384, .f32⟩
  | .hbm, ⟨75, _⟩ => ⟨S_, .f32⟩
  | .hbm, ⟨76, _⟩ => ⟨S8x16384, .f32⟩
  | .hbm, ⟨77, _⟩ => ⟨S8x16384x16384, .f32⟩
  | .hbm, ⟨78, _⟩ => ⟨S8x16384x16384, .f32⟩
  | .hbm, ⟨79, _⟩ => ⟨S8x16384x16384, .f32⟩
  | .hbm, ⟨80, _⟩ => ⟨S_, .f32⟩
  | .hbm, ⟨81, _⟩ => ⟨S8x16384x16384, .f32⟩
  | .hbm, ⟨82, _⟩ => ⟨S8x16384x16384, .f32⟩
  | .hbm, ⟨83, _⟩ => ⟨S8x16384x192, .f32⟩
  | .hbm, ⟨84, _⟩ => ⟨S16384x8x192, .f32⟩
  | .hbm, ⟨85, _⟩ => ⟨S8x16384x192, .f32⟩
  | .hbm, ⟨86, _⟩ => ⟨S16384x8x192, .f32⟩
  | .hbm, ⟨87, _⟩ => ⟨S_, .i32⟩
  | .hbm, ⟨88, _⟩ => ⟨S_, .f32⟩
  | .hbm, ⟨89, _⟩ => ⟨S16384x8x256, .f32⟩
  | .hbm, ⟨90, _⟩ => ⟨S16384x2048, .f32⟩
  | .hbm, ⟨91, _⟩ => ⟨S16384x2048, .bf16⟩
  | .hbm, ⟨92, _⟩ => ⟨S16384x1024, .f32⟩
  | .hbm, ⟨93, _⟩ => ⟨S16384x1024, .bf16⟩
  | .hbm, ⟨94, _⟩ => ⟨S_, .i32⟩
  | .hbm, ⟨95, _⟩ => ⟨S_, .f32⟩
  | .hbm, ⟨96, _⟩ => ⟨S16384x8x256, .f32⟩
  | .hbm, ⟨97, _⟩ => ⟨S8x16384x256, .f32⟩
  | .hbm, ⟨98, _⟩ => ⟨S8x16384x256, .bf16⟩
  | _, _ => ⟨S16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_call3_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel2.lean ====
abbrev S16384x8x192 : Shape := ⟨3, ![16384, 8, 192]⟩
abbrev S16384x8x128 : Shape := ⟨3, ![16384, 8, 128]⟩
abbrev S_ : Shape := ⟨0, ![]⟩
abbrev S16384x8x256 : Shape := ⟨3, ![16384, 8, 256]⟩
abbrev S16384x2048 : Shape := ⟨2, ![16384, 2048]⟩
abbrev S16384x1024 : Shape := ⟨2, ![16384, 1024]⟩
abbrev S1024x16384 : Shape := ⟨2, ![1024, 16384]⟩
abbrev S8x1x16384 : Shape := ⟨3, ![8, 1, 16384]⟩
abbrev S512x256 : Shape := ⟨2, ![512, 256]⟩
abbrev S16384x256 : Shape := ⟨2, ![16384, 256]⟩
abbrev S128x16384 : Shape := ⟨2, ![128, 16384]⟩
abbrev S512x128 : Shape := ⟨2, ![512, 128]⟩
abbrev S1x1x512 : Shape := ⟨3, ![1, 1, 512]⟩
abbrev S1x512 : Shape := ⟨2, ![1, 512]⟩
abbrev S128x512 : Shape := ⟨2, ![128, 512]⟩
abbrev S512x512 : Shape := ⟨2, ![512, 512]⟩
abbrev S512 : Shape := ⟨1, ![512]⟩

abbrev nBuf : Space → Nat
  | .hbm => 25
  | .vmem => 15
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S_, .f32⟩
  | .hbm, ⟨4, _⟩ => ⟨S16384x8x192, .f32⟩
  | .hbm, ⟨5, _⟩ => ⟨S16384x8x192, .f32⟩
  | .hbm, ⟨6, _⟩ => ⟨S_, .f32⟩
  | .hbm, ⟨7, _⟩ => ⟨S_, .f32⟩
  | .hbm, ⟨8, _⟩ => ⟨S16384x8x192, .f32⟩
  | .hbm, ⟨9, _⟩ => ⟨S16384x8x192, .f32⟩
  | .hbm, ⟨10, _⟩ => ⟨S_, .i32⟩
  | .hbm, ⟨11, _⟩ => ⟨S_, .f32⟩
  | .hbm, ⟨12, _⟩ => ⟨S16384x8x256, .f32⟩
  | .hbm, ⟨13, _⟩ => ⟨S16384x2048, .f32⟩
  | .hbm, ⟨14, _⟩ => ⟨S16384x2048, .bf16⟩
  | .hbm, ⟨15, _⟩ => ⟨S_, .i32⟩
  | .hbm, ⟨16, _⟩ => ⟨S_, .f32⟩
  | .hbm, ⟨17, _⟩ => ⟨S16384x8x256, .f32⟩
  | .hbm, ⟨18, _⟩ => ⟨S16384x2048, .f32⟩
  | .hbm, ⟨19, _⟩ => ⟨S16384x2048, .bf16⟩
  | .hbm, ⟨20, _⟩ => ⟨S16384x1024, .f32⟩
  | .hbm, ⟨21, _⟩ => ⟨S1024x16384, .f32⟩
  | .hbm, ⟨22, _⟩ => ⟨S1024x16384, .bf16⟩
  | .hbm, ⟨23, _⟩ => ⟨S16384x1024, .f32⟩
  | .hbm, ⟨24, _⟩ => ⟨S8x1x16384, .f32⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S128x16384, .bf16⟩
  | .local _ .vmem, ⟨5, _⟩ => ⟨S128x16384, .bf16⟩
  | .local _ .vmem, ⟨6, _⟩ => ⟨S512x128, .f32⟩
  | .local _ .vmem, ⟨7, _⟩ => ⟨S512x128, .f32⟩
  | .local _ .vmem, ⟨8, _⟩ => ⟨S1x1x512, .f32⟩
  | .local _ .vmem, ⟨9, _⟩ => ⟨S1x1x512, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S512x512, .f32⟩
  | .local _ .vmem, ⟨14, _⟩ => ⟨S512x512, .f32⟩
  | _, _ => ⟨S16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_mult1 : BitVec 32 :=
  let c0_i32 : BitVec 32 := 0#32
  c0_i32
@[reducible] def k0_t1_loop (i : grid0.Coords) : Scf.Loop 32 :=
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_16 : BitVec 32 := 1#32
  ⟨c0_i32_15, v28, c1_i32_16⟩
def k0_mult2 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c0_i32_56 : BitVec 32 := 0#32
  let v80 : BitVec 32 := Scalar.addi v79 c0_i32_56
  let c1_i32_57 : BitVec 32 := 1#32
  let v81 : BitVec 32 := Scalar.addi v80 c1_i32_57
  let c512_i32 : BitVec 32 := 512#32
  let v82 : BitVec 32 := Scalar.muli v81 c512_i32
  v82
def k0_off1 (i : grid0.Coords) (k0_t1 : Fin (k0_t1_loop i).trips) (c0_i32_56 : BitVec 32) : Fin 2 → Nat :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let v80 : BitVec 32 := Scalar.addi v79 c0_i32_56
  let c1_i32_57 : BitVec 32 := 1#32
  let v81 : BitVec 32 := Scalar.addi v80 c1_i32_57
  let c512_i32 : BitVec 32 := 512#32
  let v82 : BitVec 32 := Scalar.muli v81 c512_i32
  let v83 : BitVec 32 := v82
  let v84 : Index := Scalar.indexCast v83
  let c0_58 : Index := 0#32
  ![v84.toNat, 0]
def k0_mult3 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c0_i32_62 : BitVec 32 := 0#32
  let v91 : BitVec 32 := Scalar.addi v79 c0_i32_62
  let c512_i32_63 : BitVec 32 := 512#32
  let v92 : BitVec 32 := Scalar.muli v91 c512_i32_63
  v92
def k0_off2 (i : grid0.Coords) (k0_t1 : Fin (k0_t1_loop i).trips) (c0_i32_62 : BitVec 32) : Fin 2 → Nat :=
  let c0_64 : Index := 0#32
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let v91 : BitVec 32 := Scalar.addi v79 c0_i32_62
  let c512_i32_63 : BitVec 32 := 512#32
  let v92 : BitVec 32 := Scalar.muli v91 c512_i32_63
  let v93 : BitVec 32 := v92
  let v94 : Index := Scalar.indexCast v93
  ![0, v94.toNat]
def k0_mult4 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c1_i32_82 : BitVec 32 := 1#32
  let v127 : BitVec 32 := Scalar.addi v79 c1_i32_82
  let c1_i32_83 : BitVec 32 := 1#32
  let v128 : BitVec 32 := Scalar.addi v127 c1_i32_83
  let c512_i32_84 : BitVec 32 := 512#32
  let v129 : BitVec 32 := Scalar.muli v128 c512_i32_84
  v129
def k0_mult5 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c1_i32_89 : BitVec 32 := 1#32
  let v138 : BitVec 32 := Scalar.addi v79 c1_i32_89
  let c512_i32_90 : BitVec 32 := 512#32
  let v139 : BitVec 32 := Scalar.muli v138 c512_i32_90
  v139
def k0_mult6 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c2_i32_109 : BitVec 32 := 2#32
  let v174 : BitVec 32 := Scalar.addi v79 c2_i32_109
  let c1_i32_110 : BitVec 32 := 1#32
  let v175 : BitVec 32 := Scalar.addi v174 c1_i32_110
  let c512_i32_111 : BitVec 32 := 512#32
  let v176 : BitVec 32 := Scalar.muli v175 c512_i32_111
  v176
def k0_mult7 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c2_i32_116 : BitVec 32 := 2#32
  let v185 : BitVec 32 := Scalar.addi v79 c2_i32_116
  let c512_i32_117 : BitVec 32 := 512#32
  let v186 : BitVec 32 := Scalar.muli v185 c512_i32_117
  v186
def k0_mult8 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c3_i32 : BitVec 32 := 3#32
  let v221 : BitVec 32 := Scalar.addi v79 c3_i32
  let c1_i32_136 : BitVec 32 := 1#32
  let v222 : BitVec 32 := Scalar.addi v221 c1_i32_136
  let c512_i32_137 : BitVec 32 := 512#32
  let v223 : BitVec 32 := Scalar.muli v222 c512_i32_137
  v223
def k0_mult9 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c3_i32_142 : BitVec 32 := 3#32
  let v232 : BitVec 32 := Scalar.addi v79 c3_i32_142
  let c512_i32_143 : BitVec 32 := 512#32
  let v233 : BitVec 32 := Scalar.muli v232 c512_i32_143
  v233
def k0_mult10 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c4_i32_162 : BitVec 32 := 4#32
  let v268 : BitVec 32 := Scalar.addi v79 c4_i32_162
  let c1_i32_163 : BitVec 32 := 1#32
  let v269 : BitVec 32 := Scalar.addi v268 c1_i32_163
  let c512_i32_164 : BitVec 32 := 512#32
  let v270 : BitVec 32 := Scalar.muli v269 c512_i32_164
  v270
def k0_mult11 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c4_i32_169 : BitVec 32 := 4#32
  let v279 : BitVec 32 := Scalar.addi v79 c4_i32_169
  let c512_i32_170 : BitVec 32 := 512#32
  let v280 : BitVec 32 := Scalar.muli v279 c512_i32_170
  v280
def k0_mult12 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c5_i32 : BitVec 32 := 5#32
  let v315 : BitVec 32 := Scalar.addi v79 c5_i32
  let c1_i32_189 : BitVec 32 := 1#32
  let v316 : BitVec 32 := Scalar.addi v315 c1_i32_189
  let c512_i32_190 : BitVec 32 := 512#32
  let v317 : BitVec 32 := Scalar.muli v316 c512_i32_190
  v317
def k0_mult13 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c5_i32_195 : BitVec 32 := 5#32
  let v326 : BitVec 32 := Scalar.addi v79 c5_i32_195
  let c512_i32_196 : BitVec 32 := 512#32
  let v327 : BitVec 32 := Scalar.muli v326 c512_i32_196
  v327
def k0_mult14 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c6_i32 : BitVec 32 := 6#32
  let v362 : BitVec 32 := Scalar.addi v79 c6_i32
  let c1_i32_215 : BitVec 32 := 1#32
  let v363 : BitVec 32 := Scalar.addi v362 c1_i32_215
  let c512_i32_216 : BitVec 32 := 512#32
  let v364 : BitVec 32 := Scalar.muli v363 c512_i32_216
  v364
def k0_mult15 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c6_i32_221 : BitVec 32 := 6#32
  let v373 : BitVec 32 := Scalar.addi v79 c6_i32_221
  let c512_i32_222 : BitVec 32 := 512#32
  let v374 : BitVec 32 := Scalar.muli v373 c512_i32_222
  v374
def k0_mult16 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c7_i32 : BitVec 32 := 7#32
  let v409 : BitVec 32 := Scalar.addi v79 c7_i32
  let c1_i32_241 : BitVec 32 := 1#32
  let v410 : BitVec 32 := Scalar.addi v409 c1_i32_241
  let c512_i32_242 : BitVec 32 := 512#32
  let v411 : BitVec 32 := Scalar.muli v410 c512_i32_242
  v411
def k0_mult17 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c7_i32_247 : BitVec 32 := 7#32
  let v420 : BitVec 32 := Scalar.addi v79 c7_i32_247
  let c512_i32_248 : BitVec 32 := 512#32
  let v421 : BitVec 32 := Scalar.muli v420 c512_i32_248
  v421
def k0_mult18 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c8_i32_267 : BitVec 32 := 8#32
  let v456 : BitVec 32 := Scalar.addi v79 c8_i32_267
  let c1_i32_268 : BitVec 32 := 1#32
  let v457 : BitVec 32 := Scalar.addi v456 c1_i32_268
  let c512_i32_269 : BitVec 32 := 512#32
  let v458 : BitVec 32 := Scalar.muli v457 c512_i32_269
  v458
def k0_mult19 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c8_i32_274 : BitVec 32 := 8#32
  let v467 : BitVec 32 := Scalar.addi v79 c8_i32_274
  let c512_i32_275 : BitVec 32 := 512#32
  let v468 : BitVec 32 := Scalar.muli v467 c512_i32_275
  v468
def k0_mult20 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c9_i32 : BitVec 32 := 9#32
  let v503 : BitVec 32 := Scalar.addi v79 c9_i32
  let c1_i32_294 : BitVec 32 := 1#32
  let v504 : BitVec 32 := Scalar.addi v503 c1_i32_294
  let c512_i32_295 : BitVec 32 := 512#32
  let v505 : BitVec 32 := Scalar.muli v504 c512_i32_295
  v505
def k0_mult21 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c9_i32_300 : BitVec 32 := 9#32
  let v514 : BitVec 32 := Scalar.addi v79 c9_i32_300
  let c512_i32_301 : BitVec 32 := 512#32
  let v515 : BitVec 32 := Scalar.muli v514 c512_i32_301
  v515
def k0_mult22 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c10_i32 : BitVec 32 := 10#32
  let v550 : BitVec 32 := Scalar.addi v79 c10_i32
  let c1_i32_320 : BitVec 32 := 1#32
  let v551 : BitVec 32 := Scalar.addi v550 c1_i32_320
  let c512_i32_321 : BitVec 32 := 512#32
  let v552 : BitVec 32 := Scalar.muli v551 c512_i32_321
  v552
def k0_mult23 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c10_i32_326 : BitVec 32 := 10#32
  let v561 : BitVec 32 := Scalar.addi v79 c10_i32_326
  let c512_i32_327 : BitVec 32 := 512#32
  let v562 : BitVec 32 := Scalar.muli v561 c512_i32_327
  v562
def k0_mult24 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c11_i32 : BitVec 32 := 11#32
  let v597 : BitVec 32 := Scalar.addi v79 c11_i32
  let c1_i32_346 : BitVec 32 := 1#32
  let v598 : BitVec 32 := Scalar.addi v597 c1_i32_346
  let c512_i32_347 : BitVec 32 := 512#32
  let v599 : BitVec 32 := Scalar.muli v598 c512_i32_347
  v599
def k0_mult25 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c11_i32_352 : BitVec 32 := 11#32
  let v608 : BitVec 32 := Scalar.addi v79 c11_i32_352
  let c512_i32_353 : BitVec 32 := 512#32
  let v609 : BitVec 32 := Scalar.muli v608 c512_i32_353
  v609
def k0_mult26 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c12_i32 : BitVec 32 := 12#32
  let v644 : BitVec 32 := Scalar.addi v79 c12_i32
  let c1_i32_372 : BitVec 32 := 1#32
  let v645 : BitVec 32 := Scalar.addi v644 c1_i32_372
  let c512_i32_373 : BitVec 32 := 512#32
  let v646 : BitVec 32 := Scalar.muli v645 c512_i32_373
  v646
def k0_mult27 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c12_i32_378 : BitVec 32 := 12#32
  let v655 : BitVec 32 := Scalar.addi v79 c12_i32_378
  let c512_i32_379 : BitVec 32 := 512#32
  let v656 : BitVec 32 := Scalar.muli v655 c512_i32_379
  v656
def k0_mult28 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c13_i32 : BitVec 32 := 13#32
  let v691 : BitVec 32 := Scalar.addi v79 c13_i32
  let c1_i32_398 : BitVec 32 := 1#32
  let v692 : BitVec 32 := Scalar.addi v691 c1_i32_398
  let c512_i32_399 : BitVec 32 := 512#32
  let v693 : BitVec 32 := Scalar.muli v692 c512_i32_399
  v693
def k0_mult29 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c13_i32_404 : BitVec 32 := 13#32
  let v702 : BitVec 32 := Scalar.addi v79 c13_i32_404
  let c512_i32_405 : BitVec 32 := 512#32
  let v703 : BitVec 32 := Scalar.muli v702 c512_i32_405
  v703
def k0_mult30 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c14_i32 : BitVec 32 := 14#32
  let v738 : BitVec 32 := Scalar.addi v79 c14_i32
  let c1_i32_424 : BitVec 32 := 1#32
  let v739 : BitVec 32 := Scalar.addi v738 c1_i32_424
  let c512_i32_425 : BitVec 32 := 512#32
  let v740 : BitVec 32 := Scalar.muli v739 c512_i32_425
  v740
def k0_mult31 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c14_i32_430 : BitVec 32 := 14#32
  let v749 : BitVec 32 := Scalar.addi v79 c14_i32_430
  let c512_i32_431 : BitVec 32 := 512#32
  let v750 : BitVec 32 := Scalar.muli v749 c512_i32_431
  v750
def k0_mult32 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c15_i32 : BitVec 32 := 15#32
  let v785 : BitVec 32 := Scalar.addi v79 c15_i32
  let c1_i32_450 : BitVec 32 := 1#32
  let v786 : BitVec 32 := Scalar.addi v785 c1_i32_450
  let c512_i32_451 : BitVec 32 := 512#32
  let v787 : BitVec 32 := Scalar.muli v786 c512_i32_451
  v787
def k0_mult33 (i : grid0.Coords) (k0_t1 : Fin (k0_t1_loop i).trips) : BitVec 32 :=
  let c0_i32_55 : BitVec 32 := 0#32
  let c16_i32_54 : BitVec 32 := 16#32
  let c0_i32_15 : BitVec 32 := 0#32
  let c1_i32_16 : BitVec 32 := 1#32
  let arg12 : BitVec 32 := Scf.iv c0_i32_15 c1_i32_16 k0_t1
  let v78 : BitVec 32 := Scalar.muli c16_i32_54 arg12
  let v79 : BitVec 32 := Scalar.addi c0_i32_55 v78
  let c15_i32_456 : BitVec 32 := 15#32
  let v796 : BitVec 32 := Scalar.addi v79 c15_i32_456
  let c512_i32_457 : BitVec 32 := 512#32
  let v797 : BitVec 32 := Scalar.muli v796 c512_i32_457
  v797
@[reducible] def k0_t2_loop (i : grid0.Coords) : Scf.Loop 32 :=
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let v25 : BitVec 32 := Scalar.addi c0_i32_15 v24
  let c1_i32_17 : BitVec 32 := 1#32
  ⟨v28, v25, c1_i32_17⟩
def k0_mult34 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c0_i32_56 : BitVec 32 := 0#32
  let v80 : BitVec 32 := Scalar.addi v79 c0_i32_56
  let c1_i32_57 : BitVec 32 := 1#32
  let v81 : BitVec 32 := Scalar.addi v80 c1_i32_57
  let c512_i32 : BitVec 32 := 512#32
  let v82 : BitVec 32 := Scalar.muli v81 c512_i32
  v82
def k0_off3 (i : grid0.Coords) (k0_t2 : Fin (k0_t2_loop i).trips) (c0_i32_56 : BitVec 32) : Fin 2 → Nat :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let v80 : BitVec 32 := Scalar.addi v79 c0_i32_56
  let c1_i32_57 : BitVec 32 := 1#32
  let v81 : BitVec 32 := Scalar.addi v80 c1_i32_57
  let c512_i32 : BitVec 32 := 512#32
  let v82 : BitVec 32 := Scalar.muli v81 c512_i32
  let v83 : BitVec 32 := v82
  let v84 : Index := Scalar.indexCast v83
  let c0_58 : Index := 0#32
  ![v84.toNat, 0]
def k0_mult35 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c0_i32_62 : BitVec 32 := 0#32
  let v91 : BitVec 32 := Scalar.addi v79 c0_i32_62
  let c512_i32_63 : BitVec 32 := 512#32
  let v92 : BitVec 32 := Scalar.muli v91 c512_i32_63
  v92
def k0_off4 (i : grid0.Coords) (k0_t2 : Fin (k0_t2_loop i).trips) (c0_i32_62 : BitVec 32) : Fin 2 → Nat :=
  let c0_64 : Index := 0#32
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let v91 : BitVec 32 := Scalar.addi v79 c0_i32_62
  let c512_i32_63 : BitVec 32 := 512#32
  let v92 : BitVec 32 := Scalar.muli v91 c512_i32_63
  let v93 : BitVec 32 := v92
  let v94 : Index := Scalar.indexCast v93
  ![0, v94.toNat]
def k0_mult36 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c1_i32_82 : BitVec 32 := 1#32
  let v127 : BitVec 32 := Scalar.addi v79 c1_i32_82
  let c1_i32_83 : BitVec 32 := 1#32
  let v128 : BitVec 32 := Scalar.addi v127 c1_i32_83
  let c512_i32_84 : BitVec 32 := 512#32
  let v129 : BitVec 32 := Scalar.muli v128 c512_i32_84
  v129
def k0_mult37 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c1_i32_89 : BitVec 32 := 1#32
  let v138 : BitVec 32 := Scalar.addi v79 c1_i32_89
  let c512_i32_90 : BitVec 32 := 512#32
  let v139 : BitVec 32 := Scalar.muli v138 c512_i32_90
  v139
def k0_mult38 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c2_i32_109 : BitVec 32 := 2#32
  let v174 : BitVec 32 := Scalar.addi v79 c2_i32_109
  let c1_i32_110 : BitVec 32 := 1#32
  let v175 : BitVec 32 := Scalar.addi v174 c1_i32_110
  let c512_i32_111 : BitVec 32 := 512#32
  let v176 : BitVec 32 := Scalar.muli v175 c512_i32_111
  v176
def k0_mult39 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c2_i32_116 : BitVec 32 := 2#32
  let v185 : BitVec 32 := Scalar.addi v79 c2_i32_116
  let c512_i32_117 : BitVec 32 := 512#32
  let v186 : BitVec 32 := Scalar.muli v185 c512_i32_117
  v186
def k0_mult40 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c3_i32 : BitVec 32 := 3#32
  let v221 : BitVec 32 := Scalar.addi v79 c3_i32
  let c1_i32_136 : BitVec 32 := 1#32
  let v222 : BitVec 32 := Scalar.addi v221 c1_i32_136
  let c512_i32_137 : BitVec 32 := 512#32
  let v223 : BitVec 32 := Scalar.muli v222 c512_i32_137
  v223
def k0_mult41 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c3_i32_142 : BitVec 32 := 3#32
  let v232 : BitVec 32 := Scalar.addi v79 c3_i32_142
  let c512_i32_143 : BitVec 32 := 512#32
  let v233 : BitVec 32 := Scalar.muli v232 c512_i32_143
  v233
def k0_mult42 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c4_i32_162 : BitVec 32 := 4#32
  let v268 : BitVec 32 := Scalar.addi v79 c4_i32_162
  let c1_i32_163 : BitVec 32 := 1#32
  let v269 : BitVec 32 := Scalar.addi v268 c1_i32_163
  let c512_i32_164 : BitVec 32 := 512#32
  let v270 : BitVec 32 := Scalar.muli v269 c512_i32_164
  v270
def k0_mult43 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c4_i32_169 : BitVec 32 := 4#32
  let v279 : BitVec 32 := Scalar.addi v79 c4_i32_169
  let c512_i32_170 : BitVec 32 := 512#32
  let v280 : BitVec 32 := Scalar.muli v279 c512_i32_170
  v280
def k0_mult44 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c5_i32 : BitVec 32 := 5#32
  let v315 : BitVec 32 := Scalar.addi v79 c5_i32
  let c1_i32_189 : BitVec 32 := 1#32
  let v316 : BitVec 32 := Scalar.addi v315 c1_i32_189
  let c512_i32_190 : BitVec 32 := 512#32
  let v317 : BitVec 32 := Scalar.muli v316 c512_i32_190
  v317
def k0_mult45 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c5_i32_195 : BitVec 32 := 5#32
  let v326 : BitVec 32 := Scalar.addi v79 c5_i32_195
  let c512_i32_196 : BitVec 32 := 512#32
  let v327 : BitVec 32 := Scalar.muli v326 c512_i32_196
  v327
def k0_mult46 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c6_i32 : BitVec 32 := 6#32
  let v362 : BitVec 32 := Scalar.addi v79 c6_i32
  let c1_i32_215 : BitVec 32 := 1#32
  let v363 : BitVec 32 := Scalar.addi v362 c1_i32_215
  let c512_i32_216 : BitVec 32 := 512#32
  let v364 : BitVec 32 := Scalar.muli v363 c512_i32_216
  v364
def k0_mult47 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c6_i32_221 : BitVec 32 := 6#32
  let v373 : BitVec 32 := Scalar.addi v79 c6_i32_221
  let c512_i32_222 : BitVec 32 := 512#32
  let v374 : BitVec 32 := Scalar.muli v373 c512_i32_222
  v374
def k0_mult48 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c7_i32 : BitVec 32 := 7#32
  let v409 : BitVec 32 := Scalar.addi v79 c7_i32
  let c1_i32_241 : BitVec 32 := 1#32
  let v410 : BitVec 32 := Scalar.addi v409 c1_i32_241
  let c512_i32_242 : BitVec 32 := 512#32
  let v411 : BitVec 32 := Scalar.muli v410 c512_i32_242
  v411
def k0_mult49 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c7_i32_247 : BitVec 32 := 7#32
  let v420 : BitVec 32 := Scalar.addi v79 c7_i32_247
  let c512_i32_248 : BitVec 32 := 512#32
  let v421 : BitVec 32 := Scalar.muli v420 c512_i32_248
  v421
def k0_mult50 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c8_i32_267 : BitVec 32 := 8#32
  let v456 : BitVec 32 := Scalar.addi v79 c8_i32_267
  let c1_i32_268 : BitVec 32 := 1#32
  let v457 : BitVec 32 := Scalar.addi v456 c1_i32_268
  let c512_i32_269 : BitVec 32 := 512#32
  let v458 : BitVec 32 := Scalar.muli v457 c512_i32_269
  v458
def k0_mult51 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c8_i32_274 : BitVec 32 := 8#32
  let v467 : BitVec 32 := Scalar.addi v79 c8_i32_274
  let c512_i32_275 : BitVec 32 := 512#32
  let v468 : BitVec 32 := Scalar.muli v467 c512_i32_275
  v468
def k0_mult52 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c9_i32 : BitVec 32 := 9#32
  let v503 : BitVec 32 := Scalar.addi v79 c9_i32
  let c1_i32_294 : BitVec 32 := 1#32
  let v504 : BitVec 32 := Scalar.addi v503 c1_i32_294
  let c512_i32_295 : BitVec 32 := 512#32
  let v505 : BitVec 32 := Scalar.muli v504 c512_i32_295
  v505
def k0_mult53 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c9_i32_300 : BitVec 32 := 9#32
  let v514 : BitVec 32 := Scalar.addi v79 c9_i32_300
  let c512_i32_301 : BitVec 32 := 512#32
  let v515 : BitVec 32 := Scalar.muli v514 c512_i32_301
  v515
def k0_mult54 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c10_i32 : BitVec 32 := 10#32
  let v550 : BitVec 32 := Scalar.addi v79 c10_i32
  let c1_i32_320 : BitVec 32 := 1#32
  let v551 : BitVec 32 := Scalar.addi v550 c1_i32_320
  let c512_i32_321 : BitVec 32 := 512#32
  let v552 : BitVec 32 := Scalar.muli v551 c512_i32_321
  v552
def k0_mult55 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c10_i32_326 : BitVec 32 := 10#32
  let v561 : BitVec 32 := Scalar.addi v79 c10_i32_326
  let c512_i32_327 : BitVec 32 := 512#32
  let v562 : BitVec 32 := Scalar.muli v561 c512_i32_327
  v562
def k0_mult56 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c11_i32 : BitVec 32 := 11#32
  let v597 : BitVec 32 := Scalar.addi v79 c11_i32
  let c1_i32_346 : BitVec 32 := 1#32
  let v598 : BitVec 32 := Scalar.addi v597 c1_i32_346
  let c512_i32_347 : BitVec 32 := 512#32
  let v599 : BitVec 32 := Scalar.muli v598 c512_i32_347
  v599
def k0_mult57 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c11_i32_352 : BitVec 32 := 11#32
  let v608 : BitVec 32 := Scalar.addi v79 c11_i32_352
  let c512_i32_353 : BitVec 32 := 512#32
  let v609 : BitVec 32 := Scalar.muli v608 c512_i32_353
  v609
def k0_mult58 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c12_i32 : BitVec 32 := 12#32
  let v644 : BitVec 32 := Scalar.addi v79 c12_i32
  let c1_i32_372 : BitVec 32 := 1#32
  let v645 : BitVec 32 := Scalar.addi v644 c1_i32_372
  let c512_i32_373 : BitVec 32 := 512#32
  let v646 : BitVec 32 := Scalar.muli v645 c512_i32_373
  v646
def k0_mult59 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c12_i32_378 : BitVec 32 := 12#32
  let v655 : BitVec 32 := Scalar.addi v79 c12_i32_378
  let c512_i32_379 : BitVec 32 := 512#32
  let v656 : BitVec 32 := Scalar.muli v655 c512_i32_379
  v656
def k0_mult60 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c13_i32 : BitVec 32 := 13#32
  let v691 : BitVec 32 := Scalar.addi v79 c13_i32
  let c1_i32_398 : BitVec 32 := 1#32
  let v692 : BitVec 32 := Scalar.addi v691 c1_i32_398
  let c512_i32_399 : BitVec 32 := 512#32
  let v693 : BitVec 32 := Scalar.muli v692 c512_i32_399
  v693
def k0_mult61 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c13_i32_404 : BitVec 32 := 13#32
  let v702 : BitVec 32 := Scalar.addi v79 c13_i32_404
  let c512_i32_405 : BitVec 32 := 512#32
  let v703 : BitVec 32 := Scalar.muli v702 c512_i32_405
  v703
def k0_mult62 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c14_i32 : BitVec 32 := 14#32
  let v738 : BitVec 32 := Scalar.addi v79 c14_i32
  let c1_i32_424 : BitVec 32 := 1#32
  let v739 : BitVec 32 := Scalar.addi v738 c1_i32_424
  let c512_i32_425 : BitVec 32 := 512#32
  let v740 : BitVec 32 := Scalar.muli v739 c512_i32_425
  v740
def k0_mult63 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c14_i32_430 : BitVec 32 := 14#32
  let v749 : BitVec 32 := Scalar.addi v79 c14_i32_430
  let c512_i32_431 : BitVec 32 := 512#32
  let v750 : BitVec 32 := Scalar.muli v749 c512_i32_431
  v750
def k0_mult64 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c15_i32 : BitVec 32 := 15#32
  let v785 : BitVec 32 := Scalar.addi v79 c15_i32
  let c1_i32_450 : BitVec 32 := 1#32
  let v786 : BitVec 32 := Scalar.addi v785 c1_i32_450
  let c512_i32_451 : BitVec 32 := 512#32
  let v787 : BitVec 32 := Scalar.muli v786 c512_i32_451
  v787
def k0_mult65 (i : grid0.Coords) (k0_t2 : Fin (k0_t2_loop i).trips) : BitVec 32 :=
  let c0_i32_55 : BitVec 32 := 0#32
  let c16_i32_54 : BitVec 32 := 16#32
  let c0_i32_15 : BitVec 32 := 0#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v24 : BitVec 32 := Scalar.subi v23 c0_i32_15
  let c1_i32 : BitVec 32 := 1#32
  let v26 : BitVec 32 := Scalar.divsi v24 c1_i32
  let v27 : BitVec 32 := Scalar.muli v26 c1_i32
  let v28 : BitVec 32 := Scalar.addi c0_i32_15 v27
  let c1_i32_17 : BitVec 32 := 1#32
  let arg12 : BitVec 32 := Scf.iv v28 c1_i32_17 k0_t2
  let v78 : BitVec 32 := Scalar.muli c16_i32_54 arg12
  let v79 : BitVec 32 := Scalar.addi c0_i32_55 v78
  let c15_i32_456 : BitVec 32 := 15#32
  let v796 : BitVec 32 := Scalar.addi v79 c15_i32_456
  let c512_i32_457 : BitVec 32 := 512#32
  let v797 : BitVec 32 := Scalar.muli v796 c512_i32_457
  v797
@[reducible] def k0_t3_loop (i : grid0.Coords) : Scf.Loop 32 :=
  let c0_i32_21 : BitVec 32 := 0#32
  let arg1 : BitVec 32 := BitVec.ofNat 32 (i 1).val
  let c0_i32_19 : BitVec 32 := 0#32
  let c16_i32_18 : BitVec 32 := 16#32
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_23 : BitVec 32 := 1#32
  ⟨c0_i32_21, v37, c1_i32_23⟩
def k0_mult66 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c0_i32_55 : BitVec 32 := 0#32
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  v82
def k0_off5 (i : grid0.Coords) (k0_t3 : Fin (k0_t3_loop i).trips) (c0_i32_55 : BitVec 32) : Fin 2 → Nat :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  let v83 : BitVec 32 := v82
  let v84 : Index := Scalar.indexCast v83
  let c0_57 : Index := 0#32
  ![v84.toNat, 0]
def k0_mult67 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c0_i32_61 : BitVec 32 := 0#32
  let v91 : BitVec 32 := Scalar.addi v79 c0_i32_61
  let c512_i32_62 : BitVec 32 := 512#32
  let v92 : BitVec 32 := Scalar.muli v91 c512_i32_62
  v92
def k0_off6 (i : grid0.Coords) (k0_t3 : Fin (k0_t3_loop i).trips) (c0_i32_61 : BitVec 32) : Fin 2 → Nat :=
  let c0_63 : Index := 0#32
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let v91 : BitVec 32 := Scalar.addi v79 c0_i32_61
  let c512_i32_62 : BitVec 32 := 512#32
  let v92 : BitVec 32 := Scalar.muli v91 c512_i32_62
  let v93 : BitVec 32 := v92
  let v94 : Index := Scalar.indexCast v93
  ![0, v94.toNat]
def k0_mult68 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c1_i32_81 : BitVec 32 := 1#32
  let v127 : BitVec 32 := Scalar.addi v79 c1_i32_81
  let c1_i32_82 : BitVec 32 := 1#32
  let v128 : BitVec 32 := Scalar.addi v127 c1_i32_82
  let c512_i32_83 : BitVec 32 := 512#32
  let v129 : BitVec 32 := Scalar.muli v128 c512_i32_83
  v129
def k0_mult69 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c1_i32_88 : BitVec 32 := 1#32
  let v138 : BitVec 32 := Scalar.addi v79 c1_i32_88
  let c512_i32_89 : BitVec 32 := 512#32
  let v139 : BitVec 32 := Scalar.muli v138 c512_i32_89
  v139
def k0_mult70 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c2_i32_108 : BitVec 32 := 2#32
  let v174 : BitVec 32 := Scalar.addi v79 c2_i32_108
  let c1_i32_109 : BitVec 32 := 1#32
  let v175 : BitVec 32 := Scalar.addi v174 c1_i32_109
  let c512_i32_110 : BitVec 32 := 512#32
  let v176 : BitVec 32 := Scalar.muli v175 c512_i32_110
  v176
def k0_mult71 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c2_i32_115 : BitVec 32 := 2#32
  let v185 : BitVec 32 := Scalar.addi v79 c2_i32_115
  let c512_i32_116 : BitVec 32 := 512#32
  let v186 : BitVec 32 := Scalar.muli v185 c512_i32_116
  v186
def k0_mult72 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c3_i32 : BitVec 32 := 3#32
  let v221 : BitVec 32 := Scalar.addi v79 c3_i32
  let c1_i32_135 : BitVec 32 := 1#32
  let v222 : BitVec 32 := Scalar.addi v221 c1_i32_135
  let c512_i32_136 : BitVec 32 := 512#32
  let v223 : BitVec 32 := Scalar.muli v222 c512_i32_136
  v223
def k0_mult73 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c3_i32_141 : BitVec 32 := 3#32
  let v232 : BitVec 32 := Scalar.addi v79 c3_i32_141
  let c512_i32_142 : BitVec 32 := 512#32
  let v233 : BitVec 32 := Scalar.muli v232 c512_i32_142
  v233
def k0_mult74 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c4_i32_161 : BitVec 32 := 4#32
  let v268 : BitVec 32 := Scalar.addi v79 c4_i32_161
  let c1_i32_162 : BitVec 32 := 1#32
  let v269 : BitVec 32 := Scalar.addi v268 c1_i32_162
  let c512_i32_163 : BitVec 32 := 512#32
  let v270 : BitVec 32 := Scalar.muli v269 c512_i32_163
  v270
def k0_mult75 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c4_i32_168 : BitVec 32 := 4#32
  let v279 : BitVec 32 := Scalar.addi v79 c4_i32_168
  let c512_i32_169 : BitVec 32 := 512#32
  let v280 : BitVec 32 := Scalar.muli v279 c512_i32_169
  v280
def k0_mult76 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c5_i32 : BitVec 32 := 5#32
  let v315 : BitVec 32 := Scalar.addi v79 c5_i32
  let c1_i32_188 : BitVec 32 := 1#32
  let v316 : BitVec 32 := Scalar.addi v315 c1_i32_188
  let c512_i32_189 : BitVec 32 := 512#32
  let v317 : BitVec 32 := Scalar.muli v316 c512_i32_189
  v317
def k0_mult77 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c5_i32_194 : BitVec 32 := 5#32
  let v326 : BitVec 32 := Scalar.addi v79 c5_i32_194
  let c512_i32_195 : BitVec 32 := 512#32
  let v327 : BitVec 32 := Scalar.muli v326 c512_i32_195
  v327
def k0_mult78 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c6_i32 : BitVec 32 := 6#32
  let v362 : BitVec 32 := Scalar.addi v79 c6_i32
  let c1_i32_214 : BitVec 32 := 1#32
  let v363 : BitVec 32 := Scalar.addi v362 c1_i32_214
  let c512_i32_215 : BitVec 32 := 512#32
  let v364 : BitVec 32 := Scalar.muli v363 c512_i32_215
  v364
def k0_mult79 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c6_i32_220 : BitVec 32 := 6#32
  let v373 : BitVec 32 := Scalar.addi v79 c6_i32_220
  let c512_i32_221 : BitVec 32 := 512#32
  let v374 : BitVec 32 := Scalar.muli v373 c512_i32_221
  v374
def k0_mult80 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c7_i32 : BitVec 32 := 7#32
  let v409 : BitVec 32 := Scalar.addi v79 c7_i32
  let c1_i32_240 : BitVec 32 := 1#32
  let v410 : BitVec 32 := Scalar.addi v409 c1_i32_240
  let c512_i32_241 : BitVec 32 := 512#32
  let v411 : BitVec 32 := Scalar.muli v410 c512_i32_241
  v411
def k0_mult81 (i : grid0.Coords) (k0_t3 : Fin (k0_t3_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let c1_i32_23 : BitVec 32 := 1#32
  let arg12 : BitVec 32 := Scf.iv c0_i32_21 c1_i32_23 k0_t3
  let v78 : BitVec 32 := Scalar.muli c8_i32_54 arg12
  let v79 : BitVec 32 := Scalar.addi v30 v78
  let c7_i32_246 : BitVec 32 := 7#32
  let v420 : BitVec 32 := Scalar.addi v79 c7_i32_246
  let c512_i32_247 : BitVec 32 := 512#32
  let v421 : BitVec 32 := Scalar.muli v420 c512_i32_247
  v421
@[reducible] def k0_t4_loop (i : grid0.Coords) : Scf.Loop 32 :=
  let c0_i32_21 : BitVec 32 := 0#32
  let arg1 : BitVec 32 := BitVec.ofNat 32 (i 1).val
  let c0_i32_19 : BitVec 32 := 0#32
  let c16_i32_18 : BitVec 32 := 16#32
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let v34 : BitVec 32 := Scalar.addi c0_i32_21 v33
  let c1_i32_24 : BitVec 32 := 1#32
  ⟨v37, v34, c1_i32_24⟩
def k0_mult82 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c0_i32_55 : BitVec 32 := 0#32
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  v82
def k0_off7 (i : grid0.Coords) (k0_t4 : Fin (k0_t4_loop i).trips) (c0_i32_55 : BitVec 32) : Fin 2 → Nat :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  let v83 : BitVec 32 := v82
  let v84 : Index := Scalar.indexCast v83
  let c0_57 : Index := 0#32
  ![v84.toNat, 0]
def k0_mult83 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c0_i32_61 : BitVec 32 := 0#32
  let v91 : BitVec 32 := Scalar.addi v79 c0_i32_61
  let c512_i32_62 : BitVec 32 := 512#32
  let v92 : BitVec 32 := Scalar.muli v91 c512_i32_62
  v92
def k0_off8 (i : grid0.Coords) (k0_t4 : Fin (k0_t4_loop i).trips) (c0_i32_61 : BitVec 32) : Fin 2 → Nat :=
  let c0_63 : Index := 0#32
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let v91 : BitVec 32 := Scalar.addi v79 c0_i32_61
  let c512_i32_62 : BitVec 32 := 512#32
  let v92 : BitVec 32 := Scalar.muli v91 c512_i32_62
  let v93 : BitVec 32 := v92
  let v94 : Index := Scalar.indexCast v93
  ![0, v94.toNat]
def k0_mult84 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c1_i32_81 : BitVec 32 := 1#32
  let v127 : BitVec 32 := Scalar.addi v79 c1_i32_81
  let c1_i32_82 : BitVec 32 := 1#32
  let v128 : BitVec 32 := Scalar.addi v127 c1_i32_82
  let c512_i32_83 : BitVec 32 := 512#32
  let v129 : BitVec 32 := Scalar.muli v128 c512_i32_83
  v129
def k0_mult85 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c1_i32_88 : BitVec 32 := 1#32
  let v138 : BitVec 32 := Scalar.addi v79 c1_i32_88
  let c512_i32_89 : BitVec 32 := 512#32
  let v139 : BitVec 32 := Scalar.muli v138 c512_i32_89
  v139
def k0_mult86 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c2_i32_108 : BitVec 32 := 2#32
  let v174 : BitVec 32 := Scalar.addi v79 c2_i32_108
  let c1_i32_109 : BitVec 32 := 1#32
  let v175 : BitVec 32 := Scalar.addi v174 c1_i32_109
  let c512_i32_110 : BitVec 32 := 512#32
  let v176 : BitVec 32 := Scalar.muli v175 c512_i32_110
  v176
def k0_mult87 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c2_i32_115 : BitVec 32 := 2#32
  let v185 : BitVec 32 := Scalar.addi v79 c2_i32_115
  let c512_i32_116 : BitVec 32 := 512#32
  let v186 : BitVec 32 := Scalar.muli v185 c512_i32_116
  v186
def k0_mult88 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c3_i32 : BitVec 32 := 3#32
  let v221 : BitVec 32 := Scalar.addi v79 c3_i32
  let c1_i32_135 : BitVec 32 := 1#32
  let v222 : BitVec 32 := Scalar.addi v221 c1_i32_135
  let c512_i32_136 : BitVec 32 := 512#32
  let v223 : BitVec 32 := Scalar.muli v222 c512_i32_136
  v223
def k0_mult89 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c3_i32_141 : BitVec 32 := 3#32
  let v232 : BitVec 32 := Scalar.addi v79 c3_i32_141
  let c512_i32_142 : BitVec 32 := 512#32
  let v233 : BitVec 32 := Scalar.muli v232 c512_i32_142
  v233
def k0_mult90 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c4_i32_161 : BitVec 32 := 4#32
  let v268 : BitVec 32 := Scalar.addi v79 c4_i32_161
  let c1_i32_162 : BitVec 32 := 1#32
  let v269 : BitVec 32 := Scalar.addi v268 c1_i32_162
  let c512_i32_163 : BitVec 32 := 512#32
  let v270 : BitVec 32 := Scalar.muli v269 c512_i32_163
  v270
def k0_mult91 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c4_i32_168 : BitVec 32 := 4#32
  let v279 : BitVec 32 := Scalar.addi v79 c4_i32_168
  let c512_i32_169 : BitVec 32 := 512#32
  let v280 : BitVec 32 := Scalar.muli v279 c512_i32_169
  v280
def k0_mult92 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c5_i32 : BitVec 32 := 5#32
  let v315 : BitVec 32 := Scalar.addi v79 c5_i32
  let c1_i32_188 : BitVec 32 := 1#32
  let v316 : BitVec 32 := Scalar.addi v315 c1_i32_188
  let c512_i32_189 : BitVec 32 := 512#32
  let v317 : BitVec 32 := Scalar.muli v316 c512_i32_189
  v317
def k0_mult93 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c5_i32_194 : BitVec 32 := 5#32
  let v326 : BitVec 32 := Scalar.addi v79 c5_i32_194
  let c512_i32_195 : BitVec 32 := 512#32
  let v327 : BitVec 32 := Scalar.muli v326 c512_i32_195
  v327
def k0_mult94 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c6_i32 : BitVec 32 := 6#32
  let v362 : BitVec 32 := Scalar.addi v79 c6_i32
  let c1_i32_214 : BitVec 32 := 1#32
  let v363 : BitVec 32 := Scalar.addi v362 c1_i32_214
  let c512_i32_215 : BitVec 32 := 512#32
  let v364 : BitVec 32 := Scalar.muli v363 c512_i32_215
  v364
def k0_mult95 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c6_i32_220 : BitVec 32 := 6#32
  let v373 : BitVec 32 := Scalar.addi v79 c6_i32_220
  let c512_i32_221 : BitVec 32 := 512#32
  let v374 : BitVec 32 := Scalar.muli v373 c512_i32_221
  v374
def k0_mult96 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c7_i32 : BitVec 32 := 7#32
  let v409 : BitVec 32 := Scalar.addi v79 c7_i32
  let c1_i32_240 : BitVec 32 := 1#32
  let v410 : BitVec 32 := Scalar.addi v409 c1_i32_240
  let c512_i32_241 : BitVec 32 := 512#32
  let v411 : BitVec 32 := Scalar.muli v410 c512_i32_241
  v411
def k0_mult97 (i : grid0.Coords) (k0_t4 : Fin (k0_t4_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_54 : BitVec 32 := 8#32
  let c0_i32_21 : BitVec 32 := 0#32
  let v31 : BitVec 32 := Scalar.subi arg1 v30
  let c8_i32 : BitVec 32 := 8#32
  let v32 : BitVec 32 := Scalar.divsi v31 c8_i32
  let v33 : BitVec 32 := Scalar.subi v32 c0_i32_21
  let c1_i32_22 : BitVec 32 := 1#32
  let v35 : BitVec 32 := Scalar.divsi v33 c1_i32_22
  let v36 : BitVec 32 := Scalar.muli v35 c1_i32_22
  let v37 : BitVec 32 := Scalar.addi c0_i32_21 v36
  let c1_i32_24 : BitVec 32 := 1#32
  let arg12 : BitVec 32 := Scf.iv v37 c1_i32_24 k0_t4
  let v78 : BitVec 32 := Scalar.muli c8_i32_54 arg12
  let v79 : BitVec 32 := Scalar.addi v30 v78
  let c7_i32_246 : BitVec 32 := 7#32
  let v420 : BitVec 32 := Scalar.addi v79 c7_i32_246
  let c512_i32_247 : BitVec 32 := 512#32
  let v421 : BitVec 32 := Scalar.muli v420 c512_i32_247
  v421
@[reducible] def k0_t5_loop (i : grid0.Coords) : Scf.Loop 32 :=
  let c0_i32_27 : BitVec 32 := 0#32
  let arg1 : BitVec 32 := BitVec.ofNat 32 (i 1).val
  let c0_i32_19 : BitVec 32 := 0#32
  let c16_i32_18 : BitVec 32 := 16#32
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_29 : BitVec 32 := 1#32
  ⟨c0_i32_27, v46, c1_i32_29⟩
def k0_mult98 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c0_i32_55 : BitVec 32 := 0#32
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  v82
def k0_off9 (i : grid0.Coords) (k0_t5 : Fin (k0_t5_loop i).trips) (c0_i32_55 : BitVec 32) : Fin 2 → Nat :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  let v83 : BitVec 32 := v82
  let v84 : Index := Scalar.indexCast v83
  let c0_57 : Index := 0#32
  ![v84.toNat, 0]
def k0_mult99 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c0_i32_61 : BitVec 32 := 0#32
  let v91 : BitVec 32 := Scalar.addi v79 c0_i32_61
  let c512_i32_62 : BitVec 32 := 512#32
  let v92 : BitVec 32 := Scalar.muli v91 c512_i32_62
  v92
def k0_off10 (i : grid0.Coords) (k0_t5 : Fin (k0_t5_loop i).trips) (c0_i32_61 : BitVec 32) : Fin 2 → Nat :=
  let c0_63 : Index := 0#32
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let v91 : BitVec 32 := Scalar.addi v79 c0_i32_61
  let c512_i32_62 : BitVec 32 := 512#32
  let v92 : BitVec 32 := Scalar.muli v91 c512_i32_62
  let v93 : BitVec 32 := v92
  let v94 : Index := Scalar.indexCast v93
  ![0, v94.toNat]
def k0_mult100 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c1_i32_81 : BitVec 32 := 1#32
  let v127 : BitVec 32 := Scalar.addi v79 c1_i32_81
  let c1_i32_82 : BitVec 32 := 1#32
  let v128 : BitVec 32 := Scalar.addi v127 c1_i32_82
  let c512_i32_83 : BitVec 32 := 512#32
  let v129 : BitVec 32 := Scalar.muli v128 c512_i32_83
  v129
def k0_mult101 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c1_i32_88 : BitVec 32 := 1#32
  let v138 : BitVec 32 := Scalar.addi v79 c1_i32_88
  let c512_i32_89 : BitVec 32 := 512#32
  let v139 : BitVec 32 := Scalar.muli v138 c512_i32_89
  v139
def k0_mult102 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c2_i32_108 : BitVec 32 := 2#32
  let v174 : BitVec 32 := Scalar.addi v79 c2_i32_108
  let c1_i32_109 : BitVec 32 := 1#32
  let v175 : BitVec 32 := Scalar.addi v174 c1_i32_109
  let c512_i32_110 : BitVec 32 := 512#32
  let v176 : BitVec 32 := Scalar.muli v175 c512_i32_110
  v176
def k0_mult103 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c2_i32_115 : BitVec 32 := 2#32
  let v185 : BitVec 32 := Scalar.addi v79 c2_i32_115
  let c512_i32_116 : BitVec 32 := 512#32
  let v186 : BitVec 32 := Scalar.muli v185 c512_i32_116
  v186
def k0_mult104 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c3_i32 : BitVec 32 := 3#32
  let v221 : BitVec 32 := Scalar.addi v79 c3_i32
  let c1_i32_135 : BitVec 32 := 1#32
  let v222 : BitVec 32 := Scalar.addi v221 c1_i32_135
  let c512_i32_136 : BitVec 32 := 512#32
  let v223 : BitVec 32 := Scalar.muli v222 c512_i32_136
  v223
def k0_mult105 (i : grid0.Coords) (k0_t5 : Fin (k0_t5_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let c1_i32_29 : BitVec 32 := 1#32
  let arg12 : BitVec 32 := Scf.iv c0_i32_27 c1_i32_29 k0_t5
  let v78 : BitVec 32 := Scalar.muli c4_i32_54 arg12
  let v79 : BitVec 32 := Scalar.addi v39 v78
  let c3_i32_141 : BitVec 32 := 3#32
  let v232 : BitVec 32 := Scalar.addi v79 c3_i32_141
  let c512_i32_142 : BitVec 32 := 512#32
  let v233 : BitVec 32 := Scalar.muli v232 c512_i32_142
  v233
@[reducible] def k0_t6_loop (i : grid0.Coords) : Scf.Loop 32 :=
  let c0_i32_27 : BitVec 32 := 0#32
  let arg1 : BitVec 32 := BitVec.ofNat 32 (i 1).val
  let c0_i32_19 : BitVec 32 := 0#32
  let c16_i32_18 : BitVec 32 := 16#32
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let v43 : BitVec 32 := Scalar.addi c0_i32_27 v42
  let c1_i32_30 : BitVec 32 := 1#32
  ⟨v46, v43, c1_i32_30⟩
def k0_mult106 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c0_i32_55 : BitVec 32 := 0#32
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  v82
def k0_off11 (i : grid0.Coords) (k0_t6 : Fin (k0_t6_loop i).trips) (c0_i32_55 : BitVec 32) : Fin 2 → Nat :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  let v83 : BitVec 32 := v82
  let v84 : Index := Scalar.indexCast v83
  let c0_57 : Index := 0#32
  ![v84.toNat, 0]
def k0_mult107 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c0_i32_61 : BitVec 32 := 0#32
  let v91 : BitVec 32 := Scalar.addi v79 c0_i32_61
  let c512_i32_62 : BitVec 32 := 512#32
  let v92 : BitVec 32 := Scalar.muli v91 c512_i32_62
  v92
def k0_off12 (i : grid0.Coords) (k0_t6 : Fin (k0_t6_loop i).trips) (c0_i32_61 : BitVec 32) : Fin 2 → Nat :=
  let c0_63 : Index := 0#32
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let v91 : BitVec 32 := Scalar.addi v79 c0_i32_61
  let c512_i32_62 : BitVec 32 := 512#32
  let v92 : BitVec 32 := Scalar.muli v91 c512_i32_62
  let v93 : BitVec 32 := v92
  let v94 : Index := Scalar.indexCast v93
  ![0, v94.toNat]
def k0_mult108 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c1_i32_81 : BitVec 32 := 1#32
  let v127 : BitVec 32 := Scalar.addi v79 c1_i32_81
  let c1_i32_82 : BitVec 32 := 1#32
  let v128 : BitVec 32 := Scalar.addi v127 c1_i32_82
  let c512_i32_83 : BitVec 32 := 512#32
  let v129 : BitVec 32 := Scalar.muli v128 c512_i32_83
  v129
def k0_mult109 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c1_i32_88 : BitVec 32 := 1#32
  let v138 : BitVec 32 := Scalar.addi v79 c1_i32_88
  let c512_i32_89 : BitVec 32 := 512#32
  let v139 : BitVec 32 := Scalar.muli v138 c512_i32_89
  v139
def k0_mult110 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c2_i32_108 : BitVec 32 := 2#32
  let v174 : BitVec 32 := Scalar.addi v79 c2_i32_108
  let c1_i32_109 : BitVec 32 := 1#32
  let v175 : BitVec 32 := Scalar.addi v174 c1_i32_109
  let c512_i32_110 : BitVec 32 := 512#32
  let v176 : BitVec 32 := Scalar.muli v175 c512_i32_110
  v176
def k0_mult111 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c2_i32_115 : BitVec 32 := 2#32
  let v185 : BitVec 32 := Scalar.addi v79 c2_i32_115
  let c512_i32_116 : BitVec 32 := 512#32
  let v186 : BitVec 32 := Scalar.muli v185 c512_i32_116
  v186
def k0_mult112 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c3_i32 : BitVec 32 := 3#32
  let v221 : BitVec 32 := Scalar.addi v79 c3_i32
  let c1_i32_135 : BitVec 32 := 1#32
  let v222 : BitVec 32 := Scalar.addi v221 c1_i32_135
  let c512_i32_136 : BitVec 32 := 512#32
  let v223 : BitVec 32 := Scalar.muli v222 c512_i32_136
  v223
def k0_mult113 (i : grid0.Coords) (k0_t6 : Fin (k0_t6_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_54 : BitVec 32 := 4#32
  let c0_i32_27 : BitVec 32 := 0#32
  let v40 : BitVec 32 := Scalar.subi arg1 v39
  let c4_i32 : BitVec 32 := 4#32
  let v41 : BitVec 32 := Scalar.divsi v40 c4_i32
  let v42 : BitVec 32 := Scalar.subi v41 c0_i32_27
  let c1_i32_28 : BitVec 32 := 1#32
  let v44 : BitVec 32 := Scalar.divsi v42 c1_i32_28
  let v45 : BitVec 32 := Scalar.muli v44 c1_i32_28
  let v46 : BitVec 32 := Scalar.addi c0_i32_27 v45
  let c1_i32_30 : BitVec 32 := 1#32
  let arg12 : BitVec 32 := Scf.iv v46 c1_i32_30 k0_t6
  let v78 : BitVec 32 := Scalar.muli c4_i32_54 arg12
  let v79 : BitVec 32 := Scalar.addi v39 v78
  let c3_i32_141 : BitVec 32 := 3#32
  let v232 : BitVec 32 := Scalar.addi v79 c3_i32_141
  let c512_i32_142 : BitVec 32 := 512#32
  let v233 : BitVec 32 := Scalar.muli v232 c512_i32_142
  v233
@[reducible] def k0_t7_loop (i : grid0.Coords) : Scf.Loop 32 :=
  let c0_i32_33 : BitVec 32 := 0#32
  let arg1 : BitVec 32 := BitVec.ofNat 32 (i 1).val
  let c0_i32_19 : BitVec 32 := 0#32
  let c16_i32_18 : BitVec 32 := 16#32
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let c1_i32_35 : BitVec 32 := 1#32
  ⟨c0_i32_33, v55, c1_i32_35⟩
def k0_mult114 (i : grid0.Coords) (k0_t7 : Fin (k0_t7_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let c1_i32_35 : BitVec 32 := 1#32
  let arg12 : BitVec 32 := Scf.iv c0_i32_33 c1_i32_35 k0_t7
  let v78 : BitVec 32 := Scalar.muli c2_i32_54 arg12
  let v79 : BitVec 32 := Scalar.addi v48 v78
  let c0_i32_55 : BitVec 32 := 0#32
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  v82
def k0_off13 (i : grid0.Coords) (k0_t7 : Fin (k0_t7_loop i).trips) (c0_i32_55 : BitVec 32) : Fin 2 → Nat :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let c1_i32_35 : BitVec 32 := 1#32
  let arg12 : BitVec 32 := Scf.iv c0_i32_33 c1_i32_35 k0_t7
  let v78 : BitVec 32 := Scalar.muli c2_i32_54 arg12
  let v79 : BitVec 32 := Scalar.addi v48 v78
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  let v83 : BitVec 32 := v82
  let v84 : Index := Scalar.indexCast v83
  let c0_57 : Index := 0#32
  ![v84.toNat, 0]
def k0_mult115 (i : grid0.Coords) (k0_t7 : Fin (k0_t7_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let c1_i32_35 : BitVec 32 := 1#32
  let arg12 : BitVec 32 := Scf.iv c0_i32_33 c1_i32_35 k0_t7
  let v78 : BitVec 32 := Scalar.muli c2_i32_54 arg12
  let v79 : BitVec 32 := Scalar.addi v48 v78
  let c0_i32_61 : BitVec 32 := 0#32
  let v91 : BitVec 32 := Scalar.addi v79 c0_i32_61
  let c512_i32_62 : BitVec 32 := 512#32
  let v92 : BitVec 32 := Scalar.muli v91 c512_i32_62
  v92
def k0_off14 (i : grid0.Coords) (k0_t7 : Fin (k0_t7_loop i).trips) (c0_i32_61 : BitVec 32) : Fin 2 → Nat :=
  let c0_63 : Index := 0#32
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let c1_i32_35 : BitVec 32 := 1#32
  let arg12 : BitVec 32 := Scf.iv c0_i32_33 c1_i32_35 k0_t7
  let v78 : BitVec 32 := Scalar.muli c2_i32_54 arg12
  let v79 : BitVec 32 := Scalar.addi v48 v78
  let v91 : BitVec 32 := Scalar.addi v79 c0_i32_61
  let c512_i32_62 : BitVec 32 := 512#32
  let v92 : BitVec 32 := Scalar.muli v91 c512_i32_62
  let v93 : BitVec 32 := v92
  let v94 : Index := Scalar.indexCast v93
  ![0, v94.toNat]
def k0_mult116 (i : grid0.Coords) (k0_t7 : Fin (k0_t7_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let c1_i32_35 : BitVec 32 := 1#32
  let arg12 : BitVec 32 := Scf.iv c0_i32_33 c1_i32_35 k0_t7
  let v78 : BitVec 32 := Scalar.muli c2_i32_54 arg12
  let v79 : BitVec 32 := Scalar.addi v48 v78
  let c1_i32_81 : BitVec 32 := 1#32
  let v127 : BitVec 32 := Scalar.addi v79 c1_i32_81
  let c1_i32_82 : BitVec 32 := 1#32
  let v128 : BitVec 32 := Scalar.addi v127 c1_i32_82
  let c512_i32_83 : BitVec 32 := 512#32
  let v129 : BitVec 32 := Scalar.muli v128 c512_i32_83
  v129
def k0_mult117 (i : grid0.Coords) (k0_t7 : Fin (k0_t7_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let c1_i32_35 : BitVec 32 := 1#32
  let arg12 : BitVec 32 := Scf.iv c0_i32_33 c1_i32_35 k0_t7
  let v78 : BitVec 32 := Scalar.muli c2_i32_54 arg12
  let v79 : BitVec 32 := Scalar.addi v48 v78
  let c1_i32_88 : BitVec 32 := 1#32
  let v138 : BitVec 32 := Scalar.addi v79 c1_i32_88
  let c512_i32_89 : BitVec 32 := 512#32
  let v139 : BitVec 32 := Scalar.muli v138 c512_i32_89
  v139
@[reducible] def k0_t8_loop (i : grid0.Coords) : Scf.Loop 32 :=
  let c0_i32_33 : BitVec 32 := 0#32
  let arg1 : BitVec 32 := BitVec.ofNat 32 (i 1).val
  let c0_i32_19 : BitVec 32 := 0#32
  let c16_i32_18 : BitVec 32 := 16#32
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let v52 : BitVec 32 := Scalar.addi c0_i32_33 v51
  let c1_i32_36 : BitVec 32 := 1#32
  ⟨v55, v52, c1_i32_36⟩
def k0_mult118 (i : grid0.Coords) (k0_t8 : Fin (k0_t8_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let c1_i32_36 : BitVec 32 := 1#32
  let arg12 : BitVec 32 := Scf.iv v55 c1_i32_36 k0_t8
  let v78 : BitVec 32 := Scalar.muli c2_i32_54 arg12
  let v79 : BitVec 32 := Scalar.addi v48 v78
  let c0_i32_55 : BitVec 32 := 0#32
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  v82
def k0_off15 (i : grid0.Coords) (k0_t8 : Fin (k0_t8_loop i).trips) (c0_i32_55 : BitVec 32) : Fin 2 → Nat :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let c1_i32_36 : BitVec 32 := 1#32
  let arg12 : BitVec 32 := Scf.iv v55 c1_i32_36 k0_t8
  let v78 : BitVec 32 := Scalar.muli c2_i32_54 arg12
  let v79 : BitVec 32 := Scalar.addi v48 v78
  let v80 : BitVec 32 := Scalar.addi v79 c0_i32_55
  let c1_i32_56 : BitVec 32 := 1#32
  let v81 : BitVec 32 := Scalar.addi v80 c1_i32_56
  let c512_i32 : BitVec 32 := 512#32
  let v82 : BitVec 32 := Scalar.muli v81 c512_i32
  let v83 : BitVec 32 := v82
  let v84 : Index := Scalar.indexCast v83
  let c0_57 : Index := 0#32
  ![v84.toNat, 0]
def k0_mult119 (i : grid0.Coords) (k0_t8 : Fin (k0_t8_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let c1_i32_36 : BitVec 32 := 1#32
  let arg12 : BitVec 32 := Scf.iv v55 c1_i32_36 k0_t8
  let v78 : BitVec 32 := Scalar.muli c2_i32_54 arg12
  let v79 : BitVec 32 := Scalar.addi v48 v78
  let c0_i32_61 : BitVec 32 := 0#32
  let v91 : BitVec 32 := Scalar.addi v79 c0_i32_61
  let c512_i32_62 : BitVec 32 := 512#32
  let v92 : BitVec 32 := Scalar.muli v91 c512_i32_62
  v92
def k0_off16 (i : grid0.Coords) (k0_t8 : Fin (k0_t8_loop i).trips) (c0_i32_61 : BitVec 32) : Fin 2 → Nat :=
  let c0_63 : Index := 0#32
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let c1_i32_36 : BitVec 32 := 1#32
  let arg12 : BitVec 32 := Scf.iv v55 c1_i32_36 k0_t8
  let v78 : BitVec 32 := Scalar.muli c2_i32_54 arg12
  let v79 : BitVec 32 := Scalar.addi v48 v78
  let v91 : BitVec 32 := Scalar.addi v79 c0_i32_61
  let c512_i32_62 : BitVec 32 := 512#32
  let v92 : BitVec 32 := Scalar.muli v91 c512_i32_62
  let v93 : BitVec 32 := v92
  let v94 : Index := Scalar.indexCast v93
  ![0, v94.toNat]
def k0_mult120 (i : grid0.Coords) (k0_t8 : Fin (k0_t8_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let c1_i32_36 : BitVec 32 := 1#32
  let arg12 : BitVec 32 := Scf.iv v55 c1_i32_36 k0_t8
  let v78 : BitVec 32 := Scalar.muli c2_i32_54 arg12
  let v79 : BitVec 32 := Scalar.addi v48 v78
  let c1_i32_81 : BitVec 32 := 1#32
  let v127 : BitVec 32 := Scalar.addi v79 c1_i32_81
  let c1_i32_82 : BitVec 32 := 1#32
  let v128 : BitVec 32 := Scalar.addi v127 c1_i32_82
  let c512_i32_83 : BitVec 32 := 512#32
  let v129 : BitVec 32 := Scalar.muli v128 c512_i32_83
  v129
def k0_mult121 (i : grid0.Coords) (k0_t8 : Fin (k0_t8_loop i).trips) : BitVec 32 :=
  let c0_i32_19 : BitVec 32 := 0#32
  let c16_i32_18 : BitVec 32 := 16#32
  let arg1 : BitVec 32 := BitVec.ofNat 32 (i 1).val
  let c0_i32_13 : BitVec 32 := 0#32
  let v22 : BitVec 32 := Scalar.subi arg1 c0_i32_13
  let c16_i32 : BitVec 32 := 16#32
  let v23 : BitVec 32 := Scalar.divsi v22 c16_i32
  let v29 : BitVec 32 := Scalar.muli c16_i32_18 v23
  let v30 : BitVec 32 := Scalar.addi c0_i32_19 v29
  let c8_i32_25 : BitVec 32 := 8#32
  let v31 : BitVec 32 := Scalar.subi arg1 v30
  let c8_i32 : BitVec 32 := 8#32
  let v32 : BitVec 32 := Scalar.divsi v31 c8_i32
  let v38 : BitVec 32 := Scalar.muli c8_i32_25 v32
  let v39 : BitVec 32 := Scalar.addi v30 v38
  let c4_i32_31 : BitVec 32 := 4#32
  let v40 : BitVec 32 := Scalar.subi arg1 v39
  let c4_i32 : BitVec 32 := 4#32
  let v41 : BitVec 32 := Scalar.divsi v40 c4_i32
  let v47 : BitVec 32 := Scalar.muli c4_i32_31 v41
  let v48 : BitVec 32 := Scalar.addi v39 v47
  let c2_i32_54 : BitVec 32 := 2#32
  let c0_i32_33 : BitVec 32 := 0#32
  let v49 : BitVec 32 := Scalar.subi arg1 v48
  let c2_i32 : BitVec 32 := 2#32
  let v50 : BitVec 32 := Scalar.divsi v49 c2_i32
  let v51 : BitVec 32 := Scalar.subi v50 c0_i32_33
  let c1_i32_34 : BitVec 32 := 1#32
  let v53 : BitVec 32 := Scalar.divsi v51 c1_i32_34
  let v54 : BitVec 32 := Scalar.muli v53 c1_i32_34
  let v55 : BitVec 32 := Scalar.addi c0_i32_33 v54
  let c1_i32_36 : BitVec 32 := 1#32
  let arg12 : BitVec 32 := Scf.iv v55 c1_i32_36 k0_t8
  let v78 : BitVec 32 := Scalar.muli c2_i32_54 arg12
  let v79 : BitVec 32 := Scalar.addi v48 v78
  let c1_i32_88 : BitVec 32 := 1#32
  let v138 : BitVec 32 := Scalar.addi v79 c1_i32_88
  let c512_i32_89 : BitVec 32 := 512#32
  let v139 : BitVec 32 := Scalar.muli v138 c512_i32_89
  v139
def k0_cond1 (i : grid0.Coords) : BitVec 1 :=
  let arg1 : BitVec 32 := BitVec.ofNat 32 (i 1).val
  let c2_i32_37 : BitVec 32 := 2#32
  let v56 : BitVec 32 := Scalar.remsi arg1 c2_i32_37
  let c1_i32_38 : BitVec 32 := 1#32
  let v57 : BitVec 1 := Scalar.cmpi .eq v56 c1_i32_38
  let v58 : BitVec 32 := Scalar.extui v57
  let c0_i32_39 : BitVec 32 := 0#32
  let v59 : BitVec 1 := Scalar.cmpi .ne v58 c0_i32_39
  v59

def k0_mult122 (i : grid0.Coords) : BitVec 32 :=
  let arg1 : BitVec 32 := BitVec.ofNat 32 (i 1).val
  let c512_i32 : BitVec 32 := 512#32
  let v78 : BitVec 32 := Scalar.muli arg1 c512_i32
  v78
def k0_off17 (i : grid0.Coords) : Fin 2 → Nat :=
  let arg1 : BitVec 32 := BitVec.ofNat 32 (i 1).val
  let c512_i32 : BitVec 32 := 512#32
  let v78 : BitVec 32 := Scalar.muli arg1 c512_i32
  let v79 : BitVec 32 := v78
  let v80 : Index := Scalar.indexCast v79
  let c0_54 : Index := 0#32
  ![v80.toNat, 0]
def k0_mult123 (i : grid0.Coords) : BitVec 32 :=
  let arg1 : BitVec 32 := BitVec.ofNat 32 (i 1).val
  let c1_i32_58 : BitVec 32 := 1#32
  let v87 : BitVec 32 := Scalar.subi arg1 c1_i32_58
  let c512_i32_59 : BitVec 32 := 512#32
  let v88 : BitVec 32 := Scalar.muli v87 c512_i32_59
  v88
def k0_off18 (i : grid0.Coords) : Fin 2 → Nat :=
  let c0_60 : Index := 0#32
  let arg1 : BitVec 32 := BitVec.ofNat 32 (i 1).val
  let c1_i32_58 : BitVec 32 := 1#32
  let v87 : BitVec 32 := Scalar.subi arg1 c1_i32_58
  let c512_i32_59 : BitVec 32 := 512#32
  let v88 : BitVec 32 := Scalar.muli v87 c512_i32_59
  let v89 : BitVec 32 := v88
  let v90 : Index := Scalar.indexCast v89
  ![0, v90.toNat]
def k0_mult124 (i : grid0.Coords) : BitVec 32 :=
  let arg1 : BitVec 32 := BitVec.ofNat 32 (i 1).val
  let c512_i32_78 : BitVec 32 := 512#32
  let v123 : BitVec 32 := Scalar.muli arg1 c512_i32_78
  v123
def k0_off19 (i : grid0.Coords) : Fin 2 → Nat :=
  let c0_79 : Index := 0#32
  let arg1 : BitVec 32 := BitVec.ofNat 32 (i 1).val
  let c512_i32_78 : BitVec 32 := 512#32
  let v123 : BitVec 32 := Scalar.muli arg1 c512_i32_78
  let v124 : BitVec 32 := v123
  let v125 : Index := Scalar.indexCast v124
  ![0, v125.toNat]
def k0_cond2 (i : grid0.Coords) : BitVec 1 :=
  let arg1 : BitVec 32 := BitVec.ofNat 32 (i 1).val
  let c2_i32_37 : BitVec 32 := 2#32
  let v56 : BitVec 32 := Scalar.remsi arg1 c2_i32_37
  let c0_i32_40 : BitVec 32 := 0#32
  let v60 : BitVec 1 := Scalar.cmpi .eq v56 c0_i32_40
  let v61 : BitVec 32 := Scalar.extui v60
  let c0_i32_41 : BitVec 32 := 0#32
  let v62 : BitVec 1 := Scalar.cmpi .ne v61 c0_i32_41
  v62

def k0_mult125 (i : grid0.Coords) : BitVec 32 :=
  let arg1 : BitVec 32 := BitVec.ofNat 32 (i 1).val
  let c512_i32 : BitVec 32 := 512#32
  let v78 : BitVec 32 := Scalar.muli arg1 c512_i32
  v78
def k0_off20 (i : grid0.Coords) : Fin 2 → Nat :=
  let c0_54 : Index := 0#32
  let arg1 : BitVec 32 := BitVec.ofNat 32 (i 1).val
  let c512_i32 : BitVec 32 := 512#32
  let v78 : BitVec 32 := Scalar.muli arg1 c512_i32
  let v79 : BitVec 32 := v78
  let v80 : Index := Scalar.indexCast v79
  ![0, v80.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x8x192 : Shape := ⟨3, ![16384, 8, 192]⟩
abbrev S16384x8x128 : Shape := ⟨3, ![16384, 8, 128]⟩
abbrev S_ : Shape := ⟨0, ![]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩
abbrev S8x1x16384 : Shape := ⟨3, ![8, 1, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S_, .f32⟩
  | .hbm, ⟨4, _⟩ => ⟨S16384x8x192, .f32⟩
  | .hbm, ⟨5, _⟩ => ⟨S16384x8x192, .f32⟩
  | .hbm, ⟨6, _⟩ => ⟨S8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .f32⟩
  | .hbm, ⟨33, _⟩ => ⟨S8x128x16384, .f32⟩
  | .hbm, ⟨34, _⟩ => ⟨S16384x8x128, .f32⟩
  | .hbm, ⟨35, _⟩ => ⟨S_, .f32⟩
  | .hbm, ⟨36, _⟩ => ⟨S8x16384, .f32⟩
  | .hbm, ⟨37, _⟩ => ⟨S8x16384x1, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S_, .f32⟩
  | .hbm, ⟨42, _⟩ => ⟨S8x16384, .f32⟩
  | .hbm, ⟨43, _⟩ => ⟨S8x16384, .f32⟩
  | .hbm, ⟨44, _⟩ => ⟨S8x16384, .f32⟩
  | .hbm, ⟨45, _⟩ => ⟨S_, .f32⟩
  | .hbm, ⟨46, _⟩ => ⟨S_, .f32⟩
  | .hbm, ⟨47, _⟩ => ⟨S8x16384, .f32⟩
  | .hbm, ⟨48, _⟩ => ⟨S8x16384, .f32⟩
  | .hbm, ⟨49, _⟩ => ⟨S16384x1024, .f32⟩
  | .hbm, ⟨50, _⟩ => ⟨S8x1x16384, .f32⟩
  | _, _ => ⟨S16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Ideal.Progs.lean ====
/-
  The two small programs the kernel is made of: a score of one query block (two products into a pair of buffers) and an
  update by one query block (three products added into the gradients).
-/
module

public import proofs.«01_k».proof.Proof.Gen.KernelIdeal.Skeleton

@[expose] public section

set_option maxRecDepth 65536
set_option maxHeartbeats 4000000

noncomputable section

namespace Cert.KernelIdeal.Hand

open Idealize.ShloMosaic Idealize.SL.Sem Cert.KernelIdeal Cert.KernelIdeal.Gen

variable {F : FTy → Type} [FloatOps F] [Named F]

/-- Where a block of queries lies in the two slots. -/
abbrev OQ := {o : Fin 3 → ℕ // ∀ a, o a + S1x512x256.size a ≤ S2x16384x256.size a}
/-- Where a block of the output's gradient lies in the two slots. -/
abbrev OD := {o : Fin 3 → ℕ // ∀ a, o a + S1x128x512.size a ≤ S2x128x16384.size a}
/-- Where a block of a row of saved values lies. -/
abbrev OR := {o : Fin 3 → ℕ // ∀ a, o a + S1x1x512.size a ≤ S1x1x16384.size a}
/-- Where a block of columns of the queries' gradient lies. -/
abbrev OC := {o : Fin 2 → ℕ // ∀ a, o a + S256x512.size a ≤ S256x16384.size a}

/-- One score: the products of the key block with a block of queries and of the value block with a block of the
output's gradient, into the buffers `ms` and `mp`. -/
def scoreP (mq : Memref sig .tc .vmem S2x16384x256 .bf16) (md : Memref sig .tc .vmem S2x128x16384 .bf16) (ms mp : Memref sig .tc .vmem S512x512 .f32)
    (k : FVec F S512x256 .bf16) (v : FVec F S512x128 .bf16) (oq : OQ) (od : OD) : Prog (TpuEff nD τ sig (Elt F) Λ₀ .tc) PUnit := do
  let xq ← Prog.lift (.load mq (Rect.unit (s := S2x16384x256) oq.1 S1x512x256.size oq.2).toLoadRect (View.loadsAt_vmem h_S1x512x256))
  let _js ← Prog.lift (.load ms (Rect.unit (s := S512x512) ![0, 0] S512x512.size inb_S512x512_S512x512_0_0).toLoadRect (View.loadsAt_vmem h_S512x512))
  Prog.lift (.store ms (Rect.unit (s := S512x512) ![0, 0] S512x512.size inb_S512x512_S512x512_0_0) (k0_pay2 k xq) Finset.univ (View.stores_vmem_bits_univ h_S512x512 rfl) (.inl rfl))
  let xd ← Prog.lift (.load md (Rect.unit (s := S2x128x16384) od.1 S1x128x512.size od.2).toLoadRect (View.loadsAt_vmem h_S1x128x512))
  let _jp ← Prog.lift (.load mp (Rect.unit (s := S512x512) ![0, 0] S512x512.size inb_S512x512_S512x512_0_0).toLoadRect (View.loadsAt_vmem h_S512x512))
  Prog.lift (.store mp (Rect.unit (s := S512x512) ![0, 0] S512x512.size inb_S512x512_S512x512_0_0) (k0_pay3 v xd) Finset.univ (View.stores_vmem_bits_univ h_S512x512 rfl) (.inl rfl))
  pure ⟨⟩

/-- One update: from the scores in `ms` and `mp` and the saved rows, the three products added into the gradients of
the values, the keys and one block of columns of the queries. The probabilities are `pf` of the scores and the row. -/
def updP (mq : Memref sig .tc .vmem S2x16384x256 .bf16) (md : Memref sig .tc .vmem S2x128x16384 .bf16) (ml mr : Memref sig .tc .vmem S1x1x16384 .f32)
    (mc : Memref sig .tc .vmem S256x16384 .f32) (mk : Memref sig .tc .vmem S512x256 .f32) (mv : Memref sig .tc .vmem S128x512 .f32)
    (ms mp : Memref sig .tc .vmem S512x512 .f32) (pf : Vec F S512x512 .f32 → Vec F S1x1x512 .f32 → FVec F S512x512 .f32)
    (kt : FVec F S256x512 .bf16) (oq : OQ) (or : OR) (od : OD) (oc : OC) : Prog (TpuEff nD τ sig (Elt F) Λ₀ .tc) PUnit := do
  let xq ← Prog.lift (.load mq (Rect.unit (s := S2x16384x256) oq.1 S1x512x256.size oq.2).toLoadRect (View.loadsAt_vmem h_S1x512x256))
  let xs ← Prog.lift (.load ms (Rect.unit (s := S512x512) ![0, 0] S512x512.size inb_S512x512_S512x512_0_0).toLoadRect (View.loadsAt_vmem h_S512x512))
  let xl ← Prog.lift (.load ml (Rect.unit (s := S1x1x16384) or.1 S1x1x512.size or.2).toLoadRect (View.loadsAt_vmem h_S1x1x512))
  let xp ← Prog.lift (.load mp (Rect.unit (s := S512x512) ![0, 0] S512x512.size inb_S512x512_S512x512_0_0).toLoadRect (View.loadsAt_vmem h_S512x512))
  let xr ← Prog.lift (.load mr (Rect.unit (s := S1x1x16384) or.1 S1x1x512.size or.2).toLoadRect (View.loadsAt_vmem h_S1x1x512))
  let xv ← Prog.lift (.load mv (Rect.unit (s := S128x512) ![0, 0] S128x512.size inb_S128x512_S128x512_0_0).toLoadRect (View.loadsAt_vmem h_S128x512))
  let xd ← Prog.lift (.load md (Rect.unit (s := S2x128x16384) od.1 S1x128x512.size od.2).toLoadRect (View.loadsAt_vmem h_S1x128x512))
  let _jv ← Prog.lift (.load mv (Rect.unit (s := S128x512) ![0, 0] S128x512.size inb_S128x512_S128x512_0_0).toLoadRect (View.loadsAt_vmem h_S128x512))
  Prog.lift (.store mv (Rect.unit (s := S128x512) ![0, 0] S128x512.size inb_S128x512_S128x512_0_0) (k0_pay7 (pf xs xl) xv xd) Finset.univ (View.stores_vmem_bits_univ h_S128x512 rfl) (.inl rfl))
  let xk ← Prog.lift (.load mk (Rect.unit (s := S512x256) ![0, 0] S512x256.size inb_S512x256_S512x256_0_0).toLoadRect (View.loadsAt_vmem h_S512x256))
  let _jk ← Prog.lift (.load mk (Rect.unit (s := S512x256) ![0, 0] S512x256.size inb_S512x256_S512x256_0_0).toLoadRect (View.loadsAt_vmem h_S512x256))
  Prog.lift (.store mk (Rect.unit (s := S512x256) ![0, 0] S512x256.size inb_S512x256_S512x256_0_0) (k0_pay8 (k0_pay4 xq) (pf xs xl) xp xr xk) Finset.univ (View.stores_vmem_bits_univ h_S512x256 rfl) (.inl rfl))
  let xc ← Prog.lift (.load mc (Rect.unit (s := S256x16384) oc.1 S256x512.size oc.2).toLoadRect (View.loadsAt_vmem h_S256x512))
  let _jc ← Prog.lift (.load mc (Rect.unit (s := S256x16384) oc.1 S256x512.size oc.2).toLoadRect (View.loadsAt_vmem h_S256x512))
  Prog.lift (.store mc (Rect.unit (s := S256x16384) oc.1 S256x512.size oc.2) (k0_pay9 kt (pf xs xl) xp xr xc) Finset.univ (View.stores_vmem_bits_univ h_S256x512 rfl) (.inl rfl))
  pure ⟨⟩

end Cert.KernelIdeal.Hand
-- ==== Proof.Ideal.Body.lean ====
/-
  The kernel's body as a composition of a few small programs: a score of one query block (two products into a pair of
  buffers), an update by one query block (three products added into the gradients), and the transfers. Each is stated
  over the memrefs and offsets it is run at, so that what it does is proved once.
-/
module

public import proofs.«01_k».proof.Proof.Ideal.Progs

@[expose] public section

set_option maxRecDepth 65536
set_option maxHeartbeats 4000000

noncomputable section

namespace Cert.KernelIdeal.Hand

open Idealize.ShloMosaic Idealize.SL.Sem Cert.KernelIdeal Cert.KernelIdeal.Gen

variable {F : FTy → Type} [FloatOps F] [Named F]

variable (arg2 : Memref sig .tc .hbm S16384x2048 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .hbm S1024x16384 .bf16) (harg5 : arg5.IsWhole) (arg6 : Memref sig .tc .vmem S1x1x16384 .f32) (harg6 : arg6.IsWhole) (arg7 : Memref sig .tc .vmem S1x1x16384 .f32) (harg7 : arg7.IsWhole) (arg8 : Memref sig .tc .vmem S512x256 .bf16) (harg8 : arg8.IsWhole) (arg9 : Memref sig .tc .vmem S512x128 .bf16) (harg9 : arg9.IsWhole) (arg10 : Memref sig .tc .hbm S8x16384x256 .bf16) (harg10 : arg10.IsWhole) (arg11 : Memref sig .tc .vmem S256x16384 .f32) (harg11 : arg11.IsWhole) (arg12 : Memref sig .tc .vmem S512x256 .f32) (harg12 : arg12.IsWhole) (arg13 : Memref sig .tc .vmem S128x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : DmaSems sig S_) (arg19 : Memref sig .tc .vmem S512x256 .bf16) (harg19 : arg19.IsWhole) (arg20 : Memref sig .tc .vmem S2x16384x256 .bf16) (harg20 : arg20.IsWhole) (arg21 : Memref sig .tc .vmem S2x128x16384 .bf16) (harg21 : arg21.IsWhole) (arg22 : DmaSems sig S2x2)

/-- The trip of 16 query blocks: each scores the next block into one pair of buffers and updates by the block in the other. -/
def grp1 (k : FVec F S512x256 .bf16) (v : FVec F S512x128 .bf16) (kt : FVec F S256x512 .bf16) (i : grid0.Coords) (t : Fin (k0_t1_loop i).trips) : Prog (TpuEff nD τ sig (Elt F) Λ₀ .tc) PUnit := do
  scoreP arg20 arg21 arg14 arg16 k v ⟨k0_off19 i t 0#32, k0_off19_inb i t 0⟩ ⟨k0_off20 i t 0#32, k0_off20_inb i t 0⟩
  updP arg20 arg21 arg6 arg7 arg11 arg12 arg13 arg15 arg17 k0_pay5 kt ⟨k0_off21 i t 0#32, k0_off21_inb i t 0⟩ ⟨k0_off22 i t 0#32, k0_off22_inb i t 0⟩ ⟨k0_off23 i t 0#32, k0_off23_inb i t 0⟩ ⟨k0_off24 i t 0#32, k0_off24_inb i t 0⟩
  scoreP arg20 arg21 arg15 arg17 k v ⟨k0_off19 i t 1#32, k0_off19_inb i t 1⟩ ⟨k0_off20 i t 1#32, k0_off20_inb i t 1⟩
  updP arg20 arg21 arg6 arg7 arg11 arg12 arg13 arg14 arg16 k0_pay5 kt ⟨k0_off21 i t 1#32, k0_off21_inb i t 1⟩ ⟨k0_off22 i t 1#32, k0_off22_inb i t 1⟩ ⟨k0_off23 i t 1#32, k0_off23_inb i t 1⟩ ⟨k0_off24 i t 1#32, k0_off24_inb i t 1⟩
  scoreP arg20 arg21 arg14 arg16 k v ⟨k0_off19 i t 2#32, k0_off19_inb i t 2⟩ ⟨k0_off20 i t 2#32, k0_off20_inb i t 2⟩
  updP arg20 arg21 arg6 arg7 arg11 arg12 arg13 arg15 arg17 k0_pay5 kt ⟨k0_off21 i t 2#32, k0_off21_inb i t 2⟩ ⟨k0_off22 i t 2#32, k0_off22_inb i t 2⟩ ⟨k0_off23 i t 2#32, k0_off23_inb i t 2⟩ ⟨k0_off24 i t 2#32, k0_off24_inb i t 2⟩
  scoreP arg20 arg21 arg15 arg17 k v ⟨k0_off19 i t 3#32, k0_off19_inb i t 3⟩ ⟨k0_off20 i t 3#32, k0_off20_inb i t 3⟩
  updP arg20 arg21 arg6 arg7 arg11 arg12 arg13 arg14 arg16 k0_pay5 kt ⟨k0_off21 i t 3#32, k0_off21_inb i t 3⟩ ⟨k0_off22 i t 3#32, k0_off22_inb i t 3⟩ ⟨k0_off23 i t 3#32, k0_off23_inb i t 3⟩ ⟨k0_off24 i t 3#32, k0_off24_inb i t 3⟩
  scoreP arg20 arg21 arg14 arg16 k v ⟨k0_off19 i t 4#32, k0_off19_inb i t 4⟩ ⟨k0_off20 i t 4#32, k0_off20_inb i t 4⟩
  updP arg20 arg21 arg6 arg7 arg11 arg12 arg13 arg15 arg17 k0_pay5 kt ⟨k0_off21 i t 4#32, k0_off21_inb i t 4⟩ ⟨k0_off22 i t 4#32, k0_off22_inb i t 4⟩ ⟨k0_off23 i t 4#32, k0_off23_inb i t 4⟩ ⟨k0_off24 i t 4#32, k0_off24_inb i t 4⟩
  scoreP arg20 arg21 arg15 arg17 k v ⟨k0_off19 i t 5#32, k0_off19_inb i t 5⟩ ⟨k0_off20 i t 5#32, k0_off20_inb i t 5⟩
  updP arg20 arg21 arg6 arg7 arg11 arg12 arg13 arg14 arg16 k0_pay5 kt ⟨k0_off21 i t 5#32, k0_off21_inb i t 5⟩ ⟨k0_off22 i t 5#32, k0_off22_inb i t 5⟩ ⟨k0_off23 i t 5#32, k0_off23_inb i t 5⟩ ⟨k0_off24 i t 5#32, k0_off24_inb i t 5⟩
  scoreP arg20 arg21 arg14 arg16 k v ⟨k0_off19 i t 6#32, k0_off19_inb i t 6⟩ ⟨k0_off20 i t 6#32, k0_off20_inb i t 6⟩
  updP arg20 arg21 arg6 arg7 arg11 arg12 arg13 arg15 arg17 k0_pay5 kt ⟨k0_off21 i t 6#32, k0_off21_inb i t 6⟩ ⟨k0_off22 i t 6#32, k0_off22_inb i t 6⟩ ⟨k0_off23 i t 6#32, k0_off23_inb i t 6⟩ ⟨k0_off24 i t 6#32, k0_off24_inb i t 6⟩
  scoreP arg20 arg21 arg15 arg17 k v ⟨k0_off19 i t 7#32, k0_off19_inb i t 7⟩ ⟨k0_off20 i t 7#32, k0_off20_inb i t 7⟩
  updP arg20 arg21 arg6 arg7 arg11 arg12 arg13 arg14 arg16 k0_pay5 kt ⟨k0_off21 i t 7#32, k0_off21_inb i t 7⟩ ⟨k0_off22 i t 7#32, k0_off22_inb i t 7⟩ ⟨k0_off23 i t 7#32, k0_off23_inb i t 7⟩ ⟨k0_off24 i t 7#32, k0_off24_inb i t 7⟩
  scoreP arg20 arg21 arg14 arg16 k v ⟨k0_off19 i t 8#32, k0_off19_inb i t 8⟩ ⟨k0_off20 i t 8#32, k0_off20_inb i t 8⟩
  updP arg20 arg21 arg6 arg7 arg11 arg12 arg13 arg15 arg17 k0_pay5 kt ⟨k0_off21 i t 8#32, k0_off21_inb i t 8⟩ ⟨k0_off22 i t 8#32, k0_off22_inb i t 8⟩ ⟨k0_off23 i t 8#32, k0_off23_inb i t 8⟩ ⟨k0_off24 i t 8#32, k0_off24_inb i t 8⟩
  scoreP arg20 arg21 arg15 arg17 k v ⟨k0_off19 i t 9#32, k0_off19_inb i t 9⟩ ⟨k0_off20 i t 9#32, k0_off20_inb i t 9⟩
  updP arg20 arg21 arg6 arg7 arg11 arg12 arg13 arg14 arg16 k0_pay5 kt ⟨k0_off21 i t 9#32, k0_off21_inb i t 9⟩ ⟨k0_off22 i t 9#32, k0_off22_inb i t 9⟩ ⟨k0_off23 i t 9#32, k0_off23_inb i t 9⟩ ⟨k0_off24 i t 9#32, k0_off24_inb i t 9⟩
  scoreP arg20 arg21 arg14 arg16 k v ⟨k0_off19 i t 10#32, k0_off19_inb i t 10⟩ ⟨k0_off20 i t 10#32, k0_off20_inb i t 10⟩
  updP arg20 arg21 arg6 arg7 arg11 arg12 arg13 arg15 arg17 k0_pay5 kt ⟨k0_off21 i t 10#32, k0_off21_inb i t 10⟩ ⟨k0_off22 i t 10#32, k0_off22_inb i t 10⟩ ⟨k0_off23 i t 10#32, k0_off23_inb i t 10⟩ ⟨k0_off24 i t 10#32, k0_off24_inb i t 10⟩
  scoreP arg20 arg21 arg15 arg17 k v ⟨k0_off19 i t 11#32, k0_off19_inb i t 11⟩ ⟨k0_off20 i t 11#32, k0_off20_inb i t 11⟩
  updP arg20 arg21 arg6 arg7 arg11 arg12 arg13 arg14 arg16 k0_pay5 kt ⟨k0_off21 i t 11#32, k0_off21_inb i t 11⟩ ⟨k0_off22 i t 11#32, k0_off22_inb i t 11⟩ ⟨k0_off23 i t 11#32, k0_off23_inb i t 11⟩ ⟨k0_off24 i t 11#32, k0_off24_inb i t 11⟩
  scoreP arg20 arg21 arg14 arg16 k v ⟨k0_off19 i t 12#32, k0_off19_inb i t 12⟩ ⟨k0_off20 i t 12#32, k0_off20_inb i t 12⟩
  updP arg20 arg21 arg6 arg7 arg11 arg12 arg13 arg15 arg17 k0_pay5 kt ⟨k0_off21 i t 12#32, k0_off21_inb i t 12⟩ ⟨k0_off22 i t 12#32, k0_off22_inb i t 12⟩ ⟨k0_off23 i t 12#32, k0_off23_inb i t 12⟩ ⟨k0_off24 i t 12#32, k0_off24_inb i t 12⟩
  scoreP arg20 arg21 arg15 arg17 k v ⟨k0_off19 i t 13#32, k0_off19_inb i t 13⟩ ⟨k0_off20 i t 13#32, k0_off20_inb i t 13⟩
  updP arg20 arg21 arg6 arg7 arg11 arg12 arg13 arg14 arg16 k0_pay5 kt ⟨k0_off21 i t 13#32, k0_off21_inb i t 13⟩ ⟨k0_off22 i t 13#32, k0_off22_inb i t 13⟩ ⟨k0_off23 i t 13#32, k0_off23_inb i t 13⟩ ⟨k0_off24 i t 13#32, k0_off24_inb i t 13⟩
  scoreP arg20 arg21 arg14 arg16 k v ⟨k0_off19 i t 14#32, k0_off19_inb i t 14⟩ ⟨k0_off20 i t 14#32, k0_off20_inb i t 14⟩
  updP arg20 arg21 arg6 arg7 arg11 arg12 arg13 arg15 arg17 k0_pay5 kt ⟨k0_off21 i t 14#32, k0_off21_inb i t 14⟩ ⟨k0_off22 i t 14#32, k0_off22_inb i t 14⟩ ⟨k0_off23 i t 14#32, k0_off23_inb i t 14⟩ ⟨k0_off24 i t 14#32, k0_off24_inb i t 14⟩
  scoreP arg20 arg21 arg15 arg17 k v ⟨k0_off19 i t 15#32, k0_off19_inb i t 15⟩ ⟨k0_off20 i t 15#32, k0_off20_inb i t 15⟩
  updP arg20 arg21 arg6 arg7 arg11 arg12 arg13 arg14 arg16 k0_pay5 kt ⟨k0_off21 i t 15#32, k0_off21_inb i t 15⟩ ⟨k0_off22 i t 15#32, k0_off22_inb i t 15⟩ ⟨k0_off23 i t 15#32, k0_off23_inb i t 15⟩ ⟨k0_off24 i t 15#32, k0_off24_inb i t 15⟩
  pure ⟨⟩

theorem t1_body_eq (i : grid0.Coords) (arg1 : BitVec 32) (v1 : FVec F S512x256 .bf16) (v3 : FVec F S512x128 .bf16) (v6 : FVec F S256x512 .bf16) (v7 : BitVec 32) (v19 : BitVec 32) (v42 : BitVec 32) (v46 : FVec F S512x256 .bf16) (v66 : FVec F S512x512 .bf16) (v67 : Vec F S128x512 .f32) (v71 : FVec F S128x512 .bf16) (v72 : FVec F S512x512 .bf16) (v92 : BitVec 32) :
    k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v19 v42 v46 v66 v67 v71 v72 v92 = fun t _ => grp1 arg6 arg7 arg11 arg12 arg13 arg14 arg15 arg16 arg17 arg20 arg21 v1 v3 v6 i t := by
  funext t _
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  rfl

/-- The trip of 8 query blocks: each scores the next block into one pair of buffers and updates by the block in the other. -/
def grp3 (k : FVec F S512x256 .bf16) (v : FVec F S512x128 .bf16) (kt : FVec F S256x512 .bf16) (i : grid0.Coords) (t : Fin (k0_t3_loop i).trips) : Prog (TpuEff nD τ sig (Elt F) Λ₀ .tc) PUnit := do
  scoreP arg20 arg21 arg14 arg16 k v ⟨k0_off31 i t 0#32, k0_off31_inb i t 0⟩ ⟨k0_off32 i t 0#32, k0_off32_inb i t 0⟩
  updP arg20 arg21 arg6 arg7 arg11 arg12 arg13 arg15 arg17 k0_pay5 kt ⟨k0_off33 i t 0#32, k0_off33_inb i t 0⟩ ⟨k0_off34 i t 0#32, k0_off34_inb i t 0⟩ ⟨k0_off35 i t 0#32, k0_off35_inb i t 0⟩ ⟨k0_off36 i t 0#32, k0_off36_inb i t 0⟩
  scoreP arg20 arg21 arg15 arg17 k v ⟨k0_off31 i t 1#32, k0_off31_inb i t 1⟩ ⟨k0_off32 i t 1#32, k0_off32_inb i t 1⟩
  updP arg20 arg21 arg6 arg7 arg11 arg12 arg13 arg14 arg16 k0_pay5 kt ⟨k0_off33 i t 1#32, k0_off33_inb i t 1⟩ ⟨k0_off34 i t 1#32, k0_off34_inb i t 1⟩ ⟨k0_off35 i t 1#32, k0_off35_inb i t 1⟩ ⟨k0_off36 i t 1#32, k0_off36_inb i t 1⟩
  scoreP arg20 arg21 arg14 arg16 k v ⟨k0_off31 i t 2#32, k0_off31_inb i t 2⟩ ⟨k0_off32 i t 2#32, k0_off32_inb i t 2⟩
  updP arg20 arg21 arg6 arg7 arg11 arg12 arg13 arg15 arg17 k0_pay5 kt ⟨k0_off33 i t 2#32, k0_off33_inb i t 2⟩ ⟨k0_off34 i t 2#32, k0_off34_inb i t 2⟩ ⟨k0_off35 i t 2#32, k0_off35_inb i t 2⟩ ⟨k0_off36 i t 2#32, k0_off36_inb i t 2⟩
  scoreP arg20 arg21 arg15 arg17 k v ⟨k0_off31 i t 3#32, k0_off31_inb i t 3⟩ ⟨k0_off32 i t 3#32, k0_off32_inb i t 3⟩
  updP arg20 arg21 arg6 arg7 arg11 arg12 arg13 arg14 arg16 k0_pay5 kt ⟨k0_off33 i t 3#32, k0_off33_inb i t 3⟩ ⟨k0_off34 i t 3#32, k0_off34_inb i t 3⟩ ⟨k0_off35 i t 3#32, k0_off35_inb i t 3⟩ ⟨k0_off36 i t 3#32, k0_off36_inb i t 3⟩
  scoreP arg20 arg21 arg14 arg16 k v ⟨k0_off31 i t 4#32, k0_off31_inb i t 4⟩ ⟨k0_off32 i t 4#32, k0_off32_inb i t 4⟩
  updP arg20 arg21 arg6 arg7 arg11 arg12 arg13 arg15 arg17 k0_pay5 kt ⟨k0_off33 i t 4#32, k0_off33_inb i t 4⟩ ⟨k0_off34 i t 4#32, k0_off34_inb i t 4⟩ ⟨k0_off35 i t 4#32, k0_off35_inb i t 4⟩ ⟨k0_off36 i t 4#32, k0_off36_inb i t 4⟩
  scoreP arg20 arg21 arg15 arg17 k v ⟨k0_off31 i t 5#32, k0_off31_inb i t 5⟩ ⟨k0_off32 i t 5#32, k0_off32_inb i t 5⟩
  updP arg20 arg21 arg6 arg7 arg11 arg12 arg13 arg14 arg16 k0_pay5 kt ⟨k0_off33 i t 5#32, k0_off33_inb i t 5⟩ ⟨k0_off34 i t 5#32, k0_off34_inb i t 5⟩ ⟨k0_off35 i t 5#32, k0_off35_inb i t 5⟩ ⟨k0_off36 i t 5#32, k0_off36_inb i t 5⟩
  scoreP arg20 arg21 arg14 arg16 k v ⟨k0_off31 i t 6#32, k0_off31_inb i t 6⟩ ⟨k0_off32 i t 6#32, k0_off32_inb i t 6⟩
  updP arg20 arg21 arg6 arg7 arg11 arg12 arg13 arg15 arg17 k0_pay5 kt ⟨k0_off33 i t 6#32, k0_off33_inb i t 6⟩ ⟨k0_off34 i t 6#32, k0_off34_inb i t 6⟩ ⟨k0_off35 i t 6#32, k0_off35_inb i t 6⟩ ⟨k0_off36 i t 6#32, k0_off36_inb i t 6⟩
  scoreP arg20 arg21 arg15 arg17 k v ⟨k0_off31 i t 7#32, k0_off31_inb i t 7⟩ ⟨k0_off32 i t 7#32, k0_off32_inb i t 7⟩
  updP arg20 arg21 arg6 arg7 arg11 arg12 arg13 arg14 arg16 k0_pay5 kt ⟨k0_off33 i t 7#32, k0_off33_inb i t 7⟩ ⟨k0_off34 i t 7#32, k0_off34_inb i t 7⟩ ⟨k0_off35 i t 7#32, k0_off35_inb i t 7⟩ ⟨k0_off36 i t 7#32, k0_off36_inb i t 7⟩
  pure ⟨⟩

theorem t3_body_eq (i : grid0.Coords) (v1 : FVec F S512x256 .bf16) (v3 : FVec F S512x128 .bf16) (v6 : FVec F S256x512 .bf16) (v7 : BitVec 32) (v19 : BitVec 32) (v103 : BitVec 32) (v104 : BitVec 32) :
    k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 v1 v3 v6 v7 v19 v103 v104 = fun t _ => grp3 arg6 arg7 arg11 arg12 arg13 arg14 arg15 arg16 arg17 arg20 arg21 v1 v3 v6 i t := by
  funext t _
  unfold k0_t3_body
  simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
  rfl

/-- The trip of 4 query blocks: each scores the next block into one pair of buffers and updates by the block in the other. -/
def grp5 (k : FVec F S512x256 .bf16) (v : FVec F S512x128 .bf16) (kt : FVec F S256x512 .bf16) (i : grid0.Coords) (t : Fin (k0_t5_loop i).trips) : Prog (TpuEff nD τ sig (Elt F) Λ₀ .tc) PUnit := do
  scoreP arg20 arg21 arg14 arg16 k v ⟨k0_off43 i t 0#32, k0_off43_inb i t 0⟩ ⟨k0_off44 i t 0#32, k0_off44_inb i t 0⟩
  updP arg20 arg21 arg6 arg7 arg11 arg12 arg13 arg15 arg17 k0_pay5 kt ⟨k0_off45 i t 0#32, k0_off45_inb i t 0⟩ ⟨k0_off46 i t 0#32, k0_off46_inb i t 0⟩ ⟨k0_off47 i t 0#32, k0_off47_inb i t 0⟩ ⟨k0_off48 i t 0#32, k0_off48_inb i t 0⟩
  scoreP arg20 arg21 arg15 arg17 k v ⟨k0_off43 i t 1#32, k0_off43_inb i t 1⟩ ⟨k0_off44 i t 1#32, k0_off44_inb i t 1⟩
  updP arg20 arg21 arg6 arg7 arg11 arg12 arg13 arg14 arg16 k0_pay5 kt ⟨k0_off45 i t 1#32, k0_off45_inb i t 1⟩ ⟨k0_off46 i t 1#32, k0_off46_inb i t 1⟩ ⟨k0_off47 i t 1#32, k0_off47_inb i t 1⟩ ⟨k0_off48 i t 1#32, k0_off48_inb i t 1⟩
  scoreP arg20 arg21 arg14 arg16 k v ⟨k0_off43 i t 2#32, k0_off43_inb i t 2⟩ ⟨k0_off44 i t 2#32, k0_off44_inb i t 2⟩
  updP arg20 arg21 arg6 arg7 arg11 arg12 arg13 arg15 arg17 k0_pay5 kt ⟨k0_off45 i t 2#32, k0_off45_inb i t 2⟩ ⟨k0_off46 i t 2#32, k0_off46_inb i t 2⟩ ⟨k0_off47 i t 2#32, k0_off47_inb i t 2⟩ ⟨k0_off48 i t 2#32, k0_off48_inb i t 2⟩
  scoreP arg20 arg21 arg15 arg17 k v ⟨k0_off43 i t 3#32, k0_off43_inb i t 3⟩ ⟨k0_off44 i t 3#32, k0_off44_inb i t 3⟩
  updP arg20 arg21 arg6 arg7 arg11 arg12 arg13 arg14 arg16 k0_pay5 kt ⟨k0_off45 i t 3#32, k0_off45_inb i t 3⟩ ⟨k0_off46 i t 3#32, k0_off46_inb i t 3⟩ ⟨k0_off47 i t 3#32, k0_off47_inb i t 3⟩ ⟨k0_off48 i t 3#32, k0_off48_inb i t 3⟩
  pure ⟨⟩

theorem t5_body_eq (i : grid0.Coords) (v1 : FVec F S512x256 .bf16) (v3 : FVec F S512x128 .bf16) (v6 : FVec F S256x512 .bf16) (v7 : BitVec 32) (v19 : BitVec 32) (v103 : BitVec 32) (v104 : BitVec 32) (v116 : BitVec 32) :
    k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 v1 v3 v6 v7 v19 v103 v104 v116 = fun t _ => grp5 arg6 arg7 arg11 arg12 arg13 arg14 arg15 arg16 arg17 arg20 arg21 v1 v3 v6 i t := by
  funext t _
  unfold k0_t5_body
  simp only [k0_part87_eq_skeleton, k0_part88_eq_skeleton, k0_part89_eq_skeleton, k0_part90_eq_skeleton, k0_part91_eq_skeleton, k0_part92_eq_skeleton, k0_part93_eq_skeleton]
  rfl

/-- The trip of 2 query blocks: each scores the next block into one pair of buffers and updates by the block in the other. -/
def grp7 (k : FVec F S512x256 .bf16) (v : FVec F S512x128 .bf16) (kt : FVec F S256x512 .bf16) (i : grid0.Coords) (t : Fin (k0_t7_loop i).trips) : Prog (TpuEff nD τ sig (Elt F) Λ₀ .tc) PUnit := do
  scoreP arg20 arg21 arg14 arg16 k v ⟨k0_off55 i t 0#32, k0_off55_inb i t 0⟩ ⟨k0_off56 i t 0#32, k0_off56_inb i t 0⟩
  updP arg20 arg21 arg6 arg7 arg11 arg12 arg13 arg15 arg17 k0_pay5 kt ⟨k0_off57 i t 0#32, k0_off57_inb i t 0⟩ ⟨k0_off58 i t 0#32, k0_off58_inb i t 0⟩ ⟨k0_off59 i t 0#32, k0_off59_inb i t 0⟩ ⟨k0_off60 i t 0#32, k0_off60_inb i t 0⟩
  scoreP arg20 arg21 arg15 arg17 k v ⟨k0_off55 i t 1#32, k0_off55_inb i t 1⟩ ⟨k0_off56 i t 1#32, k0_off56_inb i t 1⟩
  updP arg20 arg21 arg6 arg7 arg11 arg12 arg13 arg14 arg16 k0_pay5 kt ⟨k0_off57 i t 1#32, k0_off57_inb i t 1⟩ ⟨k0_off58 i t 1#32, k0_off58_inb i t 1⟩ ⟨k0_off59 i t 1#32, k0_off59_inb i t 1⟩ ⟨k0_off60 i t 1#32, k0_off60_inb i t 1⟩
  pure ⟨⟩

theorem t7_body_eq (i : grid0.Coords) (arg1 : BitVec 32) (v1 : FVec F S512x256 .bf16) (v3 : FVec F S512x128 .bf16) (v6 : FVec F S256x512 .bf16) (v7 : BitVec 32) (v129 : BitVec 32) (v131 : BitVec 32) (v132 : BitVec 1) (v134 : BitVec 32) (c0_i32_77 : BitVec 32) :
    k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v129 v131 v132 v134 c0_i32_77 = fun t _ => grp7 arg6 arg7 arg11 arg12 arg13 arg14 arg15 arg16 arg17 arg20 arg21 v1 v3 v6 i t := by
  funext t _
  unfold k0_t7_body
  simp only [k0_part101_eq_skeleton, k0_part102_eq_skeleton, k0_part103_eq_skeleton]
  rfl

/-- What a head's first key block does about the transfers: start the first head's, wait for this head's, start the next
head's, and clear the queries' gradient. -/
def startP (i : grid0.Coords) (harg2 : arg2.IsWhole) (harg5 : arg5.IsWhole) (harg20 : arg20.IsWhole) (harg21 : arg21.IsWhole) : Prog (TpuEff nD τ sig (Elt F) Λ₀ .tc) PUnit := do
  if k0_h1 : k0_cond1 i = 1#1 then do
    if k0_h2 : k0_cond2 i = 1#1 then do
      let v206 : DmaSems sig S1x1 := arg22.slice (Rect.unit (s := S2x2) ![0, 0] S1x1.size inb_S2x2_S1x1_0_0)
      let v207 : DmaSems sig S_ := v206.squeeze S_ squeezes_S1x1_S_
      let v208 : Memref sig .tc .vmem S1x16384x256 .bf16 := arg20.slice (Rect.unit (s := S2x16384x256) ![0, 0, 0] S1x16384x256.size inb_S2x16384x256_S1x16384x256_0_0_0) (fun _ => rfl)
      let v209 : Memref sig .tc .vmem S16384x256 .bf16 := v208.squeeze S16384x256 squeezes_S1x16384x256_S16384x256
      let v210 : Memref sig .tc .hbm S16384x256 .bf16 := arg2.slice (Rect.unit (s := S16384x2048) ![0, 0] S16384x256.size inb_S16384x2048_S16384x256_0_0) (fun _ => rfl)
      Prog.lift (.enqueueDma v210 (.here v209) (.dma v207.sem) (harg2.wordExact_slice rfl _ wordsbf16_S16384x2048_S16384x256_0_0) ((harg20.wordExact_slice rfl _ wordsbf16_S2x16384x256_S1x16384x256_0_0_0).reshape _ _) ⟨Or.inl rfl, trivial⟩)
      let v211 : DmaSems sig S1x1 := arg22.slice (Rect.unit (s := S2x2) ![0, 1] S1x1.size inb_S2x2_S1x1_0_1)
      let v212 : DmaSems sig S_ := v211.squeeze S_ squeezes_S1x1_S_
      let v213 : Memref sig .tc .vmem S1x128x16384 .bf16 := arg21.slice (Rect.unit (s := S2x128x16384) ![0, 0, 0] S1x128x16384.size inb_S2x128x16384_S1x128x16384_0_0_0) (fun _ => rfl)
      let v214 : Memref sig .tc .vmem S128x16384 .bf16 := v213.squeeze S128x16384 squeezes_S1x128x16384_S128x16384
      let v215 : Memref sig .tc .hbm S128x16384 .bf16 := arg5.slice (Rect.unit (s := S1024x16384) ![0, 0] S128x16384.size inb_S1024x16384_S128x16384_0_0) (fun _ => rfl)
      Prog.lift (.enqueueDma v215 (.here v214) (.dma v212.sem) (harg5.wordExact_slice rfl _ wordsbf16_S1024x16384_S128x16384_0_0) ((harg21.wordExact_slice rfl _ wordsbf16_S2x128x16384_S1x128x16384_0_0_0).reshape _ _) ⟨Or.inl rfl, trivial⟩)
      pure ⟨⟩
    else do
      pure ⟨⟩
    let v186 : DmaSems sig S1x1 := arg22.slice (Rect.unit (s := S2x2) (k0_off1 i) S1x1.size (k0_off1_inb i k0_h1))
    let v187 : DmaSems sig S_ := v186.squeeze S_ squeezes_S1x1_S_
    let v188 : Memref sig .tc .vmem S1x16384x256 .bf16 := arg20.slice (Rect.unit (s := S2x16384x256) (k0_off2 i) S1x16384x256.size (k0_off2_inb i k0_h1)) (fun _ => rfl)
    let v189 : Memref sig .tc .vmem S16384x256 .bf16 := v188.squeeze S16384x256 squeezes_S1x16384x256_S16384x256
    let v190 : Memref sig .tc .hbm S16384x256 .bf16 := arg2.slice (Rect.unit (s := S16384x2048) (k0_off3 i) S16384x256.size (k0_off3_inb i k0_h1)) (fun _ => rfl)
    Prog.lift (.waitDma2 v187.sem v190 v189 (harg2.wordExact_slice rfl _ (k0_off3_wordsbf16 i k0_h1)) ((harg20.wordExact_slice rfl _ (k0_off2_wordsbf16 i k0_h1)).reshape _ _))
    let v191 : DmaSems sig S1x1 := arg22.slice (Rect.unit (s := S2x2) (k0_off4 i) S1x1.size (k0_off4_inb i k0_h1))
    let v192 : DmaSems sig S_ := v191.squeeze S_ squeezes_S1x1_S_
    let v193 : Memref sig .tc .vmem S1x128x16384 .bf16 := arg21.slice (Rect.unit (s := S2x128x16384) (k0_off5 i) S1x128x16384.size (k0_off5_inb i k0_h1)) (fun _ => rfl)
    let v194 : Memref sig .tc .vmem S128x16384 .bf16 := v193.squeeze S128x16384 squeezes_S1x128x16384_S128x16384
    let v195 : Memref sig .tc .hbm S128x16384 .bf16 := arg5.slice (Rect.unit (s := S1024x16384) (k0_off6 i) S128x16384.size (k0_off6_inb i k0_h1)) (fun _ => rfl)
    Prog.lift (.waitDma2 v192.sem v195 v194 (harg5.wordExact_slice rfl _ (k0_off6_wordsbf16 i k0_h1)) ((harg21.wordExact_slice rfl _ (k0_off5_wordsbf16 i k0_h1)).reshape _ _))
    if k0_h3 : k0_cond3 i = 1#1 then do
      let v210 : DmaSems sig S1x1 := arg22.slice (Rect.unit (s := S2x2) (k0_off7 i) S1x1.size (k0_off7_inb i k0_h1 k0_h3))
      let v211 : DmaSems sig S_ := v210.squeeze S_ squeezes_S1x1_S_
      let v212 : Memref sig .tc .vmem S1x16384x256 .bf16 := arg20.slice (Rect.unit (s := S2x16384x256) (k0_off8 i) S1x16384x256.size (k0_off8_inb i k0_h1 k0_h3)) (fun _ => rfl)
      let v213 : Memref sig .tc .vmem S16384x256 .bf16 := v212.squeeze S16384x256 squeezes_S1x16384x256_S16384x256
      let v214 : Memref sig .tc .hbm S16384x256 .bf16 := arg2.slice (Rect.unit (s := S16384x2048) (k0_off9 i) S16384x256.size (k0_off9_inb i k0_h1 k0_h3)) (fun _ => rfl)
      Prog.lift (.enqueueDma v214 (.here v213) (.dma v211.sem) (harg2.wordExact_slice rfl _ (k0_off9_wordsbf16 i k0_h1 k0_h3)) ((harg20.wordExact_slice rfl _ (k0_off8_wordsbf16 i k0_h1 k0_h3)).reshape _ _) ⟨Or.inl rfl, trivial⟩)
      let v215 : DmaSems sig S1x1 := arg22.slice (Rect.unit (s := S2x2) (k0_off10 i) S1x1.size (k0_off10_inb i k0_h1 k0_h3))
      let v216 : DmaSems sig S_ := v215.squeeze S_ squeezes_S1x1_S_
      let v217 : Memref sig .tc .vmem S1x128x16384 .bf16 := arg21.slice (Rect.unit (s := S2x128x16384) (k0_off11 i) S1x128x16384.size (k0_off11_inb i k0_h1 k0_h3)) (fun _ => rfl)
      let v218 : Memref sig .tc .vmem S128x16384 .bf16 := v217.squeeze S128x16384 squeezes_S1x128x16384_S128x16384
      let v219 : Memref sig .tc .hbm S128x16384 .bf16 := arg5.slice (Rect.unit (s := S1024x16384) (k0_off12 i) S128x16384.size (k0_off12_inb i k0_h1 k0_h3)) (fun _ => rfl)
      Prog.lift (.enqueueDma v219 (.here v218) (.dma v216.sem) (harg5.wordExact_slice rfl _ (k0_off12_wordsbf16 i k0_h1 k0_h3)) ((harg21.wordExact_slice rfl _ (k0_off11_wordsbf16 i k0_h1 k0_h3)).reshape _ _) ⟨Or.inl rfl, trivial⟩)
      pure ⟨⟩
    else do
      pure ⟨⟩
    let v201 : Vec F S256x16384 .f32 ← Prog.lift (.load arg11 (Rect.unit (s := S256x16384) ![0, 0] S256x16384.size inb_S256x16384_S256x16384_0_0).toLoadRect (View.loadsAt_vmem h_S256x16384))
    Prog.lift (.store arg11 (Rect.unit (s := S256x16384) ![0, 0] S256x16384.size inb_S256x16384_S256x16384_0_0) (k0_pay504 (F := F)) Finset.univ (View.stores_vmem_bits_univ h_S256x16384 rfl) (.inl rfl))
    pure ⟨⟩
  else do
    pure ⟨⟩

/-- Clear the gradients of the keys and the values. -/
def zeroP : Prog (TpuEff nD τ sig (Elt F) Λ₀ .tc) PUnit := do
  let _jk ← Prog.lift (.load arg12 (Rect.unit (s := S512x256) ![0, 0] S512x256.size inb_S512x256_S512x256_0_0).toLoadRect (View.loadsAt_vmem h_S512x256))
  Prog.lift (.store arg12 (Rect.unit (s := S512x256) ![0, 0] S512x256.size inb_S512x256_S512x256_0_0) (k0_pay505 (F := F)) Finset.univ (View.stores_vmem_bits_univ h_S512x256 rfl) (.inl rfl))
  let _jv ← Prog.lift (.load arg13 (Rect.unit (s := S128x512) ![0, 0] S128x512.size inb_S128x512_S128x512_0_0).toLoadRect (View.loadsAt_vmem h_S128x512))
  Prog.lift (.store arg13 (Rect.unit (s := S128x512) ![0, 0] S128x512.size inb_S128x512_S128x512_0_0) (k0_pay506 (F := F)) Finset.univ (View.stores_vmem_bits_univ h_S128x512 rfl) (.inl rfl))
  pure ⟨⟩

/-- Store the gradients of the keys and the values. -/
def outP (harg8 : arg8.IsWhole) (harg9 : arg9.IsWhole) : Prog (TpuEff nD τ sig (Elt F) Λ₀ .tc) PUnit := do
  let v151 : Vec F S512x256 .f32 ← Prog.lift (.load arg12 (Rect.unit (s := S512x256) ![0, 0] S512x256.size inb_S512x256_S512x256_0_0).toLoadRect (View.loadsAt_vmem h_S512x256))
  let v155 : Vec F S512x256 .bf16 ← Prog.lift (.load arg8 (Rect.unit (s := S512x256) ![0, 0] S512x256.size inb_S512x256_S512x256_0_0).toLoadRect (View.loadsAt_vmem h_S512x256))
  Prog.lift (.store arg8 (Rect.unit (s := S512x256) ![0, 0] S512x256.size inb_S512x256_S512x256_0_0) (k0_pay541 v151) Finset.univ (View.stores_vmem h_S512x256 (harg8.storeExact_slice rfl _ packedbf16_S512x256_S512x256_0_0) (fun _ => rfl)) (.inl rfl))
  let v156 : Vec F S128x512 .f32 ← Prog.lift (.load arg13 (Rect.unit (s := S128x512) ![0, 0] S128x512.size inb_S128x512_S128x512_0_0).toLoadRect (View.loadsAt_vmem h_S128x512))
  let v159 : Vec F S512x128 .bf16 ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0) (k0_pay542 v156) Finset.univ (View.stores_vmem h_S512x128 (harg9.storeExact_slice rfl _ packedbf16_S512x128_S512x128_0_0) (fun _ => rfl)) (.inl rfl))
  pure ⟨⟩

/-- Wait for the copy the key block before started. -/
def waitP (i : grid0.Coords) (harg10 : arg10.IsWhole) (harg19 : arg19.IsWhole) : Prog (TpuEff nD τ sig (Elt F) Λ₀ .tc) PUnit := do
  if k0_h7 : k0_cond7 i = 1#1 then do
    let v182 : Memref sig .tc .hbm S1x512x256 .bf16 := arg10.slice (Rect.unit (s := S8x16384x256) (k0_off79 i) S1x512x256.size (k0_off79_inb i k0_h7)) (fun _ => rfl)
    let v183 : Memref sig .tc .hbm S512x256 .bf16 := v182.squeeze S512x256 squeezes_S1x512x256_S512x256
    Prog.lift (.waitDma2 arg18.sem arg19 v183 harg19.wordExact ((harg10.wordExact_slice rfl _ (k0_off79_wordsbf16 i k0_h7)).reshape _ _))
    pure ⟨⟩
  else do
    pure ⟨⟩

/-- Copy this key block's rows of the queries' gradient out. -/
def copyP (i : grid0.Coords) (harg10 : arg10.IsWhole) (harg19 : arg19.IsWhole) : Prog (TpuEff nD τ sig (Elt F) Λ₀ .tc) PUnit := do
  let v166 : Vec F S256x512 .f32 ← Prog.lift (.load arg11 (Rect.unit (s := S256x16384) (k0_off18 i) S256x512.size (k0_off18_inb i)).toLoadRect (View.loadsAt_vmem h_S256x512))
  let v169 : Vec F S512x256 .bf16 ← Prog.lift (.load arg19 (Rect.unit (s := S512x256) ![0, 0] S512x256.size inb_S512x256_S512x256_0_0).toLoadRect (View.loadsAt_vmem h_S512x256))
  Prog.lift (.store arg19 (Rect.unit (s := S512x256) ![0, 0] S512x256.size inb_S512x256_S512x256_0_0) (k0_pay1 v166) Finset.univ (View.stores_vmem h_S512x256 (harg19.storeExact_slice rfl _ packedbf16_S512x256_S512x256_0_0) (fun _ => rfl)) (.inl rfl))
  let v174 : Memref sig .tc .hbm S1x512x256 .bf16 := arg10.slice (Rect.unit (s := S8x16384x256) (k0_off80 i) S1x512x256.size (k0_off80_inb i)) (fun _ => rfl)
  let v175 : Memref sig .tc .hbm S512x256 .bf16 := v174.squeeze S512x256 squeezes_S1x512x256_S512x256
  Prog.lift (.enqueueDma arg19 (.here v175) (.dma arg18.sem) harg19.wordExact ((harg10.wordExact_slice rfl _ (k0_off80_wordsbf16 i)).reshape _ _) ⟨Or.inl rfl, trivial⟩)
  if k0_h8 : k0_cond8 i = 1#1 then do
    let v181 : Memref sig .tc .hbm S1x512x256 .bf16 := arg10.slice (Rect.unit (s := S8x16384x256) (k0_off81 i) S1x512x256.size (k0_off81_inb i k0_h8)) (fun _ => rfl)
    let v182 : Memref sig .tc .hbm S512x256 .bf16 := v181.squeeze S512x256 squeezes_S1x512x256_S512x256
    Prog.lift (.waitDma2 arg18.sem arg19 v182 harg19.wordExact ((harg10.wordExact_slice rfl _ (k0_off81_wordsbf16 i k0_h8)).reshape _ _))
    pure ⟨⟩
  else do
    pure ⟨⟩
  pure ⟨⟩

/-- The score of the block after the diagonal one, where there is one. -/
def nextP (i : grid0.Coords) (v1 : FVec F S512x256 .bf16) (v3 : FVec F S512x128 .bf16) : Prog (TpuEff nD τ sig (Elt F) Λ₀ .tc) PUnit :=
  if k0_h4 : k0_cond4 i = 1#1 then scoreP arg20 arg21 arg15 arg17 v1 v3 ⟨k0_off15 i, k0_off15_inb i k0_h4⟩ ⟨k0_off16 i, k0_off16_inb i k0_h4⟩ else pure ⟨⟩

/-- The tail of one query block. -/
def tail1P (i : grid0.Coords) (v6 : FVec F S256x512 .bf16) : Prog (TpuEff nD τ sig (Elt F) Λ₀ .tc) PUnit :=
  if k0_h5 : k0_cond5 i = 1#1 then updP arg20 arg21 arg6 arg7 arg11 arg12 arg13 arg15 arg17 k0_pay5 v6 ⟨k0_off67 i, k0_off67_inb i k0_h5⟩ ⟨k0_off68 i, k0_off68_inb i k0_h5⟩ ⟨k0_off69 i, k0_off69_inb i k0_h5⟩ ⟨k0_off70 i, k0_off70_inb i k0_h5⟩ else pure ⟨⟩

/-- The tail of two query blocks. -/
def tail2P (i : grid0.Coords) (v1 : FVec F S512x256 .bf16) (v3 : FVec F S512x128 .bf16) (v6 : FVec F S256x512 .bf16) : Prog (TpuEff nD τ sig (Elt F) Λ₀ .tc) PUnit :=
  if k0_h6 : k0_cond6 i = 1#1 then do
    scoreP arg20 arg21 arg14 arg16 v1 v3 ⟨k0_off71 i, k0_off71_inb i k0_h6⟩ ⟨k0_off72 i, k0_off72_inb i k0_h6⟩
    updP arg20 arg21 arg6 arg7 arg11 arg12 arg13 arg15 arg17 k0_pay5 v6 ⟨k0_off73 i, k0_off73_inb i k0_h6⟩ ⟨k0_off74 i, k0_off74_inb i k0_h6⟩ ⟨k0_off75 i, k0_off75_inb i k0_h6⟩ ⟨k0_off76 i, k0_off76_inb i k0_h6⟩
    updP arg20 arg21 arg6 arg7 arg11 arg12 arg13 arg14 arg16 k0_pay5 v6 ⟨k0_off71 i, k0_off71_inb i k0_h6⟩ ⟨k0_off77 i, k0_off77_inb i k0_h6⟩ ⟨k0_off72 i, k0_off72_inb i k0_h6⟩ ⟨k0_off78 i, k0_off78_inb i k0_h6⟩
  else pure ⟨⟩

/-- Everything between clearing the gradients and storing them: the scores and updates of all query blocks from the
diagonal on. The loops that never run are left as they are printed. -/
def coreP (i : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg19 : arg19.IsWhole) (harg20 : arg20.IsWhole) (harg21 : arg21.IsWhole) (v0 : Vec F S512x256 .bf16) (v2 : Vec F S512x128 .bf16) : Prog (TpuEff nD τ sig (Elt F) Λ₀ .tc) PUnit := do
  let v1 : FVec F S512x256 .bf16 := k0_pay501 v0
  let v3 : FVec F S512x128 .bf16 := k0_pay502 v2
  let v6 : FVec F S256x512 .bf16 := k0_pay503 v0
  let v46 : FVec F S512x256 .bf16 := v1
  let v67 : FVec F S128x512 .f32 := k0_pay506
  let v71 : FVec F S128x512 .bf16 := truncf .bf16 v67 bitsLt_bf16_f32
  let v72 : FVec F S512x512 .bf16 := truncf .bf16 (constant S512x512 .f32 0x00000000#32) bitsLt_bf16_f32
  let v66 : FVec F S512x512 .bf16 := v72
  let arg0 : BitVec 32 := BitVec.ofNat 32 (i 0).val
  let arg1 : BitVec 32 := BitVec.ofNat 32 (i 1).val
  let v7 : BitVec 32 := Scalar.remsi arg0 2#32
  let v19 : BitVec 32 := Scalar.subi 31#32 arg1
  let v41 : BitVec 32 := Scalar.muli arg1 512#32
  let v42 : BitVec 32 := v41
  let v92 : BitVec 32 := Scalar.addi arg1 1#32
  let v93 : BitVec 1 := Scalar.cmpi .sge v19 1#32
  let v94 : BitVec 32 := Scalar.subi v19 1#32
  let v95 : BitVec 32 := Scalar.divsi v94 16#32
  let v96 : BitVec 32 := Scalar.select v93 v95 0#32
  let v97 : BitVec 32 := Scalar.subi v96 0#32
  let v99 : BitVec 32 := Scalar.divsi v97 1#32
  let v100 : BitVec 32 := Scalar.muli v99 1#32
  let v101 : BitVec 32 := Scalar.addi 0#32 v100
  let v102 : BitVec 32 := Scalar.muli 16#32 v96
  let v103 : BitVec 32 := Scalar.addi v92 v102
  let v104 : BitVec 32 := Scalar.muli 16#32 v96
  let v105 : BitVec 32 := Scalar.subi v19 v104
  let v106 : BitVec 1 := Scalar.cmpi .sge v105 1#32
  let v107 : BitVec 32 := Scalar.subi v105 1#32
  let v108 : BitVec 32 := Scalar.divsi v107 8#32
  let v109 : BitVec 32 := Scalar.select v106 v108 0#32
  let v110 : BitVec 32 := Scalar.subi v109 0#32
  let v112 : BitVec 32 := Scalar.divsi v110 1#32
  let v113 : BitVec 32 := Scalar.muli v112 1#32
  let v114 : BitVec 32 := Scalar.addi 0#32 v113
  let v115 : BitVec 32 := Scalar.muli 8#32 v109
  let v116 : BitVec 32 := Scalar.addi v103 v115
  let v117 : BitVec 32 := Scalar.muli 8#32 v109
  let v118 : BitVec 32 := Scalar.subi v105 v117
  let v119 : BitVec 1 := Scalar.cmpi .sge v118 1#32
  let v120 : BitVec 32 := Scalar.subi v118 1#32
  let v121 : BitVec 32 := Scalar.divsi v120 4#32
  let v122 : BitVec 32 := Scalar.select v119 v121 0#32
  let v123 : BitVec 32 := Scalar.subi v122 0#32
  let v125 : BitVec 32 := Scalar.divsi v123 1#32
  let v126 : BitVec 32 := Scalar.muli v125 1#32
  let v127 : BitVec 32 := Scalar.addi 0#32 v126
  let v128 : BitVec 32 := Scalar.muli 4#32 v122
  let v129 : BitVec 32 := Scalar.addi v116 v128
  let v130 : BitVec 32 := Scalar.muli 4#32 v122
  let v131 : BitVec 32 := Scalar.subi v118 v130
  let v132 : BitVec 1 := Scalar.cmpi .sge v131 1#32
  let v133 : BitVec 32 := Scalar.subi v131 1#32
  let v134 : BitVec 32 := Scalar.divsi v133 2#32
  let c0_i32_77 : BitVec 32 := 0#32
  let v135 : BitVec 32 := Scalar.select v132 v134 c0_i32_77
  let v136 : BitVec 32 := Scalar.subi v135 0#32
  let v138 : BitVec 32 := Scalar.divsi v136 1#32
  let v139 : BitVec 32 := Scalar.muli v138 1#32
  let v140 : BitVec 32 := Scalar.addi 0#32 v139
  scoreP arg20 arg21 arg14 arg16 v1 v3 ⟨k0_off13 i, k0_off13_inb i⟩ ⟨k0_off14 i, k0_off14_inb i⟩
  nextP arg15 arg17 arg20 arg21 i v1 v3
  updP arg20 arg21 arg6 arg7 arg11 arg12 arg13 arg14 arg16 k0_pay513 v6 ⟨k0_off13 i, k0_off13_inb i⟩ ⟨k0_off17 i, k0_off17_inb i⟩ ⟨k0_off14 i, k0_off14_inb i⟩ ⟨k0_off18 i, k0_off18_inb i⟩
  Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v19 v42 v46 v66 v67 v71 v72 v92)
  Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v19 v42 v46 v66 v67 v71 v72 v92 v101)
  Scf.Loop.for (k0_t3_loop i) (k0_t3_ok i) ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 v1 v3 v6 v7 v19 v103 v104)
  Scf.Loop.for (k0_t4_loop i) (k0_t4_ok i) ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 v1 v3 v6 v7 v19 v103 v104 v114)
  Scf.Loop.for (k0_t5_loop i) (k0_t5_ok i) ⟨⟩ (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 v1 v3 v6 v7 v19 v103 v104 v116)
  Scf.Loop.for (k0_t6_loop i) (k0_t6_ok i) ⟨⟩ (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 v1 v3 v6 v7 v19 v103 v104 v116 v127)
  Scf.Loop.for (k0_t7_loop i) (k0_t7_ok i) ⟨⟩ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v129 v131 v132 v134 c0_i32_77)
  Scf.Loop.for (k0_t8_loop i) (k0_t8_ok i) ⟨⟩ (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v129 v131 v132 v134 c0_i32_77 v140)
  tail1P arg6 arg7 arg11 arg12 arg13 arg15 arg17 arg20 arg21 i v6
  tail2P arg6 arg7 arg11 arg12 arg13 arg14 arg15 arg16 arg17 arg20 arg21 i v1 v3 v6

/-- The kernel's body. -/
def bodyP (i : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg19 : arg19.IsWhole) (harg20 : arg20.IsWhole) (harg21 : arg21.IsWhole) : Prog (TpuEff nD τ sig (Elt F) Λ₀ .tc) PUnit := do
  let v0 ← Prog.lift (.load arg3 (Rect.unit (s := S512x256) ![0, 0] S512x256.size inb_S512x256_S512x256_0_0).toLoadRect (View.loadsAt_vmem h_S512x256))
  let v2 ← Prog.lift (.load arg4 (Rect.unit (s := S512x128) ![0, 0] S512x128.size inb_S512x128_S512x128_0_0).toLoadRect (View.loadsAt_vmem h_S512x128))
  startP arg2 arg5 arg11 arg20 arg21 arg22 i harg2 harg5 harg20 harg21
  zeroP arg12 arg13
  coreP arg2 arg3 arg4 arg5 arg6 arg7 arg8 arg9 arg10 arg11 arg12 arg13 arg14 arg15 arg16 arg17 arg18 arg19 arg20 arg21 arg22 i harg2 harg3 harg4 harg5 harg6 harg7 harg8 harg9 harg10 harg11 harg12 harg13 harg14 harg15 harg16 harg17 harg19 harg20 harg21 v0 v2
  outP arg8 arg9 arg12 arg13 harg8 harg9
  waitP arg10 arg18 arg19 i harg10 harg19
  copyP arg10 arg11 arg18 arg19 i harg10 harg19

theorem part111_eq (i : grid0.Coords)  : k0_part111_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22  = (do
  let arg0 : BitVec 32 := BitVec.ofNat 32 (i 0).val
  let arg1 : BitVec 32 := BitVec.ofNat 32 (i 1).val
  let v0 : Vec F S512x256 .bf16 ← Prog.lift (.load arg3 (Rect.unit (s := S512x256) ![0, 0] S512x256.size inb_S512x256_S512x256_0_0).toLoadRect (View.loadsAt_vmem h_S512x256))
  let v2 : Vec F S512x128 .bf16 ← Prog.lift (.load arg4 (Rect.unit (s := S512x128) ![0, 0] S512x128.size inb_S512x128_S512x128_0_0).toLoadRect (View.loadsAt_vmem h_S512x128))
  let v7 : BitVec 32 := Scalar.remsi arg0 2#32
  startP arg2 arg5 arg11 arg20 arg21 arg22 i harg2 harg5 harg20 harg21
  let v12 : Vec F S512x256 .f32 ← Prog.lift (.load arg12 (Rect.unit (s := S512x256) ![0, 0] S512x256.size inb_S512x256_S512x256_0_0).toLoadRect (View.loadsAt_vmem h_S512x256))
  Prog.lift (.store arg12 (Rect.unit (s := S512x256) ![0, 0] S512x256.size inb_S512x256_S512x256_0_0) (k0_pay505 (F := F)) Finset.univ (View.stores_vmem_bits_univ h_S512x256 rfl) (.inl rfl))
  let v16 : Vec F S128x512 .f32 ← Prog.lift (.load arg13 (Rect.unit (s := S128x512) ![0, 0] S128x512.size inb_S128x512_S128x512_0_0).toLoadRect (View.loadsAt_vmem h_S128x512))
  Prog.lift (.store arg13 (Rect.unit (s := S128x512) ![0, 0] S128x512.size inb_S128x512_S128x512_0_0) (k0_pay506 (F := F)) Finset.univ (View.stores_vmem_bits_univ h_S128x512 rfl) (.inl rfl))
  let v19 : BitVec 32 := Scalar.subi 31#32 arg1
  let v24 : Vec F S1x512x256 .bf16 ← Prog.lift (.load arg20 (Rect.unit (s := S2x16384x256) (k0_off13 i) S1x512x256.size (k0_off13_inb i)).toLoadRect (View.loadsAt_vmem h_S1x512x256))
  let v27 : Vec F S512x512 .f32 ← Prog.lift (.load arg14 (Rect.unit (s := S512x512) ![0, 0] S512x512.size inb_S512x512_S512x512_0_0).toLoadRect (View.loadsAt_vmem h_S512x512))
  Prog.lift (.store arg14 (Rect.unit (s := S512x512) ![0, 0] S512x512.size inb_S512x512_S512x512_0_0) (k0_pay507 v0 v24) Finset.univ (View.stores_vmem_bits_univ h_S512x512 rfl) (.inl rfl))
  let v32 : Vec F S1x128x512 .bf16 ← Prog.lift (.load arg21 (Rect.unit (s := S2x128x16384) (k0_off14 i) S1x128x512.size (k0_off14_inb i)).toLoadRect (View.loadsAt_vmem h_S1x128x512))
  pure ⟨arg1, k0_pay501 v0, k0_pay502 v2, k0_pay503 v0, v7, v19, k0_pay508 v32⟩ : Prog (TpuEff nD τ sig (Elt F) Λ₀ .tc) (Σ' (arg1 : BitVec 32) (v1 : FVec F S512x256 .bf16) (v3 : FVec F S512x128 .bf16) (v6 : FVec F S256x512 .bf16) (v7 : BitVec 32) (v19 : BitVec 32), FVec F S128x512 .bf16)) := by
  unfold k0_part111_skel startP
  by_cases h1 : k0_cond1 i = 1#1 <;> by_cases h2 : k0_cond2 i = 1#1 <;> by_cases h3 : k0_cond3 i = 1#1 <;> simp only [h1, h2, h3, dite_true, dite_false, reduceDIte] <;> rfl

theorem part112_eq (i : grid0.Coords) (arg1 : BitVec 32) (v1 : FVec F S512x256 .bf16) (v3 : FVec F S512x128 .bf16) (v7 : BitVec 32) (v19 : BitVec 32) (v33 : FVec F S128x512 .bf16) : k0_part112_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v7 v19 v33 = (do
  let v35 : Vec F S512x512 .f32 ← Prog.lift (.load arg16 (Rect.unit (s := S512x512) ![0, 0] S512x512.size inb_S512x512_S512x512_0_0).toLoadRect (View.loadsAt_vmem h_S512x512))
  Prog.lift (.store arg16 (Rect.unit (s := S512x512) ![0, 0] S512x512.size inb_S512x512_S512x512_0_0) (k0_pay509 v3 v33) Finset.univ (View.stores_vmem_bits_univ h_S512x512 rfl) (.inl rfl))
  nextP arg15 arg17 arg20 arg21 i v1 v3
  let v41 : BitVec 32 := Scalar.muli arg1 512#32
  let v42 : BitVec 32 := v41
  let v45 : Vec F S1x512x256 .bf16 ← Prog.lift (.load arg20 (Rect.unit (s := S2x16384x256) (k0_off13 i) S1x512x256.size (k0_off13_inb i)).toLoadRect (View.loadsAt_vmem h_S1x512x256))
  let v47 : Vec F S512x512 .f32 ← Prog.lift (.load arg14 (Rect.unit (s := S512x512) ![0, 0] S512x512.size inb_S512x512_S512x512_0_0).toLoadRect (View.loadsAt_vmem h_S512x512))
  let v54 : Vec F S1x1x512 .f32 ← Prog.lift (.load arg6 (Rect.unit (s := S1x1x16384) (k0_off17 i) S1x1x512.size (k0_off17_inb i)).toLoadRect (View.loadsAt_vmem h_S1x1x512))
  let v59 : Vec F S512x512 .f32 ← Prog.lift (.load arg16 (Rect.unit (s := S512x512) ![0, 0] S512x512.size inb_S512x512_S512x512_0_0).toLoadRect (View.loadsAt_vmem h_S512x512))
  let v61 : Vec F S1x1x512 .f32 ← Prog.lift (.load arg7 (Rect.unit (s := S1x1x16384) (k0_off17 i) S1x1x512.size (k0_off17_inb i)).toLoadRect (View.loadsAt_vmem h_S1x1x512))
  let v67 : Vec F S128x512 .f32 ← Prog.lift (.load arg13 (Rect.unit (s := S128x512) ![0, 0] S128x512.size inb_S128x512_S128x512_0_0).toLoadRect (View.loadsAt_vmem h_S128x512))
  let v70 : Vec F S1x128x512 .bf16 ← Prog.lift (.load arg21 (Rect.unit (s := S2x128x16384) (k0_off14 i) S1x128x512.size (k0_off14_inb i)).toLoadRect (View.loadsAt_vmem h_S1x128x512))
  pure ⟨v42, k0_pay512 v45, k0_pay514 v47 v54 v59 v61, v67, k0_pay515 v70, k0_pay516 v47 v54⟩ : Prog (TpuEff nD τ sig (Elt F) Λ₀ .tc) (Σ' (v42 : BitVec 32) (v46 : FVec F S512x256 .bf16) (v66 : FVec F S512x512 .bf16) (v67 : Vec F S128x512 .f32) (v71 : FVec F S128x512 .bf16), FVec F S512x512 .bf16)) := by
  unfold k0_part112_skel nextP
  by_cases h4 : k0_cond4 i = 1#1 <;> simp only [h4, dite_true, dite_false, reduceDIte] <;> rfl

theorem part115_eq (i : grid0.Coords) (arg1 : BitVec 32) (v1 : FVec F S512x256 .bf16) (v3 : FVec F S512x128 .bf16) (v6 : FVec F S256x512 .bf16) (v7 : BitVec 32) (v129 : BitVec 32) (v131 : BitVec 32) (v132 : BitVec 1) (v134 : BitVec 32) (c0_i32_77 : BitVec 32) : k0_part115_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v129 v131 v132 v134 c0_i32_77 = (do
  let v135 : BitVec 32 := Scalar.select v132 v134 c0_i32_77
  let v136 : BitVec 32 := Scalar.subi v135 0#32
  let v138 : BitVec 32 := Scalar.divsi v136 1#32
  let v139 : BitVec 32 := Scalar.muli v138 1#32
  let v140 : BitVec 32 := Scalar.addi 0#32 v139
  Scf.Loop.for (k0_t7_loop i) (k0_t7_ok i) ⟨⟩ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v129 v131 v132 v134 c0_i32_77)
  Scf.Loop.for (k0_t8_loop i) (k0_t8_ok i) ⟨⟩ (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 v1 v3 v6 v7 v129 v131 v132 v134 c0_i32_77 v140)
  let v141 : BitVec 32 := Scalar.muli 2#32 v135
  let v142 : BitVec 32 := Scalar.addi v129 v141
  tail1P arg6 arg7 arg11 arg12 arg13 arg15 arg17 arg20 arg21 i v6
  tail2P arg6 arg7 arg11 arg12 arg13 arg14 arg15 arg16 arg17 arg20 arg21 i v1 v3 v6
  let v151 : Vec F S512x256 .f32 ← Prog.lift (.load arg12 (Rect.unit (s := S512x256) ![0, 0] S512x256.size inb_S512x256_S512x256_0_0).toLoadRect (View.loadsAt_vmem h_S512x256))
  let v155 : Vec F S512x256 .bf16 ← Prog.lift (.load arg8 (Rect.unit (s := S512x256) ![0, 0] S512x256.size inb_S512x256_S512x256_0_0).toLoadRect (View.loadsAt_vmem h_S512x256))
  Prog.lift (.store arg8 (Rect.unit (s := S512x256) ![0, 0] S512x256.size inb_S512x256_S512x256_0_0) (k0_pay541 v151) Finset.univ (View.stores_vmem h_S512x256 (harg8.storeExact_slice rfl _ packedbf16_S512x256_S512x256_0_0) (fun _ => rfl)) (.inl rfl))
  let v156 : Vec F S128x512 .f32 ← Prog.lift (.load arg13 (Rect.unit (s := S128x512) ![0, 0] S128x512.size inb_S128x512_S128x512_0_0).toLoadRect (View.loadsAt_vmem h_S128x512))
  let v159 : Vec F S512x128 .bf16 ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0) (k0_pay542 v156) Finset.univ (View.stores_vmem h_S512x128 (harg9.storeExact_slice rfl _ packedbf16_S512x128_S512x128_0_0) (fun _ => rfl)) (.inl rfl))
  waitP arg10 arg18 arg19 i harg10 harg19
  let v163 : BitVec 32 := Scalar.muli arg1 512#32
  let v164 : BitVec 32 := v163
  pure v164 : Prog (TpuEff nD τ sig (Elt F) Λ₀ .tc) (BitVec 32)) := by
  unfold k0_part115_skel tail1P tail2P waitP
  simp only [k0_part107_eq_skeleton, k0_part108_eq_skeleton, k0_part109_eq_skeleton, k0_part110_eq_skeleton]
  by_cases h5 : k0_cond5 i = 1#1 <;> by_cases h6 : k0_cond6 i = 1#1 <;> by_cases h7 : k0_cond7 i = 1#1 <;> simp only [h5, h6, h7, dite_true, dite_false, reduceDIte] <;> rfl

theorem body_eq (i : grid0.Coords) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 = bodyP arg2 arg3 arg4 arg5 arg6 arg7 arg8 arg9 arg10 arg11 arg12 arg13 arg14 arg15 arg16 arg17 arg18 arg19 arg20 arg21 arg22 i harg2 harg3 harg4 harg5 harg6 harg7 harg8 harg9 harg10 harg11 harg12 harg13 harg14 harg15 harg16 harg17 harg19 harg20 harg21 := by
  rw [cc0_attn_bwd_eq_skeleton]
  unfold cc0_attn_bwd_skel
  simp only [k0_part111_eq_skeleton, k0_part112_eq_skeleton, k0_part113_eq_skeleton, k0_part114_eq_skeleton, k0_part115_eq_skeleton, part111_eq, part112_eq, part115_eq]
  unfold k0_part113_skel k0_part114_skel bodyP coreP
  simp only [bind_assoc, pure_bind]
  rfl

end Cert.KernelIdeal.Hand

end
-- ==== Proof.Ideal.Offsets.lean ====
/-
  The offsets, conditions and trip counts the kernel computes at a grid point, in closed form. A grid point is a
  head `h` (the first coordinate) and a key block `j` (the second); query blocks run from `j` to `31`.
-/
module

public import proofs.«01_k».proof.Proof.Gen.KernelIdeal.Skeleton

@[expose] public section

set_option maxRecDepth 16384

namespace Cert.KernelIdeal.Hand

open Idealize.ShloMosaic Cert.KernelIdeal Cert.KernelIdeal.Gen

/-- The head of a grid point. -/
abbrev hd (i : grid0.Coords) : ℕ := (i 0).val
/-- The key block of a grid point. -/
abbrev kb (i : grid0.Coords) : ℕ := (i 1).val

/-- The query block the groups of eight start at. -/
def nb3 (j : ℕ) : ℕ := j + 1 + 16 * ((30 - j) / 16)
/-- The query block the groups of four start at. -/
def nb5 (j : ℕ) : ℕ := nb3 j + 8 * ((30 - j) % 16 / 8)
/-- The query block the groups of two start at. -/
def nb7 (j : ℕ) : ℕ := nb5 j + 4 * ((30 - j) % 8 / 4)
/-- The query block the tail starts at. -/
def nb9 (j : ℕ) : ℕ := nb7 j + 2 * ((30 - j) % 4 / 2)

/-- The first key block of a head. -/
theorem cond1_iff : ∀ i : grid0.Coords, k0_cond1 i = 1#1 ↔ kb i = 0 := by decide +kernel

/-- The first head. -/
theorem cond2_iff : ∀ i : grid0.Coords, k0_cond2 i = 1#1 ↔ hd i = 0 := by decide +kernel

/-- A head with a successor. -/
theorem cond3_iff : ∀ i : grid0.Coords, k0_cond3 i = 1#1 ↔ hd i + 1 < 8 := by decide +kernel

/-- A key block with a query block after the diagonal one. -/
theorem cond4_iff : ∀ i : grid0.Coords, k0_cond4 i = 1#1 ↔ kb i < 31 := by decide +kernel

/-- A tail of one query block. -/
theorem cond5_iff : ∀ i : grid0.Coords, k0_cond5 i = 1#1 ↔ kb i < 31 ∧ (30 - kb i) % 2 = 0 := by decide +kernel

/-- A tail of two query blocks. -/
theorem cond6_iff : ∀ i : grid0.Coords, k0_cond6 i = 1#1 ↔ kb i < 31 ∧ (30 - kb i) % 2 = 1 := by decide +kernel

/-- A key block with one before it. -/
theorem cond7_iff : ∀ i : grid0.Coords, k0_cond7 i = 1#1 ↔ kb i ≠ 0 := by decide +kernel

/-- The last key block of a head. -/
theorem cond8_iff : ∀ i : grid0.Coords, k0_cond8 i = 1#1 ↔ kb i = 31 := by decide +kernel

/-- How often this loop runs. -/
theorem trips1_eq : ∀ i : grid0.Coords, (k0_t1_loop i).trips = (30 - kb i) / 16 := by decide +kernel

/-- How often this loop runs. -/
theorem trips2_eq : ∀ i : grid0.Coords, (k0_t2_loop i).trips = 0 := by decide +kernel

/-- How often this loop runs. -/
theorem trips3_eq : ∀ i : grid0.Coords, (k0_t3_loop i).trips = (30 - kb i) % 16 / 8 := by decide +kernel

/-- How often this loop runs. -/
theorem trips4_eq : ∀ i : grid0.Coords, (k0_t4_loop i).trips = 0 := by decide +kernel

/-- How often this loop runs. -/
theorem trips5_eq : ∀ i : grid0.Coords, (k0_t5_loop i).trips = (30 - kb i) % 8 / 4 := by decide +kernel

/-- How often this loop runs. -/
theorem trips6_eq : ∀ i : grid0.Coords, (k0_t6_loop i).trips = 0 := by decide +kernel

/-- How often this loop runs. -/
theorem trips7_eq : ∀ i : grid0.Coords, (k0_t7_loop i).trips = (30 - kb i) % 4 / 2 := by decide +kernel

/-- How often this loop runs. -/
theorem trips8_eq : ∀ i : grid0.Coords, (k0_t8_loop i).trips = 0 := by decide +kernel

/-! The offsets of the transfers. -/

theorem off1_eq : ∀ i : grid0.Coords, k0_off1 i = ![hd i % 2, 0] := by decide +kernel

theorem off2_eq : ∀ i : grid0.Coords, k0_off2 i = ![hd i % 2, 0, 0] := by decide +kernel

theorem off3_eq : ∀ i : grid0.Coords, k0_off3 i = ![0, 256 * hd i] := by decide +kernel

theorem off4_eq : ∀ i : grid0.Coords, k0_off4 i = ![hd i % 2, 1] := by decide +kernel

theorem off5_eq : ∀ i : grid0.Coords, k0_off5 i = ![hd i % 2, 0, 0] := by decide +kernel

theorem off6_eq : ∀ i : grid0.Coords, k0_off6 i = ![128 * hd i, 0] := by decide +kernel

theorem off7_eq : ∀ i : grid0.Coords, k0_off7 i = ![1 - hd i % 2, 0] := by decide +kernel

theorem off8_eq : ∀ i : grid0.Coords, k0_off8 i = ![1 - hd i % 2, 0, 0] := by decide +kernel

theorem off9_eq : ∀ i : grid0.Coords, k0_off9 i = ![0, 256 * (hd i + 1)] := by decide +kernel

theorem off10_eq : ∀ i : grid0.Coords, k0_off10 i = ![1 - hd i % 2, 1] := by decide +kernel

theorem off11_eq : ∀ i : grid0.Coords, k0_off11 i = ![1 - hd i % 2, 0, 0] := by decide +kernel

theorem off12_eq : ∀ i : grid0.Coords, k0_off12 i = ![128 * (hd i + 1), 0] := by decide +kernel

theorem off79_eq : ∀ i : grid0.Coords, kb i ≠ 0 → k0_off79 i = ![hd i, 512 * (kb i - 1), 0] := by decide +kernel

theorem off80_eq : ∀ i : grid0.Coords, k0_off80 i = ![hd i, 512 * kb i, 0] := by decide +kernel

theorem off81_eq : ∀ i : grid0.Coords, k0_off81 i = ![hd i, 512 * kb i, 0] := by decide +kernel

/-! The offsets of the diagonal block and of the block after it. -/

theorem off13_eq : ∀ i : grid0.Coords, k0_off13 i = ![hd i % 2, 512 * (kb i), 0] := by decide +kernel

theorem off14_eq : ∀ i : grid0.Coords, k0_off14 i = ![hd i % 2, 0, 512 * (kb i)] := by decide +kernel

theorem off15_eq : ∀ i : grid0.Coords, kb i < 31 → k0_off15 i = ![hd i % 2, 512 * (kb i + 1), 0] := by decide +kernel

theorem off16_eq : ∀ i : grid0.Coords, kb i < 31 → k0_off16 i = ![hd i % 2, 0, 512 * (kb i + 1)] := by decide +kernel

theorem off17_eq : ∀ i : grid0.Coords, k0_off17 i = ![0, 0, 512 * (kb i)] := by decide +kernel

theorem off18_eq : ∀ i : grid0.Coords, k0_off18 i = ![0, 512 * (kb i)] := by decide +kernel

/-! The offsets within the groups: query block `u` of trip `t`. -/

theorem off19_eq : ∀ (i : grid0.Coords) (t : Fin (k0_t1_loop i).trips) (u : Fin 16), k0_off19 i t (BitVec.ofNat 32 u.val) = ![hd i % 2, 512 * (kb i + 1 + 16 * t.val + u.val + 1), 0] := by decide +kernel

theorem off20_eq : ∀ (i : grid0.Coords) (t : Fin (k0_t1_loop i).trips) (u : Fin 16), k0_off20 i t (BitVec.ofNat 32 u.val) = ![hd i % 2, 0, 512 * (kb i + 1 + 16 * t.val + u.val + 1)] := by decide +kernel

theorem off21_eq : ∀ (i : grid0.Coords) (t : Fin (k0_t1_loop i).trips) (u : Fin 16), k0_off21 i t (BitVec.ofNat 32 u.val) = ![hd i % 2, 512 * (kb i + 1 + 16 * t.val + u.val), 0] := by decide +kernel

theorem off22_eq : ∀ (i : grid0.Coords) (t : Fin (k0_t1_loop i).trips) (u : Fin 16), k0_off22 i t (BitVec.ofNat 32 u.val) = ![0, 0, 512 * (kb i + 1 + 16 * t.val + u.val)] := by decide +kernel

theorem off23_eq : ∀ (i : grid0.Coords) (t : Fin (k0_t1_loop i).trips) (u : Fin 16), k0_off23 i t (BitVec.ofNat 32 u.val) = ![hd i % 2, 0, 512 * (kb i + 1 + 16 * t.val + u.val)] := by decide +kernel

theorem off24_eq : ∀ (i : grid0.Coords) (t : Fin (k0_t1_loop i).trips) (u : Fin 16), k0_off24 i t (BitVec.ofNat 32 u.val) = ![0, 512 * (kb i + 1 + 16 * t.val + u.val)] := by decide +kernel

theorem off31_eq : ∀ (i : grid0.Coords) (t : Fin (k0_t3_loop i).trips) (u : Fin 8), k0_off31 i t (BitVec.ofNat 32 u.val) = ![hd i % 2, 512 * (nb3 (kb i) + 8 * t.val + u.val + 1), 0] := by decide +kernel

theorem off32_eq : ∀ (i : grid0.Coords) (t : Fin (k0_t3_loop i).trips) (u : Fin 8), k0_off32 i t (BitVec.ofNat 32 u.val) = ![hd i % 2, 0, 512 * (nb3 (kb i) + 8 * t.val + u.val + 1)] := by decide +kernel

theorem off33_eq : ∀ (i : grid0.Coords) (t : Fin (k0_t3_loop i).trips) (u : Fin 8), k0_off33 i t (BitVec.ofNat 32 u.val) = ![hd i % 2, 512 * (nb3 (kb i) + 8 * t.val + u.val), 0] := by decide +kernel

theorem off34_eq : ∀ (i : grid0.Coords) (t : Fin (k0_t3_loop i).trips) (u : Fin 8), k0_off34 i t (BitVec.ofNat 32 u.val) = ![0, 0, 512 * (nb3 (kb i) + 8 * t.val + u.val)] := by decide +kernel

theorem off35_eq : ∀ (i : grid0.Coords) (t : Fin (k0_t3_loop i).trips) (u : Fin 8), k0_off35 i t (BitVec.ofNat 32 u.val) = ![hd i % 2, 0, 512 * (nb3 (kb i) + 8 * t.val + u.val)] := by decide +kernel

theorem off36_eq : ∀ (i : grid0.Coords) (t : Fin (k0_t3_loop i).trips) (u : Fin 8), k0_off36 i t (BitVec.ofNat 32 u.val) = ![0, 512 * (nb3 (kb i) + 8 * t.val + u.val)] := by decide +kernel

theorem off43_eq : ∀ (i : grid0.Coords) (t : Fin (k0_t5_loop i).trips) (u : Fin 4), k0_off43 i t (BitVec.ofNat 32 u.val) = ![hd i % 2, 512 * (nb5 (kb i) + 4 * t.val + u.val + 1), 0] := by decide +kernel

theorem off44_eq : ∀ (i : grid0.Coords) (t : Fin (k0_t5_loop i).trips) (u : Fin 4), k0_off44 i t (BitVec.ofNat 32 u.val) = ![hd i % 2, 0, 512 * (nb5 (kb i) + 4 * t.val + u.val + 1)] := by decide +kernel

theorem off45_eq : ∀ (i : grid0.Coords) (t : Fin (k0_t5_loop i).trips) (u : Fin 4), k0_off45 i t (BitVec.ofNat 32 u.val) = ![hd i % 2, 512 * (nb5 (kb i) + 4 * t.val + u.val), 0] := by decide +kernel

theorem off46_eq : ∀ (i : grid0.Coords) (t : Fin (k0_t5_loop i).trips) (u : Fin 4), k0_off46 i t (BitVec.ofNat 32 u.val) = ![0, 0, 512 * (nb5 (kb i) + 4 * t.val + u.val)] := by decide +kernel

theorem off47_eq : ∀ (i : grid0.Coords) (t : Fin (k0_t5_loop i).trips) (u : Fin 4), k0_off47 i t (BitVec.ofNat 32 u.val) = ![hd i % 2, 0, 512 * (nb5 (kb i) + 4 * t.val + u.val)] := by decide +kernel

theorem off48_eq : ∀ (i : grid0.Coords) (t : Fin (k0_t5_loop i).trips) (u : Fin 4), k0_off48 i t (BitVec.ofNat 32 u.val) = ![0, 512 * (nb5 (kb i) + 4 * t.val + u.val)] := by decide +kernel

theorem off55_eq : ∀ (i : grid0.Coords) (t : Fin (k0_t7_loop i).trips) (u : Fin 2), k0_off55 i t (BitVec.ofNat 32 u.val) = ![hd i % 2, 512 * (nb7 (kb i) + 2 * t.val + u.val + 1), 0] := by decide +kernel

theorem off56_eq : ∀ (i : grid0.Coords) (t : Fin (k0_t7_loop i).trips) (u : Fin 2), k0_off56 i t (BitVec.ofNat 32 u.val) = ![hd i % 2, 0, 512 * (nb7 (kb i) + 2 * t.val + u.val + 1)] := by decide +kernel

theorem off57_eq : ∀ (i : grid0.Coords) (t : Fin (k0_t7_loop i).trips) (u : Fin 2), k0_off57 i t (BitVec.ofNat 32 u.val) = ![hd i % 2, 512 * (nb7 (kb i) + 2 * t.val + u.val), 0] := by decide +kernel

theorem off58_eq : ∀ (i : grid0.Coords) (t : Fin (k0_t7_loop i).trips) (u : Fin 2), k0_off58 i t (BitVec.ofNat 32 u.val) = ![0, 0, 512 * (nb7 (kb i) + 2 * t.val + u.val)] := by decide +kernel

theorem off59_eq : ∀ (i : grid0.Coords) (t : Fin (k0_t7_loop i).trips) (u : Fin 2), k0_off59 i t (BitVec.ofNat 32 u.val) = ![hd i % 2, 0, 512 * (nb7 (kb i) + 2 * t.val + u.val)] := by decide +kernel

theorem off60_eq : ∀ (i : grid0.Coords) (t : Fin (k0_t7_loop i).trips) (u : Fin 2), k0_off60 i t (BitVec.ofNat 32 u.val) = ![0, 512 * (nb7 (kb i) + 2 * t.val + u.val)] := by decide +kernel

/-! The offsets of the tail. -/

theorem off67_eq : ∀ i : grid0.Coords, k0_cond5 i = 1#1 → k0_off67 i = ![hd i % 2, 512 * (31), 0] := by decide +kernel

theorem off68_eq : ∀ i : grid0.Coords, k0_cond5 i = 1#1 → k0_off68 i = ![0, 0, 512 * (31)] := by decide +kernel

theorem off69_eq : ∀ i : grid0.Coords, k0_cond5 i = 1#1 → k0_off69 i = ![hd i % 2, 0, 512 * (31)] := by decide +kernel

theorem off70_eq : ∀ i : grid0.Coords, k0_cond5 i = 1#1 → k0_off70 i = ![0, 512 * (31)] := by decide +kernel

theorem off71_eq : ∀ i : grid0.Coords, k0_cond6 i = 1#1 → k0_off71 i = ![hd i % 2, 512 * (31), 0] := by decide +kernel

theorem off72_eq : ∀ i : grid0.Coords, k0_cond6 i = 1#1 → k0_off72 i = ![hd i % 2, 0, 512 * (31)] := by decide +kernel

theorem off73_eq : ∀ i : grid0.Coords, k0_cond6 i = 1#1 → k0_off73 i = ![hd i % 2, 512 * (30), 0] := by decide +kernel

theorem off74_eq : ∀ i : grid0.Coords, k0_cond6 i = 1#1 → k0_off74 i = ![0, 0, 512 * (30)] := by decide +kernel

theorem off75_eq : ∀ i : grid0.Coords, k0_cond6 i = 1#1 → k0_off75 i = ![hd i % 2, 0, 512 * (30)] := by decide +kernel

theorem off76_eq : ∀ i : grid0.Coords, k0_cond6 i = 1#1 → k0_off76 i = ![0, 512 * (30)] := by decide +kernel

theorem off77_eq : ∀ i : grid0.Coords, k0_cond6 i = 1#1 → k0_off77 i = ![0, 0, 512 * (31)] := by decide +kernel

theorem off78_eq : ∀ i : grid0.Coords, k0_cond6 i = 1#1 → k0_off78 i = ![0, 512 * (31)] := by decide +kernel

end Cert.KernelIdeal.Hand
-- ==== Proof.Ideal.Ops.lean ====
/-
  Loads and stores over memrefs held at known contents: a load of a whole memref, a load of a window, a store of a
  whole memref and a store of a window, each as a rule that gives the memref back at what it then holds.
-/
module

public import proofs.«01_k».proof.Proof.Gen.KernelIdeal.Skeleton
public import Idealize.ShloMosaic.Lib.Pipeline.FrameBody
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- What a program run on core `c` establishes. -/
abbrev runs (c : Dev nD) {α : Type} (p : Prog (TpuEff nD τ sig (Elt F) Λ₀ .tc) α) (Q : α → sProp 𝕄) : sProp 𝕄 :=
  wp frame (wpE (defs₀ (F := F)) Variants.none c none) Set.univ p Q

/-- Core `c` holds the part `S` of the memref in full, and what it reads there is `X`. -/
def ownsOn (c : Dev nD) {s : Shape} {e : EltTy} (m : Memref sig .tc .vmem s e) (S : Finset s.Idx) (X : s.Idx → Elt F e) : sProp 𝕄 :=
  iprop(∃ f : m.view.ty.Contents (Elt F), ⌜∀ y ∈ S, m.view.read (Elt F) f y = X y⌝ ∗ (m.view.loc (c : Thread nD τ) ↦[m.view.setOn S]{fullShare} f))

/-- A load of a whole memref reads what it holds. -/
theorem runs_load_full (c : Dev nD) {s : Shape} {e : EltTy} (m : Memref sig .tc .vmem s e) (q : PosShare TreeShare) (X : s.Idx → Elt F e)
    {off : Fin s.rank → ℕ} (inb : ∀ a, off a + s.size a ≤ s.size a) (hl : m.view.LoadsAt (Rect.unit off s.size inb).toLoadRect)
    (Q : (s.Idx → Elt F e) → sProp 𝕄) :
    owns (c : Thread nD τ) m q X ⊢ iprop((owns (c : Thread nD τ) m q X -∗ Q X) -∗
      runs c (Prog.lift (.load m (Rect.unit off s.size inb).toLoadRect hl)) Q) := by
  unfold owns
  iintro ⟨%f, %hf, H⟩ K
  iapply (wp_load (defs := defs₀ (F := F)) Variants.none (c : Thread nD τ) none Set.univ (m := m) (S := m.view.set) (View.setOn_subset_set _ _)) $$ H
  iintro H
  rw [View.readAt_full, hf, wp_ret]
  imodintro
  iapply K
  iexists f
  isplitr [H]
  · ipureintro; exact hf
  · iexact H

/-- A load of a window reads the window of what the memref holds. -/
theorem runs_load_window (c : Dev nD) {s : Shape} {e : EltTy} (m : Memref sig .tc .vmem s e) (q : PosShare TreeShare) (X : s.Idx → Elt F e)
    {off size : Fin s.rank → ℕ} (inb : ∀ a, off a + size a ≤ s.size a) (hl : m.view.LoadsAt (Rect.unit off size inb).toLoadRect)
    (Q : (((a : Fin s.rank) → Fin (size a)) → Elt F e) → sProp 𝕄) :
    owns (c : Thread nD τ) m q X ⊢ iprop((owns (c : Thread nD τ) m q X -∗ Q (VecWindow.window X off size inb)) -∗
      runs c (Prog.lift (.load m (Rect.unit off size inb).toLoadRect hl)) Q) := by
  unfold owns
  iintro ⟨%f, %hf, H⟩ K
  iapply (wp_load (defs := defs₀ (F := F)) Variants.none (c : Thread nD τ) none Set.univ (m := m) (S := m.view.set) (View.setOn_subset_set _ _)) $$ H
  iintro H
  rw [View.readAt_unit m.view f inb rfl inb, hf, wp_ret]
  imodintro
  iapply K
  iexists f
  isplitr [H]
  · ipureintro; exact hf
  · iexact H

/-- A load of a window inside the part that is held reads the window of what is known there. -/
theorem runs_load_part (c : Dev nD) {s : Shape} {e : EltTy} (m : Memref sig .tc .vmem s e) (S : Finset s.Idx) (X : s.Idx → Elt F e)
    {off size : Fin s.rank → ℕ} (inb : ∀ a, off a + size a ≤ s.size a) (hl : m.view.LoadsAt (Rect.unit off size inb).toLoadRect)
    (hS : (Rect.unit off size inb).set ⊆ S) (Q : (((a : Fin s.rank) → Fin (size a)) → Elt F e) → sProp 𝕄) :
    ownsOn c m S X ⊢ iprop((ownsOn c m S X -∗ Q (VecWindow.window X off size inb)) -∗
      runs c (Prog.lift (.load m (Rect.unit off size inb).toLoadRect hl)) Q) := by
  unfold ownsOn
  iintro ⟨%f, %hf, H⟩ K
  iapply (wp_load (defs := defs₀ (F := F)) Variants.none (c : Thread nD τ) none Set.univ (m := m) (S := m.view.setOn S)
    (Finset.map_subset_map.mpr hS)) $$ H
  iintro H
  have e1 : m.view.readAt (Elt F) (Rect.unit off size inb).toLoadRect f = VecWindow.window X off size inb :=
    funext fun y => hf _ (hS ((Rect.unit off size inb).idx_mem y))
  rw [e1, wp_ret]
  imodintro
  iapply K
  iexists f
  isplitr [H]
  · ipureintro; exact hf
  · iexact H

/-- A store of a whole memref leaves what is stored. -/
theorem runs_store_full (c : Dev nD) {s : Shape} {e : EltTy} (m : Memref sig .tc .vmem s e) (X : s.Idx → Elt F e)
    {off : Fin s.rank → ℕ} (inb : ∀ a, off a + s.size a ≤ s.size a) (w : s.Idx → Elt F e)
    (hx : (m.access (Rect.unit off s.size inb)).Stores Finset.univ)
    (hm : (Finset.univ : Finset (Rect.unit off s.size inb).shape.Idx) = Finset.univ ∨ ∀ a, (Rect.unit off s.size inb).stride a = 1) (Q : PUnit → sProp 𝕄) :
    owns (c : Thread nD τ) m fullShare X ⊢ iprop((owns (c : Thread nD τ) m fullShare w -∗ Q ⟨⟩) -∗
      runs c (Prog.lift (.store m (Rect.unit off s.size inb) w Finset.univ hx hm)) Q) := by
  unfold owns
  iintro ⟨%f, %hf, H⟩ K
  iapply (wp_store (defs := defs₀ (F := F)) Variants.none (c : Thread nD τ) none Set.univ (m := m) (r := Rect.unit off s.size inb) (S := m.view.set)
    (by rw [View.setOn_univ]; exact View.set_slice_subset _ _)) $$ H
  iintro H
  rw [wp_ret]
  imodintro
  iapply K
  iexists (m.view.writes (Elt F) f [⟨Rect.unit off s.size inb, w⟩])
  isplitr [H]
  · ipureintro; exact View.read_writes_full m.view f inb w []
  · iexact H

/-- A store of a window puts what is stored into what the memref held. -/
theorem runs_store_window (c : Dev nD) {s : Shape} {e : EltTy} (m : Memref sig .tc .vmem s e) (X : s.Idx → Elt F e)
    {off size : Fin s.rank → ℕ} (inb : ∀ a, off a + size a ≤ s.size a) (w : ((a : Fin s.rank) → Fin (size a)) → Elt F e)
    (hx : (m.access (Rect.unit off size inb)).Stores Finset.univ)
    (hm : (Finset.univ : Finset (Rect.unit off size inb).shape.Idx) = Finset.univ ∨ ∀ a, (Rect.unit off size inb).stride a = 1) (Q : PUnit → sProp 𝕄) :
    owns (c : Thread nD τ) m fullShare X ⊢ iprop((owns (c : Thread nD τ) m fullShare (VecWindow.put X off size w) -∗ Q ⟨⟩) -∗
      runs c (Prog.lift (.store m (Rect.unit off size inb) w Finset.univ hx hm)) Q) := by
  unfold owns
  iintro ⟨%f, %hf, H⟩ K
  iapply (wp_store (defs := defs₀ (F := F)) Variants.none (c : Thread nD τ) none Set.univ (m := m) (r := Rect.unit off size inb) (S := m.view.set)
    (by rw [View.setOn_univ]; exact View.set_slice_subset _ _)) $$ H
  iintro H
  rw [wp_ret]
  imodintro
  iapply K
  iexists (m.view.writes (Elt F) f [⟨Rect.unit off size inb, w⟩])
  isplitr [H]
  · ipureintro
    rw [View.read_writes_cons_put m.view f inb w [] rfl, View.writes_nil, hf]
  · iexact H

end Cert.KernelIdeal.Hand
-- ==== Proof.Ideal.Steps.lean ====
/-
  What a score and an update do, and the state of the gradients after some of the query blocks: a step of the kernel is
  a score of the next block into one pair of buffers and an update by the current block out of the other pair.
-/
module

public import proofs.«01_k».proof.Proof.Ideal.Progs
public import proofs.«01_k».proof.Proof.Ideal.Ops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- Query block `b` in slot `sl` of the queries. -/
def oqAt (sl b : ℕ) : OQ := ⟨![sl % 2, 512 * (b % 32), 0], by
  intro a; fin_cases a <;> simp [S1x512x256, S2x16384x256] <;> omega⟩
/-- Query block `b` in slot `sl` of the output's gradient. -/
def odAt (sl b : ℕ) : OD := ⟨![sl % 2, 0, 512 * (b % 32)], by
  intro a; fin_cases a <;> simp [S1x128x512, S2x128x16384] <;> omega⟩
/-- Query block `b` in a row of saved values. -/
def orAt (b : ℕ) : OR := ⟨![0, 0, 512 * (b % 32)], by
  intro a; fin_cases a <;> simp [S1x1x512, S1x1x16384] <;> omega⟩
/-- Query block `b` in the columns of the queries' gradient. -/
def ocAt (b : ℕ) : OC := ⟨![0, 512 * (b % 32)], by
  intro a; fin_cases a <;> simp [S256x512, S256x16384] <;> omega⟩

/-- The part of the queries' buffer that slot `sl` is. -/
def slotQ (sl : ℕ) : Finset S2x16384x256.Idx := Finset.univ.filter fun y => (y 0).val = sl % 2
/-- The part of the output's gradient's buffer that slot `sl` is. -/
def slotD (sl : ℕ) : Finset S2x128x16384.Idx := Finset.univ.filter fun y => (y 0).val = sl % 2

theorem oqAt_sub (sl b : ℕ) : (Rect.unit (s := S2x16384x256) (oqAt sl b).1 S1x512x256.size (oqAt sl b).2).set ⊆ slotQ sl := by
  intro y hy
  have h := (Rect.mem_set_unit.mp hy) 0
  have h1 : sl % 2 ≤ (y 0).val := h.1
  have h2 : (y 0).val < sl % 2 + 1 := h.2
  exact Finset.mem_filter.mpr ⟨Finset.mem_univ _, by omega⟩

theorem odAt_sub (sl b : ℕ) : (Rect.unit (s := S2x128x16384) (odAt sl b).1 S1x128x512.size (odAt sl b).2).set ⊆ slotD sl := by
  intro y hy
  have h := (Rect.mem_set_unit.mp hy) 0
  have h1 : sl % 2 ≤ (y 0).val := h.1
  have h2 : (y 0).val < sl % 2 + 1 := h.2
  exact Finset.mem_filter.mpr ⟨Finset.mem_univ _, by omega⟩

/-- Query block `b` of what slot `sl` holds. -/
def qTile (X : S2x16384x256.Idx → Elt F .bf16) (sl b : ℕ) : Vec F S1x512x256 .bf16 :=
  VecWindow.window X (oqAt sl b).1 S1x512x256.size (oqAt sl b).2
/-- Block `b` of the output's gradient that slot `sl` holds. -/
def dTile (X : S2x128x16384.Idx → Elt F .bf16) (sl b : ℕ) : Vec F S1x128x512 .bf16 :=
  VecWindow.window X (odAt sl b).1 S1x128x512.size (odAt sl b).2
/-- Block `b` of a row of saved values. -/
def rTile (X : S1x1x16384.Idx → Elt F .f32) (b : ℕ) : Vec F S1x1x512 .f32 :=
  VecWindow.window X (orAt b).1 S1x1x512.size (orAt b).2
/-- Block `b` of the columns of the queries' gradient. -/
def cTile (X : S256x16384.Idx → Elt F .f32) (b : ℕ) : Vec F S256x512 .f32 :=
  VecWindow.window X (ocAt b).1 S256x512.size (ocAt b).2

/-- Putting block `b` changes that block and no other. -/
theorem cTile_put (X : S256x16384.Idx → Elt F .f32) (w : Vec F S256x512 .f32) {b b' : ℕ} (hb : b < 32) (hb' : b' < 32) :
    cTile (VecWindow.put X (ocAt b).1 S256x512.size w) b' = if b' = b then w else cTile X b' := by
  unfold cTile
  by_cases h : b' = b
  · subst h
    rw [if_pos rfl, VecWindow.window_put_same]
  · rw [if_neg h]
    refine VecWindow.window_put_of_disjoint (a := 1) _ _ _ _ _ _ _ ?_
    show 512 * (b' % 32) + 512 ≤ 512 * (b % 32) ∨ 512 * (b % 32) + 512 ≤ 512 * (b' % 32)
    omega

/-- The memrefs an update reads and writes besides the scores: the slots, the saved rows and the three gradients. -/
structure Mems where
  mq : Memref sig .tc .vmem S2x16384x256 .bf16
  md : Memref sig .tc .vmem S2x128x16384 .bf16
  ml : Memref sig .tc .vmem S1x1x16384 .f32
  mr : Memref sig .tc .vmem S1x1x16384 .f32
  mc : Memref sig .tc .vmem S256x16384 .f32
  mg : Memref sig .tc .vmem S512x256 .f32
  mv : Memref sig .tc .vmem S128x512 .f32

/-- What the kernel reads at a grid point: the slot in use and what it holds, the saved rows, the key and value blocks
and the transposed key block. -/
structure Data (F : FTy → Type) where
  sl : ℕ
  Xq : S2x16384x256.Idx → Elt F .bf16
  Xd : S2x128x16384.Idx → Elt F .bf16
  L : S1x1x16384.Idx → Elt F .f32
  R : S1x1x16384.Idx → Elt F .f32
  k : FVec F S512x256 .bf16
  v : FVec F S512x128 .bf16
  kt : FVec F S256x512 .bf16

/-- The scores of query block `b`. -/
def Data.s (d : Data F) (b : ℕ) : FVec F S512x512 .f32 := k0_pay2 d.k (qTile d.Xq d.sl b)
/-- The products of the values with the output's gradient of block `b`. -/
def Data.p (d : Data F) (b : ℕ) : FVec F S512x512 .f32 := k0_pay3 d.v (dTile d.Xd d.sl b)

/-- Core `c` holds what an update only reads. -/
def reads (c : Dev nD) (m : Mems) (d : Data F) : sProp 𝕄 :=
  iprop(ownsOn c m.mq (slotQ d.sl) d.Xq ∗ ownsOn c m.md (slotD d.sl) d.Xd ∗ owns (c : Thread nD τ) m.ml fullShare d.L ∗ owns (c : Thread nD τ) m.mr fullShare d.R)

/-- Core `c` holds the columns of the queries' gradient, block `b` of them at `D b`. -/
def tiles (c : Dev nD) (mc : Memref sig .tc .vmem S256x16384 .f32) (D : ℕ → Vec F S256x512 .f32) : sProp 𝕄 :=
  iprop(∃ X : S256x16384.Idx → Elt F .f32, ⌜∀ b < 32, cTile X b = D b⌝ ∗ owns (c : Thread nD τ) mc fullShare X)

/-- Core `c` holds the memref at some contents. -/
def some_ (c : Dev nD) {s : Shape} {e : EltTy} (m : Memref sig .tc .vmem s e) : sProp 𝕄 :=
  iprop(∃ X : s.Idx → Elt F e, owns (c : Thread nD τ) m fullShare X)

/-- Storing over a memref held at some contents. -/
theorem runs_store_some (c : Dev nD) {s : Shape} {e : EltTy} (m : Memref sig .tc .vmem s e)
    {off : Fin s.rank → ℕ} (inb : ∀ a, off a + s.size a ≤ s.size a) (w : s.Idx → Elt F e) (hl : m.view.LoadsAt (Rect.unit off s.size inb).toLoadRect)
    (hx : (m.access (Rect.unit off s.size inb)).Stores Finset.univ)
    (hm : (Finset.univ : Finset (Rect.unit off s.size inb).shape.Idx) = Finset.univ ∨ ∀ a, (Rect.unit off s.size inb).stride a = 1) (Q : PUnit → sProp 𝕄) :
    some_ (F := F) c m ⊢ iprop((owns (c : Thread nD τ) m fullShare w -∗ Q ⟨⟩) -∗
      runs c (Prog.lift (.load m (Rect.unit off s.size inb).toLoadRect hl)) (fun _ =>
        runs c (Prog.lift (.store m (Rect.unit off s.size inb) w Finset.univ hx hm)) Q)) := by
  unfold some_
  iintro ⟨%X, H⟩ K
  iapply (runs_load_full c m fullShare X inb hl) $$ H
  iintro H
  iapply (runs_store_full c m X inb w hx hm Q) $$ H
  iexact K

/-- A score leaves the two products of block `b` in the pair of buffers it is given. -/
theorem scoreP_runs (c : Dev nD) (m : Mems) (d : Data F) (ms mp : Memref sig .tc .vmem S512x512 .f32) (b : ℕ)
    (oq : OQ) (od : OD) (hq : oq = oqAt d.sl b) (hd : od = odAt d.sl b) (Q : PUnit → sProp 𝕄) :
    iprop(reads c m d ∗ some_ (F := F) c ms ∗ some_ (F := F) c mp)
      ⊢ iprop((reads c m d ∗ owns (c : Thread nD τ) ms fullShare (d.s b) ∗ owns (c : Thread nD τ) mp fullShare (d.p b) -∗ Q ⟨⟩) -∗
        runs c (scoreP m.mq m.md ms mp d.k d.v oq od) Q) := by
  subst hq hd
  unfold reads scoreP
  iintro ⟨⟨Hq, Hd, Hl, Hr⟩, Hs, Hp⟩ K
  unfold runs
  rw [wp_bind]
  iapply (runs_load_part c m.mq (slotQ d.sl) d.Xq _ _ (oqAt_sub d.sl b)) $$ Hq
  iintro Hq
  rw [wp_bind]
  simp only [wp_bind]
  iapply (runs_store_some c ms) $$ Hs
  iintro Hs
  iapply (runs_load_part c m.md (slotD d.sl) d.Xd _ _ (odAt_sub d.sl b)) $$ Hd
  iintro Hd
  iapply (runs_store_some c mp) $$ Hp
  iintro Hp
  rw [wp_pure]
  imodintro
  iapply K
  isplitl [Hq Hd Hl Hr]
  · isplitl [Hq]; iexact Hq
    isplitl [Hd]; iexact Hd
    isplitl [Hl]; iexact Hl
    iexact Hr
  · isplitl [Hs]; iexact Hs
    iexact Hp

/-- An update adds three products into the gradients; only block `b` of the queries' gradient changes. -/
theorem updP_runs (c : Dev nD) (m : Mems) (d : Data F) (ms mp : Memref sig .tc .vmem S512x512 .f32) (b : ℕ) (hb : b < 32)
    (pf : Vec F S512x512 .f32 → Vec F S1x1x512 .f32 → FVec F S512x512 .f32)
    (oq : OQ) (or : OR) (od : OD) (oc : OC) (hq : oq = oqAt d.sl b) (hr : or = orAt b) (hd : od = odAt d.sl b) (hc : oc = ocAt b)
    (xs xp : Vec F S512x512 .f32) (xk : Vec F S512x256 .f32) (xv : Vec F S128x512 .f32) (D : ℕ → Vec F S256x512 .f32) (Q : PUnit → sProp 𝕄) :
    iprop(reads c m d ∗ owns (c : Thread nD τ) ms fullShare xs ∗ owns (c : Thread nD τ) mp fullShare xp
        ∗ owns (c : Thread nD τ) m.mg fullShare xk ∗ owns (c : Thread nD τ) m.mv fullShare xv ∗ tiles c m.mc D)
      ⊢ iprop((reads c m d ∗ owns (c : Thread nD τ) ms fullShare xs ∗ owns (c : Thread nD τ) mp fullShare xp
          ∗ owns (c : Thread nD τ) m.mg fullShare (k0_pay8 (k0_pay4 (qTile d.Xq d.sl b)) (pf xs (rTile d.L b)) xp (rTile d.R b) xk)
          ∗ owns (c : Thread nD τ) m.mv fullShare (k0_pay7 (pf xs (rTile d.L b)) xv (dTile d.Xd d.sl b))
          ∗ tiles c m.mc (fun b' => if b' = b then k0_pay9 d.kt (pf xs (rTile d.L b)) xp (rTile d.R b) (D b) else D b') -∗ Q ⟨⟩) -∗
        runs c (updP m.mq m.md m.ml m.mr m.mc m.mg m.mv ms mp pf d.kt oq or od oc) Q) := by
  subst hq hr hd hc
  unfold reads updP tiles
  iintro ⟨⟨Hq, Hd, Hl, Hr⟩, Hs, Hp, Hk, Hv, ⟨%X, %hX, Hc⟩⟩ K
  unfold runs
  simp only [wp_bind]
  iapply (runs_load_part c m.mq (slotQ d.sl) d.Xq _ _ (oqAt_sub d.sl b)) $$ Hq
  iintro Hq
  iapply (runs_load_full c ms fullShare xs) $$ Hs
  iintro Hs
  iapply (runs_load_window c m.ml fullShare d.L) $$ Hl
  iintro Hl
  iapply (runs_load_full c mp fullShare xp) $$ Hp
  iintro Hp
  iapply (runs_load_window c m.mr fullShare d.R) $$ Hr
  iintro Hr
  iapply (runs_load_full c m.mv fullShare xv) $$ Hv
  iintro Hv
  iapply (runs_load_part c m.md (slotD d.sl) d.Xd _ _ (odAt_sub d.sl b)) $$ Hd
  iintro Hd
  iapply (runs_load_full c m.mv fullShare xv) $$ Hv
  iintro Hv
  iapply (runs_store_full c m.mv xv) $$ Hv
  iintro Hv
  iapply (runs_load_full c m.mg fullShare xk) $$ Hk
  iintro Hk
  iapply (runs_load_full c m.mg fullShare xk) $$ Hk
  iintro Hk
  iapply (runs_store_full c m.mg xk) $$ Hk
  iintro Hk
  iapply (runs_load_window c m.mc fullShare X) $$ Hc
  iintro Hc
  iapply (runs_load_window c m.mc fullShare X) $$ Hc
  iintro Hc
  iapply (runs_store_window c m.mc X) $$ Hc
  iintro Hc
  rw [wp_pure]
  imodintro
  iapply K
  isplitl [Hq Hd Hl Hr]
  · isplitl [Hq]; iexact Hq
    isplitl [Hd]; iexact Hd
    isplitl [Hl]; iexact Hl
    iexact Hr
  isplitl [Hs]; iexact Hs
  isplitl [Hp]; iexact Hp
  isplitl [Hk]; iexact Hk
  isplitl [Hv]; iexact Hv
  iexists (VecWindow.put X (ocAt b).1 S256x512.size (k0_pay9 d.kt (pf xs (rTile d.L b)) xp (rTile d.R b) (cTile X b)))
  isplitr [Hc]
  · ipureintro
    intro b' hb'
    rw [cTile_put X _ hb hb', hX b hb, hX b' hb']
  · iexact Hc

/-! ## The state after some of the query blocks -/

/-- The probabilities of query block `b` at key block `j`: masked on the diagonal. -/
def Data.pt (d : Data F) (j b : ℕ) : FVec F S512x512 .f32 :=
  (if b = j then k0_pay513 else k0_pay5) (d.s b) (rTile d.L b)

/-- The keys' gradient after `n` query blocks from the diagonal on. -/
def Data.dk (d : Data F) (j : ℕ) : ℕ → FVec F S512x256 .f32
  | 0 => k0_pay505
  | n + 1 => k0_pay8 (k0_pay4 (qTile d.Xq d.sl (j + n))) (d.pt j (j + n)) (d.p (j + n)) (rTile d.R (j + n)) (d.dk j n)

/-- The values' gradient after `n` query blocks from the diagonal on. -/
def Data.dv (d : Data F) (j : ℕ) : ℕ → FVec F S128x512 .f32
  | 0 => k0_pay506
  | n + 1 => k0_pay7 (d.pt j (j + n)) (d.dv j n) (dTile d.Xd d.sl (j + n))

/-- Block `b` of the queries' gradient after key block `j` was taken in. -/
def Data.dq (d : Data F) (j : ℕ) (D : ℕ → Vec F S256x512 .f32) (b : ℕ) : FVec F S256x512 .f32 :=
  k0_pay9 d.kt (d.pt j b) (d.p b) (rTile d.R b) (D b)

/-- The blocks of the queries' gradient after `n` query blocks from the diagonal on. -/
def Data.dqs (d : Data F) (j : ℕ) (D : ℕ → Vec F S256x512 .f32) (n : ℕ) (b : ℕ) : Vec F S256x512 .f32 :=
  if j ≤ b ∧ b < j + n then d.dq j D b else D b

/-- The gradients after `n` query blocks. -/
def grads (c : Dev nD) (m : Mems) (d : Data F) (j : ℕ) (D : ℕ → Vec F S256x512 .f32) (n : ℕ) : sProp 𝕄 :=
  iprop(owns (c : Thread nD τ) m.mg fullShare (d.dk j n) ∗ owns (c : Thread nD τ) m.mv fullShare (d.dv j n) ∗ tiles c m.mc (d.dqs j D n))

/-- Between two steps: the gradients after `n` query blocks, the scores of the next block in the pair `ms`, `mp`, and
the other pair at anything. -/
def mid (c : Dev nD) (m : Mems) (d : Data F) (j : ℕ) (D : ℕ → Vec F S256x512 .f32) (n : ℕ) (ms mp os op : Memref sig .tc .vmem S512x512 .f32) : sProp 𝕄 :=
  iprop(reads c m d ∗ grads c m d j D n ∗ owns (c : Thread nD τ) ms fullShare (d.s (j + n)) ∗ owns (c : Thread nD τ) mp fullShare (d.p (j + n))
    ∗ some_ (F := F) c os ∗ some_ (F := F) c op)

/-- After `n` query blocks, no scores of use in the buffers. -/
def done_ (c : Dev nD) (m : Mems) (d : Data F) (j : ℕ) (D : ℕ → Vec F S256x512 .f32) (n : ℕ) (ms mp os op : Memref sig .tc .vmem S512x512 .f32) : sProp 𝕄 :=
  iprop(reads c m d ∗ grads c m d j D n ∗ some_ (F := F) c ms ∗ some_ (F := F) c mp ∗ some_ (F := F) c os ∗ some_ (F := F) c op)

/-- The function an update uses at query block `b` of key block `j`. -/
def pfAt (j b : ℕ) : Vec F S512x512 .f32 → Vec F S1x1x512 .f32 → FVec F S512x512 .f32 := if b = j then k0_pay513 else k0_pay5

theorem dqs_succ (d : Data F) (j : ℕ) (D : ℕ → Vec F S256x512 .f32) (n : ℕ) :
    (fun b' => if b' = j + n then k0_pay9 d.kt (d.pt j (j + n)) (d.p (j + n)) (rTile d.R (j + n)) (d.dqs j D n (j + n)) else d.dqs j D n b')
      = d.dqs j D (n + 1) := by
  funext b
  unfold Data.dqs Data.dq
  by_cases h : b = j + n
  · subst h
    rw [if_pos rfl, if_neg (by omega), if_pos (by omega)]
  · rw [if_neg h]
    by_cases h2 : j ≤ b ∧ b < j + n
    · rw [if_pos h2, if_pos (by omega)]
    · rw [if_neg h2, if_neg (by omega)]

/-- An update by the next block, whose scores are in the pair `ms`, `mp`. -/
theorem upd_grads (c : Dev nD) (m : Mems) (d : Data F) (j : ℕ) (D : ℕ → Vec F S256x512 .f32) (n : ℕ) (hn : j + n < 32)
    (ms mp : Memref sig .tc .vmem S512x512 .f32)
    (pf : Vec F S512x512 .f32 → Vec F S1x1x512 .f32 → FVec F S512x512 .f32) (hpf : pf = pfAt j (j + n))
    (oq : OQ) (or : OR) (od : OD) (oc : OC) (hq : oq = oqAt d.sl (j + n)) (hr : or = orAt (j + n)) (hd : od = odAt d.sl (j + n)) (hc : oc = ocAt (j + n))
    (Q : PUnit → sProp 𝕄) :
    iprop(reads c m d ∗ grads c m d j D n ∗ owns (c : Thread nD τ) ms fullShare (d.s (j + n)) ∗ owns (c : Thread nD τ) mp fullShare (d.p (j + n)))
      ⊢ iprop((reads c m d ∗ grads c m d j D (n + 1) ∗ owns (c : Thread nD τ) ms fullShare (d.s (j + n)) ∗ owns (c : Thread nD τ) mp fullShare (d.p (j + n)) -∗ Q ⟨⟩) -∗
        runs c (updP m.mq m.md m.ml m.mr m.mc m.mg m.mv ms mp pf d.kt oq or od oc) Q) := by
  subst hpf
  unfold grads
  rw [← dqs_succ]
  iintro ⟨Hr, ⟨Hk, Hv, Ht⟩, Hs, Hp⟩ K
  iapply (updP_runs c m d ms mp (j + n) hn (pfAt j (j + n)) oq or od oc hq hr hd hc (d.s (j + n)) (d.p (j + n)) (d.dk j n) (d.dv j n) (d.dqs j D n)) $$ [Hr Hk Hv Ht Hs Hp]
  · isplitl [Hr]; iexact Hr
    isplitl [Hs]; iexact Hs
    isplitl [Hp]; iexact Hp
    isplitl [Hk]; iexact Hk
    isplitl [Hv]; iexact Hv
    iexact Ht
  iintro ⟨Hr, Hs, Hp, Hk, Hv, Ht⟩
  iapply K
  isplitl [Hr]; iexact Hr
  isplitl [Hk Hv Ht]
  · isplitl [Hk]; iexact Hk
    isplitl [Hv]; iexact Hv
    iexact Ht
  isplitl [Hs]; iexact Hs
  iexact Hp

theorem some_intro (c : Dev nD) {s : Shape} {e : EltTy} (m : Memref sig .tc .vmem s e) (X : s.Idx → Elt F e) :
    (owns (c : Thread nD τ) m fullShare X : sProp 𝕄) ⊢ some_ (F := F) c m := by
  unfold some_
  iintro H
  iexists X
  iexact H

/-- One step: the scores of the block after next go into the other pair, and the next block is taken in; the pairs change roles. -/
theorem step_runs (c : Dev nD) (m : Mems) (d : Data F) (j : ℕ) (D : ℕ → Vec F S256x512 .f32) (n : ℕ) (hn : j + n < 32)
    (ms mp os op : Memref sig .tc .vmem S512x512 .f32)
    (pf : Vec F S512x512 .f32 → Vec F S1x1x512 .f32 → FVec F S512x512 .f32) (hpf : pf = pfAt j (j + n))
    (oq' : OQ) (od' : OD) (oq : OQ) (or : OR) (od : OD) (oc : OC) (hq' : oq' = oqAt d.sl (j + (n + 1))) (hd' : od' = odAt d.sl (j + (n + 1)))
    (hq : oq = oqAt d.sl (j + n)) (hr : or = orAt (j + n)) (hd : od = odAt d.sl (j + n)) (hc : oc = ocAt (j + n)) (Q : PUnit → sProp 𝕄) :
    mid c m d j D n ms mp os op
      ⊢ iprop((mid c m d j D (n + 1) os op ms mp -∗ Q ⟨⟩) -∗
        runs c (scoreP m.mq m.md os op d.k d.v oq' od') fun _ =>
          runs c (updP m.mq m.md m.ml m.mr m.mc m.mg m.mv ms mp pf d.kt oq or od oc) Q) := by
  unfold mid
  iintro ⟨Hr, Hg, Hs, Hp, Hos, Hop⟩ K
  iapply (scoreP_runs c m d os op (j + (n + 1)) oq' od' hq' hd') $$ [Hr Hos Hop]
  · isplitl [Hr]; iexact Hr
    isplitl [Hos]; iexact Hos
    iexact Hop
  iintro ⟨Hr, Hos, Hop⟩
  iapply (upd_grads c m d j D n hn ms mp pf hpf oq or od oc hq hr hd hc) $$ [Hr Hg Hs Hp]
  · isplitl [Hr]; iexact Hr
    isplitl [Hg]; iexact Hg
    isplitl [Hs]; iexact Hs
    iexact Hp
  iintro ⟨Hr, Hg, Hs, Hp⟩
  iapply K
  isplitl [Hr]; iexact Hr
  isplitl [Hg]; iexact Hg
  isplitl [Hos]; iexact Hos
  isplitl [Hop]; iexact Hop
  isplitl [Hs]
  · iapply (some_intro c ms) $$ Hs
  · iapply (some_intro c mp) $$ Hp

/-- The last update: no further scores. -/
theorem last_runs (c : Dev nD) (m : Mems) (d : Data F) (j : ℕ) (D : ℕ → Vec F S256x512 .f32) (n : ℕ) (hn : j + n < 32)
    (ms mp os op : Memref sig .tc .vmem S512x512 .f32)
    (pf : Vec F S512x512 .f32 → Vec F S1x1x512 .f32 → FVec F S512x512 .f32) (hpf : pf = pfAt j (j + n))
    (oq : OQ) (or : OR) (od : OD) (oc : OC)
    (hq : oq = oqAt d.sl (j + n)) (hr : or = orAt (j + n)) (hd : od = odAt d.sl (j + n)) (hc : oc = ocAt (j + n)) (Q : PUnit → sProp 𝕄) :
    mid c m d j D n ms mp os op
      ⊢ iprop((done_ c m d j D (n + 1) ms mp os op -∗ Q ⟨⟩) -∗
          runs c (updP m.mq m.md m.ml m.mr m.mc m.mg m.mv ms mp pf d.kt oq or od oc) Q) := by
  unfold mid done_
  iintro ⟨Hr, Hg, Hs, Hp, Hos, Hop⟩ K
  iapply (upd_grads c m d j D n hn ms mp pf hpf oq or od oc hq hr hd hc) $$ [Hr Hg Hs Hp]
  · isplitl [Hr]; iexact Hr
    isplitl [Hg]; iexact Hg
    isplitl [Hs]; iexact Hs
    iexact Hp
  iintro ⟨Hr, Hg, Hs, Hp⟩
  iapply K
  isplitl [Hr]; iexact Hr
  isplitl [Hg]; iexact Hg
  isplitl [Hs]
  · iapply (some_intro c ms) $$ Hs
  isplitl [Hp]
  · iapply (some_intro c mp) $$ Hp
  isplitl [Hos]; iexact Hos
  iexact Hop

end Cert.KernelIdeal.Hand
-- ==== Proof.Ideal.Groups.lean ====
/-
  The groups of query blocks the kernel takes in at once: 16, 8, 4 or 2 steps, each a score and an update.
-/
module

public import proofs.«01_k».proof.Proof.Ideal.Body
public import proofs.«01_k».proof.Proof.Ideal.Offsets
public import proofs.«01_k».proof.Proof.Ideal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

theorem oq_of {oq : OQ} {sl b B : ℕ} (h : oq.1 = ![sl % 2, 512 * B, 0]) (hB : B < 32) (e : b = B) : oq = oqAt sl b := by
  subst e
  refine Subtype.ext (h.trans ?_)
  show _ = ![sl % 2, 512 * (b % 32), 0]
  rw [Nat.mod_eq_of_lt hB]

theorem od_of {od : OD} {sl b B : ℕ} (h : od.1 = ![sl % 2, 0, 512 * B]) (hB : B < 32) (e : b = B) : od = odAt sl b := by
  subst e
  refine Subtype.ext (h.trans ?_)
  show _ = ![sl % 2, 0, 512 * (b % 32)]
  rw [Nat.mod_eq_of_lt hB]

theorem or_of {or : OR} {b B : ℕ} (h : or.1 = ![0, 0, 512 * B]) (hB : B < 32) (e : b = B) : or = orAt b := by
  subst e
  refine Subtype.ext (h.trans ?_)
  show _ = ![0, 0, 512 * (b % 32)]
  rw [Nat.mod_eq_of_lt hB]

theorem oc_of {oc : OC} {b B : ℕ} (h : oc.1 = ![0, 512 * B]) (hB : B < 32) (e : b = B) : oc = ocAt b := by
  subst e
  refine Subtype.ext (h.trans ?_)
  show _ = ![0, 512 * (b % 32)]
  rw [Nat.mod_eq_of_lt hB]

theorem pf_of {j b : ℕ} (h : j < b) : (k0_pay5 (F := F)) = pfAt j b := by
  unfold pfAt
  rw [if_neg (by omega)]

/-- One step at block `B` of key block `j`, by the offsets its loads and stores have. -/
theorem step_at (c : Dev nD) (m : Mems) (d : Data F) (sl : ℕ) (hsl : d.sl = sl) (j : ℕ) (D : ℕ → Vec F S256x512 .f32) (n n' B B' : ℕ) (hB : B' < 32) (hBB : B' = B + 1) (hn : j + n = B) (hn' : n' = n + 1)
    (ms mp os op : Memref sig .tc .vmem S512x512 .f32)
    (pf : Vec F S512x512 .f32 → Vec F S1x1x512 .f32 → FVec F S512x512 .f32) (hpf : pf = pfAt j B)
    (oq' : OQ) (od' : OD) (oq : OQ) (or : OR) (od : OD) (oc : OC) (hq' : oq'.1 = ![sl % 2, 512 * B', 0]) (hd' : od'.1 = ![sl % 2, 0, 512 * B'])
    (hq : oq.1 = ![sl % 2, 512 * B, 0]) (hr : or.1 = ![0, 0, 512 * B]) (hd : od.1 = ![sl % 2, 0, 512 * B]) (hc : oc.1 = ![0, 512 * B]) (Q : PUnit → sProp 𝕄) :
    mid c m d j D n ms mp os op
      ⊢ iprop((mid c m d j D n' os op ms mp -∗ Q ⟨⟩) -∗
        runs c (scoreP m.mq m.md os op d.k d.v oq' od') fun _ =>
          runs c (updP m.mq m.md m.ml m.mr m.mc m.mg m.mv ms mp pf d.kt oq or od oc) Q) := by
  subst hsl hn' hBB hn
  exact step_runs c m d j D n (by omega) ms mp os op pf hpf oq' od' oq or od oc
    (oq_of hq' (by omega) (by omega)) (od_of hd' (by omega) (by omega)) (oq_of hq (by omega) (by omega)) (or_of hr (by omega) (by omega))
    (od_of hd (by omega) (by omega)) (oc_of hc (by omega) (by omega)) Q

/-- The last update, by the offsets its loads and stores have. -/
theorem last_at (c : Dev nD) (m : Mems) (d : Data F) (sl : ℕ) (hsl : d.sl = sl) (j : ℕ) (D : ℕ → Vec F S256x512 .f32) (n n' B : ℕ) (hB : B < 32) (hn : j + n = B) (hn' : n' = n + 1)
    (ms mp os op : Memref sig .tc .vmem S512x512 .f32)
    (pf : Vec F S512x512 .f32 → Vec F S1x1x512 .f32 → FVec F S512x512 .f32) (hpf : pf = pfAt j B)
    (oq : OQ) (or : OR) (od : OD) (oc : OC)
    (hq : oq.1 = ![sl % 2, 512 * B, 0]) (hr : or.1 = ![0, 0, 512 * B]) (hd : od.1 = ![sl % 2, 0, 512 * B]) (hc : oc.1 = ![0, 512 * B]) (Q : PUnit → sProp 𝕄) :
    mid c m d j D n ms mp os op
      ⊢ iprop((done_ c m d j D n' ms mp os op -∗ Q ⟨⟩) -∗
          runs c (updP m.mq m.md m.ml m.mr m.mc m.mg m.mv ms mp pf d.kt oq or od oc) Q) := by
  subst hsl hn' hn
  exact last_runs c m d j D n (by omega) ms mp os op pf hpf oq or od oc
    (oq_of hq (by omega) (by omega)) (or_of hr (by omega) (by omega))
    (od_of hd (by omega) (by omega)) (oc_of hc (by omega) (by omega)) Q

/-- The two pairs of buffers change places. -/
theorem done_swap (c : Dev nD) (m : Mems) (d : Data F) (j : ℕ) (D : ℕ → Vec F S256x512 .f32) (n : ℕ) (ms mp os op : Memref sig .tc .vmem S512x512 .f32) :
    done_ c m d j D n ms mp os op ⊢ done_ c m d j D n os op ms mp := by
  unfold done_
  iintro ⟨Hr, Hg, Ha, Hb, Hc, Hd⟩
  isplitl [Hr]; iexact Hr
  isplitl [Hg]; iexact Hg
  isplitl [Hc]; iexact Hc
  isplitl [Hd]; iexact Hd
  isplitl [Ha]; iexact Ha
  iexact Hb

/-- The scores of the diagonal block go into the first pair of buffers. -/
theorem first_at (c : Dev nD) (m : Mems) (d : Data F) (sl : ℕ) (hsl : d.sl = sl) (j : ℕ) (D : ℕ → Vec F S256x512 .f32) (hj : j < 32)
    (ms mp os op : Memref sig .tc .vmem S512x512 .f32) (oq : OQ) (od : OD) (hq : oq.1 = ![sl % 2, 512 * j, 0]) (hd : od.1 = ![sl % 2, 0, 512 * j]) (Q : PUnit → sProp 𝕄) :
    done_ c m d j D 0 ms mp os op
      ⊢ iprop((mid c m d j D 0 ms mp os op -∗ Q ⟨⟩) -∗ runs c (scoreP m.mq m.md ms mp d.k d.v oq od) Q) := by
  subst hsl
  unfold done_ mid
  iintro ⟨Hr, Hg, Ha, Hb, Hc, Hd⟩ K
  iapply (scoreP_runs c m d ms mp (j + 0) oq od (oq_of hq hj rfl) (od_of hd hj rfl)) $$ [Hr Ha Hb]
  · isplitl [Hr]; iexact Hr
    isplitl [Ha]; iexact Ha
    iexact Hb
  iintro ⟨Hr, Ha, Hb⟩
  iapply K
  isplitl [Hr]; iexact Hr
  isplitl [Hg]; iexact Hg
  isplitl [Ha]; iexact Ha
  isplitl [Hb]; iexact Hb
  isplitl [Hc]; iexact Hc
  iexact Hd

/-- A loop that never runs. -/
theorem runs_for0 (c : Dev nD) {w : ℕ} (lb ub st : BitVec w) (ok : Scf.OK lb ub st)
    (body : Fin (Scf.trips lb ub st) → PUnit → Prog (TpuEff nD τ sig (Elt F) Λ₀ .tc) PUnit) (h : Scf.trips lb ub st = 0) (Q : PUnit → sProp 𝕄) :
    Q ⟨⟩ ⊢ runs c (Scf.for lb ub st ok ⟨⟩ body) Q := by
  iintro H
  iapply (Scf.wp_for frame (wpE (defs₀ (F := F)) Variants.none (c : Thread nD τ) none) Set.univ lb ub st ok ⟨⟩ body (fun _ _ => Q ⟨⟩) (fun k _ => (Fin.cast h k).elim0))
  isplitl [H]
  · iexact H
  · iintro %acc H
    iexact H

/-- A loop that carries nothing, by an invariant of the number of trips. -/
theorem runs_for (c : Dev nD) {w : ℕ} (lb ub st : BitVec w) (ok : Scf.OK lb ub st)
    (body : Fin (Scf.trips lb ub st) → PUnit → Prog (TpuEff nD τ sig (Elt F) Λ₀ .tc) PUnit) (I : ℕ → sProp 𝕄)
    (hbody : ∀ (k : Fin (Scf.trips lb ub st)) (Q : PUnit → sProp 𝕄), I k.val ⊢ iprop((I (k.val + 1) -∗ Q ⟨⟩) -∗ runs c (body k ⟨⟩) Q)) (Q : PUnit → sProp 𝕄) :
    I 0 ⊢ iprop((I (Scf.trips lb ub st) -∗ Q ⟨⟩) -∗ runs c (Scf.for lb ub st ok ⟨⟩ body) Q) := by
  have hb : ∀ (k : Fin (Scf.trips lb ub st)) (acc : PUnit), I k.val ⊢ wp frame (wpE (defs₀ (F := F)) Variants.none (c : Thread nD τ) none) Set.univ (body k acc) (fun _ => I (k.val + 1)) := fun k acc => by
    iintro H
    iapply (hbody k (fun _ => I (k.val + 1))) $$ H
    iintro H
    iexact H
  iintro H K
  iapply (Scf.wp_for frame (wpE (defs₀ (F := F)) Variants.none (c : Thread nD τ) none) Set.univ lb ub st ok ⟨⟩ body (fun n _ => I n) hb)
  isplitl [H]
  · iexact H
  · iintro %acc H
    iapply K $$ H

/-- 16 steps. -/
theorem grp1_runs (c : Dev nD) (m : Mems) (d : Data F) (i : grid0.Coords) (D : ℕ → Vec F S256x512 .f32) (a14 a15 a16 a17 : Memref sig .tc .vmem S512x512 .f32)
    (hsl : d.sl = hd i) (t : Fin (k0_t1_loop i).trips) (Q : PUnit → sProp 𝕄) :
    mid c m d (kb i) D (1 + 16 * t.val) a15 a17 a14 a16
      ⊢ iprop((mid c m d (kb i) D (1 + 16 * (t.val + 1)) a15 a17 a14 a16 -∗ Q ⟨⟩) -∗
        runs c (grp1 m.ml m.mr m.mc m.mg m.mv a14 a15 a16 a17 m.mq m.md d.k d.v d.kt i t) Q) := by
  have ht := lt_of_lt_of_eq t.isLt (trips1_eq i)
  have h1 : kb i + 1 + 16 * t.val + 16 < 32 := by (try simp only [nb7, nb5, nb3]); omega
  have h2 : kb i + 1 ≤ kb i + 1 := by (try simp only [nb7, nb5, nb3]); omega
  have u0 : ((0 : Fin 16)).val = 0 := rfl
  have u1 : ((1 : Fin 16)).val = 1 := rfl
  have u2 : ((2 : Fin 16)).val = 2 := rfl
  have u3 : ((3 : Fin 16)).val = 3 := rfl
  have u4 : ((4 : Fin 16)).val = 4 := rfl
  have u5 : ((5 : Fin 16)).val = 5 := rfl
  have u6 : ((6 : Fin 16)).val = 6 := rfl
  have u7 : ((7 : Fin 16)).val = 7 := rfl
  have u8 : ((8 : Fin 16)).val = 8 := rfl
  have u9 : ((9 : Fin 16)).val = 9 := rfl
  have u10 : ((10 : Fin 16)).val = 10 := rfl
  have u11 : ((11 : Fin 16)).val = 11 := rfl
  have u12 : ((12 : Fin 16)).val = 12 := rfl
  have u13 : ((13 : Fin 16)).val = 13 := rfl
  have u14 : ((14 : Fin 16)).val = 14 := rfl
  have u15 : ((15 : Fin 16)).val = 15 := rfl
  unfold grp1 runs
  simp only [wp_bind]
  iintro H K
  iapply (step_at c m d (hd i) hsl (kb i) D (1 + 16 * t.val) (1 + 16 * t.val + 1) (kb i + 1 + 16 * t.val + (0 : Fin 16).val) ((kb i + 1 + 16 * t.val + (0 : Fin 16).val) + 1) (by omega) rfl (by omega) (by omega) a15 a17 a14 a16 k0_pay5 (pf_of (by omega)) ⟨k0_off19 i t 0#32, k0_off19_inb i t 0⟩ ⟨k0_off20 i t 0#32, k0_off20_inb i t 0⟩ ⟨k0_off21 i t 0#32, k0_off21_inb i t 0⟩ ⟨k0_off22 i t 0#32, k0_off22_inb i t 0⟩ ⟨k0_off23 i t 0#32, k0_off23_inb i t 0⟩ ⟨k0_off24 i t 0#32, k0_off24_inb i t 0⟩ (off19_eq i t 0) (off20_eq i t 0) (off21_eq i t 0) (off22_eq i t 0) (off23_eq i t 0) (off24_eq i t 0)) $$ H
  iintro H
  iapply (step_at c m d (hd i) hsl (kb i) D (1 + 16 * t.val + 1) (1 + 16 * t.val + 2) (kb i + 1 + 16 * t.val + (1 : Fin 16).val) ((kb i + 1 + 16 * t.val + (1 : Fin 16).val) + 1) (by omega) rfl (by omega) (by omega) a14 a16 a15 a17 k0_pay5 (pf_of (by omega)) ⟨k0_off19 i t 1#32, k0_off19_inb i t 1⟩ ⟨k0_off20 i t 1#32, k0_off20_inb i t 1⟩ ⟨k0_off21 i t 1#32, k0_off21_inb i t 1⟩ ⟨k0_off22 i t 1#32, k0_off22_inb i t 1⟩ ⟨k0_off23 i t 1#32, k0_off23_inb i t 1⟩ ⟨k0_off24 i t 1#32, k0_off24_inb i t 1⟩ (off19_eq i t 1) (off20_eq i t 1) (off21_eq i t 1) (off22_eq i t 1) (off23_eq i t 1) (off24_eq i t 1)) $$ H
  iintro H
  iapply (step_at c m d (hd i) hsl (kb i) D (1 + 16 * t.val + 2) (1 + 16 * t.val + 3) (kb i + 1 + 16 * t.val + (2 : Fin 16).val) ((kb i + 1 + 16 * t.val + (2 : Fin 16).val) + 1) (by omega) rfl (by omega) (by omega) a15 a17 a14 a16 k0_pay5 (pf_of (by omega)) ⟨k0_off19 i t 2#32, k0_off19_inb i t 2⟩ ⟨k0_off20 i t 2#32, k0_off20_inb i t 2⟩ ⟨k0_off21 i t 2#32, k0_off21_inb i t 2⟩ ⟨k0_off22 i t 2#32, k0_off22_inb i t 2⟩ ⟨k0_off23 i t 2#32, k0_off23_inb i t 2⟩ ⟨k0_off24 i t 2#32, k0_off24_inb i t 2⟩ (off19_eq i t 2) (off20_eq i t 2) (off21_eq i t 2) (off22_eq i t 2) (off23_eq i t 2) (off24_eq i t 2)) $$ H
  iintro H
  iapply (step_at c m d (hd i) hsl (kb i) D (1 + 16 * t.val + 3) (1 + 16 * t.val + 4) (kb i + 1 + 16 * t.val + (3 : Fin 16).val) ((kb i + 1 + 16 * t.val + (3 : Fin 16).val) + 1) (by omega) rfl (by omega) (by omega) a14 a16 a15 a17 k0_pay5 (pf_of (by omega)) ⟨k0_off19 i t 3#32, k0_off19_inb i t 3⟩ ⟨k0_off20 i t 3#32, k0_off20_inb i t 3⟩ ⟨k0_off21 i t 3#32, k0_off21_inb i t 3⟩ ⟨k0_off22 i t 3#32, k0_off22_inb i t 3⟩ ⟨k0_off23 i t 3#32, k0_off23_inb i t 3⟩ ⟨k0_off24 i t 3#32, k0_off24_inb i t 3⟩ (off19_eq i t 3) (off20_eq i t 3) (off21_eq i t 3) (off22_eq i t 3) (off23_eq i t 3) (off24_eq i t 3)) $$ H
  iintro H
  iapply (step_at c m d (hd i) hsl (kb i) D (1 + 16 * t.val + 4) (1 + 16 * t.val + 5) (kb i + 1 + 16 * t.val + (4 : Fin 16).val) ((kb i + 1 + 16 * t.val + (4 : Fin 16).val) + 1) (by omega) rfl (by omega) (by omega) a15 a17 a14 a16 k0_pay5 (pf_of (by omega)) ⟨k0_off19 i t 4#32, k0_off19_inb i t 4⟩ ⟨k0_off20 i t 4#32, k0_off20_inb i t 4⟩ ⟨k0_off21 i t 4#32, k0_off21_inb i t 4⟩ ⟨k0_off22 i t 4#32, k0_off22_inb i t 4⟩ ⟨k0_off23 i t 4#32, k0_off23_inb i t 4⟩ ⟨k0_off24 i t 4#32, k0_off24_inb i t 4⟩ (off19_eq i t 4) (off20_eq i t 4) (off21_eq i t 4) (off22_eq i t 4) (off23_eq i t 4) (off24_eq i t 4)) $$ H
  iintro H
  iapply (step_at c m d (hd i) hsl (kb i) D (1 + 16 * t.val + 5) (1 + 16 * t.val + 6) (kb i + 1 + 16 * t.val + (5 : Fin 16).val) ((kb i + 1 + 16 * t.val + (5 : Fin 16).val) + 1) (by omega) rfl (by omega) (by omega) a14 a16 a15 a17 k0_pay5 (pf_of (by omega)) ⟨k0_off19 i t 5#32, k0_off19_inb i t 5⟩ ⟨k0_off20 i t 5#32, k0_off20_inb i t 5⟩ ⟨k0_off21 i t 5#32, k0_off21_inb i t 5⟩ ⟨k0_off22 i t 5#32, k0_off22_inb i t 5⟩ ⟨k0_off23 i t 5#32, k0_off23_inb i t 5⟩ ⟨k0_off24 i t 5#32, k0_off24_inb i t 5⟩ (off19_eq i t 5) (off20_eq i t 5) (off21_eq i t 5) (off22_eq i t 5) (off23_eq i t 5) (off24_eq i t 5)) $$ H
  iintro H
  iapply (step_at c m d (hd i) hsl (kb i) D (1 + 16 * t.val + 6) (1 + 16 * t.val + 7) (kb i + 1 + 16 * t.val + (6 : Fin 16).val) ((kb i + 1 + 16 * t.val + (6 : Fin 16).val) + 1) (by omega) rfl (by omega) (by omega) a15 a17 a14 a16 k0_pay5 (pf_of (by omega)) ⟨k0_off19 i t 6#32, k0_off19_inb i t 6⟩ ⟨k0_off20 i t 6#32, k0_off20_inb i t 6⟩ ⟨k0_off21 i t 6#32, k0_off21_inb i t 6⟩ ⟨k0_off22 i t 6#32, k0_off22_inb i t 6⟩ ⟨k0_off23 i t 6#32, k0_off23_inb i t 6⟩ ⟨k0_off24 i t 6#32, k0_off24_inb i t 6⟩ (off19_eq i t 6) (off20_eq i t 6) (off21_eq i t 6) (off22_eq i t 6) (off23_eq i t 6) (off24_eq i t 6)) $$ H
  iintro H
  iapply (step_at c m d (hd i) hsl (kb i) D (1 + 16 * t.val + 7) (1 + 16 * t.val + 8) (kb i + 1 + 16 * t.val + (7 : Fin 16).val) ((kb i + 1 + 16 * t.val + (7 : Fin 16).val) + 1) (by omega) rfl (by omega) (by omega) a14 a16 a15 a17 k0_pay5 (pf_of (by omega)) ⟨k0_off19 i t 7#32, k0_off19_inb i t 7⟩ ⟨k0_off20 i t 7#32, k0_off20_inb i t 7⟩ ⟨k0_off21 i t 7#32, k0_off21_inb i t 7⟩ ⟨k0_off22 i t 7#32, k0_off22_inb i t 7⟩ ⟨k0_off23 i t 7#32, k0_off23_inb i t 7⟩ ⟨k0_off24 i t 7#32, k0_off24_inb i t 7⟩ (off19_eq i t 7) (off20_eq i t 7) (off21_eq i t 7) (off22_eq i t 7) (off23_eq i t 7) (off24_eq i t 7)) $$ H
  iintro H
  iapply (step_at c m d (hd i) hsl (kb i) D (1 + 16 * t.val + 8) (1 + 16 * t.val + 9) (kb i + 1 + 16 * t.val + (8 : Fin 16).val) ((kb i + 1 + 16 * t.val + (8 : Fin 16).val) + 1) (by omega) rfl (by omega) (by omega) a15 a17 a14 a16 k0_pay5 (pf_of (by omega)) ⟨k0_off19 i t 8#32, k0_off19_inb i t 8⟩ ⟨k0_off20 i t 8#32, k0_off20_inb i t 8⟩ ⟨k0_off21 i t 8#32, k0_off21_inb i t 8⟩ ⟨k0_off22 i t 8#32, k0_off22_inb i t 8⟩ ⟨k0_off23 i t 8#32, k0_off23_inb i t 8⟩ ⟨k0_off24 i t 8#32, k0_off24_inb i t 8⟩ (off19_eq i t 8) (off20_eq i t 8) (off21_eq i t 8) (off22_eq i t 8) (off23_eq i t 8) (off24_eq i t 8)) $$ H
  iintro H
  iapply (step_at c m d (hd i) hsl (kb i) D (1 + 16 * t.val + 9) (1 + 16 * t.val + 10) (kb i + 1 + 16 * t.val + (9 : Fin 16).val) ((kb i + 1 + 16 * t.val + (9 : Fin 16).val) + 1) (by omega) rfl (by omega) (by omega) a14 a16 a15 a17 k0_pay5 (pf_of (by omega)) ⟨k0_off19 i t 9#32, k0_off19_inb i t 9⟩ ⟨k0_off20 i t 9#32, k0_off20_inb i t 9⟩ ⟨k0_off21 i t 9#32, k0_off21_inb i t 9⟩ ⟨k0_off22 i t 9#32, k0_off22_inb i t 9⟩ ⟨k0_off23 i t 9#32, k0_off23_inb i t 9⟩ ⟨k0_off24 i t 9#32, k0_off24_inb i t 9⟩ (off19_eq i t 9) (off20_eq i t 9) (off21_eq i t 9) (off22_eq i t 9) (off23_eq i t 9) (off24_eq i t 9)) $$ H
  iintro H
  iapply (step_at c m d (hd i) hsl (kb i) D (1 + 16 * t.val + 10) (1 + 16 * t.val + 11) (kb i + 1 + 16 * t.val + (10 : Fin 16).val) ((kb i + 1 + 16 * t.val + (10 : Fin 16).val) + 1) (by omega) rfl (by omega) (by omega) a15 a17 a14 a16 k0_pay5 (pf_of (by omega)) ⟨k0_off19 i t 10#32, k0_off19_inb i t 10⟩ ⟨k0_off20 i t 10#32, k0_off20_inb i t 10⟩ ⟨k0_off21 i t 10#32, k0_off21_inb i t 10⟩ ⟨k0_off22 i t 10#32, k0_off22_inb i t 10⟩ ⟨k0_off23 i t 10#32, k0_off23_inb i t 10⟩ ⟨k0_off24 i t 10#32, k0_off24_inb i t 10⟩ (off19_eq i t 10) (off20_eq i t 10) (off21_eq i t 10) (off22_eq i t 10) (off23_eq i t 10) (off24_eq i t 10)) $$ H
  iintro H
  iapply (step_at c m d (hd i) hsl (kb i) D (1 + 16 * t.val + 11) (1 + 16 * t.val + 12) (kb i + 1 + 16 * t.val + (11 : Fin 16).val) ((kb i + 1 + 16 * t.val + (11 : Fin 16).val) + 1) (by omega) rfl (by omega) (by omega) a14 a16 a15 a17 k0_pay5 (pf_of (by omega)) ⟨k0_off19 i t 11#32, k0_off19_inb i t 11⟩ ⟨k0_off20 i t 11#32, k0_off20_inb i t 11⟩ ⟨k0_off21 i t 11#32, k0_off21_inb i t 11⟩ ⟨k0_off22 i t 11#32, k0_off22_inb i t 11⟩ ⟨k0_off23 i t 11#32, k0_off23_inb i t 11⟩ ⟨k0_off24 i t 11#32, k0_off24_inb i t 11⟩ (off19_eq i t 11) (off20_eq i t 11) (off21_eq i t 11) (off22_eq i t 11) (off23_eq i t 11) (off24_eq i t 11)) $$ H
  iintro H
  iapply (step_at c m d (hd i) hsl (kb i) D (1 + 16 * t.val + 12) (1 + 16 * t.val + 13) (kb i + 1 + 16 * t.val + (12 : Fin 16).val) ((kb i + 1 + 16 * t.val + (12 : Fin 16).val) + 1) (by omega) rfl (by omega) (by omega) a15 a17 a14 a16 k0_pay5 (pf_of (by omega)) ⟨k0_off19 i t 12#32, k0_off19_inb i t 12⟩ ⟨k0_off20 i t 12#32, k0_off20_inb i t 12⟩ ⟨k0_off21 i t 12#32, k0_off21_inb i t 12⟩ ⟨k0_off22 i t 12#32, k0_off22_inb i t 12⟩ ⟨k0_off23 i t 12#32, k0_off23_inb i t 12⟩ ⟨k0_off24 i t 12#32, k0_off24_inb i t 12⟩ (off19_eq i t 12) (off20_eq i t 12) (off21_eq i t 12) (off22_eq i t 12) (off23_eq i t 12) (off24_eq i t 12)) $$ H
  iintro H
  iapply (step_at c m d (hd i) hsl (kb i) D (1 + 16 * t.val + 13) (1 + 16 * t.val + 14) (kb i + 1 + 16 * t.val + (13 : Fin 16).val) ((kb i + 1 + 16 * t.val + (13 : Fin 16).val) + 1) (by omega) rfl (by omega) (by omega) a14 a16 a15 a17 k0_pay5 (pf_of (by omega)) ⟨k0_off19 i t 13#32, k0_off19_inb i t 13⟩ ⟨k0_off20 i t 13#32, k0_off20_inb i t 13⟩ ⟨k0_off21 i t 13#32, k0_off21_inb i t 13⟩ ⟨k0_off22 i t 13#32, k0_off22_inb i t 13⟩ ⟨k0_off23 i t 13#32, k0_off23_inb i t 13⟩ ⟨k0_off24 i t 13#32, k0_off24_inb i t 13⟩ (off19_eq i t 13) (off20_eq i t 13) (off21_eq i t 13) (off22_eq i t 13) (off23_eq i t 13) (off24_eq i t 13)) $$ H
  iintro H
  iapply (step_at c m d (hd i) hsl (kb i) D (1 + 16 * t.val + 14) (1 + 16 * t.val + 15) (kb i + 1 + 16 * t.val + (14 : Fin 16).val) ((kb i + 1 + 16 * t.val + (14 : Fin 16).val) + 1) (by omega) rfl (by omega) (by omega) a15 a17 a14 a16 k0_pay5 (pf_of (by omega)) ⟨k0_off19 i t 14#32, k0_off19_inb i t 14⟩ ⟨k0_off20 i t 14#32, k0_off20_inb i t 14⟩ ⟨k0_off21 i t 14#32, k0_off21_inb i t 14⟩ ⟨k0_off22 i t 14#32, k0_off22_inb i t 14⟩ ⟨k0_off23 i t 14#32, k0_off23_inb i t 14⟩ ⟨k0_off24 i t 14#32, k0_off24_inb i t 14⟩ (off19_eq i t 14) (off20_eq i t 14) (off21_eq i t 14) (off22_eq i t 14) (off23_eq i t 14) (off24_eq i t 14)) $$ H
  iintro H
  iapply (step_at c m d (hd i) hsl (kb i) D (1 + 16 * t.val + 15) (1 + 16 * (t.val + 1)) (kb i + 1 + 16 * t.val + (15 : Fin 16).val) ((kb i + 1 + 16 * t.val + (15 : Fin 16).val) + 1) (by omega) rfl (by omega) (by omega) a14 a16 a15 a17 k0_pay5 (pf_of (by omega)) ⟨k0_off19 i t 15#32, k0_off19_inb i t 15⟩ ⟨k0_off20 i t 15#32, k0_off20_inb i t 15⟩ ⟨k0_off21 i t 15#32, k0_off21_inb i t 15⟩ ⟨k0_off22 i t 15#32, k0_off22_inb i t 15⟩ ⟨k0_off23 i t 15#32, k0_off23_inb i t 15⟩ ⟨k0_off24 i t 15#32, k0_off24_inb i t 15⟩ (off19_eq i t 15) (off20_eq i t 15) (off21_eq i t 15) (off22_eq i t 15) (off23_eq i t 15) (off24_eq i t 15)) $$ H
  iintro H
  rw [wp_pure]
  imodintro
  iapply K $$ H

/-- 8 steps. -/
theorem grp3_runs (c : Dev nD) (m : Mems) (d : Data F) (i : grid0.Coords) (D : ℕ → Vec F S256x512 .f32) (a14 a15 a16 a17 : Memref sig .tc .vmem S512x512 .f32)
    (hsl : d.sl = hd i) (t : Fin (k0_t3_loop i).trips) (Q : PUnit → sProp 𝕄) :
    mid c m d (kb i) D ((nb3 (kb i) - kb i) + 8 * t.val) a15 a17 a14 a16
      ⊢ iprop((mid c m d (kb i) D ((nb3 (kb i) - kb i) + 8 * (t.val + 1)) a15 a17 a14 a16 -∗ Q ⟨⟩) -∗
        runs c (grp3 m.ml m.mr m.mc m.mg m.mv a14 a15 a16 a17 m.mq m.md d.k d.v d.kt i t) Q) := by
  have ht := lt_of_lt_of_eq t.isLt (trips3_eq i)
  have h1 : nb3 (kb i) + 8 * t.val + 8 < 32 := by (try simp only [nb7, nb5, nb3]); omega
  have h2 : kb i + 1 ≤ nb3 (kb i) := by (try simp only [nb7, nb5, nb3]); omega
  have u0 : ((0 : Fin 8)).val = 0 := rfl
  have u1 : ((1 : Fin 8)).val = 1 := rfl
  have u2 : ((2 : Fin 8)).val = 2 := rfl
  have u3 : ((3 : Fin 8)).val = 3 := rfl
  have u4 : ((4 : Fin 8)).val = 4 := rfl
  have u5 : ((5 : Fin 8)).val = 5 := rfl
  have u6 : ((6 : Fin 8)).val = 6 := rfl
  have u7 : ((7 : Fin 8)).val = 7 := rfl
  unfold grp3 runs
  simp only [wp_bind]
  iintro H K
  iapply (step_at c m d (hd i) hsl (kb i) D ((nb3 (kb i) - kb i) + 8 * t.val) ((nb3 (kb i) - kb i) + 8 * t.val + 1) (nb3 (kb i) + 8 * t.val + (0 : Fin 8).val) ((nb3 (kb i) + 8 * t.val + (0 : Fin 8).val) + 1) (by omega) rfl (by omega) (by omega) a15 a17 a14 a16 k0_pay5 (pf_of (by omega)) ⟨k0_off31 i t 0#32, k0_off31_inb i t 0⟩ ⟨k0_off32 i t 0#32, k0_off32_inb i t 0⟩ ⟨k0_off33 i t 0#32, k0_off33_inb i t 0⟩ ⟨k0_off34 i t 0#32, k0_off34_inb i t 0⟩ ⟨k0_off35 i t 0#32, k0_off35_inb i t 0⟩ ⟨k0_off36 i t 0#32, k0_off36_inb i t 0⟩ (off31_eq i t 0) (off32_eq i t 0) (off33_eq i t 0) (off34_eq i t 0) (off35_eq i t 0) (off36_eq i t 0)) $$ H
  iintro H
  iapply (step_at c m d (hd i) hsl (kb i) D ((nb3 (kb i) - kb i) + 8 * t.val + 1) ((nb3 (kb i) - kb i) + 8 * t.val + 2) (nb3 (kb i) + 8 * t.val + (1 : Fin 8).val) ((nb3 (kb i) + 8 * t.val + (1 : Fin 8).val) + 1) (by omega) rfl (by omega) (by omega) a14 a16 a15 a17 k0_pay5 (pf_of (by omega)) ⟨k0_off31 i t 1#32, k0_off31_inb i t 1⟩ ⟨k0_off32 i t 1#32, k0_off32_inb i t 1⟩ ⟨k0_off33 i t 1#32, k0_off33_inb i t 1⟩ ⟨k0_off34 i t 1#32, k0_off34_inb i t 1⟩ ⟨k0_off35 i t 1#32, k0_off35_inb i t 1⟩ ⟨k0_off36 i t 1#32, k0_off36_inb i t 1⟩ (off31_eq i t 1) (off32_eq i t 1) (off33_eq i t 1) (off34_eq i t 1) (off35_eq i t 1) (off36_eq i t 1)) $$ H
  iintro H
  iapply (step_at c m d (hd i) hsl (kb i) D ((nb3 (kb i) - kb i) + 8 * t.val + 2) ((nb3 (kb i) - kb i) + 8 * t.val + 3) (nb3 (kb i) + 8 * t.val + (2 : Fin 8).val) ((nb3 (kb i) + 8 * t.val + (2 : Fin 8).val) + 1) (by omega) rfl (by omega) (by omega) a15 a17 a14 a16 k0_pay5 (pf_of (by omega)) ⟨k0_off31 i t 2#32, k0_off31_inb i t 2⟩ ⟨k0_off32 i t 2#32, k0_off32_inb i t 2⟩ ⟨k0_off33 i t 2#32, k0_off33_inb i t 2⟩ ⟨k0_off34 i t 2#32, k0_off34_inb i t 2⟩ ⟨k0_off35 i t 2#32, k0_off35_inb i t 2⟩ ⟨k0_off36 i t 2#32, k0_off36_inb i t 2⟩ (off31_eq i t 2) (off32_eq i t 2) (off33_eq i t 2) (off34_eq i t 2) (off35_eq i t 2) (off36_eq i t 2)) $$ H
  iintro H
  iapply (step_at c m d (hd i) hsl (kb i) D ((nb3 (kb i) - kb i) + 8 * t.val + 3) ((nb3 (kb i) - kb i) + 8 * t.val + 4) (nb3 (kb i) + 8 * t.val + (3 : Fin 8).val) ((nb3 (kb i) + 8 * t.val + (3 : Fin 8).val) + 1) (by omega) rfl (by omega) (by omega) a14 a16 a15 a17 k0_pay5 (pf_of (by omega)) ⟨k0_off31 i t 3#32, k0_off31_inb i t 3⟩ ⟨k0_off32 i t 3#32, k0_off32_inb i t 3⟩ ⟨k0_off33 i t 3#32, k0_off33_inb i t 3⟩ ⟨k0_off34 i t 3#32, k0_off34_inb i t 3⟩ ⟨k0_off35 i t 3#32, k0_off35_inb i t 3⟩ ⟨k0_off36 i t 3#32, k0_off36_inb i t 3⟩ (off31_eq i t 3) (off32_eq i t 3) (off33_eq i t 3) (off34_eq i t 3) (off35_eq i t 3) (off36_eq i t 3)) $$ H
  iintro H
  iapply (step_at c m d (hd i) hsl (kb i) D ((nb3 (kb i) - kb i) + 8 * t.val + 4) ((nb3 (kb i) - kb i) + 8 * t.val + 5) (nb3 (kb i) + 8 * t.val + (4 : Fin 8).val) ((nb3 (kb i) + 8 * t.val + (4 : Fin 8).val) + 1) (by omega) rfl (by omega) (by omega) a15 a17 a14 a16 k0_pay5 (pf_of (by omega)) ⟨k0_off31 i t 4#32, k0_off31_inb i t 4⟩ ⟨k0_off32 i t 4#32, k0_off32_inb i t 4⟩ ⟨k0_off33 i t 4#32, k0_off33_inb i t 4⟩ ⟨k0_off34 i t 4#32, k0_off34_inb i t 4⟩ ⟨k0_off35 i t 4#32, k0_off35_inb i t 4⟩ ⟨k0_off36 i t 4#32, k0_off36_inb i t 4⟩ (off31_eq i t 4) (off32_eq i t 4) (off33_eq i t 4) (off34_eq i t 4) (off35_eq i t 4) (off36_eq i t 4)) $$ H
  iintro H
  iapply (step_at c m d (hd i) hsl (kb i) D ((nb3 (kb i) - kb i) + 8 * t.val + 5) ((nb3 (kb i) - kb i) + 8 * t.val + 6) (nb3 (kb i) + 8 * t.val + (5 : Fin 8).val) ((nb3 (kb i) + 8 * t.val + (5 : Fin 8).val) + 1) (by omega) rfl (by omega) (by omega) a14 a16 a15 a17 k0_pay5 (pf_of (by omega)) ⟨k0_off31 i t 5#32, k0_off31_inb i t 5⟩ ⟨k0_off32 i t 5#32, k0_off32_inb i t 5⟩ ⟨k0_off33 i t 5#32, k0_off33_inb i t 5⟩ ⟨k0_off34 i t 5#32, k0_off34_inb i t 5⟩ ⟨k0_off35 i t 5#32, k0_off35_inb i t 5⟩ ⟨k0_off36 i t 5#32, k0_off36_inb i t 5⟩ (off31_eq i t 5) (off32_eq i t 5) (off33_eq i t 5) (off34_eq i t 5) (off35_eq i t 5) (off36_eq i t 5)) $$ H
  iintro H
  iapply (step_at c m d (hd i) hsl (kb i) D ((nb3 (kb i) - kb i) + 8 * t.val + 6) ((nb3 (kb i) - kb i) + 8 * t.val + 7) (nb3 (kb i) + 8 * t.val + (6 : Fin 8).val) ((nb3 (kb i) + 8 * t.val + (6 : Fin 8).val) + 1) (by omega) rfl (by omega) (by omega) a15 a17 a14 a16 k0_pay5 (pf_of (by omega)) ⟨k0_off31 i t 6#32, k0_off31_inb i t 6⟩ ⟨k0_off32 i t 6#32, k0_off32_inb i t 6⟩ ⟨k0_off33 i t 6#32, k0_off33_inb i t 6⟩ ⟨k0_off34 i t 6#32, k0_off34_inb i t 6⟩ ⟨k0_off35 i t 6#32, k0_off35_inb i t 6⟩ ⟨k0_off36 i t 6#32, k0_off36_inb i t 6⟩ (off31_eq i t 6) (off32_eq i t 6) (off33_eq i t 6) (off34_eq i t 6) (off35_eq i t 6) (off36_eq i t 6)) $$ H
  iintro H
  iapply (step_at c m d (hd i) hsl (kb i) D ((nb3 (kb i) - kb i) + 8 * t.val + 7) ((nb3 (kb i) - kb i) + 8 * (t.val + 1)) (nb3 (kb i) + 8 * t.val + (7 : Fin 8).val) ((nb3 (kb i) + 8 * t.val + (7 : Fin 8).val) + 1) (by omega) rfl (by omega) (by omega) a14 a16 a15 a17 k0_pay5 (pf_of (by omega)) ⟨k0_off31 i t 7#32, k0_off31_inb i t 7⟩ ⟨k0_off32 i t 7#32, k0_off32_inb i t 7⟩ ⟨k0_off33 i t 7#32, k0_off33_inb i t 7⟩ ⟨k0_off34 i t 7#32, k0_off34_inb i t 7⟩ ⟨k0_off35 i t 7#32, k0_off35_inb i t 7⟩ ⟨k0_off36 i t 7#32, k0_off36_inb i t 7⟩ (off31_eq i t 7) (off32_eq i t 7) (off33_eq i t 7) (off34_eq i t 7) (off35_eq i t 7) (off36_eq i t 7)) $$ H
  iintro H
  rw [wp_pure]
  imodintro
  iapply K $$ H

/-- 4 steps. -/
theorem grp5_runs (c : Dev nD) (m : Mems) (d : Data F) (i : grid0.Coords) (D : ℕ → Vec F S256x512 .f32) (a14 a15 a16 a17 : Memref sig .tc .vmem S512x512 .f32)
    (hsl : d.sl = hd i) (t : Fin (k0_t5_loop i).trips) (Q : PUnit → sProp 𝕄) :
    mid c m d (kb i) D ((nb5 (kb i) - kb i) + 4 * t.val) a15 a17 a14 a16
      ⊢ iprop((mid c m d (kb i) D ((nb5 (kb i) - kb i) + 4 * (t.val + 1)) a15 a17 a14 a16 -∗ Q ⟨⟩) -∗
        runs c (grp5 m.ml m.mr m.mc m.mg m.mv a14 a15 a16 a17 m.mq m.md d.k d.v d.kt i t) Q) := by
  have ht := lt_of_lt_of_eq t.isLt (trips5_eq i)
  have h1 : nb5 (kb i) + 4 * t.val + 4 < 32 := by (try simp only [nb7, nb5, nb3]); omega
  have h2 : kb i + 1 ≤ nb5 (kb i) := by (try simp only [nb7, nb5, nb3]); omega
  have u0 : ((0 : Fin 4)).val = 0 := rfl
  have u1 : ((1 : Fin 4)).val = 1 := rfl
  have u2 : ((2 : Fin 4)).val = 2 := rfl
  have u3 : ((3 : Fin 4)).val = 3 := rfl
  unfold grp5 runs
  simp only [wp_bind]
  iintro H K
  iapply (step_at c m d (hd i) hsl (kb i) D ((nb5 (kb i) - kb i) + 4 * t.val) ((nb5 (kb i) - kb i) + 4 * t.val + 1) (nb5 (kb i) + 4 * t.val + (0 : Fin 4).val) ((nb5 (kb i) + 4 * t.val + (0 : Fin 4).val) + 1) (by omega) rfl (by omega) (by omega) a15 a17 a14 a16 k0_pay5 (pf_of (by omega)) ⟨k0_off43 i t 0#32, k0_off43_inb i t 0⟩ ⟨k0_off44 i t 0#32, k0_off44_inb i t 0⟩ ⟨k0_off45 i t 0#32, k0_off45_inb i t 0⟩ ⟨k0_off46 i t 0#32, k0_off46_inb i t 0⟩ ⟨k0_off47 i t 0#32, k0_off47_inb i t 0⟩ ⟨k0_off48 i t 0#32, k0_off48_inb i t 0⟩ (off43_eq i t 0) (off44_eq i t 0) (off45_eq i t 0) (off46_eq i t 0) (off47_eq i t 0) (off48_eq i t 0)) $$ H
  iintro H
  iapply (step_at c m d (hd i) hsl (kb i) D ((nb5 (kb i) - kb i) + 4 * t.val + 1) ((nb5 (kb i) - kb i) + 4 * t.val + 2) (nb5 (kb i) + 4 * t.val + (1 : Fin 4).val) ((nb5 (kb i) + 4 * t.val + (1 : Fin 4).val) + 1) (by omega) rfl (by omega) (by omega) a14 a16 a15 a17 k0_pay5 (pf_of (by omega)) ⟨k0_off43 i t 1#32, k0_off43_inb i t 1⟩ ⟨k0_off44 i t 1#32, k0_off44_inb i t 1⟩ ⟨k0_off45 i t 1#32, k0_off45_inb i t 1⟩ ⟨k0_off46 i t 1#32, k0_off46_inb i t 1⟩ ⟨k0_off47 i t 1#32, k0_off47_inb i t 1⟩ ⟨k0_off48 i t 1#32, k0_off48_inb i t 1⟩ (off43_eq i t 1) (off44_eq i t 1) (off45_eq i t 1) (off46_eq i t 1) (off47_eq i t 1) (off48_eq i t 1)) $$ H
  iintro H
  iapply (step_at c m d (hd i) hsl (kb i) D ((nb5 (kb i) - kb i) + 4 * t.val + 2) ((nb5 (kb i) - kb i) + 4 * t.val + 3) (nb5 (kb i) + 4 * t.val + (2 : Fin 4).val) ((nb5 (kb i) + 4 * t.val + (2 : Fin 4).val) + 1) (by omega) rfl (by omega) (by omega) a15 a17 a14 a16 k0_pay5 (pf_of (by omega)) ⟨k0_off43 i t 2#32, k0_off43_inb i t 2⟩ ⟨k0_off44 i t 2#32, k0_off44_inb i t 2⟩ ⟨k0_off45 i t 2#32, k0_off45_inb i t 2⟩ ⟨k0_off46 i t 2#32, k0_off46_inb i t 2⟩ ⟨k0_off47 i t 2#32, k0_off47_inb i t 2⟩ ⟨k0_off48 i t 2#32, k0_off48_inb i t 2⟩ (off43_eq i t 2) (off44_eq i t 2) (off45_eq i t 2) (off46_eq i t 2) (off47_eq i t 2) (off48_eq i t 2)) $$ H
  iintro H
  iapply (step_at c m d (hd i) hsl (kb i) D ((nb5 (kb i) - kb i) + 4 * t.val + 3) ((nb5 (kb i) - kb i) + 4 * (t.val + 1)) (nb5 (kb i) + 4 * t.val + (3 : Fin 4).val) ((nb5 (kb i) + 4 * t.val + (3 : Fin 4).val) + 1) (by omega) rfl (by omega) (by omega) a14 a16 a15 a17 k0_pay5 (pf_of (by omega)) ⟨k0_off43 i t 3#32, k0_off43_inb i t 3⟩ ⟨k0_off44 i t 3#32, k0_off44_inb i t 3⟩ ⟨k0_off45 i t 3#32, k0_off45_inb i t 3⟩ ⟨k0_off46 i t 3#32, k0_off46_inb i t 3⟩ ⟨k0_off47 i t 3#32, k0_off47_inb i t 3⟩ ⟨k0_off48 i t 3#32, k0_off48_inb i t 3⟩ (off43_eq i t 3) (off44_eq i t 3) (off45_eq i t 3) (off46_eq i t 3) (off47_eq i t 3) (off48_eq i t 3)) $$ H
  iintro H
  rw [wp_pure]
  imodintro
  iapply K $$ H

/-- 2 steps. -/
theorem grp7_runs (c : Dev nD) (m : Mems) (d : Data F) (i : grid0.Coords) (D : ℕ → Vec F S256x512 .f32) (a14 a15 a16 a17 : Memref sig .tc .vmem S512x512 .f32)
    (hsl : d.sl = hd i) (t : Fin (k0_t7_loop i).trips) (Q : PUnit → sProp 𝕄) :
    mid c m d (kb i) D ((nb7 (kb i) - kb i) + 2 * t.val) a15 a17 a14 a16
      ⊢ iprop((mid c m d (kb i) D ((nb7 (kb i) - kb i) + 2 * (t.val + 1)) a15 a17 a14 a16 -∗ Q ⟨⟩) -∗
        runs c (grp7 m.ml m.mr m.mc m.mg m.mv a14 a15 a16 a17 m.mq m.md d.k d.v d.kt i t) Q) := by
  have ht := lt_of_lt_of_eq t.isLt (trips7_eq i)
  have h1 : nb7 (kb i) + 2 * t.val + 2 < 32 := by (try simp only [nb7, nb5, nb3]); omega
  have h2 : kb i + 1 ≤ nb7 (kb i) := by (try simp only [nb7, nb5, nb3]); omega
  have u0 : ((0 : Fin 2)).val = 0 := rfl
  have u1 : ((1 : Fin 2)).val = 1 := rfl
  unfold grp7 runs
  simp only [wp_bind]
  iintro H K
  iapply (step_at c m d (hd i) hsl (kb i) D ((nb7 (kb i) - kb i) + 2 * t.val) ((nb7 (kb i) - kb i) + 2 * t.val + 1) (nb7 (kb i) + 2 * t.val + (0 : Fin 2).val) ((nb7 (kb i) + 2 * t.val + (0 : Fin 2).val) + 1) (by omega) rfl (by omega) (by omega) a15 a17 a14 a16 k0_pay5 (pf_of (by omega)) ⟨k0_off55 i t 0#32, k0_off55_inb i t 0⟩ ⟨k0_off56 i t 0#32, k0_off56_inb i t 0⟩ ⟨k0_off57 i t 0#32, k0_off57_inb i t 0⟩ ⟨k0_off58 i t 0#32, k0_off58_inb i t 0⟩ ⟨k0_off59 i t 0#32, k0_off59_inb i t 0⟩ ⟨k0_off60 i t 0#32, k0_off60_inb i t 0⟩ (off55_eq i t 0) (off56_eq i t 0) (off57_eq i t 0) (off58_eq i t 0) (off59_eq i t 0) (off60_eq i t 0)) $$ H
  iintro H
  iapply (step_at c m d (hd i) hsl (kb i) D ((nb7 (kb i) - kb i) + 2 * t.val + 1) ((nb7 (kb i) - kb i) + 2 * (t.val + 1)) (nb7 (kb i) + 2 * t.val + (1 : Fin 2).val) ((nb7 (kb i) + 2 * t.val + (1 : Fin 2).val) + 1) (by omega) rfl (by omega) (by omega) a14 a16 a15 a17 k0_pay5 (pf_of (by omega)) ⟨k0_off55 i t 1#32, k0_off55_inb i t 1⟩ ⟨k0_off56 i t 1#32, k0_off56_inb i t 1⟩ ⟨k0_off57 i t 1#32, k0_off57_inb i t 1⟩ ⟨k0_off58 i t 1#32, k0_off58_inb i t 1⟩ ⟨k0_off59 i t 1#32, k0_off59_inb i t 1⟩ ⟨k0_off60 i t 1#32, k0_off60_inb i t 1⟩ (off55_eq i t 1) (off56_eq i t 1) (off57_eq i t 1) (off58_eq i t 1) (off59_eq i t 1) (off60_eq i t 1)) $$ H
  iintro H
  rw [wp_pure]
  imodintro
  iapply K $$ H

end Cert.KernelIdeal.Hand
-- ==== Proof.Ideal.Core.lean ====
/-
  All the query blocks of a key block: the diagonal one, the four loops of 16, 8, 4 and 2 steps, and the last one or two.
-/
module

public import proofs.«01_k».proof.Proof.Ideal.Groups

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

variable {arg2 : Memref sig .tc .hbm S16384x2048 .bf16} {harg2 : arg2.IsWhole} {arg3 : Memref sig .tc .vmem S512x256 .bf16} {harg3 : arg3.IsWhole} {arg4 : Memref sig .tc .vmem S512x128 .bf16} {harg4 : arg4.IsWhole} {arg5 : Memref sig .tc .hbm S1024x16384 .bf16} {harg5 : arg5.IsWhole} {arg6 : Memref sig .tc .vmem S1x1x16384 .f32} {harg6 : arg6.IsWhole} {arg7 : Memref sig .tc .vmem S1x1x16384 .f32} {harg7 : arg7.IsWhole} {arg8 : Memref sig .tc .vmem S512x256 .bf16} {harg8 : arg8.IsWhole} {arg9 : Memref sig .tc .vmem S512x128 .bf16} {harg9 : arg9.IsWhole} {arg10 : Memref sig .tc .hbm S8x16384x256 .bf16} {harg10 : arg10.IsWhole} {arg11 : Memref sig .tc .vmem S256x16384 .f32} {harg11 : arg11.IsWhole} {arg12 : Memref sig .tc .vmem S512x256 .f32} {harg12 : arg12.IsWhole} {arg13 : Memref sig .tc .vmem S128x512 .f32} {harg13 : arg13.IsWhole} {arg14 : Memref sig .tc .vmem S512x512 .f32} {harg14 : arg14.IsWhole} {arg15 : Memref sig .tc .vmem S512x512 .f32} {harg15 : arg15.IsWhole} {arg16 : Memref sig .tc .vmem S512x512 .f32} {harg16 : arg16.IsWhole} {arg17 : Memref sig .tc .vmem S512x512 .f32} {harg17 : arg17.IsWhole} {arg18 : DmaSems sig S_} {arg19 : Memref sig .tc .vmem S512x256 .bf16} {harg19 : arg19.IsWhole} {arg20 : Memref sig .tc .vmem S2x16384x256 .bf16} {harg20 : arg20.IsWhole} {arg21 : Memref sig .tc .vmem S2x128x16384 .bf16} {harg21 : arg21.IsWhole} {arg22 : DmaSems sig S2x2}

/-- The loop of 16 steps a trip. -/
theorem loop1_runs (c : Dev nD) (d : Data F) (i : grid0.Coords) (D : ℕ → Vec F S256x512 .f32) (hsl : d.sl = hd i) (hk : kb i < 31)
    (arg1 : BitVec 32) (v7 : BitVec 32) (v19 : BitVec 32) (v42 : BitVec 32) (v46 : FVec F S512x256 .bf16) (v66 : FVec F S512x512 .bf16) (v67 : Vec F S128x512 .f32) (v71 : FVec F S128x512 .bf16) (v72 : FVec F S512x512 .bf16) (v92 : BitVec 32) (Q : PUnit → sProp 𝕄) :
    mid c ⟨arg20, arg21, arg6, arg7, arg11, arg12, arg13⟩ d (kb i) D 1 arg15 arg17 arg14 arg16
      ⊢ iprop((mid c ⟨arg20, arg21, arg6, arg7, arg11, arg12, arg13⟩ d (kb i) D (nb3 (kb i) - kb i) arg15 arg17 arg14 arg16 -∗ Q ⟨⟩) -∗
        runs c (Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 d.k d.v d.kt v7 v19 v42 v46 v66 v67 v71 v72 v92)) Q) := by
  rw [t1_body_eq]
  have e0 : 1 = 1 + 16 * 0 := by omega
  have e1 : (nb3 (kb i) - kb i) = 1 + 16 * (k0_t1_loop i).trips := by rw [trips1_eq]; simp only [nb9, nb7, nb5, nb3]; omega
  rw [e1]
  conv_lhs => rw [e0]
  exact runs_for c _ _ _ _ _ (fun n => mid c ⟨arg20, arg21, arg6, arg7, arg11, arg12, arg13⟩ d (kb i) D (1 + 16 * n) arg15 arg17 arg14 arg16)
    (fun t Q => grp1_runs c ⟨arg20, arg21, arg6, arg7, arg11, arg12, arg13⟩ d i D arg14 arg15 arg16 arg17 hsl t Q) Q

/-- The loop after it never runs. -/
theorem loop2_runs (c : Dev nD) (d : Data F) (i : grid0.Coords) (arg1 : BitVec 32) (v7 : BitVec 32) (v19 : BitVec 32) (v42 : BitVec 32) (v46 : FVec F S512x256 .bf16) (v66 : FVec F S512x512 .bf16) (v67 : Vec F S128x512 .f32) (v71 : FVec F S128x512 .bf16) (v72 : FVec F S512x512 .bf16) (v92 : BitVec 32) (v101 : BitVec 32) (Q : PUnit → sProp 𝕄) :
    Q ⟨⟩ ⊢ runs c (Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 d.k d.v d.kt v7 v19 v42 v46 v66 v67 v71 v72 v92 v101)) Q :=
  runs_for0 c _ _ _ _ _ (trips2_eq i) Q

/-- Nor does it on the last key block. -/
theorem loop1_none (c : Dev nD) (d : Data F) (i : grid0.Coords) (hk : kb i = 31) (arg1 : BitVec 32) (v7 : BitVec 32) (v19 : BitVec 32) (v42 : BitVec 32) (v46 : FVec F S512x256 .bf16) (v66 : FVec F S512x512 .bf16) (v67 : Vec F S128x512 .f32) (v71 : FVec F S128x512 .bf16) (v72 : FVec F S512x512 .bf16) (v92 : BitVec 32) (Q : PUnit → sProp 𝕄) :
    Q ⟨⟩ ⊢ runs c (Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 d.k d.v d.kt v7 v19 v42 v46 v66 v67 v71 v72 v92)) Q :=
  runs_for0 c _ _ _ _ _ (by have h := trips1_eq i; rw [hk] at h; exact h) Q

/-- The loop of 8 steps a trip. -/
theorem loop3_runs (c : Dev nD) (d : Data F) (i : grid0.Coords) (D : ℕ → Vec F S256x512 .f32) (hsl : d.sl = hd i) (hk : kb i < 31)
    (v7 : BitVec 32) (v19 : BitVec 32) (v103 : BitVec 32) (v104 : BitVec 32) (Q : PUnit → sProp 𝕄) :
    mid c ⟨arg20, arg21, arg6, arg7, arg11, arg12, arg13⟩ d (kb i) D (nb3 (kb i) - kb i) arg15 arg17 arg14 arg16
      ⊢ iprop((mid c ⟨arg20, arg21, arg6, arg7, arg11, arg12, arg13⟩ d (kb i) D (nb5 (kb i) - kb i) arg15 arg17 arg14 arg16 -∗ Q ⟨⟩) -∗
        runs c (Scf.Loop.for (k0_t3_loop i) (k0_t3_ok i) ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 d.k d.v d.kt v7 v19 v103 v104)) Q) := by
  rw [t3_body_eq]
  have e0 : (nb3 (kb i) - kb i) = (nb3 (kb i) - kb i) + 8 * 0 := by omega
  have e1 : (nb5 (kb i) - kb i) = (nb3 (kb i) - kb i) + 8 * (k0_t3_loop i).trips := by rw [trips3_eq]; simp only [nb9, nb7, nb5, nb3]; omega
  rw [e1]
  conv_lhs => rw [e0]
  exact runs_for c _ _ _ _ _ (fun n => mid c ⟨arg20, arg21, arg6, arg7, arg11, arg12, arg13⟩ d (kb i) D ((nb3 (kb i) - kb i) + 8 * n) arg15 arg17 arg14 arg16)
    (fun t Q => grp3_runs c ⟨arg20, arg21, arg6, arg7, arg11, arg12, arg13⟩ d i D arg14 arg15 arg16 arg17 hsl t Q) Q

/-- The loop after it never runs. -/
theorem loop4_runs (c : Dev nD) (d : Data F) (i : grid0.Coords) (v7 : BitVec 32) (v19 : BitVec 32) (v103 : BitVec 32) (v104 : BitVec 32) (v114 : BitVec 32) (Q : PUnit → sProp 𝕄) :
    Q ⟨⟩ ⊢ runs c (Scf.Loop.for (k0_t4_loop i) (k0_t4_ok i) ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 d.k d.v d.kt v7 v19 v103 v104 v114)) Q :=
  runs_for0 c _ _ _ _ _ (trips4_eq i) Q

/-- Nor does it on the last key block. -/
theorem loop3_none (c : Dev nD) (d : Data F) (i : grid0.Coords) (hk : kb i = 31) (v7 : BitVec 32) (v19 : BitVec 32) (v103 : BitVec 32) (v104 : BitVec 32) (Q : PUnit → sProp 𝕄) :
    Q ⟨⟩ ⊢ runs c (Scf.Loop.for (k0_t3_loop i) (k0_t3_ok i) ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 d.k d.v d.kt v7 v19 v103 v104)) Q :=
  runs_for0 c _ _ _ _ _ (by have h := trips3_eq i; rw [hk] at h; exact h) Q

/-- The loop of 4 steps a trip. -/
theorem loop5_runs (c : Dev nD) (d : Data F) (i : grid0.Coords) (D : ℕ → Vec F S256x512 .f32) (hsl : d.sl = hd i) (hk : kb i < 31)
    (v7 : BitVec 32) (v19 : BitVec 32) (v103 : BitVec 32) (v104 : BitVec 32) (v116 : BitVec 32) (Q : PUnit → sProp 𝕄) :
    mid c ⟨arg20, arg21, arg6, arg7, arg11, arg12, arg13⟩ d (kb i) D (nb5 (kb i) - kb i) arg15 arg17 arg14 arg16
      ⊢ iprop((mid c ⟨arg20, arg21, arg6, arg7, arg11, arg12, arg13⟩ d (kb i) D (nb7 (kb i) - kb i) arg15 arg17 arg14 arg16 -∗ Q ⟨⟩) -∗
        runs c (Scf.Loop.for (k0_t5_loop i) (k0_t5_ok i) ⟨⟩ (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 d.k d.v d.kt v7 v19 v103 v104 v116)) Q) := by
  rw [t5_body_eq]
  have e0 : (nb5 (kb i) - kb i) = (nb5 (kb i) - kb i) + 4 * 0 := by omega
  have e1 : (nb7 (kb i) - kb i) = (nb5 (kb i) - kb i) + 4 * (k0_t5_loop i).trips := by rw [trips5_eq]; simp only [nb9, nb7, nb5, nb3]; omega
  rw [e1]
  conv_lhs => rw [e0]
  exact runs_for c _ _ _ _ _ (fun n => mid c ⟨arg20, arg21, arg6, arg7, arg11, arg12, arg13⟩ d (kb i) D ((nb5 (kb i) - kb i) + 4 * n) arg15 arg17 arg14 arg16)
    (fun t Q => grp5_runs c ⟨arg20, arg21, arg6, arg7, arg11, arg12, arg13⟩ d i D arg14 arg15 arg16 arg17 hsl t Q) Q

/-- The loop after it never runs. -/
theorem loop6_runs (c : Dev nD) (d : Data F) (i : grid0.Coords) (v7 : BitVec 32) (v19 : BitVec 32) (v103 : BitVec 32) (v104 : BitVec 32) (v116 : BitVec 32) (v127 : BitVec 32) (Q : PUnit → sProp 𝕄) :
    Q ⟨⟩ ⊢ runs c (Scf.Loop.for (k0_t6_loop i) (k0_t6_ok i) ⟨⟩ (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 d.k d.v d.kt v7 v19 v103 v104 v116 v127)) Q :=
  runs_for0 c _ _ _ _ _ (trips6_eq i) Q

/-- Nor does it on the last key block. -/
theorem loop5_none (c : Dev nD) (d : Data F) (i : grid0.Coords) (hk : kb i = 31) (v7 : BitVec 32) (v19 : BitVec 32) (v103 : BitVec 32) (v104 : BitVec 32) (v116 : BitVec 32) (Q : PUnit → sProp 𝕄) :
    Q ⟨⟩ ⊢ runs c (Scf.Loop.for (k0_t5_loop i) (k0_t5_ok i) ⟨⟩ (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 d.k d.v d.kt v7 v19 v103 v104 v116)) Q :=
  runs_for0 c _ _ _ _ _ (by have h := trips5_eq i; rw [hk] at h; exact h) Q

/-- The loop of 2 steps a trip. -/
theorem loop7_runs (c : Dev nD) (d : Data F) (i : grid0.Coords) (D : ℕ → Vec F S256x512 .f32) (hsl : d.sl = hd i) (hk : kb i < 31)
    (arg1 : BitVec 32) (v7 : BitVec 32) (v129 : BitVec 32) (v131 : BitVec 32) (v132 : BitVec 1) (v134 : BitVec 32) (c0_i32_77 : BitVec 32) (Q : PUnit → sProp 𝕄) :
    mid c ⟨arg20, arg21, arg6, arg7, arg11, arg12, arg13⟩ d (kb i) D (nb7 (kb i) - kb i) arg15 arg17 arg14 arg16
      ⊢ iprop((mid c ⟨arg20, arg21, arg6, arg7, arg11, arg12, arg13⟩ d (kb i) D (nb9 (kb i) - kb i) arg15 arg17 arg14 arg16 -∗ Q ⟨⟩) -∗
        runs c (Scf.Loop.for (k0_t7_loop i) (k0_t7_ok i) ⟨⟩ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 d.k d.v d.kt v7 v129 v131 v132 v134 c0_i32_77)) Q) := by
  rw [t7_body_eq]
  have e0 : (nb7 (kb i) - kb i) = (nb7 (kb i) - kb i) + 2 * 0 := by omega
  have e1 : (nb9 (kb i) - kb i) = (nb7 (kb i) - kb i) + 2 * (k0_t7_loop i).trips := by rw [trips7_eq]; simp only [nb9, nb7, nb5, nb3]; omega
  rw [e1]
  conv_lhs => rw [e0]
  exact runs_for c _ _ _ _ _ (fun n => mid c ⟨arg20, arg21, arg6, arg7, arg11, arg12, arg13⟩ d (kb i) D ((nb7 (kb i) - kb i) + 2 * n) arg15 arg17 arg14 arg16)
    (fun t Q => grp7_runs c ⟨arg20, arg21, arg6, arg7, arg11, arg12, arg13⟩ d i D arg14 arg15 arg16 arg17 hsl t Q) Q

/-- The loop after it never runs. -/
theorem loop8_runs (c : Dev nD) (d : Data F) (i : grid0.Coords) (arg1 : BitVec 32) (v7 : BitVec 32) (v129 : BitVec 32) (v131 : BitVec 32) (v132 : BitVec 1) (v134 : BitVec 32) (c0_i32_77 : BitVec 32) (v140 : BitVec 32) (Q : PUnit → sProp 𝕄) :
    Q ⟨⟩ ⊢ runs c (Scf.Loop.for (k0_t8_loop i) (k0_t8_ok i) ⟨⟩ (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 d.k d.v d.kt v7 v129 v131 v132 v134 c0_i32_77 v140)) Q :=
  runs_for0 c _ _ _ _ _ (trips8_eq i) Q

/-- Nor does it on the last key block. -/
theorem loop7_none (c : Dev nD) (d : Data F) (i : grid0.Coords) (hk : kb i = 31) (arg1 : BitVec 32) (v7 : BitVec 32) (v129 : BitVec 32) (v131 : BitVec 32) (v132 : BitVec 1) (v134 : BitVec 32) (c0_i32_77 : BitVec 32) (Q : PUnit → sProp 𝕄) :
    Q ⟨⟩ ⊢ runs c (Scf.Loop.for (k0_t7_loop i) (k0_t7_ok i) ⟨⟩ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 arg1 d.k d.v d.kt v7 v129 v131 v132 v134 c0_i32_77)) Q :=
  runs_for0 c _ _ _ _ _ (by have h := trips7_eq i; rw [hk] at h; exact h) Q

/-- The last query blocks, one or two. -/
theorem tails_runs (c : Dev nD) (d : Data F) (i : grid0.Coords) (D : ℕ → Vec F S256x512 .f32) (hsl : d.sl = hd i) (hk : kb i < 31) (Q : PUnit → sProp 𝕄) :
    mid c ⟨arg20, arg21, arg6, arg7, arg11, arg12, arg13⟩ d (kb i) D (nb9 (kb i) - kb i) arg15 arg17 arg14 arg16
      ⊢ iprop((done_ c ⟨arg20, arg21, arg6, arg7, arg11, arg12, arg13⟩ d (kb i) D (32 - kb i) arg14 arg16 arg15 arg17 -∗ Q ⟨⟩) -∗
        runs c (tail1P arg6 arg7 arg11 arg12 arg13 arg15 arg17 arg20 arg21 i d.kt) fun _ =>
          runs c (tail2P arg6 arg7 arg11 arg12 arg13 arg14 arg15 arg16 arg17 arg20 arg21 i d.k d.v d.kt) Q) := by
  unfold tail1P tail2P
  rcases Nat.mod_two_eq_zero_or_one (30 - kb i) with e | e
  · have h5 : k0_cond5 i = 1#1 := (cond5_iff i).mpr ⟨hk, e⟩
    have h6 : ¬ k0_cond6 i = 1#1 := fun h => by have := ((cond6_iff i).mp h).2; omega
    have hn : (nb9 (kb i) - kb i) = 31 - kb i := by (try simp only [nb9, nb7, nb5, nb3]); omega
    rw [dif_pos h5, dif_neg h6, hn]
    unfold runs
    iintro H K
    iapply (last_at c ⟨arg20, arg21, arg6, arg7, arg11, arg12, arg13⟩ d (hd i) hsl (kb i) D (31 - kb i) (32 - kb i) 31 (by omega) (by omega) (by omega) arg15 arg17 arg14 arg16 k0_pay5 (pf_of (by omega)) ⟨k0_off67 i, k0_off67_inb i h5⟩ ⟨k0_off68 i, k0_off68_inb i h5⟩ ⟨k0_off69 i, k0_off69_inb i h5⟩ ⟨k0_off70 i, k0_off70_inb i h5⟩ (off67_eq i h5) (off68_eq i h5) (off69_eq i h5) (off70_eq i h5)) $$ H
    iintro H
    rw [wp_pure]
    imodintro
    iapply K
    iapply (done_swap c ⟨arg20, arg21, arg6, arg7, arg11, arg12, arg13⟩ d (kb i) D (32 - kb i) arg15 arg17 arg14 arg16) $$ H
  · have h5 : ¬ k0_cond5 i = 1#1 := fun h => by have := ((cond5_iff i).mp h).2; omega
    have h6 : k0_cond6 i = 1#1 := (cond6_iff i).mpr ⟨hk, e⟩
    have hn : (nb9 (kb i) - kb i) = 30 - kb i := by (try simp only [nb9, nb7, nb5, nb3]); omega
    rw [dif_neg h5, dif_pos h6, hn]
    unfold runs
    simp only [wp_bind]
    iintro H K
    rw [wp_pure]
    imodintro
    iapply (step_at c ⟨arg20, arg21, arg6, arg7, arg11, arg12, arg13⟩ d (hd i) hsl (kb i) D (30 - kb i) (31 - kb i) 30 31 (by omega) (by omega) (by omega) (by omega) arg15 arg17 arg14 arg16 k0_pay5 (pf_of (by omega)) ⟨k0_off71 i, k0_off71_inb i h6⟩ ⟨k0_off72 i, k0_off72_inb i h6⟩ ⟨k0_off73 i, k0_off73_inb i h6⟩ ⟨k0_off74 i, k0_off74_inb i h6⟩ ⟨k0_off75 i, k0_off75_inb i h6⟩ ⟨k0_off76 i, k0_off76_inb i h6⟩ (off71_eq i h6) (off72_eq i h6) (off73_eq i h6) (off74_eq i h6) (off75_eq i h6) (off76_eq i h6)) $$ H
    iintro H
    iapply (last_at c ⟨arg20, arg21, arg6, arg7, arg11, arg12, arg13⟩ d (hd i) hsl (kb i) D (31 - kb i) (32 - kb i) 31 (by omega) (by omega) (by omega) arg14 arg16 arg15 arg17 k0_pay5 (pf_of (by omega)) ⟨k0_off71 i, k0_off71_inb i h6⟩ ⟨k0_off77 i, k0_off77_inb i h6⟩ ⟨k0_off72 i, k0_off72_inb i h6⟩ ⟨k0_off78 i, k0_off78_inb i h6⟩ (off71_eq i h6) (off77_eq i h6) (off72_eq i h6) (off78_eq i h6)) $$ H
    iintro H
    iapply K $$ H

/-- All the query blocks of a key block. -/
theorem core_runs (c : Dev nD) (i : grid0.Coords) (d : Data F) (D : ℕ → Vec F S256x512 .f32) (hsl : d.sl = hd i)
    (v0 : Vec F S512x256 .bf16) (v2 : Vec F S512x128 .bf16) (hk : d.k = k0_pay501 v0) (hv : d.v = k0_pay502 v2) (hkt : d.kt = k0_pay503 v0) (Q : PUnit → sProp 𝕄) :
    done_ c ⟨arg20, arg21, arg6, arg7, arg11, arg12, arg13⟩ d (kb i) D 0 arg14 arg16 arg15 arg17
      ⊢ iprop((done_ c ⟨arg20, arg21, arg6, arg7, arg11, arg12, arg13⟩ d (kb i) D (32 - kb i) arg14 arg16 arg15 arg17 -∗ Q ⟨⟩) -∗
        runs c (coreP arg2 arg3 arg4 arg5 arg6 arg7 arg8 arg9 arg10 arg11 arg12 arg13 arg14 arg15 arg16 arg17 arg18 arg19 arg20 arg21 arg22 i harg2 harg3 harg4 harg5 harg6 harg7 harg8 harg9 harg10 harg11 harg12 harg13 harg14 harg15 harg16 harg17 harg19 harg20 harg21 v0 v2) Q) := by
  have hb : kb i < 32 := (i 1).isLt
  unfold coreP
  dsimp only
  rw [← hk, ← hv, ← hkt]
  unfold runs
  simp only [wp_bind]
  iintro H K
  iapply (first_at c ⟨arg20, arg21, arg6, arg7, arg11, arg12, arg13⟩ d (hd i) hsl (kb i) D hb arg14 arg16 arg15 arg17 ⟨k0_off13 i, k0_off13_inb i⟩ ⟨k0_off14 i, k0_off14_inb i⟩ (off13_eq i) (off14_eq i)) $$ H
  iintro H
  have hp : (k0_pay513 (F := F)) = pfAt (kb i) (kb i) := by unfold pfAt; rw [if_pos rfl]
  by_cases h : kb i < 31
  · have h4 : k0_cond4 i = 1#1 := (cond4_iff i).mpr h
    unfold nextP
    rw [dif_pos h4]
    iapply (step_at c ⟨arg20, arg21, arg6, arg7, arg11, arg12, arg13⟩ d (hd i) hsl (kb i) D 0 1 (kb i) (kb i + 1) (by omega) rfl rfl rfl arg14 arg16 arg15 arg17 k0_pay513 hp ⟨k0_off15 i, k0_off15_inb i h4⟩ ⟨k0_off16 i, k0_off16_inb i h4⟩ ⟨k0_off13 i, k0_off13_inb i⟩ ⟨k0_off17 i, k0_off17_inb i⟩ ⟨k0_off14 i, k0_off14_inb i⟩ ⟨k0_off18 i, k0_off18_inb i⟩ (off15_eq i h) (off16_eq i h) (off13_eq i) (off17_eq i) (off14_eq i) (off18_eq i)) $$ H
    iintro H
    iapply (loop1_runs c d i D hsl h) $$ H
    iintro H
    iapply (loop2_runs c d i)
    iapply (loop3_runs c d i D hsl h) $$ H
    iintro H
    iapply (loop4_runs c d i)
    iapply (loop5_runs c d i D hsl h) $$ H
    iintro H
    iapply (loop6_runs c d i)
    iapply (loop7_runs c d i D hsl h) $$ H
    iintro H
    iapply (loop8_runs c d i)
    iapply (tails_runs c d i D hsl h) $$ H
    iintro H
    iapply K $$ H
  · have h31 : kb i = 31 := by omega
    have h4 : ¬ k0_cond4 i = 1#1 := fun h' => h ((cond4_iff i).mp h')
    have h5 : ¬ k0_cond5 i = 1#1 := fun h' => h ((cond5_iff i).mp h').1
    have h6 : ¬ k0_cond6 i = 1#1 := fun h' => h ((cond6_iff i).mp h').1
    unfold nextP tail1P tail2P
    rw [dif_neg h4, dif_neg h5, dif_neg h6, wp_pure]
    imodintro
    iapply (last_at c ⟨arg20, arg21, arg6, arg7, arg11, arg12, arg13⟩ d (hd i) hsl (kb i) D 0 (32 - kb i) (kb i) hb rfl (by omega) arg14 arg16 arg15 arg17 k0_pay513 hp ⟨k0_off13 i, k0_off13_inb i⟩ ⟨k0_off17 i, k0_off17_inb i⟩ ⟨k0_off14 i, k0_off14_inb i⟩ ⟨k0_off18 i, k0_off18_inb i⟩ (off13_eq i) (off17_eq i) (off14_eq i) (off18_eq i)) $$ H
    iintro H
    iapply (loop1_none c d i h31)
    iapply (loop2_runs c d i)
    iapply (loop3_none c d i h31)
    iapply (loop4_runs c d i)
    iapply (loop5_none c d i h31)
    iapply (loop6_runs c d i)
    iapply (loop7_none c d i h31)
    iapply (loop8_runs c d i)
    rw [wp_pure]
    imodintro
    rw [wp_pure]
    imodintro
    iapply K $$ H

end Cert.KernelIdeal.Hand
-- ==== Proof.Ideal.Dma.lean ====
/-
  The kernel's transfers: a head's queries and output gradient into a slot, and a key block's rows of the queries'
  gradient out. Each start turns what it reads and writes into a transfer in flight, each wait gives them back.
-/
module

public import proofs.«01_k».proof.Proof.Ideal.Steps
public import proofs.«01_k».proof.Proof.Gen.KernelIdeal.Launch
public import Idealize.ShloMosaic.Lib.SparseCore.FromWhole

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- An index of an array of two axes. -/
abbrev at2 {n m : ℕ} (i : Fin n) (j : Fin m) : (⟨2, ![n, m]⟩ : Shape).Idx := Fin.cons i (Fin.cons j finZeroElim)
/-- An index of an array of three axes. -/
abbrev at3 {n m l : ℕ} (i : Fin n) (j : Fin m) (k : Fin l) : (⟨3, ![n, m, l]⟩ : Shape).Idx := Fin.cons i (Fin.cons j (Fin.cons k finZeroElim))

/-- What a slot holds once head `h`'s queries have arrived: columns `256 h` to `256 h + 255` of the queries. -/
def slotQX (A : S16384x2048.Idx → Elt F .bf16) (h : ℕ) : S2x16384x256.Idx → Elt F .bf16 := fun y =>
  A (at2 (y 1) ⟨(256 * h + (y 2).val) % 2048, Nat.mod_lt _ (by decide)⟩)
/-- What a slot holds once head `h`'s output gradient has arrived: rows `128 h` to `128 h + 127` of it. -/
def slotDX (A : S1024x16384.Idx → Elt F .bf16) (h : ℕ) : S2x128x16384.Idx → Elt F .bf16 := fun y =>
  A (at2 ⟨(128 * h + (y 1).val) % 1024, Nat.mod_lt _ (by decide)⟩ (y 2))

/-- The semaphore of slot `h % 2` of the queries. -/
def semQ (h : ℕ) : DmaSem sig := ⟨13 + 2 * (h % 2), by show _ < 17; omega⟩
/-- The semaphore of slot `h % 2` of the output's gradient. -/
def semD (h : ℕ) : DmaSem sig := ⟨14 + 2 * (h % 2), by show _ < 17; omega⟩
/-- The semaphore of the copies out. -/
def semO : DmaSem sig := ⟨12, by show _ < 17; omega⟩

theorem semQ_eq {os : Fin 2 → ℕ} (inb : ∀ a, os a + S1x1.size a ≤ S2x2.size a) {h : ℕ} (hos : os = ![h % 2, 0]) :
    ((cc0_scratch11.slice (Rect.unit (s := S2x2) os S1x1.size inb)).squeeze S_ squeezes_S1x1_S_).sem = semQ h := by
  rcases Nat.mod_two_eq_zero_or_one h with e | e
  · rw [e] at hos; subst hos; simp only [semQ, e]
    refine Fin.ext ?_
    show ((cc0_scratch11.slice (Rect.unit (s := S2x2) ![0, 0] S1x1.size (by decide))).squeeze S_ squeezes_S1x1_S_).sem.val = 13
    decide +kernel
  · rw [e] at hos; subst hos; simp only [semQ, e]
    refine Fin.ext ?_
    show ((cc0_scratch11.slice (Rect.unit (s := S2x2) ![1, 0] S1x1.size (by decide))).squeeze S_ squeezes_S1x1_S_).sem.val = 15
    decide +kernel

theorem semD_eq {os : Fin 2 → ℕ} (inb : ∀ a, os a + S1x1.size a ≤ S2x2.size a) {h : ℕ} (hos : os = ![h % 2, 1]) :
    ((cc0_scratch11.slice (Rect.unit (s := S2x2) os S1x1.size inb)).squeeze S_ squeezes_S1x1_S_).sem = semD h := by
  rcases Nat.mod_two_eq_zero_or_one h with e | e
  · rw [e] at hos; subst hos; simp only [semD, e]
    refine Fin.ext ?_
    show ((cc0_scratch11.slice (Rect.unit (s := S2x2) ![0, 1] S1x1.size (by decide))).squeeze S_ squeezes_S1x1_S_).sem.val = 14
    decide +kernel
  · rw [e] at hos; subst hos; simp only [semD, e]
    refine Fin.ext ?_
    show ((cc0_scratch11.slice (Rect.unit (s := S2x2) ![1, 1] S1x1.size (by decide))).squeeze S_ squeezes_S1x1_S_).sem.val = 16
    decide +kernel

theorem semO_eq : cc0_scratch7.sem = semO := rfl

/-- Where the counters of transfers in flight live. -/
abbrev EC : UEmb Counters 𝕄 := countersEmb (U := Pipeline.UD sig nD τ)

/-- The queries of one head, in the array. -/
abbrev srcQ (ob : Fin 2 → ℕ) (inb : ∀ a, ob a + S16384x256.size a ≤ S16384x2048.size a) : Memref sig .tc .hbm S16384x256 .bf16 :=
  (Memref.whole main_v40).slice (Rect.unit (s := S16384x2048) ob S16384x256.size inb) (fun _ => rfl)
/-- A slot of the queries' buffer. -/
abbrev dstQ (o : Fin 3 → ℕ) (inb : ∀ a, o a + S1x16384x256.size a ≤ S2x16384x256.size a) : Memref sig .tc .vmem S16384x256 .bf16 :=
  ((Memref.whole cc0_scratch9).slice (Rect.unit (s := S2x16384x256) o S1x16384x256.size inb) (fun _ => rfl)).squeeze S16384x256 squeezes_S1x16384x256_S16384x256
/-- The output's gradient of one head, in the array. -/
abbrev srcD (ob : Fin 2 → ℕ) (inb : ∀ a, ob a + S128x16384.size a ≤ S1024x16384.size a) : Memref sig .tc .hbm S128x16384 .bf16 :=
  (Memref.whole main_v48).slice (Rect.unit (s := S1024x16384) ob S128x16384.size inb) (fun _ => rfl)
/-- A slot of the output's gradient's buffer. -/
abbrev dstD (o : Fin 3 → ℕ) (inb : ∀ a, o a + S1x128x16384.size a ≤ S2x128x16384.size a) : Memref sig .tc .vmem S128x16384 .bf16 :=
  ((Memref.whole cc0_scratch10).slice (Rect.unit (s := S2x128x16384) o S1x128x16384.size inb) (fun _ => rfl)).squeeze S128x16384 squeezes_S1x128x16384_S128x16384

/-- What a fetch of queries moves. -/
def nQ : ℕ := (dstQ ![0, 0, 0] inb_S2x16384x256_S1x16384x256_0_0_0).view.dmaCredit
/-- What a fetch of the output's gradient moves. -/
def nDo : ℕ := (dstD ![0, 0, 0] inb_S2x128x16384_S1x128x16384_0_0_0).view.dmaCredit

theorem dstQ_emb {o : Fin 3 → ℕ} (inb) {h : ℕ} (ho : o = ![h % 2, 0, 0]) (x : S16384x256.Idx) :
    (dstQ o inb).view.emb x = (at3 ⟨h % 2, Nat.mod_lt _ (by decide)⟩ (x 0) (x 1) : S2x16384x256.Idx) := by
  subst ho
  show (Rect.unit (s := S2x16384x256) _ _ inb).emb (Shape.reshapeEquiv _ x) = _
  rw [show (Shape.reshapeEquiv (squeezes_S1x16384x256_S16384x256 : S1x16384x256.Squeezes S16384x256).numel_eq x : S1x16384x256.Idx) = Fin.cons ⟨0, Nat.one_pos⟩ x from
    Shape.reshapeEquiv_cons_one _ x]
  funext a
  refine Fin.ext ?_
  fin_cases a
  · show h % 2 + 1 * 0 = h % 2; omega
  · show 0 + 1 * (x 0).val = (x 0).val; omega
  · show 0 + 1 * (x 1).val = (x 1).val; omega

theorem dstD_emb {o : Fin 3 → ℕ} (inb) {h : ℕ} (ho : o = ![h % 2, 0, 0]) (x : S128x16384.Idx) :
    (dstD o inb).view.emb x = (at3 ⟨h % 2, Nat.mod_lt _ (by decide)⟩ (x 0) (x 1) : S2x128x16384.Idx) := by
  subst ho
  show (Rect.unit (s := S2x128x16384) _ _ inb).emb (Shape.reshapeEquiv _ x) = _
  rw [show (Shape.reshapeEquiv (squeezes_S1x128x16384_S128x16384 : S1x128x16384.Squeezes S128x16384).numel_eq x : S1x128x16384.Idx) = Fin.cons ⟨0, Nat.one_pos⟩ x from
    Shape.reshapeEquiv_cons_one _ x]
  funext a
  refine Fin.ext ?_
  fin_cases a
  · show h % 2 + 1 * 0 = h % 2; omega
  · show 0 + 1 * (x 0).val = (x 0).val; omega
  · show 0 + 1 * (x 1).val = (x 1).val; omega

/-- A slot of the queries at any contents. -/
def freeQ (c : Dev nD) (h : ℕ) : sProp 𝕄 := iprop(∃ f : S2x16384x256.Idx → Elt F .bf16, (Memref.whole cc0_scratch9).view.loc (c : Thread nD τ) ↦[(Memref.whole cc0_scratch9).view.setOn (slotQ h)]{fullShare} f)
/-- A slot of the output's gradient at any contents. -/
def freeD (c : Dev nD) (h : ℕ) : sProp 𝕄 := iprop(∃ f : S2x128x16384.Idx → Elt F .bf16, (Memref.whole cc0_scratch10).view.loc (c : Thread nD τ) ↦[(Memref.whole cc0_scratch10).view.setOn (slotD h)]{fullShare} f)

/-- The queries of the call. -/
def hbmQ (c : Dev nD) (A : S16384x2048.Idx → Elt F .bf16) : sProp 𝕄 := iprop((Memref.whole main_v40).view.loc (c : Thread nD τ) ↦{fullShare} A)
/-- The output's gradient of the call. -/
def hbmD (c : Dev nD) (A : S1024x16384.Idx → Elt F .bf16) : sProp 𝕄 := iprop((Memref.whole main_v48).view.loc (c : Thread nD τ) ↦{fullShare} A)

/-- Head `h`'s queries on their way. -/
def flyQ (c : Dev nD) (A : S16384x2048.Idx → Elt F .bf16) (h : ℕ) : sProp 𝕄 :=
  Transfers.Flight EC (c : Thread nD τ) (.dma (semQ h)) () nQ iprop(ownsOn c (Memref.whole cc0_scratch9) (slotQ h) (slotQX A h) ∗ hbmQ c A)
/-- Head `h`'s output gradient on its way. -/
def flyD (c : Dev nD) (A : S1024x16384.Idx → Elt F .bf16) (h : ℕ) : sProp 𝕄 :=
  Transfers.Flight EC (c : Thread nD τ) (.dma (semD h)) () nDo iprop(ownsOn c (Memref.whole cc0_scratch10) (slotD h) (slotDX A h) ∗ hbmD c A)

/-- What a fetch of queries leaves in the slot. -/
theorem startQ_val (A : S16384x2048.Idx → Elt F .bf16) (f : S2x16384x256.Idx → Elt F .bf16) (h : ℕ) (hh : h < 8) {ob : Fin 2 → ℕ} (inbb : ∀ a, ob a + S16384x256.size a ≤ S16384x2048.size a) {o : Fin 3 → ℕ} (inb : ∀ a, o a + S1x16384x256.size a ≤ S2x16384x256.size a)
    (hob : ob = ![0, 256 * h]) (ho : o = ![h % 2, 0, 0]) (y : S2x16384x256.Idx) (hy : y ∈ slotQ h) :
    (Memref.whole cc0_scratch9).view.read (Elt F) ((dstQ o inb).view.write (Elt F) f (ReadAs.same.apply ((srcQ ob inbb).view.read (Elt F) A)) Finset.univ) y = slotQX A h y := by
  have hy0 : (y 0).val = h % 2 := (Finset.mem_filter.mp hy).2
  have e : (dstQ o inb).view.emb (at2 (y 1) (y 2)) = y := by
    rw [dstQ_emb inb ho]
    funext a; refine Fin.ext ?_
    fin_cases a
    · exact hy0.symm
    · rfl
    · rfl
  have hr := congrFun (View.read_write_univ (v := (dstQ o inb).view) (Val := Elt F) f (ReadAs.same.apply ((srcQ ob inbb).view.read (Elt F) A))) (at2 (y 1) (y 2))
  generalize (dstQ o inb).view.write (Elt F) f (ReadAs.same.apply ((srcQ ob inbb).view.read (Elt F) A)) Finset.univ = g at hr ⊢
  have hg : (dstQ o inb).view.read (Elt F) g (at2 (y 1) (y 2)) = (Memref.whole cc0_scratch9).view.read (Elt F) g ((dstQ o inb).view.emb (at2 (y 1) (y 2))) := rfl
  rw [hg, e] at hr
  rw [hr]
  subst hob
  show A ((Rect.unit (s := S16384x2048) _ _ inbb).emb (at2 (y 1) (y 2))) = slotQX A h y
  unfold slotQX
  refine congrArg A (funext fun a => Fin.ext ?_)
  fin_cases a
  · show 0 + 1 * (y 1).val = (y 1).val; omega
  · have : (y 2).val < 256 := (y 2).isLt
    show 256 * h + 1 * (y 2).val = (256 * h + (y 2).val) % 2048; omega

/-- What a fetch of the output's gradient leaves in the slot. -/
theorem startD_val (A : S1024x16384.Idx → Elt F .bf16) (f : S2x128x16384.Idx → Elt F .bf16) (h : ℕ) (hh : h < 8) {ob : Fin 2 → ℕ} (inbb : ∀ a, ob a + S128x16384.size a ≤ S1024x16384.size a) {o : Fin 3 → ℕ} (inb : ∀ a, o a + S1x128x16384.size a ≤ S2x128x16384.size a)
    (hob : ob = ![128 * h, 0]) (ho : o = ![h % 2, 0, 0]) (y : S2x128x16384.Idx) (hy : y ∈ slotD h) :
    (Memref.whole cc0_scratch10).view.read (Elt F) ((dstD o inb).view.write (Elt F) f (ReadAs.same.apply ((srcD ob inbb).view.read (Elt F) A)) Finset.univ) y = slotDX A h y := by
  have hy0 : (y 0).val = h % 2 := (Finset.mem_filter.mp hy).2
  have e : (dstD o inb).view.emb (at2 (y 1) (y 2)) = y := by
    rw [dstD_emb inb ho]
    funext a; refine Fin.ext ?_
    fin_cases a
    · exact hy0.symm
    · rfl
    · rfl
  have hr := congrFun (View.read_write_univ (v := (dstD o inb).view) (Val := Elt F) f (ReadAs.same.apply ((srcD ob inbb).view.read (Elt F) A))) (at2 (y 1) (y 2))
  generalize (dstD o inb).view.write (Elt F) f (ReadAs.same.apply ((srcD ob inbb).view.read (Elt F) A)) Finset.univ = g at hr ⊢
  have hg : (dstD o inb).view.read (Elt F) g (at2 (y 1) (y 2)) = (Memref.whole cc0_scratch10).view.read (Elt F) g ((dstD o inb).view.emb (at2 (y 1) (y 2))) := rfl
  rw [hg, e] at hr
  rw [hr]
  subst hob
  show A ((Rect.unit (s := S1024x16384) _ _ inbb).emb (at2 (y 1) (y 2))) = slotDX A h y
  unfold slotDX
  refine congrArg A (funext fun a => Fin.ext ?_)
  fin_cases a
  · have : (y 1).val < 128 := (y 1).isLt
    show 128 * h + 1 * (y 1).val = (128 * h + (y 1).val) % 1024; omega
  · show 0 + 1 * (y 2).val = (y 2).val; omega

/-- The fetch of a head's queries. -/
theorem startQ_runs (c : Dev nD) (A : S16384x2048.Idx → Elt F .bf16) (h : ℕ) (hh : h < 8) {ob : Fin 2 → ℕ} (inbb : ∀ a, ob a + S16384x256.size a ≤ S16384x2048.size a) {o : Fin 3 → ℕ} (inb : ∀ a, o a + S1x16384x256.size a ≤ S2x16384x256.size a) {sm : DmaSem sig}
    (hob : ob = ![0, 256 * h]) (ho : o = ![h % 2, 0, 0]) (hsm : sm = semQ h) (hsrc) (hdst) (hsem) (Q : PUnit → sProp 𝕄) :
    iprop(hbmQ c A ∗ freeQ (F := F) c h ∗ semVal ((c : Thread nD τ), .dma (semQ h)) 0) ⊢ iprop((flyQ c A h -∗ Q ⟨⟩) -∗
      runs c (Prog.lift (.enqueueDma (srcQ ob inbb) (.here (dstQ o inb)) (.dma sm) hsrc hdst hsem)) Q) := by
  subst hsm
  unfold freeQ hbmQ
  iintro ⟨HA, ⟨%f, Hf⟩, Hs⟩ K
  have hS : (dstQ o inb).view.set ⊆ (Memref.whole cc0_scratch9).view.setOn (slotQ h) := by
    intro y hy
    obtain ⟨x, -, rfl⟩ := Finset.mem_map.mp hy
    rw [dstQ_emb inb ho]
    exact (View.mem_setOn (Memref.whole cc0_scratch9).view).mpr (Finset.mem_filter.mpr ⟨Finset.mem_univ _, rfl⟩)
  iapply (Transfers.wp_dmaFromWhole EC Variants.none (c : Thread nD τ) none () nQ rfl (View.dmaCredit_pos _ (by decide)) hS) $$ [HA Hf Hs]
  · isplitl [HA]; · iexact HA
    isplitl [Hf]; · iexact Hf
    iexact Hs
  iintro Hfl
  rw [wp_ret]
  imodintro
  iapply K
  unfold flyQ ownsOn hbmQ
  iapply (Transfers.Flight_mono EC (c : Thread nD τ) ?_) $$ Hfl
  iintro ⟨Hd, HA⟩
  isplitl [Hd]
  · iexists _
    isplitr [Hd]
    rotate_left
    · iexact Hd
    ipureintro
    exact startQ_val A f h hh inbb inb hob ho
  · iexact HA

/-- The fetch of a head's output gradient. -/
theorem startD_runs (c : Dev nD) (A : S1024x16384.Idx → Elt F .bf16) (h : ℕ) (hh : h < 8) {ob : Fin 2 → ℕ} (inbb : ∀ a, ob a + S128x16384.size a ≤ S1024x16384.size a) {o : Fin 3 → ℕ} (inb : ∀ a, o a + S1x128x16384.size a ≤ S2x128x16384.size a) {sm : DmaSem sig}
    (hob : ob = ![128 * h, 0]) (ho : o = ![h % 2, 0, 0]) (hsm : sm = semD h) (hsrc) (hdst) (hsem) (Q : PUnit → sProp 𝕄) :
    iprop(hbmD c A ∗ freeD (F := F) c h ∗ semVal ((c : Thread nD τ), .dma (semD h)) 0) ⊢ iprop((flyD c A h -∗ Q ⟨⟩) -∗
      runs c (Prog.lift (.enqueueDma (srcD ob inbb) (.here (dstD o inb)) (.dma sm) hsrc hdst hsem)) Q) := by
  subst hsm
  unfold freeD hbmD
  iintro ⟨HA, ⟨%f, Hf⟩, Hs⟩ K
  have hS : (dstD o inb).view.set ⊆ (Memref.whole cc0_scratch10).view.setOn (slotD h) := by
    intro y hy
    obtain ⟨x, -, rfl⟩ := Finset.mem_map.mp hy
    rw [dstD_emb inb ho]
    exact (View.mem_setOn (Memref.whole cc0_scratch10).view).mpr (Finset.mem_filter.mpr ⟨Finset.mem_univ _, rfl⟩)
  iapply (Transfers.wp_dmaFromWhole EC Variants.none (c : Thread nD τ) none () nDo rfl (View.dmaCredit_pos _ (by decide)) hS) $$ [HA Hf Hs]
  · isplitl [HA]; · iexact HA
    isplitl [Hf]; · iexact Hf
    iexact Hs
  iintro Hfl
  rw [wp_ret]
  imodintro
  iapply K
  unfold flyD ownsOn hbmD
  iapply (Transfers.Flight_mono EC (c : Thread nD τ) ?_) $$ Hfl
  iintro ⟨Hd, HA⟩
  isplitl [Hd]
  · iexists _
    isplitr [Hd]
    rotate_left
    · iexact Hd
    ipureintro
    exact startD_val A f h hh inbb inb hob ho
  · iexact HA

/-- The wait for a head's queries. -/
theorem waitQ_runs (c : Dev nD) (A : S16384x2048.Idx → Elt F .bf16) (h : ℕ) {ob : Fin 2 → ℕ} (inbb : ∀ a, ob a + S16384x256.size a ≤ S16384x2048.size a) {o : Fin 3 → ℕ} (inb : ∀ a, o a + S1x16384x256.size a ≤ S2x16384x256.size a) {sm : DmaSem sig}
    (hsm : sm = semQ h) (hsrc) (hdst) (Q : PUnit → sProp 𝕄) :
    iprop(flyQ c A h ∗ (∃ W, owes (c : Thread nD τ) 0 W)) ⊢ iprop((ownsOn c (Memref.whole cc0_scratch9) (slotQ h) (slotQX A h) ∗ hbmQ c A ∗ semVal ((c : Thread nD τ), .dma (semQ h)) 0 ∗ (∃ W, owes (c : Thread nD τ) 0 W) -∗ Q ⟨⟩) -∗
      runs c (Prog.lift (.waitDma2 sm (srcQ ob inbb) (dstQ o inb) hsrc hdst)) Q) := by
  subst hsm
  unfold flyQ
  iintro ⟨Hf, ⟨%W, HO⟩⟩ K
  iapply (Transfers.wp_waitLocal EC Variants.none (c : Thread nD τ) none () (srcw := srcQ ob inbb) (dstw := dstQ o inb) (hsrc := hsrc) (hdst := hdst) (N := nQ) rfl) $$ [Hf HO]
  · isplitl [Hf]; · iexact Hf
    iexact HO
  iintro ⟨⟨Hd, HA⟩, Hs, HO⟩
  rw [wp_ret]
  imodintro
  iapply K
  isplitl [Hd]; · iexact Hd
  isplitl [HA]; · iexact HA
  isplitl [Hs]; · iexact Hs
  iexists _
  iexact HO

/-- The wait for a head's output gradient. -/
theorem waitD_runs (c : Dev nD) (A : S1024x16384.Idx → Elt F .bf16) (h : ℕ) {ob : Fin 2 → ℕ} (inbb : ∀ a, ob a + S128x16384.size a ≤ S1024x16384.size a) {o : Fin 3 → ℕ} (inb : ∀ a, o a + S1x128x16384.size a ≤ S2x128x16384.size a) {sm : DmaSem sig}
    (hsm : sm = semD h) (hsrc) (hdst) (Q : PUnit → sProp 𝕄) :
    iprop(flyD c A h ∗ (∃ W, owes (c : Thread nD τ) 0 W)) ⊢ iprop((ownsOn c (Memref.whole cc0_scratch10) (slotD h) (slotDX A h) ∗ hbmD c A ∗ semVal ((c : Thread nD τ), .dma (semD h)) 0 ∗ (∃ W, owes (c : Thread nD τ) 0 W) -∗ Q ⟨⟩) -∗
      runs c (Prog.lift (.waitDma2 sm (srcD ob inbb) (dstD o inb) hsrc hdst)) Q) := by
  subst hsm
  unfold flyD
  iintro ⟨Hf, ⟨%W, HO⟩⟩ K
  iapply (Transfers.wp_waitLocal EC Variants.none (c : Thread nD τ) none () (srcw := srcD ob inbb) (dstw := dstD o inb) (hsrc := hsrc) (hdst := hdst) (N := nDo) rfl) $$ [Hf HO]
  · isplitl [Hf]; · iexact Hf
    iexact HO
  iintro ⟨⟨Hd, HA⟩, Hs, HO⟩
  rw [wp_ret]
  imodintro
  iapply K
  isplitl [Hd]; · iexact Hd
  isplitl [HA]; · iexact HA
  isplitl [Hs]; · iexact Hs
  iexists _
  iexact HO

/-- A key block's rows of the queries' gradient, in the result. -/
abbrev dstO (o : Fin 3 → ℕ) (inb : ∀ a, o a + S1x512x256.size a ≤ S8x16384x256.size a) : Memref sig .tc .hbm S512x256 .bf16 :=
  ((Memref.whole main_v49_2).slice (Rect.unit (s := S8x16384x256) o S1x512x256.size inb) (fun _ => rfl)).squeeze S512x256 squeezes_S1x512x256_S512x256

/-- What a copy out moves. -/
def nO : ℕ := (dstO ![0, 0, 0] (by decide)).view.dmaCredit

theorem dstO_emb {o : Fin 3 → ℕ} (inb) {p : ℕ} (hp : p < 256) (ho : o = ![p / 32, 512 * (p % 32), 0]) (x : S512x256.Idx) :
    (dstO o inb).view.emb x = (at3 ⟨p / 32, by omega⟩ ⟨512 * (p % 32) + (x 0).val, by have : (x 0).val < 512 := (x 0).isLt; omega⟩ (x 1) : S8x16384x256.Idx) := by
  subst ho
  show (Rect.unit (s := S8x16384x256) _ _ inb).emb (Shape.reshapeEquiv _ x) = _
  rw [show (Shape.reshapeEquiv (squeezes_S1x512x256_S512x256 : S1x512x256.Squeezes S512x256).numel_eq x : S1x512x256.Idx) = Fin.cons ⟨0, Nat.one_pos⟩ x from
    Shape.reshapeEquiv_cons_one _ x]
  funext a
  refine Fin.ext ?_
  fin_cases a
  · show p / 32 + 1 * 0 = p / 32; omega
  · show 512 * (p % 32) + 1 * (x 0).val = _ + (x 0).val; omega
  · show 0 + 1 * (x 1).val = (x 1).val; omega

/-- The queries' gradient with the first `p` of its blocks at what `T` says. -/
def outH (c : Dev nD) (T : S8x16384x256.Idx → Elt F .bf16) (p : ℕ) : sProp 𝕄 :=
  iprop(∃ g : S8x16384x256.Idx → Elt F .bf16, ⌜∀ y : S8x16384x256.Idx, 32 * (y 0).val + (y 1).val / 512 < p → g y = T y⌝ ∗
    ((Memref.whole main_v49_2).view.loc (c : Thread nD τ) ↦{fullShare} g))

/-- Block `p` of the queries' gradient on its way out. -/
def flyO (c : Dev nD) (T : S8x16384x256.Idx → Elt F .bf16) (p : ℕ) : sProp 𝕄 :=
  Transfers.Flight EC (c : Thread nD τ) (.dma semO) () nO iprop(some_ (F := F) c (Memref.whole cc0_scratch8) ∗ outH c T (p + 1))

/-- Writing block `p` extends what is known by one block. -/
theorem startO_val (T : S8x16384x256.Idx → Elt F .bf16) (g : S8x16384x256.Idx → Elt F .bf16) (w : S512x256.Idx → Elt F .bf16) (p : ℕ) (hp : p < 256)
    {o : Fin 3 → ℕ} (inb : ∀ a, o a + S1x512x256.size a ≤ S8x16384x256.size a) (ho : o = ![p / 32, 512 * (p % 32), 0])
    (hw : ∀ x : S512x256.Idx, T (at3 ⟨p / 32, by omega⟩ ⟨512 * (p % 32) + (x 0).val, by have : (x 0).val < 512 := (x 0).isLt; omega⟩ (x 1)) = w x)
    (hg : ∀ y : S8x16384x256.Idx, 32 * (y 0).val + (y 1).val / 512 < p → g y = T y) (y : S8x16384x256.Idx) (hy : 32 * (y 0).val + (y 1).val / 512 < p + 1) :
    (dstO o inb).view.write (Elt F) g w Finset.univ y = T y := by
  have hy1 : (y 1).val < 16384 := (y 1).isLt
  by_cases h : 32 * (y 0).val + (y 1).val / 512 = p
  · have e : (dstO o inb).view.emb (at2 ⟨(y 1).val % 512, by omega⟩ (y 2)) = y := by
      rw [dstO_emb inb hp ho]
      funext a; refine Fin.ext ?_
      fin_cases a
      · show p / 32 = (y 0).val; omega
      · show 512 * (p % 32) + (y 1).val % 512 = (y 1).val; omega
      · rfl
    have hr := congrFun (View.read_write_univ (v := (dstO o inb).view) (Val := Elt F) g w) (at2 ⟨(y 1).val % 512, by omega⟩ (y 2))
    generalize (dstO o inb).view.write (Elt F) g w Finset.univ = g' at hr ⊢
    have hg' : (dstO o inb).view.read (Elt F) g' (at2 ⟨(y 1).val % 512, by omega⟩ (y 2)) = g' ((dstO o inb).view.emb (at2 ⟨(y 1).val % 512, by omega⟩ (y 2))) := rfl
    rw [hg', e] at hr
    rw [hr, ← hw, ← dstO_emb inb hp ho, e]
  · rw [View.write_of_not_mem]
    · exact hg y (by omega)
    · intro hm
      obtain ⟨x, -, rfl⟩ := Finset.mem_map.mp hm
      rw [dstO_emb inb hp ho] at h
      refine h ?_
      have : (x 0).val < 512 := (x 0).isLt
      show 32 * (p / 32) + (512 * (p % 32) + (x 0).val) / 512 = p
      omega

/-- The copy out of a key block's rows. -/
theorem startO_runs (c : Dev nD) (T : S8x16384x256.Idx → Elt F .bf16) (w : S512x256.Idx → Elt F .bf16) (p : ℕ) (hp : p < 256)
    {o : Fin 3 → ℕ} (inb : ∀ a, o a + S1x512x256.size a ≤ S8x16384x256.size a) {sm : DmaSem sig} (hsm : sm = semO) (ho : o = ![p / 32, 512 * (p % 32), 0])
    (hw : ∀ x : S512x256.Idx, T (at3 ⟨p / 32, by omega⟩ ⟨512 * (p % 32) + (x 0).val, by have : (x 0).val < 512 := (x 0).isLt; omega⟩ (x 1)) = w x)
    (hsrc) (hdst) (hsem) (Q : PUnit → sProp 𝕄) :
    iprop(outH c T p ∗ owns (c : Thread nD τ) (Memref.whole cc0_scratch8) fullShare w ∗ semVal ((c : Thread nD τ), .dma semO) 0) ⊢ iprop((flyO c T p -∗ Q ⟨⟩) -∗
      runs c (Prog.lift (.enqueueDma (Memref.whole cc0_scratch8) (.here (dstO o inb)) (.dma sm) hsrc hdst hsem)) Q) := by
  subst hsm
  unfold outH owns
  iintro ⟨⟨%g, %hg, Hg⟩, ⟨%f, %hf, Hf⟩, Hs⟩ K
  rw [show (Memref.whole cc0_scratch8).view.set = (Finset.univ : Finset S512x256.Idx) from View.set_whole cc0_scratch8]
  iapply (Transfers.wp_dmaFromWhole EC Variants.none (c : Thread nD τ) none (dst := dstO o inb) (src := Memref.whole cc0_scratch8) (sm := .dma semO) (via := .same) () nO rfl (View.dmaCredit_pos _ (by decide)) (Finset.subset_univ _)) $$ [Hg Hf Hs]
  · isplitl [Hf]; · iexact Hf
    isplitl [Hg]; · iexact Hg
    iexact Hs
  iintro Hfl
  rw [wp_ret]
  imodintro
  iapply K
  unfold flyO outH some_ owns
  iapply (Transfers.Flight_mono EC (c : Thread nD τ) ?_) $$ Hfl
  iintro ⟨Hd, HA⟩
  isplitl [HA]
  · iexists _
    iexists f
    isplitr [HA]
    · ipureintro; rfl
    rw [show (Memref.whole cc0_scratch8).view.set = (Finset.univ : Finset S512x256.Idx) from View.set_whole cc0_scratch8]
    iexact HA
  · iexists _
    isplitr [Hd]
    rotate_left
    · iexact Hd
    ipureintro
    have e : (ReadAs.same (Val := Elt F)).apply ((Memref.whole cc0_scratch8).view.read (Elt F) f) = w := hf
    rw [e]
    exact startO_val T g w p hp inb ho hw hg

/-- The wait for the copy out. -/
theorem waitO_runs (c : Dev nD) (T : S8x16384x256.Idx → Elt F .bf16) (p : ℕ) {o : Fin 3 → ℕ} (inb : ∀ a, o a + S1x512x256.size a ≤ S8x16384x256.size a) {sm : DmaSem sig}
    (hsm : sm = semO) (hsrc) (hdst) (Q : PUnit → sProp 𝕄) :
    iprop(flyO c T p ∗ (∃ W, owes (c : Thread nD τ) 0 W)) ⊢ iprop((some_ (F := F) c (Memref.whole cc0_scratch8) ∗ outH c T (p + 1) ∗ semVal ((c : Thread nD τ), .dma semO) 0 ∗ (∃ W, owes (c : Thread nD τ) 0 W) -∗ Q ⟨⟩) -∗
      runs c (Prog.lift (.waitDma2 sm (Memref.whole cc0_scratch8) (dstO o inb) hsrc hdst)) Q) := by
  subst hsm
  unfold flyO
  iintro ⟨Hf, ⟨%W, HO⟩⟩ K
  iapply (Transfers.wp_waitLocal EC Variants.none (c : Thread nD τ) none () (srcw := Memref.whole cc0_scratch8) (dstw := dstO o inb) (hsrc := hsrc) (hdst := hdst) (N := nO) rfl) $$ [Hf HO]
  · isplitl [Hf]; · iexact Hf
    iexact HO
  iintro ⟨⟨Hd, HA⟩, Hs, HO⟩
  rw [wp_ret]
  imodintro
  iapply K
  isplitl [Hd]; · iexact Hd
  isplitl [HA]; · iexact HA
  isplitl [Hs]; · iexact Hs
  iexists _
  iexact HO

end Cert.KernelIdeal.Hand
-- ==== Proof.Ideal.Start.lean ====
/-
  What the parts of a grid point that start and await transfers do: the fetch of a head's queries and output gradient, a
  slot ahead of their use, and the copy of a key block's rows of the queries' gradient out.
-/
module

public import proofs.«01_k».proof.Proof.Ideal.Dma
public import proofs.«01_k».proof.Proof.Ideal.Body
public import proofs.«01_k».proof.Proof.Ideal.Offsets

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The slot of head `h`, free, and its semaphores. -/
def side (c : Dev nD) (h : ℕ) : sProp 𝕄 :=
  iprop(semVal ((c : Thread nD τ), .dma (semQ h)) 0 ∗ semVal ((c : Thread nD τ), .dma (semD h)) 0 ∗ freeQ (F := F) c h ∗ freeD (F := F) c h)
/-- Both arrays the fetches read. -/
def idle (c : Dev nD) (A : S16384x2048.Idx → Elt F .bf16) (B : S1024x16384.Idx → Elt F .bf16) : sProp 𝕄 := iprop(hbmQ c A ∗ hbmD c B)
/-- Both fetches of head `h` on their way. -/
def fly (c : Dev nD) (A : S16384x2048.Idx → Elt F .bf16) (B : S1024x16384.Idx → Elt F .bf16) (h : ℕ) : sProp 𝕄 := iprop(flyQ c A h ∗ flyD c B h)
/-- The slot of head `h`, filled. -/
def held (c : Dev nD) (A : S16384x2048.Idx → Elt F .bf16) (B : S1024x16384.Idx → Elt F .bf16) (h : ℕ) : sProp 𝕄 :=
  iprop(ownsOn c (Memref.whole cc0_scratch9) (slotQ h) (slotQX A h) ∗ ownsOn c (Memref.whole cc0_scratch10) (slotD h) (slotDX B h))
/-- The semaphores of head `h`'s slot at rest. -/
def sems (c : Dev nD) (h : ℕ) : sProp 𝕄 :=
  iprop(semVal ((c : Thread nD τ), .dma (semQ h)) 0 ∗ semVal ((c : Thread nD τ), .dma (semD h)) 0)
/-- What is on its way while head `h` is at work: the next head's fetches, if there is one. -/
def ahead (c : Dev nD) (A : S16384x2048.Idx → Elt F .bf16) (B : S1024x16384.Idx → Elt F .bf16) (h : ℕ) : sProp 𝕄 :=
  if h + 1 < 8 then fly c A B (h + 1) else iprop(idle c A B ∗ side c (h + 1))
/-- Before head `h`: at the first, nothing has started; after the last, nothing is left to do. -/
def before (c : Dev nD) (A : S16384x2048.Idx → Elt F .bf16) (B : S1024x16384.Idx → Elt F .bf16) (h : ℕ) : sProp 𝕄 :=
  if h = 0 ∨ h = 8 then iprop(idle c A B ∗ side c h ∗ side c (h + 1)) else iprop(fly c A B h ∗ side c (h + 1))
/-- The core's waits so far. -/
def waited (c : Dev nD) : sProp 𝕄 := iprop(∃ W, owes (c : Thread nD τ) 0 W)

theorem one_sub (h : ℕ) : 1 - h % 2 = (h + 1) % 2 := by omega

/-- At the first head: the head's queries and output gradient arrive, the next head's are sent for, and the queries' gradient is cleared. -/
theorem start_first (c : Dev nD) (i : grid0.Coords) (A : S16384x2048.Idx → Elt F .bf16) (B : S1024x16384.Idx → Elt F .bf16) (arg11 : Memref sig .tc .vmem S256x16384 .f32) (h2) (h5) (h20) (h21) (hk : kb i = 0) (hh : hd i = 0) (Q : PUnit → sProp 𝕄) :
    iprop(before c A B (hd i) ∗ some_ (F := F) c arg11 ∗ waited (F := F) c)
      ⊢ iprop((held c A B (hd i) ∗ sems (F := F) c (hd i) ∗ ahead c A B (hd i) ∗ owns (c : Thread nD τ) arg11 fullShare k0_pay504 ∗ waited (F := F) c -∗ Q ⟨⟩) -∗
        runs c (startP (Memref.whole main_v40) (Memref.whole main_v48) arg11 (Memref.whole cc0_scratch9) (Memref.whole cc0_scratch10) cc0_scratch11 i h2 h5 h20 h21) Q) := by
  have hlt : hd i < 8 := (i 0).isLt
  have h1 : k0_cond1 i = 1#1 := (cond1_iff i).mpr hk
  have h8 : hd i + 1 < 8 := by omega
  have hc2 : k0_cond2 i = 1#1 := (cond2_iff i).mpr hh
  have hc3 : k0_cond3 i = 1#1 := (cond3_iff i).mpr h8
  unfold startP
  rw [dif_pos h1, dif_pos hc2, dif_pos hc3]
  unfold runs
  simp only [wp_bind]
  unfold before
  rw [if_pos (Or.inl hh)]
  unfold idle side
  iintro ⟨⟨⟨HA, HB⟩, ⟨Hsq, Hsd, Hfq, Hfd⟩, Hq', Hd', Hfq', Hfd'⟩, H11, HO⟩ K
  iapply (startQ_runs c A (hd i) hlt (ob := ![0, 0]) _ (o := ![0, 0, 0]) _ (by rw [hh]) (by rw [hh]) (semQ_eq _ (by rw [hh]))) $$ [HA Hfq Hsq]
  · isplitl [HA]; iexact HA
    isplitl [Hfq]; iexact Hfq
    iexact Hsq
  iintro HfQ
  iapply (startD_runs c B (hd i) hlt (ob := ![0, 0]) _ (o := ![0, 0, 0]) _ (by rw [hh]) (by rw [hh]) (semD_eq _ (by rw [hh]))) $$ [HB Hfd Hsd]
  · isplitl [HB]; iexact HB
    isplitl [Hfd]; iexact Hfd
    iexact Hsd
  iintro HfD
  unfold waited
  iapply (waitQ_runs c A (hd i) (ob := k0_off3 i) _ (o := k0_off2 i) _ (semQ_eq _ (off1_eq i))) $$ [HfQ HO]
  · isplitl [HfQ]; iexact HfQ
    iexact HO
  iintro ⟨Hq, HA, Hsq, HO⟩
  iapply (waitD_runs c B (hd i) (ob := k0_off6 i) _ (o := k0_off5 i) _ (semD_eq _ (off4_eq i))) $$ [HfD HO]
  · isplitl [HfD]; iexact HfD
    iexact HO
  iintro ⟨Hd, HB, Hsd, HO⟩
  iapply (startQ_runs c A (hd i + 1) h8 (ob := k0_off9 i) _ (o := k0_off8 i) _ (off9_eq i) ((off8_eq i).trans (by rw [one_sub])) (semQ_eq _ ((off7_eq i).trans (by rw [one_sub])))) $$ [HA Hfq' Hq']
  · isplitl [HA]; iexact HA
    isplitl [Hfq']; iexact Hfq'
    iexact Hq'
  iintro HfQ
  iapply (startD_runs c B (hd i + 1) h8 (ob := k0_off12 i) _ (o := k0_off11 i) _ (off12_eq i) ((off11_eq i).trans (by rw [one_sub])) (semD_eq _ ((off10_eq i).trans (by rw [one_sub])))) $$ [HB Hfd' Hd']
  · isplitl [HB]; iexact HB
    isplitl [Hfd']; iexact Hfd'
    iexact Hd'
  iintro HfD
  iapply (runs_store_some c arg11 _ k0_pay504 _ _ _ _) $$ H11
  iintro H11
  rw [wp_pure]
  imodintro
  iapply K
  unfold held sems ahead
  rw [if_pos h8]
  isplitl [Hq Hd]
  · isplitl [Hq]; iexact Hq
    iexact Hd
  isplitl [Hsq Hsd]
  · isplitl [Hsq]; iexact Hsq
    iexact Hsd
  isplitl [HfQ HfD]
  · unfold fly
    isplitl [HfQ]; iexact HfQ
    iexact HfD
  isplitl [H11]; iexact H11
  iexact HO

/-- At a head in between: the head's queries and output gradient arrive, the next head's are sent for, and the queries' gradient is cleared. -/
theorem start_mid (c : Dev nD) (i : grid0.Coords) (A : S16384x2048.Idx → Elt F .bf16) (B : S1024x16384.Idx → Elt F .bf16) (arg11 : Memref sig .tc .vmem S256x16384 .f32) (h2) (h5) (h20) (h21) (hk : kb i = 0) (hh : hd i ≠ 0) (h8 : hd i + 1 < 8) (Q : PUnit → sProp 𝕄) :
    iprop(before c A B (hd i) ∗ some_ (F := F) c arg11 ∗ waited (F := F) c)
      ⊢ iprop((held c A B (hd i) ∗ sems (F := F) c (hd i) ∗ ahead c A B (hd i) ∗ owns (c : Thread nD τ) arg11 fullShare k0_pay504 ∗ waited (F := F) c -∗ Q ⟨⟩) -∗
        runs c (startP (Memref.whole main_v40) (Memref.whole main_v48) arg11 (Memref.whole cc0_scratch9) (Memref.whole cc0_scratch10) cc0_scratch11 i h2 h5 h20 h21) Q) := by
  have hlt : hd i < 8 := (i 0).isLt
  have h1 : k0_cond1 i = 1#1 := (cond1_iff i).mpr hk
  have hc2 : ¬ k0_cond2 i = 1#1 := fun h => hh ((cond2_iff i).mp h)
  have hc3 : k0_cond3 i = 1#1 := (cond3_iff i).mpr h8
  unfold startP
  rw [dif_pos h1, dif_neg hc2, dif_pos hc3]
  unfold runs
  simp only [wp_bind]
  have hnb : ¬ (hd i = 0 ∨ hd i = 8) := by omega
  unfold before
  rw [if_neg hnb]
  unfold fly side
  iintro ⟨⟨⟨HfQ, HfD⟩, Hq', Hd', Hfq', Hfd'⟩, H11, HO⟩ K
  unfold waited
  iapply (waitQ_runs c A (hd i) (ob := k0_off3 i) _ (o := k0_off2 i) _ (semQ_eq _ (off1_eq i))) $$ [HfQ HO]
  · isplitl [HfQ]; iexact HfQ
    iexact HO
  iintro ⟨Hq, HA, Hsq, HO⟩
  iapply (waitD_runs c B (hd i) (ob := k0_off6 i) _ (o := k0_off5 i) _ (semD_eq _ (off4_eq i))) $$ [HfD HO]
  · isplitl [HfD]; iexact HfD
    iexact HO
  iintro ⟨Hd, HB, Hsd, HO⟩
  iapply (startQ_runs c A (hd i + 1) h8 (ob := k0_off9 i) _ (o := k0_off8 i) _ (off9_eq i) ((off8_eq i).trans (by rw [one_sub])) (semQ_eq _ ((off7_eq i).trans (by rw [one_sub])))) $$ [HA Hfq' Hq']
  · isplitl [HA]; iexact HA
    isplitl [Hfq']; iexact Hfq'
    iexact Hq'
  iintro HfQ
  iapply (startD_runs c B (hd i + 1) h8 (ob := k0_off12 i) _ (o := k0_off11 i) _ (off12_eq i) ((off11_eq i).trans (by rw [one_sub])) (semD_eq _ ((off10_eq i).trans (by rw [one_sub])))) $$ [HB Hfd' Hd']
  · isplitl [HB]; iexact HB
    isplitl [Hfd']; iexact Hfd'
    iexact Hd'
  iintro HfD
  iapply (runs_store_some c arg11 _ k0_pay504 _ _ _ _) $$ H11
  iintro H11
  rw [wp_pure]
  imodintro
  iapply K
  unfold held sems ahead
  rw [if_pos h8]
  isplitl [Hq Hd]
  · isplitl [Hq]; iexact Hq
    iexact Hd
  isplitl [Hsq Hsd]
  · isplitl [Hsq]; iexact Hsq
    iexact Hsd
  isplitl [HfQ HfD]
  · unfold fly
    isplitl [HfQ]; iexact HfQ
    iexact HfD
  isplitl [H11]; iexact H11
  iexact HO

/-- At the last head: the head's queries and output gradient arrive, and the queries' gradient is cleared. -/
theorem start_last (c : Dev nD) (i : grid0.Coords) (A : S16384x2048.Idx → Elt F .bf16) (B : S1024x16384.Idx → Elt F .bf16) (arg11 : Memref sig .tc .vmem S256x16384 .f32) (h2) (h5) (h20) (h21) (hk : kb i = 0) (hh : hd i = 7) (Q : PUnit → sProp 𝕄) :
    iprop(before c A B (hd i) ∗ some_ (F := F) c arg11 ∗ waited (F := F) c)
      ⊢ iprop((held c A B (hd i) ∗ sems (F := F) c (hd i) ∗ ahead c A B (hd i) ∗ owns (c : Thread nD τ) arg11 fullShare k0_pay504 ∗ waited (F := F) c -∗ Q ⟨⟩) -∗
        runs c (startP (Memref.whole main_v40) (Memref.whole main_v48) arg11 (Memref.whole cc0_scratch9) (Memref.whole cc0_scratch10) cc0_scratch11 i h2 h5 h20 h21) Q) := by
  have hlt : hd i < 8 := (i 0).isLt
  have h1 : k0_cond1 i = 1#1 := (cond1_iff i).mpr hk
  have hc : ¬ hd i + 1 < 8 := by omega
  have hc2 : ¬ k0_cond2 i = 1#1 := fun h => by have := (cond2_iff i).mp h; omega
  have hc3 : ¬ k0_cond3 i = 1#1 := fun h => hc ((cond3_iff i).mp h)
  unfold startP
  rw [dif_pos h1, dif_neg hc2, dif_neg hc3]
  unfold runs
  simp only [wp_bind]
  have hnb : ¬ (hd i = 0 ∨ hd i = 8) := by omega
  unfold before
  rw [if_neg hnb]
  unfold fly side
  iintro ⟨⟨⟨HfQ, HfD⟩, Hq', Hd', Hfq', Hfd'⟩, H11, HO⟩ K
  unfold waited
  iapply (waitQ_runs c A (hd i) (ob := k0_off3 i) _ (o := k0_off2 i) _ (semQ_eq _ (off1_eq i))) $$ [HfQ HO]
  · isplitl [HfQ]; iexact HfQ
    iexact HO
  iintro ⟨Hq, HA, Hsq, HO⟩
  iapply (waitD_runs c B (hd i) (ob := k0_off6 i) _ (o := k0_off5 i) _ (semD_eq _ (off4_eq i))) $$ [HfD HO]
  · isplitl [HfD]; iexact HfD
    iexact HO
  iintro ⟨Hd, HB, Hsd, HO⟩
  iapply (runs_store_some c arg11 _ k0_pay504 _ _ _ _) $$ H11
  iintro H11
  rw [wp_pure]
  imodintro
  iapply K
  unfold held sems ahead
  rw [if_neg hc]
  isplitl [Hq Hd]
  · isplitl [Hq]; iexact Hq
    iexact Hd
  isplitl [Hsq Hsd]
  · isplitl [Hsq]; iexact Hsq
    iexact Hsd
  isplitl [HA HB Hq' Hd' Hfq' Hfd']
  · unfold idle side
    isplitl [HA HB]
    · isplitl [HA]; iexact HA
      iexact HB
    isplitl [Hq']; iexact Hq'
    isplitl [Hd']; iexact Hd'
    isplitl [Hfq']; iexact Hfq'
    iexact Hfd'
  isplitl [H11]; iexact H11
  iexact HO

/-- At the first key block of a head. -/
theorem start_runs (c : Dev nD) (i : grid0.Coords) (A : S16384x2048.Idx → Elt F .bf16) (B : S1024x16384.Idx → Elt F .bf16) (arg11 : Memref sig .tc .vmem S256x16384 .f32) (h2) (h5) (h20) (h21) (hk : kb i = 0) (Q : PUnit → sProp 𝕄) :
    iprop(before c A B (hd i) ∗ some_ (F := F) c arg11 ∗ waited (F := F) c)
      ⊢ iprop((held c A B (hd i) ∗ sems (F := F) c (hd i) ∗ ahead c A B (hd i) ∗ owns (c : Thread nD τ) arg11 fullShare k0_pay504 ∗ waited (F := F) c -∗ Q ⟨⟩) -∗
        runs c (startP (Memref.whole main_v40) (Memref.whole main_v48) arg11 (Memref.whole cc0_scratch9) (Memref.whole cc0_scratch10) cc0_scratch11 i h2 h5 h20 h21) Q) := by
  have hlt : hd i < 8 := (i 0).isLt
  by_cases hh : hd i = 0
  · exact start_first c i A B arg11 h2 h5 h20 h21 hk hh Q
  by_cases h8 : hd i + 1 < 8
  · exact start_mid c i A B arg11 h2 h5 h20 h21 hk hh h8 Q
  · exact start_last c i A B arg11 h2 h5 h20 h21 hk (by omega) Q

/-- At any other key block nothing starts. -/
theorem start_none (c : Dev nD) (i : grid0.Coords) (arg11 : Memref sig .tc .vmem S256x16384 .f32) (h2) (h5) (h20) (h21) (hk : kb i ≠ 0) (Q : PUnit → sProp 𝕄) :
    Q ⟨⟩ ⊢ runs c (startP (Memref.whole main_v40) (Memref.whole main_v48) arg11 (Memref.whole cc0_scratch9) (Memref.whole cc0_scratch10) cc0_scratch11 i h2 h5 h20 h21) Q := by
  have h1 : ¬ k0_cond1 i = 1#1 := fun h => hk ((cond1_iff i).mp h)
  unfold startP
  rw [dif_neg h1]
  unfold runs
  iintro H
  rw [wp_pure]
  imodintro
  iexact H

/-- Clearing the gradients of the keys and the values. -/
theorem zero_runs (c : Dev nD) (arg12 : Memref sig .tc .vmem S512x256 .f32) (arg13 : Memref sig .tc .vmem S128x512 .f32) (Q : PUnit → sProp 𝕄) :
    iprop(some_ (F := F) c arg12 ∗ some_ (F := F) c arg13)
      ⊢ iprop((owns (c : Thread nD τ) arg12 fullShare k0_pay505 ∗ owns (c : Thread nD τ) arg13 fullShare k0_pay506 -∗ Q ⟨⟩) -∗ runs c (zeroP arg12 arg13) Q) := by
  unfold zeroP runs
  simp only [wp_bind]
  iintro ⟨H12, H13⟩ K
  iapply (runs_store_some c arg12 _ k0_pay505 _ _ _ _) $$ H12
  iintro H12
  iapply (runs_store_some c arg13 _ k0_pay506 _ _ _ _) $$ H13
  iintro H13
  rw [wp_pure]
  imodintro
  iapply K
  isplitl [H12]; iexact H12
  iexact H13

/-- Storing the gradients of the keys and the values. -/
theorem out_runs (c : Dev nD) (arg8 : Memref sig .tc .vmem S512x256 .bf16) (arg9 : Memref sig .tc .vmem S512x128 .bf16) (arg12 : Memref sig .tc .vmem S512x256 .f32) (arg13 : Memref sig .tc .vmem S128x512 .f32)
    (h8) (h9) (K : S512x256.Idx → Elt F .f32) (V : S128x512.Idx → Elt F .f32) (Q : PUnit → sProp 𝕄) :
    iprop(owns (c : Thread nD τ) arg12 fullShare K ∗ owns (c : Thread nD τ) arg13 fullShare V ∗ some_ (F := F) c arg8 ∗ some_ (F := F) c arg9)
      ⊢ iprop((owns (c : Thread nD τ) arg12 fullShare K ∗ owns (c : Thread nD τ) arg13 fullShare V ∗ owns (c : Thread nD τ) arg8 fullShare (k0_pay541 K) ∗ owns (c : Thread nD τ) arg9 fullShare (k0_pay542 V) -∗ Q ⟨⟩) -∗
        runs c (outP arg8 arg9 arg12 arg13 h8 h9) Q) := by
  unfold outP runs
  simp only [wp_bind]
  iintro ⟨H12, H13, H8, H9⟩ HK
  iapply (runs_load_full c arg12 fullShare K _ _) $$ H12
  iintro H12
  iapply (runs_store_some c arg8 _ _ _ _ _ _) $$ H8
  iintro H8
  iapply (runs_load_full c arg13 fullShare V _ _) $$ H13
  iintro H13
  iapply (runs_store_some c arg9 _ _ _ _ _ _) $$ H9
  iintro H9
  rw [wp_pure]
  imodintro
  iapply HK
  isplitl [H12]; iexact H12
  isplitl [H13]; iexact H13
  isplitl [H8]; iexact H8
  iexact H9

/-- The rows copied out before key block `p`, in a transfer still on its way unless `p` is a head's first. -/
def sent (c : Dev nD) (T : S8x16384x256.Idx → Elt F .bf16) (p : ℕ) : sProp 𝕄 :=
  if p % 32 = 0 then iprop(some_ (F := F) c (Memref.whole cc0_scratch8) ∗ outH c T p ∗ semVal ((c : Thread nD τ), .dma semO) 0) else flyO c T (p - 1)

/-- After the wait, nothing is on its way out. -/
theorem wait_runs (c : Dev nD) (i : grid0.Coords) (T : S8x16384x256.Idx → Elt F .bf16) (h10) (h19) (Q : PUnit → sProp 𝕄) :
    iprop(sent c T (32 * hd i + kb i) ∗ waited (F := F) c)
      ⊢ iprop((some_ (F := F) c (Memref.whole cc0_scratch8) ∗ outH c T (32 * hd i + kb i) ∗ semVal ((c : Thread nD τ), .dma semO) 0 ∗ waited (F := F) c -∗ Q ⟨⟩) -∗
        runs c (waitP (Memref.whole main_v49_2) cc0_scratch7 (Memref.whole cc0_scratch8) i h10 h19) Q) := by
  have hb : kb i < 32 := (i 1).isLt
  unfold waitP sent
  by_cases hk : kb i = 0
  · have h7 : ¬ k0_cond7 i = 1#1 := fun h => (cond7_iff i).mp h hk
    rw [dif_neg h7, if_pos (by omega)]
    unfold runs
    iintro ⟨⟨Ha, Hb, Hc⟩, HO⟩ K
    rw [wp_pure]
    imodintro
    iapply K
    isplitl [Ha]; iexact Ha
    isplitl [Hb]; iexact Hb
    isplitl [Hc]; iexact Hc
    iexact HO
  · have h7 : k0_cond7 i = 1#1 := (cond7_iff i).mpr hk
    rw [dif_pos h7, if_neg (by omega)]
    unfold runs
    simp only [wp_bind]
    unfold waited
    iintro ⟨Hf, HO⟩ K
    iapply (waitO_runs c T (32 * hd i + kb i - 1) (o := k0_off79 i) _ semO_eq) $$ [Hf HO]
    · isplitl [Hf]; iexact Hf
      iexact HO
    iintro ⟨Ha, Hb, Hc, HO⟩
    rw [wp_pure]
    imodintro
    iapply K
    rw [show 32 * hd i + kb i - 1 + 1 = 32 * hd i + kb i by omega]
    isplitl [Ha]; iexact Ha
    isplitl [Hb]; iexact Hb
    isplitl [Hc]; iexact Hc
    iexact HO

/-- The copy out of this key block's rows, awaited on a head's last key block. -/
theorem copy_runs (c : Dev nD) (i : grid0.Coords) (T : S8x16384x256.Idx → Elt F .bf16) (arg11 : Memref sig .tc .vmem S256x16384 .f32) (h10) (h19) (D : ℕ → Vec F S256x512 .f32)
    (hT : ∀ x : S512x256.Idx, T (at3 ⟨hd i, (i 0).isLt⟩ ⟨512 * kb i + (x 0).val, by have : (x 0).val < 512 := (x 0).isLt; have : kb i < 32 := (i 1).isLt; omega⟩ (x 1)) = k0_pay1 (D (kb i)) x) (Q : PUnit → sProp 𝕄) :
    iprop(tiles c arg11 D ∗ some_ (F := F) c (Memref.whole cc0_scratch8) ∗ outH c T (32 * hd i + kb i) ∗ semVal ((c : Thread nD τ), .dma semO) 0 ∗ waited (F := F) c)
      ⊢ iprop((tiles c arg11 D ∗ sent c T (32 * hd i + kb i + 1) ∗ waited (F := F) c -∗ Q ⟨⟩) -∗
        runs c (copyP (Memref.whole main_v49_2) arg11 cc0_scratch7 (Memref.whole cc0_scratch8) i h10 h19) Q) := by
  have hb : kb i < 32 := (i 1).isLt
  have hh : hd i < 8 := (i 0).isLt
  unfold copyP runs
  simp only [wp_bind]
  unfold tiles
  iintro ⟨⟨%X, %hX, HX⟩, Hst, Ho, Hs, HO⟩ K
  iapply (runs_load_window c arg11 fullShare X _ _) $$ HX
  iintro HX
  have hoc : (⟨k0_off18 i, k0_off18_inb i⟩ : OC) = ocAt (kb i) := Subtype.ext ((off18_eq i).trans (by show _ = ![0, 512 * (kb i % 32)]; rw [Nat.mod_eq_of_lt hb]))
  have hw : VecWindow.window X (k0_off18 i) S256x512.size (k0_off18_inb i) = D (kb i) := by
    rw [← hX _ hb]
    exact congrArg (β := Vec F S256x512 .f32) (fun o : OC => (VecWindow.window X o.1 S256x512.size o.2)) hoc
  rw [hw]
  iapply (runs_store_some c (Memref.whole cc0_scratch8) _ _ _ _ _ _) $$ Hst
  iintro Hst
  have e1 : (32 * hd i + kb i) / 32 = hd i := by omega
  have e2 : (32 * hd i + kb i) % 32 = kb i := by omega
  have hT' : ∀ x : S512x256.Idx, T (at3 ⟨(32 * hd i + kb i) / 32, by omega⟩ ⟨512 * ((32 * hd i + kb i) % 32) + (x 0).val, by have : (x 0).val < 512 := (x 0).isLt; omega⟩ (x 1)) = k0_pay1 (D (kb i)) x := by
    intro x
    rw [← hT x]
    simp only [e1, e2]
  iapply (startO_runs c T _ (32 * hd i + kb i) (by omega) (o := k0_off80 i) _ semO_eq ((off80_eq i).trans (by rw [e1, e2])) hT') $$ [Hst Ho Hs]
  · isplitl [Ho]; iexact Ho
    isplitl [Hst]; iexact Hst
    iexact Hs
  iintro Hf
  by_cases hk : kb i = 31
  · have h8 : k0_cond8 i = 1#1 := (cond8_iff i).mpr hk
    rw [dif_pos h8]
    simp only [wp_bind]
    unfold waited
    iapply (waitO_runs c T (32 * hd i + kb i) (o := k0_off81 i) _ semO_eq) $$ [Hf HO]
    · isplitl [Hf]; iexact Hf
      iexact HO
    iintro ⟨Ha, Hb, Hc, HO⟩
    rw [wp_pure]
    imodintro
    iapply K
    have hm : (32 * hd i + kb i + 1) % 32 = 0 := by omega
    unfold sent
    rw [if_pos hm]
    isplitl [HX]
    · iexists X
      isplitr [HX]
      · ipureintro; exact hX
      · iexact HX
    isplitl [Ha Hb Hc]
    · isplitl [Ha]; iexact Ha
      isplitl [Hb]; iexact Hb
      iexact Hc
    iexact HO
  · have h8 : ¬ k0_cond8 i = 1#1 := fun h => hk ((cond8_iff i).mp h)
    rw [dif_neg h8]
    rw [wp_pure]
    imodintro
    iapply K
    have hm : ¬ (32 * hd i + kb i + 1) % 32 = 0 := by omega
    unfold sent
    rw [if_neg hm, Nat.add_sub_cancel]
    isplitl [HX]
    · iexists X
      isplitr [HX]
      · ipureintro; exact hX
      · iexact HX
    isplitl [Hf]; iexact Hf
    iexact HO

end Cert.KernelIdeal.Hand
-- ==== Proof.Ideal.Point.lean ====
/-
  The state of a core before each grid point, and one grid point: from the state before it to the state after it,
  with the gradients of its key block in the two output blocks.
-/
module

public import proofs.«01_k».proof.Proof.Ideal.Core
public import proofs.«01_k».proof.Proof.Ideal.Start

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- What a core's call is given: the queries, the output's gradient, and at each grid point the key and value block
and the two rows of saved values. -/
structure Call (F : FTy → Type) where
  A : S16384x2048.Idx → Elt F .bf16
  B : S1024x16384.Idx → Elt F .bf16
  K : ℕ → Vec F S512x256 .bf16
  W : ℕ → Vec F S512x128 .bf16
  L : ℕ → S1x1x16384.Idx → Elt F .f32
  R : ℕ → S1x1x16384.Idx → Elt F .f32

/-- What grid point `p` reads. -/
def Call.data (a : Call F) (p : ℕ) : Data F :=
  ⟨p / 32, slotQX a.A (p / 32), slotDX a.B (p / 32), a.L p, a.R p, k0_pay501 (a.K p), k0_pay502 (a.W p), k0_pay503 (a.K p)⟩

/-- The blocks of head `h`'s queries' gradient before key block `j`. -/
def Call.D (a : Call F) (h : ℕ) : ℕ → ℕ → Vec F S256x512 .f32
  | 0 => fun b => cTile k0_pay504 b
  | j + 1 => (a.data (32 * h + j)).dqs j (a.D h j) (32 - j)

/-- The queries' gradient in the end. -/
def Call.T (a : Call F) : S8x16384x256.Idx → Elt F .bf16 := fun y =>
  k0_pay1 (a.D (y 0).val ((y 1).val / 512 + 1) ((y 1).val / 512)) (at2 ⟨(y 1).val % 512, Nat.mod_lt _ (by decide)⟩ (y 2))

/-- The keys' gradient grid point `p` leaves in its block. -/
def Call.dk (a : Call F) (p : ℕ) : S512x256.Idx → Elt F .bf16 := k0_pay541 ((a.data p).dk (p % 32) (32 - p % 32))
/-- The values' gradient grid point `p` leaves in its block. -/
def Call.dv (a : Call F) (p : ℕ) : S512x128.Idx → Elt F .bf16 := k0_pay542 ((a.data p).dv (p % 32) (32 - p % 32))

/-- The slots and the queries' gradient before key block `j` of head `h`. -/
def slots (c : Dev nD) (a : Call F) (h j : ℕ) : sProp 𝕄 :=
  iprop(held c a.A a.B h ∗ sems (F := F) c h ∗ ahead c a.A a.B h ∗ tiles c (Memref.whole cc0_scratch0) (a.D h j))
/-- The same between two heads. -/
def rest (c : Dev nD) (a : Call F) (h : ℕ) : sProp 𝕄 := iprop(before c a.A a.B h ∗ some_ (F := F) c (Memref.whole cc0_scratch0))
/-- The six other buffers a grid point works in. -/
def work (c : Dev nD) : sProp 𝕄 :=
  iprop(some_ (F := F) c (Memref.whole cc0_scratch1) ∗ some_ (F := F) c (Memref.whole cc0_scratch2) ∗ some_ (F := F) c (Memref.whole cc0_scratch3) ∗ some_ (F := F) c (Memref.whole cc0_scratch4) ∗ some_ (F := F) c (Memref.whole cc0_scratch5) ∗ some_ (F := F) c (Memref.whole cc0_scratch6))
/-- The state of core `c` before grid point `p`. -/
def state (c : Dev nD) (a : Call F) (p : ℕ) : sProp 𝕄 :=
  iprop((if p % 32 = 0 then rest c a (p / 32) else slots c a (p / 32) (p % 32)) ∗ sent c a.T p ∗ work (F := F) c)

theorem side_add_two (c : Dev nD) (h : ℕ) : side (F := F) c (h + 2) = side c h := by
  simp only [side, semQ, semD, freeQ, freeD, slotQ, slotD, Nat.add_mod_right]

/-- A slot done with is free. -/
theorem side_of_held (c : Dev nD) (A : S16384x2048.Idx → Elt F .bf16) (B : S1024x16384.Idx → Elt F .bf16) (h : ℕ) :
    iprop(held c A B h ∗ sems (F := F) c h) ⊢ side c (h + 2) := by
  rw [side_add_two]
  unfold held sems side ownsOn freeQ freeD
  iintro ⟨⟨⟨%f, %hf, Hf⟩, ⟨%g, %hg, Hg⟩⟩, Hq, Hd⟩
  isplitl [Hq]; iexact Hq
  isplitl [Hd]; iexact Hd
  isplitl [Hf]
  · iexists f; iexact Hf
  · iexists g; iexact Hg

/-- The queries' gradient at known blocks is the queries' gradient at some contents. -/
theorem some_of_tiles (c : Dev nD) (mc : Memref sig .tc .vmem S256x16384 .f32) (D : ℕ → Vec F S256x512 .f32) :
    tiles c mc D ⊢ some_ (F := F) c mc := by
  unfold tiles some_
  iintro ⟨%X, %hX, H⟩
  iexists X
  iexact H

/-- What is on its way and the slot just freed make the state before the next head. -/
theorem before_of_ahead (c : Dev nD) (A : S16384x2048.Idx → Elt F .bf16) (B : S1024x16384.Idx → Elt F .bf16) (h : ℕ) (hh : h < 8) :
    iprop(ahead c A B h ∗ side (F := F) c (h + 2)) ⊢ before c A B (h + 1) := by
  by_cases h8 : h + 1 < 8
  · have hn : ¬ (h + 1 = 0 ∨ h + 1 = 8) := by omega
    unfold ahead before
    rw [if_pos h8, if_neg hn]
  · have hn : h + 1 = 0 ∨ h + 1 = 8 := by omega
    unfold ahead before
    rw [if_neg h8, if_pos hn]
    iintro ⟨⟨Hi, Hs⟩, Hd⟩
    isplitl [Hi]; iexact Hi
    isplitl [Hs]; iexact Hs
    iexact Hd

/-- After a head. -/
theorem rest_of_slots (c : Dev nD) (a : Call F) (h j : ℕ) (hh : h < 8) : slots c a h j ⊢ rest c a (h + 1) := by
  unfold slots rest
  iintro ⟨Hh, Hs, Ha, Ht⟩
  isplitr [Ht]
  · ihave Hd := (side_of_held c a.A a.B h) $$ [Hh Hs]
    · isplitl [Hh]; iexact Hh
      iexact Hs
    iapply (before_of_ahead c a.A a.B h hh) $$ [Ha Hd]
    isplitl [Ha]; iexact Ha
    iexact Hd
  · iapply (some_of_tiles c _ _) $$ Ht

/-- The state a grid point leaves behind. -/
theorem slots_next (c : Dev nD) (a : Call F) (p : ℕ) (hp : p < 256) :
    slots c a (p / 32) (p % 32 + 1) ⊢ (if (p + 1) % 32 = 0 then rest c a ((p + 1) / 32) else slots c a ((p + 1) / 32) ((p + 1) % 32)) := by
  by_cases h : (p + 1) % 32 = 0
  · rw [if_pos h, show (p + 1) / 32 = p / 32 + 1 by omega]
    exact rest_of_slots c a _ _ (by omega)
  · rw [if_neg h, show (p + 1) / 32 = p / 32 by omega, show (p + 1) % 32 = p % 32 + 1 by omega]

/-- The start of a grid point. -/
theorem start_state (c : Dev nD) (i : grid0.Coords) (a : Call F) (h2) (h5) (h20) (h21) (Q : PUnit → sProp 𝕄) :
    iprop((if kb i = 0 then rest c a (hd i) else slots c a (hd i) (kb i)) ∗ waited (F := F) c)
      ⊢ iprop((slots c a (hd i) (kb i) ∗ waited (F := F) c -∗ Q ⟨⟩) -∗
        runs c (startP (Memref.whole main_v40) (Memref.whole main_v48) (Memref.whole cc0_scratch0) (Memref.whole cc0_scratch9) (Memref.whole cc0_scratch10) cc0_scratch11 i h2 h5 h20 h21) Q) := by
  by_cases hk : kb i = 0
  · rw [if_pos hk]
    unfold rest slots
    iintro ⟨⟨Hb, Hs⟩, HO⟩ K
    iapply (start_runs c i a.A a.B (Memref.whole cc0_scratch0) h2 h5 h20 h21 hk Q) $$ [Hb Hs HO]
    · isplitl [Hb]; iexact Hb
      isplitl [Hs]; iexact Hs
      iexact HO
    iintro ⟨Hh, Hs, Ha, Ht, HO⟩
    iapply K
    isplitr [HO]
    · isplitl [Hh]; iexact Hh
      isplitl [Hs]; iexact Hs
      isplitl [Ha]; iexact Ha
      rw [hk]
      unfold tiles
      iexists k0_pay504
      isplitr [Ht]
      · ipureintro; intro b _; rfl
      · iexact Ht
    · iexact HO
  · rw [if_neg hk]
    iintro H K
    iapply (start_none c i (Memref.whole cc0_scratch0) h2 h5 h20 h21 hk Q)
    iapply K $$ H

/-- The grid point `p` is key block `p % 32` of head `p / 32`. -/
theorem T_at (a : Call F) (i : grid0.Coords) (p : ℕ) (hh : hd i = p / 32) (hk : kb i = p % 32) (x : S512x256.Idx) :
    a.T (at3 ⟨hd i, (i 0).isLt⟩ ⟨512 * kb i + (x 0).val, by have : (x 0).val < 512 := (x 0).isLt; have : kb i < 32 := (i 1).isLt; omega⟩ (x 1))
      = k0_pay1 (a.D (hd i) (kb i + 1) (kb i)) x := by
  have hx : (x 0).val < 512 := (x 0).isLt
  have e1 : (512 * kb i + (x 0).val) / 512 = kb i := by omega
  have e2 : (512 * kb i + (x 0).val) % 512 = (x 0).val := by omega
  have key : ∀ (n r : ℕ) (hr : r < 512), n = kb i → r = (x 0).val →
      k0_pay1 (a.D (hd i) (n + 1) n) (at2 ⟨r, hr⟩ (x 1)) = k0_pay1 (a.D (hd i) (kb i + 1) (kb i)) x := by
    intro n r hr hn hr'
    subst hn hr'
    congr 1
    funext b
    refine Fin.ext ?_
    fin_cases b <;> rfl
  exact key _ _ (Nat.mod_lt _ (by decide)) e1 e2

/-- What the query blocks of grid point `p` start from. -/
theorem core_enter (c : Dev nD) (a : Call F) (p h j : ℕ) (hh : h = p / 32) (arg6 arg7 : Memref sig .tc .vmem S1x1x16384 .f32) :
    iprop(held c a.A a.B h ∗ owns (c : Thread nD τ) arg6 fullShare (a.L p) ∗ owns (c : Thread nD τ) arg7 fullShare (a.R p)
        ∗ owns (c : Thread nD τ) (Memref.whole cc0_scratch1) fullShare k0_pay505 ∗ owns (c : Thread nD τ) (Memref.whole cc0_scratch2) fullShare k0_pay506 ∗ tiles c (Memref.whole cc0_scratch0) (a.D h j)
        ∗ some_ (F := F) c (Memref.whole cc0_scratch3) ∗ some_ (F := F) c (Memref.whole cc0_scratch4) ∗ some_ (F := F) c (Memref.whole cc0_scratch5) ∗ some_ (F := F) c (Memref.whole cc0_scratch6))
      ⊢ done_ c ⟨Memref.whole cc0_scratch9, Memref.whole cc0_scratch10, arg6, arg7, Memref.whole cc0_scratch0, Memref.whole cc0_scratch1, Memref.whole cc0_scratch2⟩ (a.data p) j (a.D h j) 0 (Memref.whole cc0_scratch3) (Memref.whole cc0_scratch5) (Memref.whole cc0_scratch4) (Memref.whole cc0_scratch6) := by
  subst hh
  have e : (a.data p).dqs j (a.D (p / 32) j) 0 = a.D (p / 32) j := by
    funext b; unfold Data.dqs; rw [if_neg (by omega)]
  unfold done_ reads grads held
  rw [e]
  iintro ⟨⟨Hq, Hd⟩, H6, H7, H12, H13, Ht, H14, H15, H16, H17⟩
  isplitl [Hq Hd H6 H7]
  · isplitl [Hq]; iexact Hq
    isplitl [Hd]; iexact Hd
    isplitl [H6]; iexact H6
    iexact H7
  isplitl [H12 H13 Ht]
  · isplitl [H12]; iexact H12
    isplitl [H13]; iexact H13
    iexact Ht
  isplitl [H14]; iexact H14
  isplitl [H16]; iexact H16
  isplitl [H15]; iexact H15
  iexact H17

/-- What they end with. -/
theorem core_leave (c : Dev nD) (a : Call F) (p h j : ℕ) (hh : h = p / 32) (arg6 arg7 : Memref sig .tc .vmem S1x1x16384 .f32) :
    done_ c ⟨Memref.whole cc0_scratch9, Memref.whole cc0_scratch10, arg6, arg7, Memref.whole cc0_scratch0, Memref.whole cc0_scratch1, Memref.whole cc0_scratch2⟩ (a.data p) j (a.D h j) (32 - j) (Memref.whole cc0_scratch3) (Memref.whole cc0_scratch5) (Memref.whole cc0_scratch4) (Memref.whole cc0_scratch6)
      ⊢ iprop(held c a.A a.B h ∗ owns (c : Thread nD τ) arg6 fullShare (a.L p) ∗ owns (c : Thread nD τ) arg7 fullShare (a.R p)
        ∗ owns (c : Thread nD τ) (Memref.whole cc0_scratch1) fullShare ((a.data p).dk j (32 - j)) ∗ owns (c : Thread nD τ) (Memref.whole cc0_scratch2) fullShare ((a.data p).dv j (32 - j))
        ∗ tiles c (Memref.whole cc0_scratch0) ((a.data p).dqs j (a.D h j) (32 - j))
        ∗ some_ (F := F) c (Memref.whole cc0_scratch3) ∗ some_ (F := F) c (Memref.whole cc0_scratch4) ∗ some_ (F := F) c (Memref.whole cc0_scratch5) ∗ some_ (F := F) c (Memref.whole cc0_scratch6)) := by
  subst hh
  unfold done_ reads grads held
  iintro ⟨⟨Hq, Hd, H6, H7⟩, ⟨H12, H13, Ht⟩, H14, H16, H15, H17⟩
  isplitl [Hq Hd]
  · isplitl [Hq]; iexact Hq
    iexact Hd
  isplitl [H6]; iexact H6
  isplitl [H7]; iexact H7
  isplitl [H12]; iexact H12
  isplitl [H13]; iexact H13
  isplitl [Ht]; iexact Ht
  isplitl [H14]; iexact H14
  isplitl [H15]; iexact H15
  isplitl [H16]; iexact H16
  iexact H17

/-- One grid point. -/
theorem point_runs (c : Dev nD) (i : grid0.Coords) (a : Call F) (p : ℕ) (hp : p < 256) (hh : hd i = p / 32) (hk : kb i = p % 32)
    (arg3 : Memref sig .tc .vmem S512x256 .bf16) (arg4 : Memref sig .tc .vmem S512x128 .bf16) (arg6 : Memref sig .tc .vmem S1x1x16384 .f32) (arg7 : Memref sig .tc .vmem S1x1x16384 .f32) (arg8 : Memref sig .tc .vmem S512x256 .bf16) (arg9 : Memref sig .tc .vmem S512x128 .bf16)
    (h2) (h3) (h4) (h5) (h6) (h7) (h8) (h9) (h10) (h11) (h12) (h13) (h14) (h15) (h16) (h17) (h19) (h20) (h21) (Q : PUnit → sProp 𝕄) :
    iprop(state c a p ∗ waited (F := F) c ∗ owns (c : Thread nD τ) arg3 fullShare (a.K p) ∗ owns (c : Thread nD τ) arg4 fullShare (a.W p)
        ∗ owns (c : Thread nD τ) arg6 fullShare (a.L p) ∗ owns (c : Thread nD τ) arg7 fullShare (a.R p) ∗ some_ (F := F) c arg8 ∗ some_ (F := F) c arg9)
      ⊢ iprop((state c a (p + 1) ∗ waited (F := F) c ∗ owns (c : Thread nD τ) arg3 fullShare (a.K p) ∗ owns (c : Thread nD τ) arg4 fullShare (a.W p)
          ∗ owns (c : Thread nD τ) arg6 fullShare (a.L p) ∗ owns (c : Thread nD τ) arg7 fullShare (a.R p)
          ∗ owns (c : Thread nD τ) arg8 fullShare (a.dk p) ∗ owns (c : Thread nD τ) arg9 fullShare (a.dv p) -∗ Q ⟨⟩) -∗
        runs c (bodyP (Memref.whole main_v40) arg3 arg4 (Memref.whole main_v48) arg6 arg7 arg8 arg9 (Memref.whole main_v49_2) (Memref.whole cc0_scratch0) (Memref.whole cc0_scratch1) (Memref.whole cc0_scratch2) (Memref.whole cc0_scratch3) (Memref.whole cc0_scratch4) (Memref.whole cc0_scratch5) (Memref.whole cc0_scratch6) cc0_scratch7 (Memref.whole cc0_scratch8) (Memref.whole cc0_scratch9) (Memref.whole cc0_scratch10) cc0_scratch11 i h2 h3 h4 h5 h6 h7 h8 h9 h10 h11 h12 h13 h14 h15 h16 h17 h19 h20 h21) Q) := by
  have hb : kb i < 32 := (i 1).isLt
  have hp' : p = 32 * hd i + kb i := by omega
  have hdat : (a.data p).sl = hd i := hh.symm
  unfold bodyP state
  rw [← hh, ← hk]
  unfold runs
  simp only [wp_bind]
  unfold work
  iintro ⟨⟨Hst, Hsent, ⟨H12, H13, H14, H15, H16, H17⟩⟩, HO, H3, H4, H6, H7, H8, H9⟩ K
  iapply (runs_load_full c arg3 fullShare (a.K p) _ _) $$ H3
  iintro H3
  iapply (runs_load_full c arg4 fullShare (a.W p) _ _) $$ H4
  iintro H4
  iapply (start_state c i a h2 h5 h20 h21) $$ [Hst HO]
  · isplitl [Hst]; iexact Hst
    iexact HO
  iintro ⟨Hst, HO⟩
  unfold slots
  icases Hst with ⟨Hheld, Hsems, Hahead, Htiles⟩
  iapply (zero_runs c (Memref.whole cc0_scratch1) (Memref.whole cc0_scratch2)) $$ [H12 H13]
  · isplitl [H12]; iexact H12
    iexact H13
  iintro ⟨H12, H13⟩
  iapply (core_runs (arg2 := Memref.whole main_v40) (arg3 := arg3) (arg4 := arg4) (arg5 := Memref.whole main_v48) (arg6 := arg6) (arg7 := arg7) c i (a.data p) (a.D (hd i) (kb i)) hdat (a.K p) (a.W p) rfl rfl rfl) $$ [Hheld H6 H7 H12 H13 Htiles H14 H15 H16 H17]
  · iapply (core_enter c a p (hd i) (kb i) hh arg6 arg7) $$ [Hheld H6 H7 H12 H13 Htiles H14 H15 H16 H17]
    isplitl [Hheld]; iexact Hheld
    isplitl [H6]; iexact H6
    isplitl [H7]; iexact H7
    isplitl [H12]; iexact H12
    isplitl [H13]; iexact H13
    isplitl [Htiles]; iexact Htiles
    isplitl [H14]; iexact H14
    isplitl [H15]; iexact H15
    isplitl [H16]; iexact H16
    iexact H17
  iintro Hdone
  ihave Hdone := (core_leave c a p (hd i) (kb i) hh arg6 arg7) $$ Hdone
  icases Hdone with ⟨Hheld, H6, H7, H12, H13, Htiles, H14, H15, H16, H17⟩
  iapply (out_runs c arg8 arg9 (Memref.whole cc0_scratch1) (Memref.whole cc0_scratch2) h8 h9) $$ [H12 H13 H8 H9]
  · isplitl [H12]; iexact H12
    isplitl [H13]; iexact H13
    isplitl [H8]; iexact H8
    iexact H9
  iintro ⟨H12, H13, H8, H9⟩
  iapply (wait_runs c i a.T h10 h19) $$ [Hsent HO]
  · isplitl [Hsent]
    · rw [← hp']; iexact Hsent
    · iexact HO
  iintro ⟨Hstage, Hout, Hsem, HO⟩
  iapply (copy_runs c i a.T (Memref.whole cc0_scratch0) h10 h19 (a.D (hd i) (kb i + 1)) (T_at a i p hh hk)) $$ [Htiles Hstage Hout Hsem HO]
  · isplitl [Htiles]
    · rw [show a.D (hd i) (kb i + 1) = (a.data p).dqs (kb i) (a.D (hd i) (kb i)) (32 - kb i) by rw [hp']; rfl]
      iexact Htiles
    isplitl [Hstage]; iexact Hstage
    isplitl [Hout]; iexact Hout
    isplitl [Hsem]; iexact Hsem
    iexact HO
  iintro ⟨Htiles, Hsent, HO⟩
  iapply K
  isplitl [Hheld Hsems Hahead Htiles Hsent H12 H13 H14 H15 H16 H17]
  · isplitl [Hheld Hsems Hahead Htiles]
    · iapply (slots_next c a p hp)
      rw [← hh, ← hk]
      unfold slots
      isplitl [Hheld]; iexact Hheld
      isplitl [Hsems]; iexact Hsems
      isplitl [Hahead]; iexact Hahead
      iexact Htiles
    isplitl [Hsent]
    · rw [show p + 1 = 32 * hd i + kb i + 1 by omega]
      iexact Hsent
    isplitl [H12]
    · iapply (some_intro c _ _) $$ H12
    isplitl [H13]
    · iapply (some_intro c _ _) $$ H13
    isplitl [H14]; iexact H14
    isplitl [H15]; iexact H15
    isplitl [H16]; iexact H16
    iexact H17
  isplitl [HO]; iexact HO
  isplitl [H3]; iexact H3
  isplitl [H4]; iexact H4
  isplitl [H6]; iexact H6
  isplitl [H7]; iexact H7
  unfold Call.dk Call.dv
  rw [← hk]
  isplitl [H8]; iexact H8
  iexact H9

end Cert.KernelIdeal.Hand
-- ==== Proof.Ideal.Launch.lean ====
/-
  The two slots of each fetch buffer as one buffer: what the launch hands over is the state before the first grid
  point, and the state after the last one is what the launch takes back.
-/
module

public import proofs.«01_k».proof.Proof.Ideal.Point
public import proofs.«01_k».proof.Proof.Gen.KernelIdeal.Launch
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

theorem slotQ_split : Disjoint (slotQ 0) (slotQ 1) ∧ slotQ 0 ∪ slotQ 1 = Finset.univ := by
  constructor
  · rw [Finset.disjoint_left]
    intro y h0 h1
    have e0 : (y 0).val = 0 % 2 := (Finset.mem_filter.mp h0).2
    have e1 : (y 0).val = 1 % 2 := (Finset.mem_filter.mp h1).2
    omega
  · refine Finset.eq_univ_iff_forall.mpr fun y => ?_
    have hy : (y 0).val < 2 := (y 0).isLt
    refine Finset.mem_union.mpr ?_
    rcases (show (y 0).val = 0 % 2 ∨ (y 0).val = 1 % 2 by omega) with e | e
    · exact Or.inl (Finset.mem_filter.mpr ⟨Finset.mem_univ _, e⟩)
    · exact Or.inr (Finset.mem_filter.mpr ⟨Finset.mem_univ _, e⟩)

theorem setQ_disjoint : Disjoint ((Memref.whole cc0_scratch9).view.setOn (slotQ 0)) ((Memref.whole cc0_scratch9).view.setOn (slotQ 1)) :=
  (Finset.disjoint_map _).mpr slotQ_split.1

theorem setQ_union : (Memref.whole cc0_scratch9).view.setOn (slotQ 0) ∪ (Memref.whole cc0_scratch9).view.setOn (slotQ 1) = Finset.univ := by
  have h := (Finset.map_union (f := (Memref.whole cc0_scratch9).view.emb) (slotQ 0) (slotQ 1)).symm
  rw [slotQ_split.2] at h
  exact h.trans (View.setOn_whole_univ cc0_scratch9)

/-- The buffer at some contents is its two slots at some contents. -/
theorem freeQ_of_some (c : Dev nD) : iprop(∃ f : Buf (Elt F) ((c : Thread nD τ).loc cc0_scratch9), ((c : Thread nD τ).loc cc0_scratch9) ↦{fullShare} f) ⊢ (iprop(freeQ c 0 ∗ freeQ c 1) : sProp 𝕄) := by
  unfold freeQ
  iintro ⟨%f, H⟩
  have h : (((c : Thread nD τ).loc cc0_scratch9) ↦{fullShare} f : sProp 𝕄)
      ⊢ iprop(((Memref.whole cc0_scratch9).view.loc (c : Thread nD τ) ↦[(Memref.whole cc0_scratch9).view.setOn (slotQ 0)]{fullShare} f) ∗ ((Memref.whole cc0_scratch9).view.loc (c : Thread nD τ) ↦[(Memref.whole cc0_scratch9).view.setOn (slotQ 1)]{fullShare} f)) := by
    have h1 := (pointsTo_union (Ix := Unit) (Name := ℕ) (U := Pipeline.UD sig nD τ) (Lvl := ℕ) (ℓ := (c : Thread nD τ).loc cc0_scratch9) (q := fullShare) (f := f) (setQ_disjoint)).1
    rw [setQ_union] at h1
    exact h1
  ihave H := h $$ H
  icases H with ⟨H0, H1⟩
  isplitl [H0]
  · iexists f; iexact H0
  · iexists f; iexact H1

/-- The two slots at some contents are the buffer at some contents. -/
theorem some_of_freeQ (c : Dev nD) : iprop(freeQ (F := F) c 0 ∗ freeQ c 1) ⊢ (iprop(∃ f : Buf (Elt F) ((c : Thread nD τ).loc cc0_scratch9), ((c : Thread nD τ).loc cc0_scratch9) ↦{fullShare} f) : sProp 𝕄) := by
  unfold freeQ
  iintro ⟨⟨%f, H0⟩, ⟨%g, H1⟩⟩
  have h : iprop(((Memref.whole cc0_scratch9).view.loc (c : Thread nD τ) ↦[(Memref.whole cc0_scratch9).view.setOn (slotQ 0)]{fullShare} f) ∗ ((Memref.whole cc0_scratch9).view.loc (c : Thread nD τ) ↦[(Memref.whole cc0_scratch9).view.setOn (slotQ 1)]{fullShare} g))
      ⊢ (iprop(∃ f : Buf (Elt F) ((c : Thread nD τ).loc cc0_scratch9), ((c : Thread nD τ).loc cc0_scratch9) ↦{fullShare} f) : sProp 𝕄) := by
    have h1 := pointsTo_join (Ix := Unit) (Name := ℕ) (U := Pipeline.UD sig nD τ) (Lvl := ℕ) (ℓ := (c : Thread nD τ).loc cc0_scratch9) (q := fullShare) (f := f) (g := g) (setQ_disjoint)
    rw [setQ_union] at h1
    refine h1.trans ?_
    iintro H
    iexists _
    iexact H
  iapply h $$ [H0 H1]
  isplitl [H0]; iexact H0
  iexact H1

theorem slotD_split : Disjoint (slotD 0) (slotD 1) ∧ slotD 0 ∪ slotD 1 = Finset.univ := by
  constructor
  · rw [Finset.disjoint_left]
    intro y h0 h1
    have e0 : (y 0).val = 0 % 2 := (Finset.mem_filter.mp h0).2
    have e1 : (y 0).val = 1 % 2 := (Finset.mem_filter.mp h1).2
    omega
  · refine Finset.eq_univ_iff_forall.mpr fun y => ?_
    have hy : (y 0).val < 2 := (y 0).isLt
    refine Finset.mem_union.mpr ?_
    rcases (show (y 0).val = 0 % 2 ∨ (y 0).val = 1 % 2 by omega) with e | e
    · exact Or.inl (Finset.mem_filter.mpr ⟨Finset.mem_univ _, e⟩)
    · exact Or.inr (Finset.mem_filter.mpr ⟨Finset.mem_univ _, e⟩)

theorem setD_disjoint : Disjoint ((Memref.whole cc0_scratch10).view.setOn (slotD 0)) ((Memref.whole cc0_scratch10).view.setOn (slotD 1)) :=
  (Finset.disjoint_map _).mpr slotD_split.1

theorem setD_union : (Memref.whole cc0_scratch10).view.setOn (slotD 0) ∪ (Memref.whole cc0_scratch10).view.setOn (slotD 1) = Finset.univ := by
  have h := (Finset.map_union (f := (Memref.whole cc0_scratch10).view.emb) (slotD 0) (slotD 1)).symm
  rw [slotD_split.2] at h
  exact h.trans (View.setOn_whole_univ cc0_scratch10)

/-- The buffer at some contents is its two slots at some contents. -/
theorem freeD_of_some (c : Dev nD) : iprop(∃ f : Buf (Elt F) ((c : Thread nD τ).loc cc0_scratch10), ((c : Thread nD τ).loc cc0_scratch10) ↦{fullShare} f) ⊢ (iprop(freeD c 0 ∗ freeD c 1) : sProp 𝕄) := by
  unfold freeD
  iintro ⟨%f, H⟩
  have h : (((c : Thread nD τ).loc cc0_scratch10) ↦{fullShare} f : sProp 𝕄)
      ⊢ iprop(((Memref.whole cc0_scratch10).view.loc (c : Thread nD τ) ↦[(Memref.whole cc0_scratch10).view.setOn (slotD 0)]{fullShare} f) ∗ ((Memref.whole cc0_scratch10).view.loc (c : Thread nD τ) ↦[(Memref.whole cc0_scratch10).view.setOn (slotD 1)]{fullShare} f)) := by
    have h1 := (pointsTo_union (Ix := Unit) (Name := ℕ) (U := Pipeline.UD sig nD τ) (Lvl := ℕ) (ℓ := (c : Thread nD τ).loc cc0_scratch10) (q := fullShare) (f := f) (setD_disjoint)).1
    rw [setD_union] at h1
    exact h1
  ihave H := h $$ H
  icases H with ⟨H0, H1⟩
  isplitl [H0]
  · iexists f; iexact H0
  · iexists f; iexact H1

/-- The two slots at some contents are the buffer at some contents. -/
theorem some_of_freeD (c : Dev nD) : iprop(freeD (F := F) c 0 ∗ freeD c 1) ⊢ (iprop(∃ f : Buf (Elt F) ((c : Thread nD τ).loc cc0_scratch10), ((c : Thread nD τ).loc cc0_scratch10) ↦{fullShare} f) : sProp 𝕄) := by
  unfold freeD
  iintro ⟨⟨%f, H0⟩, ⟨%g, H1⟩⟩
  have h : iprop(((Memref.whole cc0_scratch10).view.loc (c : Thread nD τ) ↦[(Memref.whole cc0_scratch10).view.setOn (slotD 0)]{fullShare} f) ∗ ((Memref.whole cc0_scratch10).view.loc (c : Thread nD τ) ↦[(Memref.whole cc0_scratch10).view.setOn (slotD 1)]{fullShare} g))
      ⊢ (iprop(∃ f : Buf (Elt F) ((c : Thread nD τ).loc cc0_scratch10), ((c : Thread nD τ).loc cc0_scratch10) ↦{fullShare} f) : sProp 𝕄) := by
    have h1 := pointsTo_join (Ix := Unit) (Name := ℕ) (U := Pipeline.UD sig nD τ) (Lvl := ℕ) (ℓ := (c : Thread nD τ).loc cc0_scratch10) (q := fullShare) (f := f) (g := g) (setD_disjoint)
    rw [setD_union] at h1
    refine h1.trans ?_
    iintro H
    iexists _
    iexact H
  iapply h $$ [H0 H1]
  isplitl [H0]; iexact H0
  iexact H1

/-- The semaphores of the body's own transfers. -/
abbrev osem0 : Fin 5 → SemLoc sig := fun j => (![SemLoc.dma 12, SemLoc.dma 13, SemLoc.dma 14, SemLoc.dma 15, SemLoc.dma 16] : Fin 5 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0 ∗ semVal ((c : Thread nD τ), SemLoc.dma 14) 0
          ∗ semVal ((c : Thread nD τ), SemLoc.dma 15) 0 ∗ semVal ((c : Thread nD τ), SemLoc.dma 16) 0) := by
  rw [Pipeline.ownSems0_eq_of_list c osem0 [0, 1, 2, 3, 4] (by decide) (by decide)]; rfl

/-- The arrays the body reads in place: the queries and the output's gradient. -/
def H0 : Finset (Ref sig .tc) := {main_v40, main_v48}
theorem H0_sub : H0 ⊆ Pipeline.restRefs sig spec0 := by decide
/-- The array the body writes itself: the queries' gradient. -/
def R0 : Finset (Ref sig .tc) := {main_v49_2}
theorem R0_sub : R0 ⊆ Pipeline.restRefs sig spec0 \ H0 := by decide

theorem hbmPts0_eq (W : (c : Dev nD) → (b : Ref sig .tc) → Buf (Elt F) ((c : Thread nD τ).loc b)) (c : Dev nD) :
    (bigSep H0 (fun b => ((c : Thread nD τ).loc b) ↦{fullShare} W c b) : sProp 𝕄)
      = iprop(hbmQ c (W c main_v40) ∗ hbmD c (W c main_v48)) := by
  rw [BI.bigSep_eq_bigSepL_of_eq [main_v40, main_v48] (by decide) (by decide)]; rfl

/-- What the launch hands over and takes back, conjunct by conjunct. -/
theorem launch_eq (W G : (c : Dev nD) → (b : Ref sig .tc) → Buf (Elt F) ((c : Thread nD τ).loc b)) (c : Dev nD) :
    (Pipeline.ΦDRG osem0 spec0 H0 R0 W G c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)
            ∗ (∃ f : Buf (Elt F) ((c : Thread nD τ).loc cc0_scratch3), ((c : Thread nD τ).loc cc0_scratch3) ↦{fullShare} f)
            ∗ (∃ f : Buf (Elt F) ((c : Thread nD τ).loc cc0_scratch4), ((c : Thread nD τ).loc cc0_scratch4) ↦{fullShare} f)
            ∗ (∃ f : Buf (Elt F) ((c : Thread nD τ).loc cc0_scratch5), ((c : Thread nD τ).loc cc0_scratch5) ↦{fullShare} f)
            ∗ (∃ f : Buf (Elt F) ((c : Thread nD τ).loc cc0_scratch6), ((c : Thread nD τ).loc cc0_scratch6) ↦{fullShare} f)
            ∗ (∃ f : Buf (Elt F) ((c : Thread nD τ).loc cc0_scratch8), ((c : Thread nD τ).loc cc0_scratch8) ↦{fullShare} f)
            ∗ (∃ f : Buf (Elt F) ((c : Thread nD τ).loc cc0_scratch9), ((c : Thread nD τ).loc cc0_scratch9) ↦{fullShare} f)
            ∗ (∃ f : Buf (Elt F) ((c : Thread nD τ).loc cc0_scratch10), ((c : Thread nD τ).loc cc0_scratch10) ↦{fullShare} f))
          ∗ (∃ r, prngReg c r)
          ∗ iprop(semVal ((c : Thread nD τ), SemLoc.dma 12) 0 ∗ semVal ((c : Thread nD τ), SemLoc.dma 13) 0 ∗ semVal ((c : Thread nD τ), SemLoc.dma 14) 0
              ∗ semVal ((c : Thread nD τ), SemLoc.dma 15) 0 ∗ semVal ((c : Thread nD τ), SemLoc.dma 16) 0)
          ∗ iprop(hbmQ c (W c main_v40) ∗ hbmD c (W c main_v48))
          ∗ (((c : Thread nD τ).loc main_v49_2) ↦{fullShare} G c main_v49_2)) := by
  rw [Pipeline.ΦDRG_eq, scopedRest0_eq, ownSems00_eq, hbmPts0_eq]
  unfold R0
  rw [Pipeline.routed_singleton]

theorem some_eq0 (c : Dev nD) : (some_ (F := F) c (Memref.whole cc0_scratch0) : sProp 𝕄) = iprop(∃ f : Buf (Elt F) ((c : Thread nD τ).loc cc0_scratch0), ((c : Thread nD τ).loc cc0_scratch0) ↦{fullShare} f) := by
  unfold some_
  simp only [owns_whole]
  try rfl
theorem some_of_buf0 (c : Dev nD) : iprop(∃ f : Buf (Elt F) ((c : Thread nD τ).loc cc0_scratch0), ((c : Thread nD τ).loc cc0_scratch0) ↦{fullShare} f) ⊢ (some_ (F := F) c (Memref.whole cc0_scratch0) : sProp 𝕄) := by
  rw [some_eq0]
theorem buf0_of_some (c : Dev nD) : some_ (F := F) c (Memref.whole cc0_scratch0) ⊢ (iprop(∃ f : Buf (Elt F) ((c : Thread nD τ).loc cc0_scratch0), ((c : Thread nD τ).loc cc0_scratch0) ↦{fullShare} f) : sProp 𝕄) := by
  rw [some_eq0]

theorem some_eq1 (c : Dev nD) : (some_ (F := F) c (Memref.whole cc0_scratch1) : sProp 𝕄) = iprop(∃ f : Buf (Elt F) ((c : Thread nD τ).loc cc0_scratch1), ((c : Thread nD τ).loc cc0_scratch1) ↦{fullShare} f) := by
  unfold some_
  simp only [owns_whole]
  try rfl
theorem some_of_buf1 (c : Dev nD) : iprop(∃ f : Buf (Elt F) ((c : Thread nD τ).loc cc0_scratch1), ((c : Thread nD τ).loc cc0_scratch1) ↦{fullShare} f) ⊢ (some_ (F := F) c (Memref.whole cc0_scratch1) : sProp 𝕄) := by
  rw [some_eq1]
theorem buf1_of_some (c : Dev nD) : some_ (F := F) c (Memref.whole cc0_scratch1) ⊢ (iprop(∃ f : Buf (Elt F) ((c : Thread nD τ).loc cc0_scratch1), ((c : Thread nD τ).loc cc0_scratch1) ↦{fullShare} f) : sProp 𝕄) := by
  rw [some_eq1]

theorem some_eq2 (c : Dev nD) : (some_ (F := F) c (Memref.whole cc0_scratch2) : sProp 𝕄) = iprop(∃ f : Buf (Elt F) ((c : Thread nD τ).loc cc0_scratch2), ((c : Thread nD τ).loc cc0_scratch2) ↦{fullShare} f) := by
  unfold some_
  simp only [owns_whole]
  try rfl
theorem some_of_buf2 (c : Dev nD) : iprop(∃ f : Buf (Elt F) ((c : Thread nD τ).loc cc0_scratch2), ((c : Thread nD τ).loc cc0_scratch2) ↦{fullShare} f) ⊢ (some_ (F := F) c (Memref.whole cc0_scratch2) : sProp 𝕄) := by
  rw [some_eq2]
theorem buf2_of_some (c : Dev nD) : some_ (F := F) c (Memref.whole cc0_scratch2) ⊢ (iprop(∃ f : Buf (Elt F) ((c : Thread nD τ).loc cc0_scratch2), ((c : Thread nD τ).loc cc0_scratch2) ↦{fullShare} f) : sProp 𝕄) := by
  rw [some_eq2]

theorem some_eq3 (c : Dev nD) : (some_ (F := F) c (Memref.whole cc0_scratch3) : sProp 𝕄) = iprop(∃ f : Buf (Elt F) ((c : Thread nD τ).loc cc0_scratch3), ((c : Thread nD τ).loc cc0_scratch3) ↦{fullShare} f) := by
  unfold some_
  simp only [owns_whole]
  try rfl
theorem some_of_buf3 (c : Dev nD) : iprop(∃ f : Buf (Elt F) ((c : Thread nD τ).loc cc0_scratch3), ((c : Thread nD τ).loc cc0_scratch3) ↦{fullShare} f) ⊢ (some_ (F := F) c (Memref.whole cc0_scratch3) : sProp 𝕄) := by
  rw [some_eq3]
theorem buf3_of_some (c : Dev nD) : some_ (F := F) c (Memref.whole cc0_scratch3) ⊢ (iprop(∃ f : Buf (Elt F) ((c : Thread nD τ).loc cc0_scratch3), ((c : Thread nD τ).loc cc0_scratch3) ↦{fullShare} f) : sProp 𝕄) := by
  rw [some_eq3]

theorem some_eq4 (c : Dev nD) : (some_ (F := F) c (Memref.whole cc0_scratch4) : sProp 𝕄) = iprop(∃ f : Buf (Elt F) ((c : Thread nD τ).loc cc0_scratch4), ((c : Thread nD τ).loc cc0_scratch4) ↦{fullShare} f) := by
  unfold some_
  simp only [owns_whole]
  try rfl
theorem some_of_buf4 (c : Dev nD) : iprop(∃ f : Buf (Elt F) ((c : Thread nD τ).loc cc0_scratch4), ((c : Thread nD τ).loc cc0_scratch4) ↦{fullShare} f) ⊢ (some_ (F := F) c (Memref.whole cc0_scratch4) : sProp 𝕄) := by
  rw [some_eq4]
theorem buf4_of_some (c : Dev nD) : some_ (F := F) c (Memref.whole cc0_scratch4) ⊢ (iprop(∃ f : Buf (Elt F) ((c : Thread nD τ).loc cc0_scratch4), ((c : Thread nD τ).loc cc0_scratch4) ↦{fullShare} f) : sProp 𝕄) := by
  rw [some_eq4]

theorem some_eq5 (c : Dev nD) : (some_ (F := F) c (Memref.whole cc0_scratch5) : sProp 𝕄) = iprop(∃ f : Buf (Elt F) ((c : Thread nD τ).loc cc0_scratch5), ((c : Thread nD τ).loc cc0_scratch5) ↦{fullShare} f) := by
  unfold some_
  simp only [owns_whole]
  try rfl
theorem some_of_buf5 (c : Dev nD) : iprop(∃ f : Buf (Elt F) ((c : Thread nD τ).loc cc0_scratch5), ((c : Thread nD τ).loc cc0_scratch5) ↦{fullShare} f) ⊢ (some_ (F := F) c (Memref.whole cc0_scratch5) : sProp 𝕄) := by
  rw [some_eq5]
theorem buf5_of_some (c : Dev nD) : some_ (F := F) c (Memref.whole cc0_scratch5) ⊢ (iprop(∃ f : Buf (Elt F) ((c : Thread nD τ).loc cc0_scratch5), ((c : Thread nD τ).loc cc0_scratch5) ↦{fullShare} f) : sProp 𝕄) := by
  rw [some_eq5]

theorem some_eq6 (c : Dev nD) : (some_ (F := F) c (Memref.whole cc0_scratch6) : sProp 𝕄) = iprop(∃ f : Buf (Elt F) ((c : Thread nD τ).loc cc0_scratch6), ((c : Thread nD τ).loc cc0_scratch6) ↦{fullShare} f) := by
  unfold some_
  simp only [owns_whole]
  try rfl
theorem some_of_buf6 (c : Dev nD) : iprop(∃ f : Buf (Elt F) ((c : Thread nD τ).loc cc0_scratch6), ((c : Thread nD τ).loc cc0_scratch6) ↦{fullShare} f) ⊢ (some_ (F := F) c (Memref.whole cc0_scratch6) : sProp 𝕄) := by
  rw [some_eq6]
theorem buf6_of_some (c : Dev nD) : some_ (F := F) c (Memref.whole cc0_scratch6) ⊢ (iprop(∃ f : Buf (Elt F) ((c : Thread nD τ).loc cc0_scratch6), ((c : Thread nD τ).loc cc0_scratch6) ↦{fullShare} f) : sProp 𝕄) := by
  rw [some_eq6]

theorem some_eq8 (c : Dev nD) : (some_ (F := F) c (Memref.whole cc0_scratch8) : sProp 𝕄) = iprop(∃ f : Buf (Elt F) ((c : Thread nD τ).loc cc0_scratch8), ((c : Thread nD τ).loc cc0_scratch8) ↦{fullShare} f) := by
  unfold some_
  simp only [owns_whole]
  try rfl
theorem some_of_buf8 (c : Dev nD) : iprop(∃ f : Buf (Elt F) ((c : Thread nD τ).loc cc0_scratch8), ((c : Thread nD τ).loc cc0_scratch8) ↦{fullShare} f) ⊢ (some_ (F := F) c (Memref.whole cc0_scratch8) : sProp 𝕄) := by
  rw [some_eq8]
theorem buf8_of_some (c : Dev nD) : some_ (F := F) c (Memref.whole cc0_scratch8) ⊢ (iprop(∃ f : Buf (Elt F) ((c : Thread nD τ).loc cc0_scratch8), ((c : Thread nD τ).loc cc0_scratch8) ↦{fullShare} f) : sProp 𝕄) := by
  rw [some_eq8]

/-- The launch hands over the state before the first grid point. -/
theorem state_zero (c : Dev nD) (a : Call F) (W : (c : Dev nD) → (b : Ref sig .tc) → Buf (Elt F) ((c : Thread nD τ).loc b)) (hA : W c main_v40 = a.A) (hB : W c main_v48 = a.B) :
    (Pipeline.ΦDRG osem0 spec0 H0 R0 W W c : sProp 𝕄) ⊢ iprop(state c a 0 ∗ ∃ r, prngReg c r) := by
  rw [launch_eq, hA, hB]
  unfold state
  rw [if_pos (rfl : 0 % 32 = 0)]
  unfold rest before sent work
  rw [if_pos (Or.inl rfl), if_pos (rfl : 0 % 32 = 0)]
  unfold idle side outH
  iintro ⟨⟨B0, B1, B2, B3, B4, B5, B6, B8, B9, B10⟩, Hg, ⟨S12, S13, S14, S15, S16⟩, ⟨HA, HB⟩, HT⟩
  ihave B9 := (freeQ_of_some c) $$ B9
  icases B9 with ⟨Q0, Q1⟩
  ihave B10 := (freeD_of_some c) $$ B10
  icases B10 with ⟨D0, D1⟩
  isplitr [Hg]
  · isplitl [B0 S13 S14 S15 S16 HA HB Q0 Q1 D0 D1]
    · isplitr [B0]
      · isplitl [HA HB]
        · isplitl [HA]; iexact HA
          iexact HB
        isplitl [S13 S14 Q0 D0]
        · isplitl [S13]; iexact S13
          isplitl [S14]; iexact S14
          isplitl [Q0]; iexact Q0
          iexact D0
        · isplitl [S15]; iexact S15
          isplitl [S16]; iexact S16
          isplitl [Q1]; iexact Q1
          iexact D1
      · iapply (some_of_buf0 c) $$ B0
    isplitl [B8 HT S12]
    · isplitl [B8]; iapply (some_of_buf8 c) $$ B8
      isplitl [HT]
      · iexists (W c main_v49_2)
        isplitr [HT]
        · ipureintro
          intro y hy
          exact absurd hy (by omega)
        · iexact HT
      · iexact S12
    isplitl [B1]; iapply (some_of_buf1 c) $$ B1
    isplitl [B2]; iapply (some_of_buf2 c) $$ B2
    isplitl [B3]; iapply (some_of_buf3 c) $$ B3
    isplitl [B4]; iapply (some_of_buf4 c) $$ B4
    isplitl [B5]; iapply (some_of_buf5 c) $$ B5
    iapply (some_of_buf6 c) $$ B6
  · iexact Hg

theorem side_eight (c : Dev nD) : side (F := F) c (256 / 32) = side c 0 :=
  (side_add_two c 6).trans ((side_add_two c 4).trans ((side_add_two c 2).trans (side_add_two c 0)))
theorem side_nine (c : Dev nD) : side (F := F) c (256 / 32 + 1) = side c 1 :=
  (side_add_two c 7).trans ((side_add_two c 5).trans ((side_add_two c 3).trans (side_add_two c 1)))

/-- The state after the last grid point is what the launch takes back, the queries' gradient written. -/
theorem state_last (c : Dev nD) (a : Call F) (W G : (c : Dev nD) → (b : Ref sig .tc) → Buf (Elt F) ((c : Thread nD τ).loc b)) (hA : W c main_v40 = a.A) (hB : W c main_v48 = a.B) (hG : G c main_v49_2 = a.T) :
    iprop(state c a 256 ∗ ∃ r, prngReg c r) ⊢ (Pipeline.ΦDRG osem0 spec0 H0 R0 W G c : sProp 𝕄) := by
  rw [launch_eq, hA, hB, hG]
  unfold state
  rw [if_pos (rfl : 256 % 32 = 0)]
  unfold rest before sent work
  rw [if_pos (show 256 / 32 = 0 ∨ 256 / 32 = 8 from Or.inr rfl), if_pos (rfl : 256 % 32 = 0), side_eight, side_nine]
  unfold idle side outH
  iintro ⟨⟨⟨⟨⟨HA, HB⟩, ⟨S13, S14, Q0, D0⟩, ⟨S15, S16, Q1, D1⟩⟩, B0⟩, ⟨B8, ⟨%g, %hg, HT⟩, S12⟩, ⟨B1, B2, B3, B4, B5, B6⟩⟩, Hg⟩
  have hT : g = a.T := by
    funext y
    have h0 : (y 0).val < 8 := (y 0).isLt
    have h1 : (y 1).val < 16384 := (y 1).isLt
    exact hg y (by omega)
  subst hT
  isplitl [B0 B1 B2 B3 B4 B5 B6 B8 Q0 Q1 D0 D1]
  · isplitl [B0]; iapply (buf0_of_some c) $$ B0
    isplitl [B1]; iapply (buf1_of_some c) $$ B1
    isplitl [B2]; iapply (buf2_of_some c) $$ B2
    isplitl [B3]; iapply (buf3_of_some c) $$ B3
    isplitl [B4]; iapply (buf4_of_some c) $$ B4
    isplitl [B5]; iapply (buf5_of_some c) $$ B5
    isplitl [B6]; iapply (buf6_of_some c) $$ B6
    isplitl [B8]; iapply (buf8_of_some c) $$ B8
    isplitl [Q0 Q1]
    · iapply (some_of_freeQ c) $$ [Q0 Q1]
      isplitl [Q0]; iexact Q0
      iexact Q1
    · iapply (some_of_freeD c) $$ [D0 D1]
      isplitl [D0]; iexact D0
      iexact D1
  isplitl [Hg]; iexact Hg
  isplitl [S12 S13 S14 S15 S16]
  · isplitl [S12]; iexact S12
    isplitl [S13]; iexact S13
    isplitl [S14]; iexact S14
    isplitl [S15]; iexact S15
    iexact S16
  isplitl [HA HB]
  · isplitl [HA]; iexact HA
    iexact HB
  · iexact HT

end Cert.KernelIdeal.Hand

end
-- ==== Proof.Ideal.Run.lean ====
/-
  The run of the whole program: every grid point meets its obligation, so the call ends with each key block's gradients in
  the output arrays and the queries' gradient in the array the body writes itself; the arguments end unchanged.
-/
module

public import proofs.«01_k».proof.Proof.Ideal.Launch
public import proofs.«01_k».proof.Proof.Ideal.Body
public import proofs.«01_k».proof.Proof.Gen.KernelIdeal.Frame
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Grid point `t` is key block `t % 32` of head `t / 32`. -/
theorem coords_at : ∀ t : Fin grid0.N, hd (grid0.coords t) = t.val / 32 ∧ kb (grid0.coords t) = t.val % 32 := by decide +kernel

/-- A grid point of a number. -/
def pt (p : ℕ) : Fin cfg0.N := ⟨p % 256, lt_of_lt_of_eq (Nat.mod_lt _ (by decide)) N_0.symm⟩
theorem pt_val (t : Fin cfg0.N) : pt t.val = t := Fin.ext (Nat.mod_eq_of_lt (lt_of_lt_of_eq t.isLt N_0))

/-- What core `c`'s call is given. -/
def call (c : Dev nD) : Call F where
  A := V m c main_v40
  B := V m c main_v48
  K p := iblk m c 0 (pt p)
  W p := iblk m c 1 (pt p)
  L p := iblk m c 2 (pt p)
  R p := iblk m c 3 (pt p)

set_option maxHeartbeats 800000 in
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The proof data of the call: the outputs' blocks after each point are the gradients of that point's key block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (call m c).dk t.val
    | ⟨5, _⟩ => (call m c).dv t.val
  Φ p := iprop(state c (call m c) p.val ∗ ∃ r, prngReg c r)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (call m c).dk t.val := by dsimp only [dats]
theorem after0_5 (c : Dev nD) (t : Fin cfg0.N) : (dats m 0 c).after 5 t = (call m c).dv t.val := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem call_K (c : Dev nD) (t : Fin cfg0.N) : (call m c).K t.val = iblk m c 0 t := by
  show iblk m c 0 (pt t.val) = iblk m c 0 t
  rw [pt_val]
theorem call_W (c : Dev nD) (t : Fin cfg0.N) : (call m c).W t.val = iblk m c 1 t := by
  show iblk m c 1 (pt t.val) = iblk m c 1 t
  rw [pt_val]
theorem call_L (c : Dev nD) (t : Fin cfg0.N) : (call m c).L t.val = iblk m c 2 t := by
  show iblk m c 2 (pt t.val) = iblk m c 2 t
  rw [pt_val]
theorem call_R (c : Dev nD) (t : Fin cfg0.N) : (call m c).R t.val = iblk m c 3 t := by
  show iblk m c 3 (pt t.val) = iblk m c 3 t
  rw [pt_val]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- One grid point, as the pipeline asks for it. -/
theorem sound_body (c : Dev nD) (t : Fin cfg0.N) :
    bodyPre m c t ⊢ wp frame (wpE (defs₀ (F := F)) Variants.none c none) Set.univ (bodyAt0 t) (fun _ => bodyPost m c t) := by
  have hp : t.val < 256 := lt_of_lt_of_eq t.isLt N_0
  have hc := coords_at t
  unfold bodyPre bodyPost bodyAt0
  rw [body_eq]
  rw [show (dats m 0 c).Φ t.castSucc = iprop(state c (call m c) t.val ∗ ∃ r, prngReg c r) from rfl, show (dats m 0 c).Φ t.succ = iprop(state c (call m c) (t.val + 1) ∗ ∃ r, prngReg c r) from rfl]
  unfold Dat.owesAt Pipeline.owesWithin
  rw [show (dats m 0 c).owed t.castSucc = 0 from rfl, show (dats m 0 c).owed t.succ = 0 from rfl]
  rw [after0_0, after0_1, after0_2, after0_3, after0_4, after0_5]
  simp only [before0_0, before0_1, before0_2, before0_3]
  rw [← call_K, ← call_W, ← call_L, ← call_R]
  iintro ⟨⟨Hst, Hg⟩, ⟨%W, -, HW⟩, ⟨%d0, H0⟩, ⟨%d1, H1⟩, ⟨%d2, H2⟩, ⟨%d3, H3⟩, ⟨%d4, H4⟩, ⟨%d5, H5⟩⟩
  iapply (point_runs c (grid0.coords t) (call m c) t.val hp hc.1 hc.2 _ _ _ _ _ _ _ _ _ _ _ _ _ _ _ _ _ _ _ _ _ _ _ _ _) $$ [Hst HW H0 H1 H2 H3 H4 H5]
  · isplitl [Hst]; iexact Hst
    isplitl [HW]
    · unfold waited
      iexists W; iexact HW
    isplitl [H0]; iexact H0
    isplitl [H1]; iexact H1
    isplitl [H2]; iexact H2
    isplitl [H3]; iexact H3
    isplitl [H4]
    · unfold some_
      iexists _; iexact H4
    · unfold some_
      iexists _; iexact H5
  unfold waited
  iintro ⟨Hst, ⟨%W', HW'⟩, H0, H1, H2, H3, H4, H5⟩
  isplitl [Hst Hg]
  · isplitl [Hst]; iexact Hst
    iexact Hg
  isplitl [HW']
  · iexists W'
    isplitr [HW']
    · ipureintro; exact fun _ _ => Or.inl trivial
    · iexact HW'
  isplitl [H0]; iexact H0
  isplitl [H1]; iexact H1
  isplitl [H2]; iexact H2
  isplitl [H3]; iexact H3
  isplitl [H4]; iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The arrays after the call that the body itself writes. -/
def G (c : Dev nD) (b : Ref sig .tc) : Buf (Elt F) ((c : Thread nD τ).loc b) := Function.update (V m c) main_v49_2 (call m c).T b
theorem G_out (c : Dev nD) : G m c main_v49_2 = (call m c).T := by unfold G; rw [Function.update_self]

set_option backward.isDefEq.respectTransparency.types false in
/-- The run: the windows' arrays hold what the proof data says, the queries' gradient is written, every semaphore is back at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := G m)
    (hin := fun c => state_zero c (call m c) (V m) rfl rfl) (hout := fun c => state_last c (call m c) (V m) (G m) rfl rfl (G_out m c))

/-- The arguments end unchanged. -/
theorem args_of (r : PUnit × MemSt nD τ sig (Elt F)) (h : Pipeline.FramePostRG cfgs (dats m) 0 R0 (V m) (G m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c)⟩

/-- The program terminates without a fault, its arguments end unchanged, and every semaphore ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m r h.1, h.2⟩) (run_main m ρ)

end Cert.KernelIdeal.Hand

end
-- ==== Proof.Value.Real.lean ====
/-
  The causal attention of one head and its gradients over the real numbers: the sums that both programs compute, and
  the two identities between the ways in which they write them.
-/
module

public import Idealize.ShloMosaic.PureOps.Ideal
public import Mathlib.Analysis.SpecialFunctions.Pow.Real
public import Mathlib.Analysis.SpecialFunctions.Log.Basic

@[expose] public section

noncomputable section

namespace Cert.Attn

open scoped BigOperators

/-- The arguments as real numbers: the queries, already scaled, the keys, the values and the output's gradient. -/
structure Ins where
  q : Fin 16384 → Fin 8 → Fin 192 → ℝ
  k : Fin 16384 → Fin 8 → Fin 192 → ℝ
  v : Fin 16384 → Fin 8 → Fin 128 → ℝ
  c : Fin 16384 → Fin 8 → Fin 128 → ℝ

variable (a : Ins) (h : Fin 8)

/-- The score of query `x` and key `y`. -/
def Ins.s (x y : Fin 16384) : ℝ := ∑ d, a.q x h d * a.k y h d

/-- The masked score. -/
def Ins.ms (x y : Fin 16384) : EReal := if y ≤ x then (a.s h x y : EReal) else ⊥

/-- The greatest score of a query. -/
def Ins.m (x : Fin 16384) : ℝ := (Finset.univ.sup (a.ms h x)).toReal

/-- The exponential of a score, zero where the mask hides it. -/
def Ins.e (x y : Fin 16384) : ℝ := if y ≤ x then Real.exp (a.s h x y - a.m h x) else 0

/-- The sum of a query's exponentials. -/
def Ins.l (x : Fin 16384) : ℝ := ∑ y, a.e h x y

/-- The weight of key `y` in query `x`. -/
def Ins.p (x y : Fin 16384) : ℝ := a.e h x y / a.l h x

/-- The gradient of a weight. -/
def Ins.dp (x y : Fin 16384) : ℝ := ∑ d, a.v y h d * a.c x h d

/-- The output of a query. -/
def Ins.o (x : Fin 16384) (d : Fin 128) : ℝ := ∑ y, a.v y h d * a.p h x y

/-- The product of a query's output with its gradient. -/
def Ins.dl (x : Fin 16384) : ℝ := ∑ d, a.o h x d * a.c x h d

/-- The gradient of a score. -/
def Ins.g (x y : Fin 16384) : ℝ := a.p h x y * (a.dp h x y - a.dl h x)

/-- The gradient of the values. -/
def Ins.dv (y : Fin 16384) (d : Fin 128) : ℝ := ∑ x, a.c x h d * a.p h x y
/-- The gradient of the keys. -/
def Ins.dk (y : Fin 16384) (d : Fin 192) : ℝ := ∑ x, a.g h x y * a.q x h d
/-- The gradient of the scaled queries. -/
def Ins.dq (x : Fin 16384) (d : Fin 192) : ℝ := ∑ y, a.g h x y * a.k y h d

theorem ms_ne_top (x y : Fin 16384) : a.ms h x y ≠ ⊤ := by
  unfold Ins.ms; split
  · exact EReal.coe_ne_top _
  · exact bot_ne_top

/-- The greatest masked score is a real number, since no query hides its own key. -/
theorem coe_m (x : Fin 16384) : Finset.univ.sup (a.ms h x) = (a.m h x : EReal) := by
  refine (EReal.coe_toReal ?_ ?_).symm
  · refine (lt_of_le_of_ne le_top ?_).ne
    intro ht
    obtain ⟨y, _, hy⟩ := Finset.exists_mem_eq_sup Finset.univ ⟨x, Finset.mem_univ x⟩ (a.ms h x)
    exact ms_ne_top a h x y (hy ▸ ht)
  · intro hb
    have h1 : a.ms h x x ≤ ⊥ := hb ▸ Finset.le_sup (f := a.ms h x) (Finset.mem_univ x)
    unfold Ins.ms at h1
    rw [if_pos le_rfl] at h1
    exact EReal.coe_ne_bot _ (le_bot_iff.mp h1)

theorem e_nonneg (x y : Fin 16384) : 0 ≤ a.e h x y := by
  unfold Ins.e; split
  · exact (Real.exp_pos _).le
  · exact le_rfl

theorem l_pos (x : Fin 16384) : 0 < a.l h x := by
  refine lt_of_lt_of_le ?_ (Finset.single_le_sum (f := a.e h x) (fun y _ => e_nonneg a h x y) (Finset.mem_univ x))
  unfold Ins.e; rw [if_pos le_rfl]; exact Real.exp_pos _

theorem p_hidden {x y : Fin 16384} (hy : ¬ y ≤ x) : a.p h x y = 0 := by
  unfold Ins.p Ins.e; rw [if_neg hy, zero_div]

theorem g_hidden {x y : Fin 16384} (hy : ¬ y ≤ x) : a.g h x y = 0 := by
  unfold Ins.g; rw [p_hidden a h hy, zero_mul]

/-- The product of output and gradient is the weighted sum of the weights' gradients. -/
theorem dl_eq (x : Fin 16384) : a.dl h x = ∑ y, a.dp h x y * a.p h x y := by
  unfold Ins.dl Ins.o Ins.dp
  simp only [Finset.sum_mul]
  rw [Finset.sum_comm]
  exact Finset.sum_congr rfl fun y _ => Finset.sum_congr rfl fun d _ => by ring

/-- The gradient of a score as the reference writes it. -/
theorem g_ref (x y : Fin 16384) :
    (a.dp h x y / a.l h x + -(∑ z, a.dp h x z * (1 / (a.l h x * a.l h x)) * a.e h x z)) * a.e h x y = a.g h x y := by
  have hl := (l_pos a h x).ne'
  have hs : (∑ z, a.dp h x z * (1 / (a.l h x * a.l h x)) * a.e h x z) = a.dl h x / a.l h x := by
    rw [dl_eq, Finset.sum_div]
    refine Finset.sum_congr rfl fun z _ => ?_
    unfold Ins.p
    field_simp
  rw [hs]
  unfold Ins.g Ins.p
  field_simp
  ring

/-- A weight as the kernel computes it, to the base two, from the row's log-sum. -/
theorem p_ker {x y : Fin 16384} (hy : y ≤ x) :
    Real.rpow 2 (a.s h x y / Real.log 2 - (a.m h x + Real.log (a.l h x)) / Real.log 2) = a.p h x y := by
  have h2 : Real.log 2 ≠ 0 := (Real.log_pos (by norm_num)).ne'
  have hl := l_pos a h x
  show (2 : ℝ) ^ (a.s h x y / Real.log 2 - (a.m h x + Real.log (a.l h x)) / Real.log 2) = a.p h x y
  rw [Real.rpow_def_of_pos (by norm_num), show Real.log 2 * (a.s h x y / Real.log 2 - (a.m h x + Real.log (a.l h x)) / Real.log 2)
      = (a.s h x y - a.m h x) - Real.log (a.l h x) by field_simp; ring, Real.exp_sub, Real.exp_log hl]
  unfold Ins.p Ins.e
  rw [if_pos hy]

/-! ## Sums of real numbers as extended reals -/

/-- A finite sum of real numbers, taken among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- A quotient of real numbers, among the extended reals. -/
theorem coe_div {x y : ℝ} (hy : y ≠ 0) : Idealize.ShloMosaic.Ideal.div (x : EReal) (y : EReal) = ((x / y : ℝ) : EReal) := by
  unfold Idealize.ShloMosaic.Ideal.div
  rw [if_neg (by exact_mod_cast hy), ← EReal.coe_inv, ← EReal.coe_mul, div_eq_mul_inv]

/-- A sum over 32 blocks of 512 is the sum over all. -/
theorem sum_blocks (f : ℕ → ℝ) : ∑ b ∈ Finset.range 32, ∑ i : Fin 512, f (512 * b + i.val) = ∑ x : Fin 16384, f x.val := by
  have key : ∀ n : ℕ, ∑ b ∈ Finset.range n, ∑ i : Fin 512, f (512 * b + i.val) = ∑ x ∈ Finset.range (512 * n), f x := by
    intro n
    induction n with
    | zero => simp
    | succ n ih =>
      rw [Finset.sum_range_succ, ih, Nat.mul_succ, Finset.sum_range_add, Fin.sum_univ_eq_sum_range (fun i => f (512 * n + i)) 512]
  rw [key 32, Fin.sum_univ_eq_sum_range f 16384]

end Cert.Attn

end
-- ==== Proof.Value.Stages.lean ====
/-
  The attention's values on the host, stage by stage, as functions of the four arguments q, k, v and the cotangent
  ct, at the extended reals. `Held q k v c a` says that the four arrays hold the real numbers `a` (q multiplied by
  the scale already); under it each stage is read at an index as a number of Proof/Value/Real.lean.
-/
module

public import proofs.«01_k».proof.Proof.Gen.ReferenceIdeal
public import proofs.«01_k».proof.Proof.Value.Real
public import Idealize.ShloMosaic.Lib.Pointwise
public import Idealize.ShloMosaic.Lib.IdealHost
public import Idealize.ShloMosaic.Lib.WordCmp

@[expose] public section

set_option maxRecDepth 16384

noncomputable section

namespace Cert.Attn

open Cert.ReferenceIdeal Cert.ReferenceIdeal.Gen Idealize.ShloMosaic

variable (q k : FVec Ideal S16384x8x192 .f32) (v c : FVec Ideal S16384x8x128 .f32)

/-- The scaled queries. -/
def hQ : FVec Ideal S16384x8x192 .f32 :=
  mulf q (broadcastInDim S16384x8x192 ![] bcast_S_S16384x8x192 (constant S_ .f32 0x3D93CD3A#32))

/-- 1 where the key (axis 2) is not after the query (axis 1). -/
def hMask : IVec S8x16384x16384 1 :=
  broadcastInDim S8x16384x16384 ![0, 1, 2] bcast_S1x16384x16384_S8x16384x16384_0_1_2
    (broadcastInDim S1x16384x16384 ![1, 2] bcast_S16384x16384_S1x16384x16384_1_2
      (cmpi .sle
        (broadcastInDim S16384x16384 ![0, 1] bcast_S1x16384_S16384x16384_0_1
          (broadcastInDim S1x16384 ![1] bcast_S16384_S1x16384_1 (iotaInDim S16384 32 0)))
        (broadcastInDim S16384x16384 ![0, 1] bcast_S16384x1_S16384x16384_0_1
          (broadcastInDim S16384x1 ![0] bcast_S16384_S16384x1_0 (iotaInDim S16384 32 0)))))

/-- The scores with the hidden ones at −∞. -/
def hScores : FVec Ideal S8x16384x16384 .f32 :=
  select hMask (Host.dotGeneral dot_S16384x8x192_S16384x8x192_S8x16384x16384_2_2_0_0_1_1 none (hQ q) k)
    (broadcastInDim S8x16384x16384 ![] bcast_S_S8x16384x16384 (id (constant S_ .f32 0xFF800000#32)))

/-- The largest score of each query. -/
def hMax : FVec Ideal S8x16384 .f32 :=
  maximumf (broadcastInDim S8x16384 ![] bcast_S_S8x16384 (constant S_ .f32 0xFF800000#32))
    (Host.reduce FloatOps.maximumf (hScores q k) (constant S_ .f32 0xFF800000#32) reducesTo_S8x16384x16384_S8x16384_d2 h_S_)

/-- A number of each query (as a column), at every key. -/
def hWide (x : FVec Ideal S8x16384x1 .f32) : FVec Ideal S8x16384x16384 .f32 :=
  broadcastInDim S8x16384x16384 ![0, 1, 2] bcast_S8x16384x1_S8x16384x16384_0_1_2 x

/-- A row of numbers as a column. -/
def hCol (x : FVec Ideal S8x16384 .f32) : FVec Ideal S8x16384x1 .f32 :=
  broadcastInDim S8x16384x1 ![0, 1] bcast_S8x16384_S8x16384x1_0_1 x

/-- The exponentials of the scores less the largest. -/
def hExp : FVec Ideal S8x16384x16384 .f32 :=
  Host.exp (subf (hScores q k) (hWide (hCol (hMax q k))))

/-- Their sum for each query. -/
def hSum : FVec Ideal S8x16384 .f32 :=
  Host.reduceAdd (hExp q k) (constant S_ .f32 0x00000000#32) reducesTo_S8x16384x16384_S8x16384_d2 h_S_

/-- The softmax. -/
def hP : FVec Ideal S8x16384x16384 .f32 := Host.divf (hExp q k) (hWide (hCol (hSum q k)))

/-- The cotangent with the query last. -/
def hC : FVec Ideal S8x128x16384 .f32 := transpose S8x128x16384 [1, 2, 0] c transposes_S16384x8x128_S8x128x16384_1_2_0

/-- The products of the values with the cotangent. -/
def hDp : FVec Ideal S8x16384x16384 .f32 :=
  Host.dotGeneral dot_S8x128x16384_S16384x8x128_S8x16384x16384_1_2_2_0_0_1 none (hC c) v

/-- The gradient of the values. -/
def hDv : FVec Ideal S16384x8x128 .f32 :=
  transpose S16384x8x128 [2, 0, 1]
    (Host.dotGeneral dot_S8x128x16384_S8x16384x16384_S8x128x16384_2_1_1_2_0_0 none (hC c) (hP q k))
    transposes_S8x128x16384_S16384x8x128_2_0_1

/-- The part of the softmax's gradient that comes through its sum, one number a query. -/
def hThrough : FVec Ideal S8x16384 .f32 :=
  Host.reduceAdd
    (Host.negf (shapeCast S8x16384x1
      (Host.reduceAdd
        (mulf (mulf (hDp v c) (hWide (Host.divf
          (broadcastInDim S8x16384x1 ![] bcast_S_S8x16384x1 (constant S_ .f32 0x3F800000#32))
          (mulf (hCol (hSum q k)) (hCol (hSum q k)))))) (hExp q k))
        (constant S_ .f32 0x00000000#32) reducesTo_S8x16384x16384_S8x16384_d2 h_S_)
      shapeCasts_S8x16384_S8x16384x1))
    (constant S_ .f32 0x00000000#32) reducesTo_S8x16384x1_S8x16384_d2 h_S_

/-- The gradient of the scores. -/
def hG : FVec Ideal S8x16384x16384 .f32 :=
  select hMask
    (mulf (addf (Host.divf (hDp v c) (hWide (hCol (hSum q k))))
        (broadcastInDim S8x16384x16384 ![0, 1] bcast_S8x16384_S8x16384x16384_0_1 (hThrough q k v c)))
      (hExp q k))
    (broadcastInDim S8x16384x16384 ![] bcast_S_S8x16384x16384 (constant S_ .f32 0x00000000#32))

/-- The gradient of the keys. -/
def hDk : FVec Ideal S16384x8x192 .f32 :=
  transpose S16384x8x192 [1, 0, 2]
    (Host.dotGeneral dot_S8x16384x16384_S16384x8x192_S8x16384x192_1_0_2_2_0_1 none (hG q k v c) (hQ q))
    transposes_S8x16384x192_S16384x8x192_1_0_2

/-- The gradient of the scaled queries. -/
def hDq : FVec Ideal S16384x8x192 .f32 :=
  transpose S16384x8x192 [1, 0, 2]
    (Host.dotGeneral dot_S8x16384x16384_S16384x8x192_S8x16384x192_2_0_1_2_0_1 none (hG q k v c) k)
    transposes_S8x16384x192_S16384x8x192_1_0_2

/-- The four arrays hold the real numbers `a`. -/
structure Held (a : Ins) : Prop where
  q : ∀ x h d, hQ q (ix3 x h d) = ((a.q x h d : ℝ) : EReal)
  k : ∀ x h d, k (ix3 x h d) = ((a.k x h d : ℝ) : EReal)
  v : ∀ x h d, v (ix3 x h d) = ((a.v x h d : ℝ) : EReal)
  c : ∀ x h d, c (ix3 x h d) = ((a.c x h d : ℝ) : EReal)

variable {q k v c} {a : Ins}

theorem ofBits_bot : Ideal.ofBits .f32 0xFF800000#32 = ⊥ := by
  simp [Ideal.ofBits, Ideal.ieee]

/-- The mask at an index. -/
theorem hMask_at (h : Fin 8) (x y : Fin 16384) : hMask (ix3 h x y) = BitVec.ofBool (decide (y ≤ x)) := by
  unfold hMask
  simp only [pointwise]
  refine Eq.trans (b := IntOp.cmpi .sle (BitVec.ofNat 32 y.val) (BitVec.ofNat 32 x.val)) rfl ?_
  rw [WordCmp.cmpi_sle_ofNat (by have := y.isLt; omega) (by have := x.isLt; omega)]
  rfl

/-- A column at every key, at an index. -/
theorem hWide_at (z : FVec Ideal S8x16384x1 .f32) (h : Fin 8) (x y : Fin 16384) : hWide z (ix3 h x y) = z (ix3 h x 0) := by
  unfold hWide
  simp only [pointwise]
  exact congrArg z rfl

/-- A column at an index. -/
theorem hCol_at (z : FVec Ideal S8x16384 .f32) (h : Fin 8) (x : Fin 16384) (y : Fin 1) : hCol z (ix3 h x y) = z (ix2 h x) := by
  unfold hCol
  simp only [pointwise]
  exact congrArg z rfl

/-- The masked scores at an index. -/
theorem hScores_at (H : Held q k v c a) (h : Fin 8) (x y : Fin 16384) : hScores q k (ix3 h x y) = a.ms h x y := by
  unfold hScores
  simp only [pointwise, hMask_at, H.q, H.k]
  unfold Ins.ms Ins.s
  refine if_congr Iff.rfl ?_ ofBits_bot
  rw [zero_add, coe_sum]
  exact Finset.sum_congr rfl fun d _ => (EReal.coe_mul _ _).symm

theorem fold_max_bot {n : ℕ} (f : Fin n → EReal) : (Finset.univ : Finset (Fin n)).fold max ⊥ f = Finset.univ.sup f := rfl

theorem reduce_max_last (z : FVec Ideal S8x16384x16384 .f32) (h : Fin 8) (x : Fin 16384) :
    Host.reduce FloatOps.maximumf z (constant S_ .f32 0xFF800000#32) reducesTo_S8x16384x16384_S8x16384_d2 h_S_ (ix2 h x)
      = Finset.univ.sup fun y : Fin 16384 => z (ix3 h x y) := by
  rw [show (FloatOps.maximumf : Ideal .f32 → Ideal .f32 → Ideal .f32) = (max : EReal → EReal → EReal) from rfl]
  refine (Host.reduce_eq_fold (α := EReal) max z (constant (F := Ideal) S_ .f32 0xFF800000#32) reducesTo_S8x16384x16384_S8x16384_d2
    h_S_ (ix2 h x)).trans ?_
  rw [show (constant (F := Ideal) S_ .f32 0xFF800000#32 (Shape.Idx.first h_S_) : EReal) = ⊥ from ofBits_bot]
  exact (Shape.ReducesTo.fold_fiber_r3_a2 reducesTo_S8x16384x16384_S8x16384_d2 (ix2 h x) max ⊥ z).trans (fold_max_bot _)

/-- The largest score at an index. -/
theorem hMax_at (H : Held q k v c a) (h : Fin 8) (x : Fin 16384) : hMax q k (ix2 h x) = ((a.m h x : ℝ) : EReal) := by
  unfold hMax
  rw [maximumf_apply, Ideal.maximumf_def, reduce_max_last, ValueIdx.broadcastInDim_scalar_apply, constant_apply, Ideal.ofBits_def, ofBits_bot,
    max_bot_left, ← coe_m]
  exact congrArg _ (funext fun y => hScores_at H h x y)

/-- The exponentials at an index. -/
theorem hExp_at (H : Held q k v c a) (h : Fin 8) (x y : Fin 16384) : hExp q k (ix3 h x y) = ((a.e h x y : ℝ) : EReal) := by
  unfold hExp
  simp only [pointwise, hWide_at, hCol_at, hScores_at H, hMax_at H]
  unfold Ins.ms Ins.e
  by_cases hy : y ≤ x
  · rw [if_pos hy, if_pos hy, ← EReal.coe_sub]; rfl
  · rw [if_neg hy, if_neg hy, EReal.bot_sub]; rfl

/-- Their sum at an index. -/
theorem hSum_at (H : Held q k v c a) (h : Fin 8) (x : Fin 16384) : hSum q k (ix2 h x) = ((a.l h x : ℝ) : EReal) := by
  unfold hSum
  simp only [pointwise, hExp_at H]
  rw [zero_add]; exact (coe_sum _ _).symm

/-- The softmax at an index. -/
theorem hP_at (H : Held q k v c a) (h : Fin 8) (x y : Fin 16384) : hP q k (ix3 h x y) = ((a.p h x y : ℝ) : EReal) := by
  unfold hP
  simp only [pointwise, hWide_at, hCol_at, hExp_at H, hSum_at H]
  exact coe_div (l_pos a h x).ne'

theorem sum_mul_coe {n : ℕ} (f g : Fin n → ℝ) : (0 : EReal) + ∑ i, (f i : EReal) * (g i : EReal) = ((∑ i, f i * g i : ℝ) : EReal) := by
  rw [zero_add, coe_sum]
  exact Finset.sum_congr rfl fun d _ => (EReal.coe_mul _ _).symm

/-- The gradient of the softmax at an index. -/
theorem hDp_at (H : Held q k v c a) (h : Fin 8) (x y : Fin 16384) : hDp v c (ix3 h x y) = ((a.dp h x y : ℝ) : EReal) := by
  unfold hDp hC
  simp only [pointwise, H.v, H.c]
  rw [sum_mul_coe]
  unfold Ins.dp
  exact congrArg _ (Finset.sum_congr rfl fun d _ => mul_comm _ _)

/-- The gradient of the values at an index. -/
theorem hDv_at (H : Held q k v c a) (y : Fin 16384) (h : Fin 8) (d : Fin 128) : hDv q k c (ix3 y h d) = ((a.dv h y d : ℝ) : EReal) := by
  unfold hDv hC
  simp only [pointwise, H.c, hP_at H]
  exact sum_mul_coe _ _

/-- The part through the softmax's sum, at an index. -/
theorem hThrough_at (H : Held q k v c a) (h : Fin 8) (x : Fin 16384) :
    hThrough q k v c (ix2 h x) = ((-(∑ z, a.dp h x z * (1 / (a.l h x * a.l h x)) * a.e h x z) : ℝ) : EReal) := by
  unfold hThrough
  simp only [pointwise, hWide_at, hCol_at, hDp_at H, hSum_at H, hExp_at H]
  rw [zero_add, Fin.sum_univ_one, zero_add, EReal.coe_neg, coe_sum]
  refine congrArg _ (Finset.sum_congr rfl fun z _ => ?_)
  rw [← EReal.coe_mul, ← EReal.coe_one, coe_div (mul_pos (l_pos a h x) (l_pos a h x)).ne', ← EReal.coe_mul, ← EReal.coe_mul]

/-- A row's number at every key, at an index. -/
theorem wide2_at (z : FVec Ideal S8x16384 .f32) (h : Fin 8) (x y : Fin 16384) :
    broadcastInDim S8x16384x16384 ![0, 1] bcast_S8x16384_S8x16384x16384_0_1 z (ix3 h x y) = z (ix2 h x) := by
  simp only [pointwise]
  exact congrArg z rfl

/-- The gradient of the scores at an index. -/
theorem hG_at (H : Held q k v c a) (h : Fin 8) (x y : Fin 16384) : hG q k v c (ix3 h x y) = ((a.g h x y : ℝ) : EReal) := by
  unfold hG
  rw [ValueIdx.select_apply, mulf_apply, addf_apply, wide2_at]
  simp only [pointwise, hWide_at, hCol_at, hMask_at, hDp_at H, hSum_at H, hExp_at H, hThrough_at H]
  by_cases hy : y ≤ x
  · rw [if_pos hy, coe_div (l_pos a h x).ne', ← EReal.coe_add, ← EReal.coe_mul, g_ref]
  · rw [if_neg hy, g_hidden a h hy]; rfl

/-- The gradient of the keys at an index. -/
theorem hDk_at (H : Held q k v c a) (y : Fin 16384) (h : Fin 8) (d : Fin 192) : hDk q k v c (ix3 y h d) = ((a.dk h y d : ℝ) : EReal) := by
  unfold hDk
  simp only [pointwise, hG_at H, H.q]
  exact sum_mul_coe _ _

/-- The gradient of the scaled queries at an index. -/
theorem hDq_at (H : Held q k v c a) (x : Fin 16384) (h : Fin 8) (d : Fin 192) : hDq q k v c (ix3 x h d) = ((a.dq h x d : ℝ) : EReal) := by
  unfold hDq
  simp only [pointwise, hG_at H, H.k]
  exact sum_mul_coe _ _

/-- 192 columns widened to 256 by zeros. -/
def hPad (x : FVec Ideal S16384x8x192 .f32) : FVec Ideal S16384x8x256 .f32 :=
  pad S16384x8x256 ![0, 0, 0] ![0, 0, 64] ![0, 0, 0] x (sitofp .f32 (constantI S_ 32 0#32)) pads_S16384x8x192_S16384x8x256_000_000_0640 h_S_

/-- A widened array at an index. -/
theorem hPad_at (x : FVec Ideal S16384x8x192 .f32) (i : Fin 16384) (h : Fin 8) (d : Fin 256) :
    hPad x (ix3 i h d) = if hd : d.val < 192 then x (ix3 i h ⟨d.val, hd⟩) else 0 := by
  unfold hPad
  simp only [pointwise]
  have inside : (∀ a : Fin 3, ![0, 0, 0] a ≤ (ix3 i h d a).val ∧ ((ix3 i h d a).val - ![0, 0, 0] a) % (![0, 0, 0] a + 1) = 0 ∧
      ((ix3 i h d a).val - ![0, 0, 0] a) / (![0, 0, 0] a + 1) < ![16384, 8, 192] a) ↔ d.val < 192 := by
    constructor
    · intro hin
      have := (hin 2).2.2
      change (d.val - 0) / (0 + 1) < 192 at this
      omega
    · intro hd a
      match a with
      | 0 => exact ⟨Nat.zero_le _, Nat.mod_one _, by show (i.val - 0) / (0 + 1) < 16384; have := i.isLt; omega⟩
      | 1 => exact ⟨Nat.zero_le _, Nat.mod_one _, by show (h.val - 0) / (0 + 1) < 8; have := h.isLt; omega⟩
      | 2 => exact ⟨Nat.zero_le _, Nat.mod_one _, by show (d.val - 0) / (0 + 1) < 192; omega⟩
  by_cases hd : d.val < 192
  · rw [dif_pos (inside.mpr hd), dif_pos hd]
    congr 2 <;> exact Fin.ext (Nat.div_one _)
  · rw [dif_neg (mt inside.mp hd), dif_neg hd]
    show ((((0#32 : BitVec 32).toInt : ℤ) : ℝ) : EReal) = 0
    simp

end Cert.Attn

end
-- ==== Proof.Value.Payloads.lean ====
/-
  The arithmetic of the kernel's body at the extended reals, read at an index.
-/
module

public import proofs.«01_k».proof.Proof.Ideal.Point
public import proofs.«01_k».proof.Proof.Value.Stages

@[expose] public section

set_option maxRecDepth 16384

noncomputable section

namespace Cert.Attn

open Cert.KernelIdeal Cert.KernelIdeal.Gen Cert.KernelIdeal.Hand Idealize.ShloMosaic

/-- The scores. -/
theorem pay2_at (k : FVec Ideal S512x256 .bf16) (q : FVec Ideal S1x512x256 .bf16) (i r : Fin 512) :
    k0_pay2 (F := Ideal) k q (ix2 i r) = ∑ n : Fin 256, k (ix2 i n) * q (ix3 0 r n) := by
  unfold k0_pay2
  simp only [pointwise]
  exact zero_add _

/-- The products of the values with the cotangent. -/
theorem pay3_at (v : FVec Ideal S512x128 .bf16) (c : FVec Ideal S1x128x512 .bf16) (i r : Fin 512) :
    k0_pay3 (F := Ideal) v c (ix2 i r) = ∑ n : Fin 128, v (ix2 i n) * c (ix3 0 n r) := by
  unfold k0_pay3
  simp only [pointwise]
  exact zero_add _

theorem pay4_at (q : FVec Ideal S1x512x256 .bf16) (r : Fin 512) (n : Fin 256) : k0_pay4 (F := Ideal) q (ix2 r n) = q (ix3 0 r n) := by
  unfold k0_pay4
  simp only [pointwise]

/-- The weights below the diagonal block. -/
theorem pay5_at (s : FVec Ideal S512x512 .f32) (l : FVec Ideal S1x1x512 .f32) (i r : Fin 512) :
    k0_pay5 (F := Ideal) s l (ix2 i r) = Ideal.exp2 (s (ix2 i r) - l (ix3 0 0 r)) := by
  unfold k0_pay5
  simp only [pointwise]
  rfl

/-- The weights in the diagonal block. -/
theorem pay513_at (s : FVec Ideal S512x512 .f32) (l : FVec Ideal S1x1x512 .f32) (i r : Fin 512) :
    k0_pay513 (F := Ideal) s l (ix2 i r) = if i ≤ r then Ideal.exp2 (s (ix2 i r) - l (ix3 0 0 r)) else 0 := by
  unfold k0_pay513
  simp only [pointwise]
  rw [show (List.foldl (fun n a => n * ![512, 512] a + (ix2 i r a).val) 0 [0]) = i.val from by show 0 * 512 + i.val = i.val; omega,
    show (List.foldl (fun n a => n * ![512, 512] a + (ix2 i r a).val) 0 [1]) = r.val from by show 0 * 512 + r.val = r.val; omega,
    WordCmp.cmpi_sle_ofNat (by omega) (by omega)]
  by_cases h : i.val ≤ r.val
  · rw [if_pos (Fin.le_def.mpr h), decide_eq_true h]
    rfl
  · rw [if_neg (fun g => h (Fin.le_def.mp g)), decide_eq_false h]
    show Ideal.exp2 (Ideal.ofBits FTy.f32 4286578688#32 - _) = 0
    rw [ofBits_bot, EReal.bot_sub]
    rfl

/-- The gradient of the scores. -/
theorem pay6_at (t p : FVec Ideal S512x512 .f32) (l : FVec Ideal S1x1x512 .f32) (i r : Fin 512) :
    k0_pay6 (F := Ideal) t p l (ix2 i r) = t (ix2 i r) * (p (ix2 i r) - l (ix3 0 0 r)) := by
  unfold k0_pay6
  simp only [pointwise]
  rfl

theorem pay7_at (t : FVec Ideal S512x512 .f32) (x : FVec Ideal S128x512 .f32) (c : FVec Ideal S1x128x512 .bf16) (n : Fin 128) (i : Fin 512) :
    k0_pay7 (F := Ideal) t x c (ix2 n i) = x (ix2 n i) + ∑ r : Fin 512, c (ix3 0 n r) * t (ix2 i r) := by
  unfold k0_pay7
  simp only [pointwise]
  rw [zero_add]

theorem pay8_at (q : FVec Ideal S512x256 .bf16) (t p : FVec Ideal S512x512 .f32) (l : FVec Ideal S1x1x512 .f32) (x : FVec Ideal S512x256 .f32)
    (i : Fin 512) (n : Fin 256) :
    k0_pay8 (F := Ideal) q t p l x (ix2 i n) = x (ix2 i n) + ∑ r : Fin 512, k0_pay6 (F := Ideal) t p l (ix2 i r) * q (ix2 r n) := by
  unfold k0_pay8
  simp only [pointwise]
  rw [zero_add]

theorem pay9_at (k : FVec Ideal S256x512 .bf16) (t p : FVec Ideal S512x512 .f32) (l : FVec Ideal S1x1x512 .f32) (x : FVec Ideal S256x512 .f32)
    (n : Fin 256) (r : Fin 512) :
    k0_pay9 (F := Ideal) k t p l x (ix2 n r) = x (ix2 n r) + ∑ i : Fin 512, k (ix2 n i) * k0_pay6 (F := Ideal) t p l (ix2 i r) := by
  unfold k0_pay9
  simp only [pointwise]
  rw [zero_add]

theorem pay501_eq (k : FVec Ideal S512x256 .bf16) (i : Fin 512) (n : Fin 256) : k0_pay501 (F := Ideal) k (ix2 i n) = k (ix2 i n) := by
  unfold k0_pay501
  simp only [pointwise]

theorem pay502_eq (k : FVec Ideal S512x128 .bf16) (i : Fin 512) (n : Fin 128) : k0_pay502 (F := Ideal) k (ix2 i n) = k (ix2 i n) := by
  unfold k0_pay502
  simp only [pointwise]

theorem pay503_at (k : FVec Ideal S512x256 .bf16) (n : Fin 256) (i : Fin 512) : k0_pay503 (F := Ideal) k (ix2 n i) = k (ix2 i n) := by
  unfold k0_pay503 k0_pay501
  simp only [pointwise]

theorem pay504_at (y : S256x16384.Idx) : k0_pay504 (F := Ideal) y = 0 := by
  unfold k0_pay504
  simp only [pointwise]

theorem pay505_at (i : Fin 512) (n : Fin 256) : k0_pay505 (F := Ideal) (ix2 i n) = 0 := by
  unfold k0_pay505
  simp only [pointwise]

theorem pay506_at (n : Fin 128) (i : Fin 512) : k0_pay506 (F := Ideal) (ix2 n i) = 0 := by
  unfold k0_pay506
  simp only [pointwise]

theorem pay541_at (x : FVec Ideal S512x256 .f32) (i : Fin 512) (n : Fin 256) :
    k0_pay541 (F := Ideal) x (ix2 i n) = x (ix2 i n) * ((Real.log 2 : ℝ) : EReal) := by
  unfold k0_pay541
  simp only [pointwise]
  rfl

theorem pay542_at (x : FVec Ideal S128x512 .f32) (i : Fin 512) (n : Fin 128) : k0_pay542 (F := Ideal) x (ix2 i n) = x (ix2 n i) := by
  unfold k0_pay542
  simp only [pointwise]

theorem pay1_at (x : FVec Ideal S256x512 .f32) (r : Fin 512) (n : Fin 256) : k0_pay1 (F := Ideal) x (ix2 r n) = x (ix2 n r) := by
  unfold k0_pay1
  simp only [pointwise]

theorem qTile_at (X : S2x16384x256.Idx → Elt Ideal .bf16) (sl b : ℕ) (z : Fin 1) (r : Fin 512) (n : Fin 256) :
    qTile X sl b (ix3 z r n) = X (ix3 ⟨sl % 2, Nat.mod_lt _ (by decide)⟩ ⟨512 * (b % 32) + r.val, by omega⟩ n) := by
  unfold qTile VecWindow.window
  refine congrArg X (funext fun a => ?_)
  match a with
  | 0 => exact Fin.ext (by rw [Rect.emb_apply]; simp [oqAt, ix3])
  | 1 => exact Fin.ext (by rw [Rect.emb_apply]; simp [oqAt, ix3])
  | 2 => exact Fin.ext (by rw [Rect.emb_apply]; simp [oqAt, ix3])

theorem dTile_at (X : S2x128x16384.Idx → Elt Ideal .bf16) (sl b : ℕ) (z : Fin 1) (n : Fin 128) (r : Fin 512) :
    dTile X sl b (ix3 z n r) = X (ix3 ⟨sl % 2, Nat.mod_lt _ (by decide)⟩ n ⟨512 * (b % 32) + r.val, by omega⟩) := by
  unfold dTile VecWindow.window
  refine congrArg X (funext fun a => ?_)
  match a with
  | 0 => exact Fin.ext (by rw [Rect.emb_apply]; simp [odAt, ix3])
  | 1 => exact Fin.ext (by rw [Rect.emb_apply]; simp [odAt, ix3])
  | 2 => exact Fin.ext (by rw [Rect.emb_apply]; simp [odAt, ix3])

theorem rTile_at (X : S1x1x16384.Idx → Elt Ideal .f32) (b : ℕ) (y z : Fin 1) (r : Fin 512) :
    rTile X b (ix3 y z r) = X (ix3 0 0 ⟨512 * (b % 32) + r.val, by omega⟩) := by
  unfold rTile VecWindow.window
  refine congrArg X (funext fun a => ?_)
  match a with
  | 0 => exact Fin.ext (by rw [Rect.emb_apply]; simp [orAt, ix3])
  | 1 => exact Fin.ext (by rw [Rect.emb_apply]; simp [orAt, ix3])
  | 2 => exact Fin.ext (by rw [Rect.emb_apply]; simp [orAt, ix3])

end Cert.Attn

end
-- ==== Proof.Value.Blocks.lean ====
/-
  What the kernel's loops hold when its blocks hold real numbers: the scores, the weights and the three gradients as
  partial sums over blocks, and the partial sums in the end as the whole sums.
-/
module

public import proofs.«01_k».proof.Proof.Value.Payloads

@[expose] public section

set_option maxRecDepth 16384

noncomputable section

namespace Cert.Attn

open Cert.KernelIdeal Cert.KernelIdeal.Gen Cert.KernelIdeal.Hand Idealize.ShloMosaic

/-- Row `i` of block `b`. -/
def row (b : ℕ) (i : Fin 512) : Fin 16384 := ⟨512 * (b % 32) + i.val, by omega⟩

theorem row_le {b j : ℕ} (hb : b < 32) (hj : j < b) (i r : Fin 512) : row j i ≤ row b r := by
  rw [Fin.le_def]; unfold row; dsimp only; omega
theorem row_not_le {b j : ℕ} (hj : j < 32) (hb : b < j) (i r : Fin 512) : ¬ row j i ≤ row b r := by
  rw [Fin.le_def]; unfold row; dsimp only; omega
theorem row_le_iff {j : ℕ} (i r : Fin 512) : row j i ≤ row j r ↔ i ≤ r := by
  rw [Fin.le_def, Fin.le_def]; unfold row; dsimp only; omega
theorem row_div (x : Fin 16384) : row (x.val / 512) ⟨x.val % 512, Nat.mod_lt _ (by decide)⟩ = x := by
  apply Fin.ext; unfold row; dsimp only; omega

/-- The sum over all rows, block by block. -/
theorem sum_rows (f : Fin 16384 → ℝ) : ∑ b ∈ Finset.range 32, ∑ i : Fin 512, f (row b i) = ∑ x, f x := by
  have h := sum_blocks (fun n => if h : n < 16384 then f ⟨n, h⟩ else 0)
  rw [show (∑ x, f x) = ∑ x : Fin 16384, (if h : x.val < 16384 then f ⟨x.val, h⟩ else 0) from
    Finset.sum_congr rfl fun x _ => by rw [dif_pos x.isLt], ← h]
  refine Finset.sum_congr rfl fun b hb => Finset.sum_congr rfl fun i _ => ?_
  have hb' : b < 32 := Finset.mem_range.mp hb
  rw [dif_pos (by omega)]
  exact congrArg f (Fin.ext (by unfold row; dsimp only; omega))

/-- The sum of a row padded with zeros. -/
theorem sum_pad (f : Fin 192 → ℝ) : (∑ n : Fin 256, if h : n.val < 192 then f ⟨n.val, h⟩ else 0) = ∑ d, f d := by
  rw [Fin.sum_univ_add (a := 192) (b := 64)]
  rw [Finset.sum_congr rfl fun (i : Fin 192) _ => dif_pos (show (Fin.castAdd 64 i).val < 192 from i.isLt),
    Finset.sum_congr rfl fun (i : Fin 64) _ => dif_neg (show ¬ (Fin.natAdd 192 i).val < 192 by simp), Finset.sum_const_zero, add_zero]
  rfl

theorem sum_coe_mul {n : ℕ} (f g : Fin n → ℝ) : (∑ i, (f i : EReal) * (g i : EReal)) = ((∑ i, f i * g i : ℝ) : EReal) := by
  rw [← sum_mul_coe, zero_add]

variable (a : Ins) (h : Fin 8)

/-- A query as the kernel reads it: in units of `log 2`, padded with zeros. -/
def q2 (x : Fin 16384) (n : Fin 256) : ℝ := if hd : n.val < 192 then a.q x h ⟨n.val, hd⟩ / Real.log 2 else 0
/-- A key as the kernel reads it: padded with zeros. -/
def k2 (y : Fin 16384) (n : Fin 256) : ℝ := if hd : n.val < 192 then a.k y h ⟨n.val, hd⟩ else 0

theorem sum_k2_q2 (x y : Fin 16384) : ∑ n, k2 a h y n * q2 a h x n = a.s h x y / Real.log 2 := by
  unfold Ins.s
  rw [Finset.sum_div, ← sum_pad]
  refine Finset.sum_congr rfl fun n _ => ?_
  unfold k2 q2
  by_cases hn : n.val < 192
  · rw [dif_pos hn, dif_pos hn, dif_pos hn]; ring
  · rw [dif_neg hn, dif_neg hn, dif_neg hn, zero_mul]

/-- The block of key block `j` holds the numbers `a`. -/
structure Holds (j : ℕ) (d : Data Ideal) : Prop where
  q : ∀ (x : Fin 16384) (n : Fin 256), d.Xq (ix3 ⟨d.sl % 2, Nat.mod_lt _ (by decide)⟩ x n) = ((q2 a h x n : ℝ) : EReal)
  c : ∀ (n : Fin 128) (x : Fin 16384), d.Xd (ix3 ⟨d.sl % 2, Nat.mod_lt _ (by decide)⟩ n x) = ((a.c x h n : ℝ) : EReal)
  l : ∀ x : Fin 16384, d.L (ix3 0 0 x) = (((a.m h x + Real.log (a.l h x)) / Real.log 2 : ℝ) : EReal)
  r : ∀ x : Fin 16384, d.R (ix3 0 0 x) = ((a.dl h x : ℝ) : EReal)
  k : ∀ (i : Fin 512) (n : Fin 256), d.k (ix2 i n) = ((k2 a h (row j i) n : ℝ) : EReal)
  v : ∀ (i : Fin 512) (n : Fin 128), d.v (ix2 i n) = ((a.v (row j i) h n : ℝ) : EReal)
  kt : ∀ (n : Fin 256) (i : Fin 512), d.kt (ix2 n i) = ((k2 a h (row j i) n : ℝ) : EReal)

variable {a h} {j : ℕ} {d : Data Ideal} (H : Holds a h j d)
include H

theorem s_at (b : ℕ) (i r : Fin 512) : d.s b (ix2 i r) = ((a.s h (row b r) (row j i) / Real.log 2 : ℝ) : EReal) := by
  unfold Data.s
  rw [pay2_at, ← sum_k2_q2, ← sum_coe_mul]
  refine Finset.sum_congr rfl fun n _ => ?_
  rw [qTile_at, H.k]
  exact congrArg _ (H.q (row b r) n)

theorem dp_at (b : ℕ) (i r : Fin 512) : d.p b (ix2 i r) = ((a.dp h (row b r) (row j i) : ℝ) : EReal) := by
  unfold Data.p Ins.dp
  rw [pay3_at, ← sum_coe_mul]
  refine Finset.sum_congr rfl fun n _ => ?_
  rw [dTile_at, H.v]
  exact congrArg _ (H.c n (row b r))

theorem l_at (b : ℕ) (r : Fin 512) : rTile d.L b (ix3 0 0 r) = (((a.m h (row b r) + Real.log (a.l h (row b r))) / Real.log 2 : ℝ) : EReal) :=
  (rTile_at d.L b 0 0 r).trans (H.l (row b r))
theorem r_at (b : ℕ) (r : Fin 512) : rTile d.R b (ix3 0 0 r) = ((a.dl h (row b r) : ℝ) : EReal) :=
  (rTile_at d.R b 0 0 r).trans (H.r (row b r))

/-- The exponential of a score below the diagonal is the weight. -/
theorem exp_at (b : ℕ) (i r : Fin 512) (hle : row j i ≤ row b r) :
    Ideal.exp2 (d.s b (ix2 i r) - rTile d.L b (ix3 0 0 r)) = ((a.p h (row b r) (row j i) : ℝ) : EReal) := by
  rw [s_at H, l_at H, ← EReal.coe_sub, Ideal.exp2_coe, p_ker a h hle]

theorem pt_at {b : ℕ} (hj : j ≤ b) (hb : b < 32) (i r : Fin 512) : d.pt j b (ix2 i r) = ((a.p h (row b r) (row j i) : ℝ) : EReal) := by
  unfold Data.pt
  by_cases e : b = j
  · subst e
    rw [if_pos rfl, pay513_at]
    by_cases hir : i ≤ r
    · rw [if_pos hir]
      exact exp_at H b i r ((row_le_iff i r).mpr hir)
    · rw [if_neg hir, p_hidden a h (fun g => hir ((row_le_iff i r).mp g))]; rfl
  · rw [if_neg e, pay5_at]
    exact exp_at H b i r (row_le hb (by omega) i r)

theorem g_at {b : ℕ} (hj : j ≤ b) (hb : b < 32) (i r : Fin 512) :
    k0_pay6 (F := Ideal) (d.pt j b) (d.p b) (rTile d.R b) (ix2 i r) = ((a.g h (row b r) (row j i) : ℝ) : EReal) := by
  rw [pay6_at, pt_at H hj hb, dp_at H, r_at H, ← EReal.coe_sub, ← EReal.coe_mul]
  rfl

/-- The keys' gradient after `n` blocks of queries. -/
theorem dk_at (n : ℕ) (hn : j + n ≤ 32) (i : Fin 512) (e : Fin 256) :
    d.dk j n (ix2 i e) = ((∑ b ∈ Finset.range n, ∑ r, a.g h (row (j + b) r) (row j i) * q2 a h (row (j + b) r) e : ℝ) : EReal) := by
  induction n with
  | zero => exact pay505_at i e
  | succ n ih =>
    unfold Data.dk
    rw [pay8_at, ih (by omega), Finset.sum_range_succ, EReal.coe_add, ← sum_coe_mul]
    congr 1
    refine Finset.sum_congr rfl fun r _ => ?_
    rw [g_at H (by omega) (by omega), pay4_at, qTile_at]
    exact congrArg _ (H.q (row (j + n) r) e)

/-- The values' gradient after `n` blocks of queries. -/
theorem dv_at (n : ℕ) (hn : j + n ≤ 32) (e : Fin 128) (i : Fin 512) :
    d.dv j n (ix2 e i) = ((∑ b ∈ Finset.range n, ∑ r, a.c (row (j + b) r) h e * a.p h (row (j + b) r) (row j i) : ℝ) : EReal) := by
  induction n with
  | zero => exact pay506_at e i
  | succ n ih =>
    unfold Data.dv
    rw [pay7_at, ih (by omega), Finset.sum_range_succ, EReal.coe_add, ← sum_coe_mul]
    congr 1
    refine Finset.sum_congr rfl fun r _ => ?_
    rw [pt_at H (by omega) (by omega), dTile_at]
    exact congrArg (· * _) (H.c e (row (j + n) r))

/-- One step of the queries' gradient. -/
theorem dq_step {b : ℕ} (hj : j ≤ b) (hb : b < 32) (D : ℕ → Vec Ideal S256x512 .f32) (e : Fin 256) (r : Fin 512) :
    d.dq j D b (ix2 e r) = D b (ix2 e r) + ((∑ i, k2 a h (row j i) e * a.g h (row b r) (row j i) : ℝ) : EReal) := by
  unfold Data.dq
  rw [pay9_at, ← sum_coe_mul]
  congr 1
  refine Finset.sum_congr rfl fun i _ => ?_
  rw [g_at H hj hb, H.kt]

omit H

/-- The queries' gradient before key block `j`. -/
theorem D_at (A : Call Ideal) (hA : ∀ j < 32, Holds a h j (A.data (32 * h.val + j))) (j : ℕ) (hj : j ≤ 32) (b : ℕ) (hb : b < 32) (hjb : j ≤ b + 1)
    (e : Fin 256) (r : Fin 512) :
    A.D h.val j b (ix2 e r) = ((∑ j' ∈ Finset.range j, ∑ i, k2 a h (row j' i) e * a.g h (row b r) (row j' i) : ℝ) : EReal) := by
  induction j with
  | zero =>
    unfold Call.D cTile VecWindow.window
    rw [pay504_at]; rfl
  | succ j ih =>
    unfold Call.D Data.dqs
    rw [if_pos ⟨by omega, by omega⟩, dq_step (hA j (by omega)) (by omega) hb, ih (by omega) (by omega), Finset.sum_range_succ, EReal.coe_add]

/-- From the diagonal on, the blocks make the whole sum: earlier queries do not see the key. -/
theorem sum_from (j : ℕ) (hj : j < 32) (f : Fin 16384 → ℝ) (i : Fin 512) (hf : ∀ x, ¬ row j i ≤ x → f x = 0) :
    ∑ b ∈ Finset.range (32 - j), ∑ r, f (row (j + b) r) = ∑ x, f x := by
  have e : ∑ b ∈ Finset.range 32, ∑ i, f (row b i) = ∑ b ∈ Finset.range (j + (32 - j)), ∑ i, f (row b i) := by
    rw [show j + (32 - j) = 32 by omega]
  rw [← sum_rows f, e, Finset.sum_range_add, Finset.sum_eq_zero (s := Finset.range j), zero_add]
  intro b hb
  have hb' := Finset.mem_range.mp hb
  exact Finset.sum_eq_zero fun r _ => hf _ (row_not_le hj hb' i r)

/-- Up to the diagonal, the blocks make the whole sum: the query does not see later keys. -/
theorem sum_upto (b : ℕ) (hb : b < 32) (f : Fin 16384 → ℝ) (r : Fin 512) (hf : ∀ y, ¬ y ≤ row b r → f y = 0) :
    ∑ j ∈ Finset.range (b + 1), ∑ i, f (row j i) = ∑ y, f y := by
  have e : ∑ b ∈ Finset.range 32, ∑ i, f (row b i) = ∑ j ∈ Finset.range ((b + 1) + (31 - b)), ∑ i, f (row j i) := by
    rw [show b + 1 + (31 - b) = 32 by omega]
  rw [← sum_rows f, e, Finset.sum_range_add _ (b + 1), Finset.sum_eq_zero (s := Finset.range (31 - b)), add_zero]
  intro j hj
  have hj' := Finset.mem_range.mp hj
  exact Finset.sum_eq_zero fun i _ => hf _ (row_not_le (by omega) (by omega) i r)

theorem q2_log (x : Fin 16384) (n : Fin 256) : q2 a h x n * Real.log 2 = if hd : n.val < 192 then a.q x h ⟨n.val, hd⟩ else 0 := by
  have h2 : Real.log 2 ≠ 0 := (Real.log_pos (by norm_num)).ne'
  unfold q2
  by_cases hn : n.val < 192
  · rw [dif_pos hn, dif_pos hn, div_mul_cancel₀ _ h2]
  · rw [dif_neg hn, dif_neg hn, zero_mul]

/-- A key block's gradient in the end. -/
theorem dk_out {p : ℕ} {A : Call Ideal} (H : Holds a h (p % 32) (A.data p)) (i : Fin 512) (e : Fin 256) :
    A.dk p (ix2 i e) = ((if hd : e.val < 192 then a.dk h (row (p % 32) i) ⟨e.val, hd⟩ else 0 : ℝ) : EReal) := by
  unfold Call.dk
  rw [pay541_at, dk_at H _ (by omega), ← EReal.coe_mul]
  refine congrArg _ ?_
  rw [sum_from (p % 32) (by omega) (fun x => a.g h x (row (p % 32) i) * q2 a h x e) i (fun x hx => by rw [g_hidden a h hx, zero_mul]), Finset.sum_mul]
  unfold Ins.dk
  by_cases hn : e.val < 192
  · rw [dif_pos hn]
    exact Finset.sum_congr rfl fun x _ => by rw [mul_assoc, q2_log, dif_pos hn]
  · rw [dif_neg hn]
    exact Finset.sum_eq_zero fun x _ => by rw [mul_assoc, q2_log, dif_neg hn, mul_zero]

/-- A value block's gradient in the end. -/
theorem dv_out {p : ℕ} {A : Call Ideal} (H : Holds a h (p % 32) (A.data p)) (i : Fin 512) (e : Fin 128) :
    A.dv p (ix2 i e) = ((a.dv h (row (p % 32) i) e : ℝ) : EReal) := by
  unfold Call.dv
  rw [pay542_at, dv_at H _ (by omega)]
  refine congrArg _ ?_
  exact sum_from (p % 32) (by omega) (fun x => a.c x h e * a.p h x (row (p % 32) i)) i (fun x hx => by rw [p_hidden a h hx, mul_zero])

/-- The queries' gradient in the end. -/
theorem T_out (A : Call Ideal) (hA : ∀ j < 32, Holds a h j (A.data (32 * h.val + j))) (x : Fin 16384) (e : Fin 256) :
    A.T (ix3 h x e) = ((if hd : e.val < 192 then a.dq h x ⟨e.val, hd⟩ else 0 : ℝ) : EReal) := by
  have hx : x.val / 512 < 32 := by omega
  show k0_pay1 (F := Ideal) (A.D h.val (x.val / 512 + 1) (x.val / 512)) (ix2 ⟨x.val % 512, Nat.mod_lt _ (by decide)⟩ e) = _
  rw [pay1_at, D_at A hA _ (by omega) _ hx (by omega)]
  refine congrArg _ ?_
  rw [row_div, sum_upto _ hx (fun y => k2 a h y e * a.g h x y) ⟨x.val % 512, Nat.mod_lt _ (by decide)⟩ (fun y hy => by
    rw [row_div] at hy; rw [g_hidden a h hy, mul_zero])]
  unfold Ins.dq
  by_cases hn : e.val < 192
  · rw [dif_pos hn]
    exact Finset.sum_congr rfl fun y _ => by unfold k2; rw [dif_pos hn, mul_comm]
  · rw [dif_neg hn]
    exact Finset.sum_eq_zero fun y _ => by unfold k2; rw [dif_neg hn, zero_mul]

end Cert.Attn

end
-- ==== Proof.Value.Prologue.lean ====
/-
  The arrays that the kernel's call is given, as terms of the program's arguments and read at an index.
-/
module

public import proofs.«01_k».proof.Proof.Gen.KernelIdeal.Frame
public import proofs.«01_k».proof.Proof.Value.Stages
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe Idealize.SL.Sem

variable (q k : FVec Ideal S16384x8x192 .f32) (v c : FVec Ideal S16384x8x128 .f32)

/-- The largest score of each query. -/
def kMax : FVec Ideal S8x16384 .f32 :=
  Host.reduce FloatOps.maximumf (hScores q k) (constant S_ .f32 0xFF800000#32) reducesTo_S8x16384x16384_S8x16384_d2 h_S_

/-- The exponentials. -/
def kExp : FVec Ideal S8x16384x16384 .f32 := Host.exp (subf (hScores q k) (hWide (hCol (kMax q k))))

/-- Their sum for each query. -/
def kSum : FVec Ideal S8x16384 .f32 :=
  Host.reduceAdd (kExp q k) (constant S_ .f32 0x00000000#32) reducesTo_S8x16384x16384_S8x16384_d2 h_S_

/-- The attention's output. -/
def kOut : FVec Ideal S16384x8x128 .f32 :=
  transpose S16384x8x128 [2, 0, 1]
    (Host.dotGeneral dot_S16384x8x128_S8x16384x16384_S8x128x16384_0_2_2_1_1_0 none v
      (Host.divf (kExp q k) (hWide (hCol (kSum q k)))))
    transposes_S8x128x16384_S16384x8x128_2_0_1

/-- The logarithm to the base two of the sum of the exponentials, one number a query. -/
def kLse : FVec Ideal S8x1x16384 .f32 :=
  shapeCast S8x1x16384 (shapeCast S8x16384
    (Host.divf (addf (hCol (kMax q k)) (Host.log (hCol (kSum q k))))
      (broadcastInDim S8x16384x1 ![] bcast_S_S8x16384x1 (Host.log (constant (F := Ideal) S_ .f32 0x40000000#32))))
    shapeCasts_S8x16384x1_S8x16384) shapeCasts_S8x16384_S8x1x16384

/-- The product of output and cotangent, one number a query. -/
def kDelta : FVec Ideal S8x1x16384 .f32 :=
  shapeCast S8x1x16384 (transpose S8x16384 [1, 0]
    (Host.reduceAdd (mulf (kOut q k v) c) (constant S_ .f32 0x00000000#32) reducesTo_S16384x8x128_S16384x8_d2 h_S_)
    transposes_S16384x8_S8x16384_1_0) shapeCasts_S8x16384_S8x1x16384

/-- The queries, scaled for powers of two. -/
def kQ : FVec Ideal S16384x2048 .bf16 :=
  truncf .bf16 (shapeCast S16384x2048 (hPad (Host.divf (hQ q)
    (broadcastInDim S16384x8x192 ![] bcast_S_S16384x8x192 (Host.log (constant (F := Ideal) S_ .f32 0x40000000#32)))))
    shapeCasts_S16384x8x256_S16384x2048) bitsLt_bf16_f32

/-- The keys. -/
def kK : FVec Ideal S16384x2048 .bf16 :=
  truncf .bf16 (shapeCast S16384x2048 (hPad k) shapeCasts_S16384x8x256_S16384x2048) bitsLt_bf16_f32

/-- The values. -/
def kV : FVec Ideal S16384x1024 .bf16 := truncf .bf16 (shapeCast S16384x1024 v shapeCasts_S16384x8x128_S16384x1024) bitsLt_bf16_f32

/-- The cotangent, with the query along the second axis. -/
def kC : FVec Ideal S1024x16384 .bf16 :=
  truncf .bf16 (transpose S1024x16384 [1, 0] (shapeCast S16384x1024 c shapeCasts_S16384x8x128_S16384x1024) transposes_S16384x1024_S1024x16384_1_0) bitsLt_bf16_f32

section Program

variable (m : (ℓ : Loc nD τ sig) → Buf (Elt Ideal) ℓ) (t : Dev nD)

/-- The kernel's four arguments on a device. -/
abbrev iq : FVec Ideal S16384x8x192 .f32 := m ((t.tc : Thread nD τ).loc main_arg0)
abbrev ik : FVec Ideal S16384x8x192 .f32 := m ((t.tc : Thread nD τ).loc main_arg1)
abbrev iv : FVec Ideal S16384x8x128 .f32 := m ((t.tc : Thread nD τ).loc main_arg2)
abbrev ic : FVec Ideal S16384x8x128 .f32 := m ((t.tc : Thread nD τ).loc main_arg3)

theorem V_q : V m t main_v40 = kQ (iq m t) := by
  unfold V
  after_reads_simp
  simp -implicitDefEqProofs only [StableHlo.TRef.toBuf, StableHlo.TRef.ofBuf, cast_cast, cast_eq]
  rfl

theorem V_k : V m t main_v43 = kK (ik m t) := by
  unfold V
  after_reads_simp
  simp -implicitDefEqProofs only [StableHlo.TRef.toBuf, StableHlo.TRef.ofBuf, cast_cast, cast_eq]
  rfl

theorem V_v : V m t main_v45 = kV (iv m t) := by
  unfold V
  after_reads_simp
  rfl

theorem V_c : V m t main_v48 = kC (ic m t) := by
  unfold V
  after_reads_simp
  rfl

theorem V_lse : V m t main_v31 = kLse (iq m t) (ik m t) := by
  unfold V
  after_reads_simp
  simp -implicitDefEqProofs only [StableHlo.TRef.toBuf, StableHlo.TRef.ofBuf, cast_cast, cast_eq]
  rfl

theorem V_delta : V m t main_v32 = kDelta (iq m t) (ik m t) (iv m t) (ic m t) := by
  unfold V
  after_reads_simp
  simp -implicitDefEqProofs only [StableHlo.TRef.toBuf, StableHlo.TRef.ofBuf, cast_cast, cast_eq]
  rfl

end Program

variable {q k v c} {a : Ins}

theorem kMax_eq : kMax q k = hMax q k := by
  unfold kMax hMax
  funext j
  rw [maximumf_apply, Ideal.maximumf_def, ValueIdx.broadcastInDim_scalar_apply, constant_apply, Ideal.ofBits_def, ofBits_bot,
    max_bot_left]

theorem kExp_eq : kExp q k = hExp q k := by
  unfold kExp hExp; rw [kMax_eq]

theorem kSum_eq : kSum q k = hSum q k := by
  unfold kSum hSum; rw [kExp_eq]

theorem kOut_at (H : Held q k v c a) (x : Fin 16384) (h : Fin 8) (d : Fin 128) : kOut q k v (ix3 x h d) = ((a.o h x d : ℝ) : EReal) := by
  unfold kOut
  rw [kExp_eq, kSum_eq]
  change transpose S16384x8x128 [2, 0, 1]
    (Host.dotGeneral dot_S16384x8x128_S8x16384x16384_S8x128x16384_0_2_2_1_1_0 none v (hP q k))
    transposes_S8x128x16384_S16384x8x128_2_0_1 (ix3 x h d) = _
  simp only [pointwise, H.v, hP_at H]
  exact sum_mul_coe _ _

/-- The product of output and cotangent at an index. -/
theorem kDelta_at (H : Held q k v c a) (h : Fin 8) (x : Fin 16384) (z : Fin 1) : kDelta q k v c (ix3 h z x) = ((a.dl h x : ℝ) : EReal) := by
  unfold kDelta
  simp only [pointwise, H.c, kOut_at H]
  exact sum_mul_coe _ _

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h, Ideal.log_coe, if_neg (by norm_num)]

theorem log_two_pos : (0 : ℝ) < Real.log 2 := Real.log_pos (by norm_num)

theorem row_of_col (z : FVec Ideal S8x16384x1 .f32) (h : Fin 8) (x : Fin 16384) (y : Fin 1) :
    shapeCast S8x1x16384 (shapeCast S8x16384 z shapeCasts_S8x16384x1_S8x16384) shapeCasts_S8x16384_S8x1x16384 (ix3 h y x) = z (ix3 h x 0) := by
  simp only [pointwise]

/-- The base-two logarithm of a query's sum, at an index. -/
theorem kLse_at (H : Held q k v c a) (h : Fin 8) (x : Fin 16384) (z : Fin 1) :
    kLse q k (ix3 h z x) = (((a.m h x + Real.log (a.l h x)) / Real.log 2 : ℝ) : EReal) := by
  unfold kLse
  rw [kMax_eq, kSum_eq, row_of_col, Host.divf_apply, addf_apply, Host.log_apply, hCol_at, hCol_at, hMax_at H, hSum_at H,
    ValueIdx.broadcastInDim_scalar_apply, Host.log_apply, constant_apply]
  show Ideal.div (((a.m h x : ℝ) : EReal) + Ideal.log ((a.l h x : ℝ) : EReal)) (Ideal.log (Ideal.ofBits .f32 0x40000000#32)) = _
  rw [log_two, Ideal.log_coe, if_neg (not_le.mpr (l_pos a h x)), ← EReal.coe_add, coe_div log_two_pos.ne']

theorem coe_dite {P : Prop} [Decidable P] (f : P → ℝ) : (if h : P then ((f h : ℝ) : EReal) else 0) = ((if h : P then f h else 0 : ℝ) : EReal) := by
  by_cases h : P
  · rw [dif_pos h, dif_pos h]
  · rw [dif_neg h, dif_neg h]; rfl

/-- The scaled queries at an index. -/
theorem kQ_at (H : Held q k v c a) (x : Fin 16384) (n : Fin 2048) :
    kQ q (ix2 x n) = ((if hd : n.val % 256 < 192 then a.q x ⟨n.val / 256, by omega⟩ ⟨n.val % 256, hd⟩ / Real.log 2 else 0 : ℝ) : EReal) := by
  unfold kQ
  simp only [pointwise, hPad_at, H.q]
  simp only [log_two, coe_div log_two_pos.ne']
  exact coe_dite _

/-- The keys at an index. -/
theorem kK_at (H : Held q k v c a) (x : Fin 16384) (n : Fin 2048) :
    kK k (ix2 x n) = ((if hd : n.val % 256 < 192 then a.k x ⟨n.val / 256, by omega⟩ ⟨n.val % 256, hd⟩ else 0 : ℝ) : EReal) := by
  unfold kK
  simp only [pointwise, hPad_at, H.k]
  exact coe_dite _

/-- The values at an index. -/
theorem kV_at (H : Held q k v c a) (x : Fin 16384) (n : Fin 1024) :
    kV v (ix2 x n) = ((a.v x ⟨n.val / 128, by omega⟩ ⟨n.val % 128, by omega⟩ : ℝ) : EReal) := by
  unfold kV
  simp only [pointwise, H.v]

/-- The cotangent at an index. -/
theorem kC_at (H : Held q k v c a) (x : Fin 16384) (n : Fin 1024) :
    kC c (ix2 n x) = ((a.c x ⟨n.val / 128, by omega⟩ ⟨n.val % 128, by omega⟩ : ℝ) : EReal) := by
  unfold kC
  simp only [pointwise, H.c]

end Cert.Attn

end
-- ==== Proof.Value.Outputs.lean ====
/-
  The kernel's blocks read from the arrays, and the three result arrays after the run, at an index.
-/
module

public import proofs.«01_k».proof.Proof.Ideal.Run
public import proofs.«01_k».proof.Proof.Value.Blocks
public import proofs.«01_k».proof.Proof.Value.Prologue
public import Idealize.ShloMosaic.Lib.Pipeline.ValueKit

@[expose] public section

set_option maxRecDepth 16384

noncomputable section

namespace Cert.Attn

open Cert.KernelIdeal Cert.KernelIdeal.Gen Cert.KernelIdeal.Hand Idealize.ShloMosaic Idealize.ShloMosaic.TcCoe
open Idealize.ShloMosaic.Pipeline (Dat Cfg Window)

variable (m : (ℓ : Loc nD τ sig) → Buf (Elt Ideal) ℓ) (c : Dev nD)

/-! Which block each window is on at grid point `t`. -/
theorem at0 : ∀ t : Fin grid0.N, win0_0.index t 0 = t.val % 32 ∧ win0_0.index t 1 = t.val / 32 := by decide +kernel
theorem at1 : ∀ t : Fin grid0.N, win0_1.index t 0 = t.val % 32 ∧ win0_1.index t 1 = t.val / 32 := by decide +kernel
theorem at2' : ∀ t : Fin grid0.N, win0_2.index t 0 = t.val / 32 ∧ win0_2.index t 1 = 0 ∧ win0_2.index t 2 = 0 := by decide +kernel
theorem at3' : ∀ t : Fin grid0.N, win0_3.index t 0 = t.val / 32 ∧ win0_3.index t 1 = 0 ∧ win0_3.index t 2 = 0 := by decide +kernel
theorem at4 : ∀ t : Fin grid0.N, win0_4.index t 0 = t.val % 32 ∧ win0_4.index t 1 = t.val / 32 := by decide +kernel
theorem at5 : ∀ t : Fin grid0.N, win0_5.index t 0 = t.val % 32 ∧ win0_5.index t 1 = t.val / 32 := by decide +kernel

section
variable {p : ℕ} (hp : p < 256)
include hp

theorem pt_val_lt : (pt p).val = p := Nat.mod_eq_of_lt hp

theorem blk0 (i : Fin 512) (n : Fin 256) : (call m c).K p (ix2 i n) = V m c main_v43 (ix2 (row (p % 32) i) ⟨256 * (p / 32) + n.val, by omega⟩) := by
  have e := at0 (pt p)
  rw [pt_val_lt hp] at e
  show iblk m c 0 (pt p) (ix2 i n) = _
  blk_ext [iblk, row, e.1, e.2]

theorem blk1 (i : Fin 512) (n : Fin 128) : (call m c).W p (ix2 i n) = V m c main_v45 (ix2 (row (p % 32) i) ⟨128 * (p / 32) + n.val, by omega⟩) := by
  have e := at1 (pt p)
  rw [pt_val_lt hp] at e
  show iblk m c 1 (pt p) (ix2 i n) = _
  blk_ext [iblk, row, e.1, e.2]

theorem blk2 (x : Fin 16384) : (call m c).L p (ix3 0 0 x) = V m c main_v31 (ix3 ⟨p / 32, by omega⟩ 0 x) := by
  have e := at2' (pt p)
  rw [pt_val_lt hp] at e
  show iblk m c 2 (pt p) (ix3 0 0 x) = _
  blk_simp [iblk]
  refine congrArg (V m c main_v31) ?_
  blk_ext [e.1, e.2.1, e.2.2]

theorem blk3 (x : Fin 16384) : (call m c).R p (ix3 0 0 x) = V m c main_v32 (ix3 ⟨p / 32, by omega⟩ 0 x) := by
  have e := at3' (pt p)
  rw [pt_val_lt hp] at e
  show iblk m c 3 (pt p) (ix3 0 0 x) = _
  blk_simp [iblk]
  refine congrArg (V m c main_v32) ?_
  blk_ext [e.1, e.2.1, e.2.2]

end

/-- The keys' gradient as an array, its blocks those of the grid points. -/
theorem arr4 (G : S16384x2048.Idx → Elt Ideal .bf16)
    (h : ∀ p (hp : p < 256) (i : Fin 512) (n : Fin 256), (call m c).dk p (ix2 i n) = G (ix2 (row (p % 32) i) ⟨256 * (p / 32) + n.val, by omega⟩)) :
    (dats m 0 c).arrAt 4 cfg0.N = G := by
  refine (dats m 0 c).arrAt_eq_of_covers 4 _ (by decide +kernel) fun t hf y => ?_
  have e := at4 t
  have ht : t.val < 256 := lt_of_lt_of_eq t.isLt N_0
  blk_simp
  rw [after0_4]
  obtain ⟨i, n, rfl⟩ : ∃ (i : Fin 512) (n : Fin 256), y = ix2 i n := ⟨y 0, y 1, by funext a; match a with | 0 => rfl | 1 => rfl⟩
  rw [h t.val ht i n]
  blk_ext [row, e.1, e.2]

/-- The values' gradient as an array, its blocks those of the grid points. -/
theorem arr5 (G : S16384x1024.Idx → Elt Ideal .bf16)
    (h : ∀ p (hp : p < 256) (i : Fin 512) (n : Fin 128), (call m c).dv p (ix2 i n) = G (ix2 (row (p % 32) i) ⟨128 * (p / 32) + n.val, by omega⟩)) :
    (dats m 0 c).arrAt 5 cfg0.N = G := by
  refine (dats m 0 c).arrAt_eq_of_covers 5 _ (by decide +kernel) fun t hf y => ?_
  have e := at5 t
  have ht : t.val < 256 := lt_of_lt_of_eq t.isLt N_0
  blk_simp
  rw [after0_5]
  obtain ⟨i, n, rfl⟩ : ∃ (i : Fin 512) (n : Fin 128), y = ix2 i n := ⟨y 0, y 1, by funext a; match a with | 0 => rfl | 1 => rfl⟩
  rw [h t.val ht i n]
  blk_ext [row, e.1, e.2]

variable {a : Ins}

/-- The queries' array at head `h`. -/
theorem kQ_head {q k v ct} (H : Held q k v ct a) (h : Fin 8) (x : Fin 16384) (n : Fin 256) :
    kQ q (ix2 x ⟨(256 * h.val + n.val) % 2048, Nat.mod_lt _ (by decide)⟩) = ((q2 a h x n : ℝ) : EReal) := by
  rw [kQ_at H]
  refine congrArg _ ?_
  unfold q2
  have e1 : (256 * h.val + n.val) % 2048 % 256 = n.val := by omega
  have e2 : (256 * h.val + n.val) % 2048 / 256 = h.val := by omega
  simp only [e1, e2]

/-- The keys' array at head `h`. -/
theorem kK_head {q k v ct} (H : Held q k v ct a) (h : Fin 8) (x : Fin 16384) (n : Fin 256) (hn : 256 * h.val + n.val < 2048) :
    kK k (ix2 x ⟨256 * h.val + n.val, hn⟩) = ((k2 a h x n : ℝ) : EReal) := by
  rw [kK_at H]
  refine congrArg _ ?_
  unfold k2
  have e1 : (256 * h.val + n.val) % 256 = n.val := by omega
  have e2 : (256 * h.val + n.val) / 256 = h.val := by omega
  simp only [e1, e2]

/-- The values' array at head `h`. -/
theorem kV_head {q k v ct} (H : Held q k v ct a) (h : Fin 8) (x : Fin 16384) (n : Fin 128) (hn : 128 * h.val + n.val < 1024) :
    kV v (ix2 x ⟨128 * h.val + n.val, hn⟩) = ((a.v x h n : ℝ) : EReal) := by
  rw [kV_at H]
  refine congrArg _ ?_
  have e1 : (128 * h.val + n.val) % 128 = n.val := by omega
  have e2 : (128 * h.val + n.val) / 128 = h.val := by omega
  simp only [e1, e2]

/-- The array of the output's gradient at head `h`. -/
theorem kC_head {q k v ct} (H : Held q k v ct a) (h : Fin 8) (x : Fin 16384) (n : Fin 128) :
    kC ct (ix2 ⟨(128 * h.val + n.val) % 1024, Nat.mod_lt _ (by decide)⟩ x) = ((a.c x h n : ℝ) : EReal) := by
  rw [kC_at H]
  refine congrArg _ ?_
  have e1 : (128 * h.val + n.val) % 1024 % 128 = n.val := by omega
  have e2 : (128 * h.val + n.val) % 1024 / 128 = h.val := by omega
  simp only [e1, e2]

theorem at2_eq {n0 n1 : ℕ} (i : Fin n0) (j : Fin n1) : at2 i j = ix2 i j := by
  funext b
  match b with
  | 0 => rfl
  | 1 => rfl

theorem slotQX_at (A : S16384x2048.Idx → Elt Ideal .bf16) (h : ℕ) (z : Fin 2) (x : Fin 16384) (n : Fin 256) :
    slotQX A h (ix3 z x n) = A (ix2 x ⟨(256 * h + n.val) % 2048, Nat.mod_lt _ (by decide)⟩) :=
  congrArg A (at2_eq _ _)

theorem slotDX_at (A : S1024x16384.Idx → Elt Ideal .bf16) (h : ℕ) (z : Fin 2) (n : Fin 128) (x : Fin 16384) :
    slotDX A h (ix3 z n x) = A (ix2 ⟨(128 * h + n.val) % 1024, Nat.mod_lt _ (by decide)⟩ x) :=
  congrArg A (at2_eq _ _)

/-- A grid point's blocks hold the numbers the arguments hold, if they are read from the arrays the host made. -/
theorem holds_of {q k v ct} (H : Held q k v ct a) (A : Call Ideal) {p : ℕ} (h : p / 32 < 8)
    (eA : A.A = kQ q) (eB : A.B = kC ct)
    (eK : ∀ (i : Fin 512) (n : Fin 256), A.K p (ix2 i n) = kK k (ix2 (row (p % 32) i) ⟨256 * (p / 32) + n.val, by omega⟩))
    (eW : ∀ (i : Fin 512) (n : Fin 128), A.W p (ix2 i n) = kV v (ix2 (row (p % 32) i) ⟨128 * (p / 32) + n.val, by omega⟩))
    (eL : ∀ x : Fin 16384, A.L p (ix3 0 0 x) = kLse q k (ix3 ⟨p / 32, h⟩ 0 x))
    (eR : ∀ x : Fin 16384, A.R p (ix3 0 0 x) = kDelta q k v ct (ix3 ⟨p / 32, h⟩ 0 x)) :
    Holds a ⟨p / 32, h⟩ (p % 32) (A.data p) := by
  have hk : ∀ (i : Fin 512) (n : Fin 256), A.K p (ix2 i n) = ((k2 a ⟨p / 32, h⟩ (row (p % 32) i) n : ℝ) : EReal) := fun i n =>
    (eK i n).trans (kK_head H ⟨p / 32, h⟩ _ n _)
  exact {
    q := fun x n => (slotQX_at _ _ _ x n).trans ((congrFun eA _).trans (kQ_head H ⟨p / 32, h⟩ x n))
    c := fun n x => (slotDX_at _ _ _ n x).trans ((congrFun eB _).trans (kC_head H ⟨p / 32, h⟩ x n))
    l := fun x => (eL x).trans (kLse_at H ⟨p / 32, h⟩ x 0)
    r := fun x => (eR x).trans (kDelta_at H ⟨p / 32, h⟩ x 0)
    k := fun i n => (pay501_eq _ i n).trans (hk i n)
    v := fun i n => (pay502_eq _ i n).trans ((eW i n).trans (kV_head H ⟨p / 32, h⟩ _ n _))
    kt := fun n i => (pay503_at _ n i).trans (hk i n) }

variable {m c} (H : Held (iq m c) (ik m c) (iv m c) (ic m c) a)
include H

/-- The blocks of grid point `p` hold the numbers the arguments hold. -/
theorem holds_point {p : ℕ} (hp : p < 256) : Holds a ⟨p / 32, by omega⟩ (p % 32) ((call m c).data p) := by
  refine holds_of H (call m c) (by omega) (V_q m c) (V_c m c) ?_ ?_ ?_ ?_
  · intro i n; rw [blk0 m c hp, V_k]
  · intro i n; rw [blk1 m c hp, V_v]
  · intro x; rw [blk2 m c hp, V_lse]
  · intro x; rw [blk3 m c hp, V_delta]

theorem holds_call (h : Fin 8) {j : ℕ} (hj : j < 32) : Holds a h j ((call m c).data (32 * h.val + j)) := by
  have e := holds_point H (p := 32 * h.val + j) (by omega)
  have hd : (⟨(32 * h.val + j) / 32, by omega⟩ : Fin 8) = h := Fin.ext (by dsimp only; omega)
  have hm : (32 * h.val + j) % 32 = j := by omega
  rwa [hd, hm] at e

/-- The keys' gradient after the run. -/
theorem out_dk (x : Fin 16384) (n : Fin 2048) : (dats m 0 c).arrAt 4 cfg0.N (ix2 x n)
    = if hd : n.val % 256 < 192 then ((a.dk ⟨n.val / 256, by omega⟩ x ⟨n.val % 256, hd⟩ : ℝ) : EReal) else 0 := by
  rw [arr4 m c (fun y => ((if hd : (y 1).val % 256 < 192 then a.dk ⟨(y 1).val / 256 % 8, by omega⟩ (y 0) ⟨(y 1).val % 256, hd⟩ else 0 : ℝ) : EReal))
    (fun p hp i e => by
      rw [dk_out (holds_point H hp)]
      refine congrArg _ ?_
      have e1 : (256 * (p / 32) + e.val) % 256 = e.val := by omega
      have e2 : (256 * (p / 32) + e.val) / 256 % 8 = p / 32 := by omega
      show _ = if hd : (256 * (p / 32) + e.val) % 256 < 192 then a.dk ⟨(256 * (p / 32) + e.val) / 256 % 8, _⟩ (row (p % 32) i) ⟨(256 * (p / 32) + e.val) % 256, hd⟩ else 0
      simp only [e1, e2])]
  rw [coe_dite]
  refine congrArg _ ?_
  show (if hd : n.val % 256 < 192 then a.dk ⟨n.val / 256 % 8, _⟩ x ⟨n.val % 256, hd⟩ else 0) = _
  have e2 : n.val / 256 % 8 = n.val / 256 := by omega
  simp only [e2]

/-- The values' gradient after the run. -/
theorem out_dv (x : Fin 16384) (n : Fin 1024) : (dats m 0 c).arrAt 5 cfg0.N (ix2 x n)
    = ((a.dv ⟨n.val / 128, by omega⟩ x ⟨n.val % 128, by omega⟩ : ℝ) : EReal) := by
  rw [arr5 m c (fun y => ((a.dv ⟨(y 1).val / 128 % 8, by omega⟩ (y 0) ⟨(y 1).val % 128, by omega⟩ : ℝ) : EReal))
    (fun p hp i e => by
      rw [dv_out (holds_point H hp)]
      refine congrArg _ ?_
      have e1 : (128 * (p / 32) + e.val) % 128 = e.val := by omega
      have e2 : (128 * (p / 32) + e.val) / 128 % 8 = p / 32 := by omega
      show _ = a.dv ⟨(128 * (p / 32) + e.val) / 128 % 8, _⟩ (row (p % 32) i) ⟨(128 * (p / 32) + e.val) % 128, _⟩
      simp only [e1, e2])]
  refine congrArg _ ?_
  show a.dv ⟨n.val / 128 % 8, _⟩ x ⟨n.val % 128, _⟩ = _
  have e2 : n.val / 128 % 8 = n.val / 128 := by omega
  simp only [e2]

/-- The queries' gradient after the run. -/
theorem out_dq (h : Fin 8) (x : Fin 16384) (n : Fin 256) : G m c main_v49_2 (ix3 h x n)
    = if hd : n.val < 192 then ((a.dq h x ⟨n.val, hd⟩ : ℝ) : EReal) else 0 := by
  rw [coe_dite, G_out]
  exact T_out (call m c) (fun j hj => holds_call H h hj) x n

end Cert.Attn

end
-- ==== Proof.Value.Reference.lean ====
/-
  The three results of the reference, read at an index: the gradients of Proof/Value/Real.lean, in the layout of the
  kernel's arrays, with zeros in the columns 192 to 255 of a head.
-/
module

public import proofs.«01_k».proof.Proof.Gen.ReferenceIdeal.Run
public import proofs.«01_k».proof.Proof.Value.Stages

@[expose] public section

set_option maxRecDepth 16384

noncomputable section

namespace Cert.Attn

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

/-- The reference's four arguments on a device. -/
abbrev rq : FVec Ideal S16384x8x192 .f32 := m ((c.tc : Thread nD τ).loc main_arg0)
abbrev rk : FVec Ideal S16384x8x192 .f32 := m ((c.tc : Thread nD τ).loc main_arg1)
abbrev rv : FVec Ideal S16384x8x128 .f32 := m ((c.tc : Thread nD τ).loc main_arg2)
abbrev rc : FVec Ideal S16384x8x128 .f32 := m ((c.tc : Thread nD τ).loc main_arg3)

/-- The gradient of the keys, as the reference returns it. -/
theorem res_dk : res_main_v64 m c = truncf .bf16 (shapeCast S16384x2048 (hPad (hDk (rq m c) (rk m c) (rv m c) (rc m c))) shapeCasts_S16384x8x256_S16384x2048) bitsLt_bf16_f32 := by
  unfold res_main_v64; rfl

/-- The gradient of the values, as the reference returns it. -/
theorem res_dv : res_main_v66 m c = truncf .bf16 (shapeCast S16384x1024 (hDv (rq m c) (rk m c) (rc m c)) shapeCasts_S16384x8x128_S16384x1024) bitsLt_bf16_f32 := by
  unfold res_main_v66; rfl

/-- The gradient of the queries, as the reference returns it. -/
theorem res_dq : res_main_v69 m c = truncf .bf16 (transpose S8x16384x256 [1, 0, 2] (hPad (hDq (rq m c) (rk m c) (rv m c) (rc m c))) transposes_S16384x8x256_S8x16384x256_1_0_2) bitsLt_bf16_f32 := by
  unfold res_main_v69; rfl

variable {m c} {a : Ins}

/-- The gradient of the keys, at an index of the reference's result. -/
theorem ref_dk (H : Held (rq m c) (rk m c) (rv m c) (rc m c) a) (x : Fin 16384) (n : Fin 2048) :
    res_main_v64 m c (ix2 x n) = if hd : n.val % 256 < 192 then ((a.dk ⟨n.val / 256, by omega⟩ x ⟨n.val % 256, hd⟩ : ℝ) : EReal) else 0 := by
  rw [res_dk]
  simp only [pointwise]
  rw [hPad_at]
  by_cases hd : n.val % 256 < 192
  · rw [dif_pos hd, dif_pos hd, hDk_at H]
  · rw [dif_neg hd, dif_neg hd]

/-- The gradient of the values, at an index of the reference's result. -/
theorem ref_dv (H : Held (rq m c) (rk m c) (rv m c) (rc m c) a) (x : Fin 16384) (n : Fin 1024) :
    res_main_v66 m c (ix2 x n) = ((a.dv ⟨n.val / 128, by omega⟩ x ⟨n.val % 128, by omega⟩ : ℝ) : EReal) := by
  rw [res_dv]
  simp only [pointwise]
  exact hDv_at H _ _ _

/-- The gradient of the scaled queries, at an index of the reference's result. -/
theorem ref_dq (H : Held (rq m c) (rk m c) (rv m c) (rc m c) a) (h : Fin 8) (x : Fin 16384) (d : Fin 256) :
    res_main_v69 m c (ix3 h x d) = if hd : d.val < 192 then ((a.dq h x ⟨d.val, hd⟩ : ℝ) : EReal) else 0 := by
  rw [res_dq]
  simp only [pointwise]
  rw [hPad_at]
  by_cases hd : d.val < 192
  · rw [dif_pos hd, dif_pos hd, hDq_at H]
  · rw [dif_neg hd, dif_neg hd]

end Cert.Attn

end
-- ==== Proof.Value.Finite.lean ====
/-
  What the precondition says: every number of the four arguments is a real number. So the arguments hold real arrays.
-/
module

public import proofs.«01_k».proof.Pre_finite
public import proofs.«01_k».proof.Proof.Value.Stages
public import Idealize.ShloMosaic.Lib.ReduceAll

@[expose] public section

set_option maxRecDepth 16384

noncomputable section

namespace Cert.Attn

open Idealize.ShloMosaic

/-- The side conditions of the precondition's operations. -/
theorem finite_facts : Cert.Pre_finite.Facts where
  bcast_S_S16384x8x192 := by decide
  reducesTo_S16384x8x192_S_d0_1_2 := by decide
  h_S_ := by decide
  bcast_S_S16384x8x128 := by decide
  reducesTo_S16384x8x128_S_d0_1_2 := by decide

theorem ofBits_top : Ideal.ofBits .f32 0x7F800000#32 = ⊤ := by
  simp [Ideal.ofBits, Ideal.ieee]

instance : Subsingleton Cert.Pre_finite.S_.Idx := ⟨fun a b => funext fun i => i.elim0⟩

/-- A number whose absolute value is below infinity is a real number. -/
theorem real_of_lt (x : EReal) (h : FloatOps.cmpf (F := Ideal) (φ := .f32) .olt (FloatOps.absf (F := Ideal) (φ := .f32) x) (Ideal.ofBits .f32 0x7F800000#32) = 1#1) : ∃ r : ℝ, x = (r : EReal) := by
  rw [ofBits_top] at h
  have lt : max x (-x) < ⊤ := by
    have h' : BitVec.ofBool (decide (max x (-x) < ⊤)) = 1#1 := h
    by_contra hn
    rw [decide_eq_false hn] at h'
    exact absurd h' (by decide)
  induction x with
  | bot => rw [EReal.neg_bot, max_eq_right bot_le] at lt; exact absurd lt (lt_irrefl _)
  | coe r => exact ⟨r, rfl⟩
  | top => rw [max_eq_left le_top] at lt; exact absurd lt (lt_irrefl _)

/-- The precondition makes every number of the arguments real. -/
theorem reals_of_finite [Cert.Pre_finite.Facts] (q k : FVec Ideal Cert.Pre_finite.S16384x8x192 .f32) (v c : FVec Ideal Cert.Pre_finite.S16384x8x128 .f32)
    (h : Cert.Pre_finite.fn (F := Ideal) q k v c = fun _ => 1#1) :
    (∀ i, ∃ r : ℝ, q i = (r : EReal)) ∧ (∀ i, ∃ r : ℝ, k i = (r : EReal)) ∧ (∀ i, ∃ r : ℝ, v i = (r : EReal)) ∧ (∀ i, ∃ r : ℝ, c i = (r : EReal)) := by
  have e := congrFun h (fun i => i.elim0)
  unfold Cert.Pre_finite.fn Cert.Pre_finite.fn_part1 at e
  obtain ⟨e, hc⟩ := IntOp.andi_eq_one.1 e
  obtain ⟨e, hv⟩ := IntOp.andi_eq_one.1 e
  obtain ⟨hq, hk⟩ := IntOp.andi_eq_one.1 e
  exact ⟨fun i => real_of_lt _ (Host.reduce_andi_all _ _ _ _ _ hq i), fun i => real_of_lt _ (Host.reduce_andi_all _ _ _ _ _ hk i),
    fun i => real_of_lt _ (Host.reduce_andi_all _ _ _ _ _ hv i), fun i => real_of_lt _ (Host.reduce_andi_all _ _ _ _ _ hc i)⟩

/-- The scale of the queries is a real number. -/
theorem scale_real : ∃ r : ℝ, Ideal.ofBits .f32 0x3D93CD3A#32 = (r : EReal) := by
  simp only [Ideal.ofBits, Ideal.ieee]
  exact ⟨_, rfl⟩

/-- Arguments of real numbers hold real arrays. -/
theorem held_of_reals (q k : FVec Ideal Cert.Pre_finite.S16384x8x192 .f32) (v c : FVec Ideal Cert.Pre_finite.S16384x8x128 .f32)
    (hq : ∀ i, ∃ r : ℝ, q i = (r : EReal)) (hk : ∀ i, ∃ r : ℝ, k i = (r : EReal)) (hv : ∀ i, ∃ r : ℝ, v i = (r : EReal))
    (hc : ∀ i, ∃ r : ℝ, c i = (r : EReal)) : ∃ a, Held q k v c a := by
  choose fq eq using hq
  choose fk ek using hk
  choose fv ev using hv
  choose fc ec using hc
  obtain ⟨r, hr⟩ := scale_real
  refine ⟨⟨fun x h d => fq (ix3 x h d) * r, fun x h d => fk (ix3 x h d), fun x h d => fv (ix3 x h d), fun x h d => fc (ix3 x h d)⟩, ?_,
    fun x h d => ek _, fun x h d => ev _, fun x h d => ec _⟩
  intro x h d
  show q (ix3 x h d) * Ideal.ofBits .f32 0x3D93CD3A#32 = _
  rw [eq, hr, ← EReal.coe_mul]

/-- The arguments the precondition lets through hold real arrays. -/
theorem held_of_finite [Cert.Pre_finite.Facts] (q k : FVec Ideal Cert.Pre_finite.S16384x8x192 .f32) (v c : FVec Ideal Cert.Pre_finite.S16384x8x128 .f32)
    (h : Cert.Pre_finite.fn (F := Ideal) q k v c = fun _ => 1#1) : ∃ a, Held q k v c a := by
  obtain ⟨hq, hk, hv, hc⟩ := reals_of_finite q k v c h
  exact held_of_reals q k v c hq hk hv hc

end Cert.Attn

end
-- ==== Proof.Value.Equal.lean ====
/-
  The two programs from equal finite arguments: the kernel's three result arrays are the reference's.
-/
module

public import proofs.«01_k».proof.Proof.Value.Outputs
public import proofs.«01_k».proof.Proof.Value.Reference
public import proofs.«01_k».proof.Proof.Value.Finite

@[expose] public section

set_option maxRecDepth 16384

noncomputable section

namespace Cert.Attn

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) {a : Ins}
  (H : Held (iq m c) (ik m c) (iv m c) (ic m c) a) (H' : Held (rq m' c) (rk m' c) (rv m' c) (rc m' c) a)
include H H'

/-- The keys' gradients are equal. -/
theorem dk_equal : (Cert.KernelIdeal.Hand.dats m 0 c).arrAt 4 Cert.KernelIdeal.cfg0.N = Cert.ReferenceIdeal.Value.res_main_v64 (F := Ideal) m' c := by
  funext y
  obtain ⟨i, n, rfl⟩ : ∃ (i : Fin 16384) (n : Fin 2048), y = ix2 i n := ⟨y 0, y 1, by funext b; match b with | 0 => rfl | 1 => rfl⟩
  exact (out_dk H i n).trans (ref_dk H' i n).symm

/-- The values' gradients are equal. -/
theorem dv_equal : (Cert.KernelIdeal.Hand.dats m 0 c).arrAt 5 Cert.KernelIdeal.cfg0.N = Cert.ReferenceIdeal.Value.res_main_v66 (F := Ideal) m' c := by
  funext y
  obtain ⟨i, n, rfl⟩ : ∃ (i : Fin 16384) (n : Fin 1024), y = ix2 i n := ⟨y 0, y 1, by funext b; match b with | 0 => rfl | 1 => rfl⟩
  exact (out_dv H i n).trans (ref_dv H' i n).symm

/-- The queries' gradients are equal. -/
theorem dq_equal : Cert.KernelIdeal.Hand.G m c Cert.KernelIdeal.main_v49_2 = Cert.ReferenceIdeal.Value.res_main_v69 (F := Ideal) m' c := by
  funext y
  obtain ⟨h, i, n, rfl⟩ : ∃ (h : Fin 8) (i : Fin 16384) (n : Fin 256), y = ix3 h i n := ⟨y 0, y 1, y 2, by funext b; match b with | 0 => rfl | 1 => rfl | 2 => rfl⟩
  exact (out_dq H h i n).trans (ref_dq H' h i n).symm

end Cert.Attn

end
-- ==== Proof.Fwd.Progs.lean ====
/-
  The forward attention kernel's body as a composition of two small programs: a score of one key block (one product into
  a buffer) and an update by one key block (the running maximum, sum and products). Each is stated over the memrefs and
  offsets it is run at, so that what it does is proved once.
-/
module

public import proofs.«01_k».proof.Proof.Gen.Kernel2Ideal.Skeleton

@[expose] public section

set_option maxRecDepth 65536
set_option maxHeartbeats 4000000

noncomputable section

namespace Cert.Kernel2Ideal.Hand

open Idealize.ShloMosaic Idealize.SL.Sem Cert.Kernel2Ideal Cert.Kernel2Ideal.Gen

variable {F : FTy → Type} [FloatOps F]

/-- The query block a grid point is for. -/
abbrev kb (i : grid0.Coords) : ℕ := (i 1).val

/-- Where a block of keys lies. -/
abbrev OK := {o : Fin 2 → ℕ // ∀ a, o a + S512x256.size a ≤ S16384x256.size a}
/-- Where a block of values lies. -/
abbrev OV := {o : Fin 2 → ℕ // ∀ a, o a + S128x512.size a ≤ S128x16384.size a}

/-- One score: the product of a key block with the queries, into the buffer `ms`. -/
def scoreP (mk : Memref sig .tc .vmem S16384x256 .bf16) (ms : Memref sig .tc .vmem S512x512 .f32) (q : FVec F S512x256 .bf16) (o : OK) : Prog (TpuEff nD τ sig (Elt F) Λ₀ .tc) PUnit := do
  let xk ← Prog.lift (.load mk (Rect.unit (s := S16384x256) o.1 S512x256.size o.2).toLoadRect (View.loadsAt_vmem h_S512x256))
  let _js ← Prog.lift (.load ms (Rect.unit (s := S512x512) ![0, 0] S512x512.size inb_S512x512_S512x512_0_0).toLoadRect (View.loadsAt_vmem h_S512x512))
  Prog.lift (.store ms (Rect.unit (s := S512x512) ![0, 0] S512x512.size inb_S512x512_S512x512_0_0) (k0_pay6 q xk) Finset.univ (View.stores_vmem_bits_univ h_S512x512 rfl) (.inl rfl))
  pure ⟨⟩

/-- One update: from the scores in `ms`, seen through `f`, and one block of values, the new maximum, sum and products. -/
def updP (mv : Memref sig .tc .vmem S128x16384 .bf16) (m7 m8 : Memref sig .tc .vmem S1x512 .f32) (m9 : Memref sig .tc .vmem S128x512 .f32)
    (ms : Memref sig .tc .vmem S512x512 .f32) (f : Vec F S512x512 .f32 → Vec F S512x512 .f32) (o : OV) : Prog (TpuEff nD τ sig (Elt F) Λ₀ .tc) PUnit := do
  let xv ← Prog.lift (.load mv (Rect.unit (s := S128x16384) o.1 S128x512.size o.2).toLoadRect (View.loadsAt_vmem h_S128x512))
  let xs ← Prog.lift (.load ms (Rect.unit (s := S512x512) ![0, 0] S512x512.size inb_S512x512_S512x512_0_0).toLoadRect (View.loadsAt_vmem h_S512x512))
  let xm ← Prog.lift (.load m7 (Rect.unit (s := S1x512) ![0, 0] S1x512.size inb_S1x512_S1x512_0_0).toLoadRect (View.loadsAt_vmem h_S1x512))
  let xl ← Prog.lift (.load m8 (Rect.unit (s := S1x512) ![0, 0] S1x512.size inb_S1x512_S1x512_0_0).toLoadRect (View.loadsAt_vmem h_S1x512))
  let _jl ← Prog.lift (.load m8 (Rect.unit (s := S1x512) ![0, 0] S1x512.size inb_S1x512_S1x512_0_0).toLoadRect (View.loadsAt_vmem h_S1x512))
  Prog.lift (.store m8 (Rect.unit (s := S1x512) ![0, 0] S1x512.size inb_S1x512_S1x512_0_0) (k0_pay12 (k0_pay11 (f xs) xm xl)) Finset.univ (View.stores_vmem_bits_univ h_S1x512 rfl) (.inl rfl))
  let xa ← Prog.lift (.load m9 (Rect.unit (s := S128x512) ![0, 0] S128x512.size inb_S128x512_S128x512_0_0).toLoadRect (View.loadsAt_vmem h_S128x512))
  let _ja ← Prog.lift (.load m9 (Rect.unit (s := S128x512) ![0, 0] S128x512.size inb_S128x512_S128x512_0_0).toLoadRect (View.loadsAt_vmem h_S128x512))
  Prog.lift (.store m9 (Rect.unit (s := S128x512) ![0, 0] S128x512.size inb_S128x512_S128x512_0_0) (k0_pay13 (k0_pay7 xv) (k0_pay9 (f xs) xm) (k0_pay10 (f xs) xm) xa) Finset.univ (View.stores_vmem_bits_univ h_S128x512 rfl) (.inl rfl))
  let _jm ← Prog.lift (.load m7 (Rect.unit (s := S1x512) ![0, 0] S1x512.size inb_S1x512_S1x512_0_0).toLoadRect (View.loadsAt_vmem h_S1x512))
  Prog.lift (.store m7 (Rect.unit (s := S1x512) ![0, 0] S1x512.size inb_S1x512_S1x512_0_0) (k0_pay14 (k0_pay8 (f xs) xm)) Finset.univ (View.stores_vmem_bits_univ h_S1x512 rfl) (.inl rfl))
  pure ⟨⟩

/-- Steps of the kernel, two at a time: each scores the next block into the free buffer and updates by the block in the other. -/
def grp (mk : Memref sig .tc .vmem S16384x256 .bf16) (mv : Memref sig .tc .vmem S128x16384 .bf16) (m7 m8 : Memref sig .tc .vmem S1x512 .f32) (m9 : Memref sig .tc .vmem S128x512 .f32)
    (ma mb : Memref sig .tc .vmem S512x512 .f32) (q : FVec F S512x256 .bf16) : List ((OK × OV) × (OK × OV)) → Prog (TpuEff nD τ sig (Elt F) Λ₀ .tc) PUnit
  | [] => pure ⟨⟩
  | x :: xs => do
    scoreP mk mb q x.1.1
    updP mv m7 m8 m9 ma (fun s => s) x.1.2
    scoreP mk ma q x.2.1
    updP mv m7 m8 m9 mb (fun s => s) x.2.2
    grp mk mv m7 m8 m9 ma mb q xs

variable (arg2 : Memref sig .tc .vmem S512x256 .bf16) (harg2 : arg2.IsWhole) (arg3 : Memref sig .tc .vmem S16384x256 .bf16) (harg3 : arg3.IsWhole) (arg4 : Memref sig .tc .vmem S128x16384 .bf16) (harg4 : arg4.IsWhole) (arg5 : Memref sig .tc .vmem S512x128 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .f32) (harg9 : arg9.IsWhole) (arg10 : Memref sig .tc .vmem S512x512 .f32) (harg10 : arg10.IsWhole) (arg11 : Memref sig .tc .vmem S512x512 .f32) (harg11 : arg11.IsWhole)

/-- The 16 steps of a trip of this loop: where their blocks lie. -/
def list1 (i : grid0.Coords) (t : Fin (k0_t1_loop i).trips) : List ((OK × OV) × (OK × OV)) :=
  [((⟨k0_off1 i t 0#32, k0_off1_inb i t 0⟩, ⟨k0_off2 i t 0#32, k0_off2_inb i t 0⟩), (⟨k0_off1 i t 1#32, k0_off1_inb i t 1⟩, ⟨k0_off2 i t 1#32, k0_off2_inb i t 1⟩)),
    ((⟨k0_off1 i t 2#32, k0_off1_inb i t 2⟩, ⟨k0_off2 i t 2#32, k0_off2_inb i t 2⟩), (⟨k0_off1 i t 3#32, k0_off1_inb i t 3⟩, ⟨k0_off2 i t 3#32, k0_off2_inb i t 3⟩)),
    ((⟨k0_off1 i t 4#32, k0_off1_inb i t 4⟩, ⟨k0_off2 i t 4#32, k0_off2_inb i t 4⟩), (⟨k0_off1 i t 5#32, k0_off1_inb i t 5⟩, ⟨k0_off2 i t 5#32, k0_off2_inb i t 5⟩)),
    ((⟨k0_off1 i t 6#32, k0_off1_inb i t 6⟩, ⟨k0_off2 i t 6#32, k0_off2_inb i t 6⟩), (⟨k0_off1 i t 7#32, k0_off1_inb i t 7⟩, ⟨k0_off2 i t 7#32, k0_off2_inb i t 7⟩)),
    ((⟨k0_off1 i t 8#32, k0_off1_inb i t 8⟩, ⟨k0_off2 i t 8#32, k0_off2_inb i t 8⟩), (⟨k0_off1 i t 9#32, k0_off1_inb i t 9⟩, ⟨k0_off2 i t 9#32, k0_off2_inb i t 9⟩)),
    ((⟨k0_off1 i t 10#32, k0_off1_inb i t 10⟩, ⟨k0_off2 i t 10#32, k0_off2_inb i t 10⟩), (⟨k0_off1 i t 11#32, k0_off1_inb i t 11⟩, ⟨k0_off2 i t 11#32, k0_off2_inb i t 11⟩)),
    ((⟨k0_off1 i t 12#32, k0_off1_inb i t 12⟩, ⟨k0_off2 i t 12#32, k0_off2_inb i t 12⟩), (⟨k0_off1 i t 13#32, k0_off1_inb i t 13⟩, ⟨k0_off2 i t 13#32, k0_off2_inb i t 13⟩)),
    ((⟨k0_off1 i t 14#32, k0_off1_inb i t 14⟩, ⟨k0_off2 i t 14#32, k0_off2_inb i t 14⟩), (⟨k0_off1 i t 15#32, k0_off1_inb i t 15⟩, ⟨k0_off2 i t 15#32, k0_off2_inb i t 15⟩))]

/-- The 8 steps of a trip of this loop: where their blocks lie. -/
def list3 (i : grid0.Coords) (t : Fin (k0_t3_loop i).trips) : List ((OK × OV) × (OK × OV)) :=
  [((⟨k0_off5 i t 0#32, k0_off5_inb i t 0⟩, ⟨k0_off6 i t 0#32, k0_off6_inb i t 0⟩), (⟨k0_off5 i t 1#32, k0_off5_inb i t 1⟩, ⟨k0_off6 i t 1#32, k0_off6_inb i t 1⟩)),
    ((⟨k0_off5 i t 2#32, k0_off5_inb i t 2⟩, ⟨k0_off6 i t 2#32, k0_off6_inb i t 2⟩), (⟨k0_off5 i t 3#32, k0_off5_inb i t 3⟩, ⟨k0_off6 i t 3#32, k0_off6_inb i t 3⟩)),
    ((⟨k0_off5 i t 4#32, k0_off5_inb i t 4⟩, ⟨k0_off6 i t 4#32, k0_off6_inb i t 4⟩), (⟨k0_off5 i t 5#32, k0_off5_inb i t 5⟩, ⟨k0_off6 i t 5#32, k0_off6_inb i t 5⟩)),
    ((⟨k0_off5 i t 6#32, k0_off5_inb i t 6⟩, ⟨k0_off6 i t 6#32, k0_off6_inb i t 6⟩), (⟨k0_off5 i t 7#32, k0_off5_inb i t 7⟩, ⟨k0_off6 i t 7#32, k0_off6_inb i t 7⟩))]

/-- The 4 steps of a trip of this loop: where their blocks lie. -/
def list5 (i : grid0.Coords) (t : Fin (k0_t5_loop i).trips) : List ((OK × OV) × (OK × OV)) :=
  [((⟨k0_off9 i t 0#32, k0_off9_inb i t 0⟩, ⟨k0_off10 i t 0#32, k0_off10_inb i t 0⟩), (⟨k0_off9 i t 1#32, k0_off9_inb i t 1⟩, ⟨k0_off10 i t 1#32, k0_off10_inb i t 1⟩)),
    ((⟨k0_off9 i t 2#32, k0_off9_inb i t 2⟩, ⟨k0_off10 i t 2#32, k0_off10_inb i t 2⟩), (⟨k0_off9 i t 3#32, k0_off9_inb i t 3⟩, ⟨k0_off10 i t 3#32, k0_off10_inb i t 3⟩))]

/-- The 2 steps of a trip of this loop: where their blocks lie. -/
def list7 (i : grid0.Coords) (t : Fin (k0_t7_loop i).trips) : List ((OK × OV) × (OK × OV)) :=
  [((⟨k0_off13 i t 0#32, k0_off13_inb i t 0⟩, ⟨k0_off14 i t 0#32, k0_off14_inb i t 0⟩), (⟨k0_off13 i t 1#32, k0_off13_inb i t 1⟩, ⟨k0_off14 i t 1#32, k0_off14_inb i t 1⟩))]

/-- A trip of this loop is 16 steps. -/
theorem t1_body_eq (i : grid0.Coords) (v0 : Vec F S512x256 .bf16) :
    k0_t1_body (F := F) i arg2 harg2 arg3 harg3 arg4 harg4 arg5 harg5 arg6 harg6 arg7 harg7 arg8 harg8 arg9 harg9 arg10 harg10 arg11 harg11 v0 = fun t _ => grp arg3 arg4 arg7 arg8 arg9 arg10 arg11 (k0_pay499 v0) (list1 i t) := by
  funext t _
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  rfl

/-- A trip of this loop is 8 steps. -/
theorem t3_body_eq (i : grid0.Coords) (w1 w2 w3 : BitVec 32) (v1 : FVec F S512x256 .bf16) :
    k0_t3_body (F := F) i arg2 harg2 arg3 harg3 arg4 harg4 arg5 harg5 arg6 harg6 arg7 harg7 arg8 harg8 arg9 harg9 arg10 harg10 arg11 harg11 w1 v1 w2 w3 = fun t _ => grp arg3 arg4 arg7 arg8 arg9 arg10 arg11 v1 (list3 i t) := by
  funext t _
  unfold k0_t3_body
  simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  rfl

/-- A trip of this loop is 4 steps. -/
theorem t5_body_eq (i : grid0.Coords) (w1 w2 w3 : BitVec 32) (v1 : FVec F S512x256 .bf16) :
    k0_t5_body (F := F) i arg2 harg2 arg3 harg3 arg4 harg4 arg5 harg5 arg6 harg6 arg7 harg7 arg8 harg8 arg9 harg9 arg10 harg10 arg11 harg11 w1 v1 w2 w3 = fun t _ => grp arg3 arg4 arg7 arg8 arg9 arg10 arg11 v1 (list5 i t) := by
  funext t _
  unfold k0_t5_body
  simp only [k0_part63_eq_skeleton, k0_part64_eq_skeleton, k0_part65_eq_skeleton, k0_part66_eq_skeleton, k0_part67_eq_skeleton]
  rfl

/-- A trip of this loop is 2 steps. -/
theorem t7_body_eq (i : grid0.Coords) (w1 w2 w3 : BitVec 32) (v1 : FVec F S512x256 .bf16) :
    k0_t7_body (F := F) i arg2 harg2 arg3 harg3 arg4 harg4 arg5 harg5 arg6 harg6 arg7 harg7 arg8 harg8 arg9 harg9 arg10 harg10 arg11 harg11 w1 v1 w2 w3 = fun t _ => grp arg3 arg4 arg7 arg8 arg9 arg10 arg11 v1 (list7 i t) := by
  funext t _
  unfold k0_t7_body
  simp only [k0_part73_eq_skeleton, k0_part74_eq_skeleton]
  rfl

/-- A loop that never runs. -/
theorem for_zero {w : ℕ} (l : Scf.Loop w) (ok : l.OK) (body : Fin l.trips → PUnit → Prog (TpuEff nD τ sig (Elt F) Λ₀ .tc) PUnit) (h : l.trips = 0) :
    Scf.Loop.for l ok ⟨⟩ body = pure ⟨⟩ := by
  have e : List.finRange l.trips = [] := List.length_eq_zero_iff.mp (by rw [List.length_finRange, h])
  show Scf.for l.lb l.ub l.st ok ⟨⟩ body = pure ⟨⟩
  rw [Scf.for_eq, e]
  rfl

theorem trips2_eq : ∀ i : grid0.Coords, (k0_t2_loop i).trips = 0 := by decide +kernel
theorem trips4_eq : ∀ i : grid0.Coords, (k0_t4_loop i).trips = 0 := by decide +kernel
theorem trips6_eq : ∀ i : grid0.Coords, (k0_t6_loop i).trips = 0 := by decide +kernel
theorem trips8_eq : ∀ i : grid0.Coords, (k0_t8_loop i).trips = 0 := by decide +kernel

/-- The steps after the loops, for an odd query block: the block before the diagonal and the diagonal block. -/
def oddP (i : grid0.Coords) (q : FVec F S512x256 .bf16) : Prog (TpuEff nD τ sig (Elt F) Λ₀ .tc) PUnit :=
  if h : k0_cond1 i = 1#1 then do
    scoreP arg3 arg11 q ⟨k0_off17 i, k0_off17_inb i h⟩
    updP arg4 arg7 arg8 arg9 arg10 (fun s => s) ⟨k0_off18 i, k0_off18_inb i h⟩
    updP arg4 arg7 arg8 arg9 arg11 k0_pay493 ⟨k0_off19 i, k0_off19_inb i h⟩
  else pure ⟨⟩

/-- The step after the loops, for an even query block: the diagonal block. -/
def evenP (i : grid0.Coords) : Prog (TpuEff nD τ sig (Elt F) Λ₀ .tc) PUnit :=
  if h : k0_cond2 i = 1#1 then updP arg4 arg7 arg8 arg9 arg10 k0_pay493 ⟨k0_off20 i, k0_off20_inb i h⟩ else pure ⟨⟩

/-- The body: the start, the loops, the diagonal, the outputs. -/
def bodyP (i : grid0.Coords) : Prog (TpuEff nD τ sig (Elt F) Λ₀ .tc) PUnit := do
  let v0 ← Prog.lift (.load arg2 (Rect.unit (s := S512x256) ![0, 0] S512x256.size inb_S512x256_S512x256_0_0).toLoadRect (View.loadsAt_vmem h_S512x256))
  let _ ← Prog.lift (.load arg7 (Rect.unit (s := S1x512) ![0, 0] S1x512.size inb_S1x512_S1x512_0_0).toLoadRect (View.loadsAt_vmem h_S1x512))
  Prog.lift (.store arg7 (Rect.unit (s := S1x512) ![0, 0] S1x512.size inb_S1x512_S1x512_0_0) (k0_pay500 (F := F)) Finset.univ (View.stores_vmem_bits_univ h_S1x512 rfl) (.inl rfl))
  let _ ← Prog.lift (.load arg8 (Rect.unit (s := S1x512) ![0, 0] S1x512.size inb_S1x512_S1x512_0_0).toLoadRect (View.loadsAt_vmem h_S1x512))
  Prog.lift (.store arg8 (Rect.unit (s := S1x512) ![0, 0] S1x512.size inb_S1x512_S1x512_0_0) (k0_pay501 (F := F)) Finset.univ (View.stores_vmem_bits_univ h_S1x512 rfl) (.inl rfl))
  let _ ← Prog.lift (.load arg9 (Rect.unit (s := S128x512) ![0, 0] S128x512.size inb_S128x512_S128x512_0_0).toLoadRect (View.loadsAt_vmem h_S128x512))
  Prog.lift (.store arg9 (Rect.unit (s := S128x512) ![0, 0] S128x512.size inb_S128x512_S128x512_0_0) (k0_pay502 (F := F)) Finset.univ (View.stores_vmem_bits_univ h_S128x512 rfl) (.inl rfl))
  scoreP arg3 arg10 (k0_pay499 v0) ⟨![0, 0], inb_S16384x256_S512x256_0_0⟩
  Scf.Loop.for (k0_t1_loop i) (k0_t1_ok i) ⟨⟩ (fun t _ => grp arg3 arg4 arg7 arg8 arg9 arg10 arg11 (k0_pay499 v0) (list1 i t))
  Scf.Loop.for (k0_t3_loop i) (k0_t3_ok i) ⟨⟩ (fun t _ => grp arg3 arg4 arg7 arg8 arg9 arg10 arg11 (k0_pay499 v0) (list3 i t))
  Scf.Loop.for (k0_t5_loop i) (k0_t5_ok i) ⟨⟩ (fun t _ => grp arg3 arg4 arg7 arg8 arg9 arg10 arg11 (k0_pay499 v0) (list5 i t))
  Scf.Loop.for (k0_t7_loop i) (k0_t7_ok i) ⟨⟩ (fun t _ => grp arg3 arg4 arg7 arg8 arg9 arg10 arg11 (k0_pay499 v0) (list7 i t))
  oddP arg3 arg4 arg7 arg8 arg9 arg10 arg11 i (k0_pay499 v0)
  evenP arg4 arg7 arg8 arg9 arg10 i
  let xl ← Prog.lift (.load arg8 (Rect.unit (s := S1x512) ![0, 0] S1x512.size inb_S1x512_S1x512_0_0).toLoadRect (View.loadsAt_vmem h_S1x512))
  let xa ← Prog.lift (.load arg9 (Rect.unit (s := S128x512) ![0, 0] S128x512.size inb_S128x512_S128x512_0_0).toLoadRect (View.loadsAt_vmem h_S128x512))
  let _ ← Prog.lift (.load arg5 (Rect.unit (s := S512x128) ![0, 0] S512x128.size inb_S512x128_S512x128_0_0).toLoadRect (View.loadsAt_vmem h_S512x128))
  Prog.lift (.store arg5 (Rect.unit (s := S512x128) ![0, 0] S512x128.size inb_S512x128_S512x128_0_0) (k0_pay4 xl xa) Finset.univ (View.stores_vmem_bits_univ h_S512x128 rfl) (.inl rfl))
  let xm ← Prog.lift (.load arg7 (Rect.unit (s := S1x512) ![0, 0] S1x512.size inb_S1x512_S1x512_0_0).toLoadRect (View.loadsAt_vmem h_S1x512))
  let _ ← Prog.lift (.load arg6 (Rect.unit (s := S1x1x512) ![0, 0, 0] S1x1x512.size inb_S1x1x512_S1x1x512_0_0_0).toLoadRect (View.loadsAt_vmem h_S1x1x512))
  Prog.lift (.store arg6 (Rect.unit (s := S1x1x512) ![0, 0, 0] S1x1x512.size inb_S1x1x512_S1x1x512_0_0_0) (k0_pay5 xl xm) Finset.univ (View.stores_vmem_bits_univ h_S1x1x512 rfl) (.inl rfl))
  pure ⟨⟩

/-- The kernel's body is this composition. -/
theorem body_eq (i : grid0.Coords) : cc0_attn_fwd (F := F) i arg2 harg2 arg3 harg3 arg4 harg4 arg5 harg5 arg6 harg6 arg7 harg7 arg8 harg8 arg9 harg9 arg10 harg10 arg11 harg11 = bodyP arg2 arg3 arg4 arg5 arg6 arg7 arg8 arg9 arg10 arg11 i := by
  rw [cc0_attn_fwd_eq_skeleton]
  unfold cc0_attn_fwd_skel
  simp only [k0_part77_eq_skeleton, k0_part78_eq_skeleton, k0_part79_eq_skeleton, k0_part80_eq_skeleton, k0_part81_eq_skeleton]
  unfold k0_part77_skel k0_part78_skel k0_part79_skel k0_part80_skel k0_part81_skel bodyP oddP evenP
  simp only [t1_body_eq, t3_body_eq, t5_body_eq, t7_body_eq, for_zero _ _ _ (trips2_eq i), for_zero _ _ _ (trips4_eq i), for_zero _ _ _ (trips6_eq i), for_zero _ _ _ (trips8_eq i)]
  by_cases h1 : k0_cond1 i = 1#1 <;> by_cases h2 : k0_cond2 i = 1#1 <;> simp only [h1, h2, dite_true, dite_false, reduceDIte, bind_assoc, pure_bind] <;> rfl

end Cert.Kernel2Ideal.Hand

end
-- ==== Proof.Fwd.Steps.lean ====
/-
  What a score and an update of the forward attention kernel do: after `n` key blocks the kernel holds the maximum, sum
  and products of those blocks.
-/
module

public import proofs.«01_k».proof.Proof.Fwd.Progs
public import Idealize.ShloMosaic.Lib.Pipeline.FrameBody
public import Idealize.ShloMosaic.Lib.Tactic
public import Idealize.ShloMosaic.Lib.VecWindow

@[expose] public section

set_option maxRecDepth 65536

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a program run on core `c` establishes. -/
abbrev runs (c : Dev nD) {α : Type} (p : Prog (TpuEff nD τ sig (Elt F) Λ₀ .tc) α) (Q : α → sProp 𝕄) : sProp 𝕄 :=
  wp frame (wpE (defs₀ (F := F)) Variants.none c none) Set.univ p Q

/-- Core `c` holds all of a memref, which reads `X`. -/
abbrev has (c : Dev nD) {s : Shape} {e : EltTy} (m : Memref sig .tc .vmem s e) (X : s.Idx → Elt F e) : sProp 𝕄 :=
  owns (c : Thread nD τ) m fullShare X

/-- Core `c` holds all of a memref, whatever it reads. -/
def some_ (c : Dev nD) {s : Shape} {e : EltTy} (m : Memref sig .tc .vmem s e) : sProp 𝕄 :=
  iprop(∃ X : s.Idx → Elt F e, has c m X)

theorem some_of (c : Dev nD) {s : Shape} {e : EltTy} (m : Memref sig .tc .vmem s e) (X : s.Idx → Elt F e) : has c m X ⊢ some_ (F := F) c m := by
  unfold some_
  iintro H
  iexists X
  iexact H

/-- A load reads the window of what the memref holds. -/
theorem load_window (c : Dev nD) {s : Shape} {e : EltTy} (m : Memref sig .tc .vmem s e) (X : s.Idx → Elt F e)
    {off size : Fin s.rank → ℕ} (inb : ∀ a, off a + size a ≤ s.size a) (hl : m.view.LoadsAt (Rect.unit off size inb).toLoadRect)
    (Q : (((a : Fin s.rank) → Fin (size a)) → Elt F e) → sProp 𝕄) :
    has c m X ⊢ iprop((has c m X -∗ Q (VecWindow.window X off size inb)) -∗ runs c (Prog.lift (.load m (Rect.unit off size inb).toLoadRect hl)) Q) := by
  unfold has owns
  iintro ⟨%f, %hf, H⟩ K
  iapply (wp_load (defs := defs₀ (F := F)) Variants.none (c : Thread nD τ) none Set.univ (m := m) (S := m.view.set) (View.setOn_subset_set _ _)) $$ H
  iintro H
  rw [View.readAt_unit m.view f inb rfl inb, hf, wp_ret]
  imodintro
  iapply K
  iexists f
  isplitr [H]
  · ipureintro; exact hf
  · iexact H

/-- A load of a whole memref reads what it holds. -/
theorem load_full (c : Dev nD) {s : Shape} {e : EltTy} (m : Memref sig .tc .vmem s e) (X : s.Idx → Elt F e)
    {off : Fin s.rank → ℕ} (inb : ∀ a, off a + s.size a ≤ s.size a) (hl : m.view.LoadsAt (Rect.unit off s.size inb).toLoadRect)
    (Q : (s.Idx → Elt F e) → sProp 𝕄) :
    has c m X ⊢ iprop((has c m X -∗ Q X) -∗ runs c (Prog.lift (.load m (Rect.unit off s.size inb).toLoadRect hl)) Q) := by
  have e1 : VecWindow.window X off s.size inb = X := by
    funext y
    unfold VecWindow.window
    refine congrArg X (funext fun a => Fin.ext ?_)
    have := inb a
    rw [Rect.emb_apply]
    simp only [Rect.unit, Nat.mul_one]
    omega
  have := load_window c m X inb hl Q
  rwa [e1] at this

/-- A load of a whole memref, then a store over it, leaves what is stored. -/
theorem store_some (c : Dev nD) {s : Shape} {e : EltTy} (m : Memref sig .tc .vmem s e)
    {off : Fin s.rank → ℕ} (inb : ∀ a, off a + s.size a ≤ s.size a) (w : s.Idx → Elt F e) (hl : m.view.LoadsAt (Rect.unit off s.size inb).toLoadRect)
    (hx : (m.access (Rect.unit off s.size inb)).Stores Finset.univ)
    (hm : (Finset.univ : Finset (Rect.unit off s.size inb).shape.Idx) = Finset.univ ∨ ∀ a, (Rect.unit off s.size inb).stride a = 1) (Q : PUnit → sProp 𝕄) :
    some_ (F := F) c m ⊢ iprop((has c m w -∗ Q ⟨⟩) -∗
      runs c (Prog.lift (.load m (Rect.unit off s.size inb).toLoadRect hl)) (fun _ =>
        runs c (Prog.lift (.store m (Rect.unit off s.size inb) w Finset.univ hx hm)) Q)) := by
  unfold some_
  iintro ⟨%X, H⟩ K
  iapply (load_full c m X inb hl) $$ H
  unfold has owns
  iintro ⟨%f, %hf, H⟩
  iapply (wp_store (defs := defs₀ (F := F)) Variants.none (c : Thread nD τ) none Set.univ (m := m) (r := Rect.unit off s.size inb) (S := m.view.set)
    (by rw [View.setOn_univ]; exact View.set_slice_subset _ _)) $$ H
  iintro H
  rw [wp_ret]
  imodintro
  iapply K
  iexists (m.view.writes (Elt F) f [⟨Rect.unit off s.size inb, w⟩])
  isplitr [H]
  · ipureintro; exact View.read_writes_full m.view f inb w []
  · iexact H

/-- A loop that carries nothing, by an invariant of the number of trips. -/
theorem loop_runs (c : Dev nD) {w : ℕ} (l : Scf.Loop w) (ok : l.OK) (body : Fin l.trips → PUnit → Prog (TpuEff nD τ sig (Elt F) Λ₀ .tc) PUnit) (I : ℕ → sProp 𝕄)
    (hbody : ∀ (k : Fin l.trips) (Q : PUnit → sProp 𝕄), I k.val ⊢ iprop((I (k.val + 1) -∗ Q ⟨⟩) -∗ runs c (body k ⟨⟩) Q)) (Q : PUnit → sProp 𝕄) :
    I 0 ⊢ iprop((I l.trips -∗ Q ⟨⟩) -∗ runs c (Scf.Loop.for l ok ⟨⟩ body) Q) := by
  have hb : ∀ (k : Fin l.trips) (acc : PUnit), I k.val ⊢ wp frame (wpE (defs₀ (F := F)) Variants.none (c : Thread nD τ) none) Set.univ (body k acc) (fun _ => I (k.val + 1)) := fun k acc => by
    iintro H
    iapply (hbody k (fun _ => I (k.val + 1))) $$ H
    iintro H
    iexact H
  iintro H K
  iapply (Scf.wp_for frame (wpE (defs₀ (F := F)) Variants.none (c : Thread nD τ) none) Set.univ l.lb l.ub l.st ok ⟨⟩ body (fun n _ => I n) hb)
  isplitl [H]
  · iexact H
  · iintro %acc H
    iapply K $$ H

/-- Block `n` of the keys. -/
def kAt (n : ℕ) : OK := ⟨![512 * (n % 32), 0], by intro a; fin_cases a <;> simp [S512x256, S16384x256] <;> omega⟩
/-- Block `n` of the values. -/
def vAt (n : ℕ) : OV := ⟨![0, 512 * (n % 32)], by intro a; fin_cases a <;> simp [S128x512, S128x16384] <;> omega⟩

/-- What the kernel reads at a grid point: a block of queries, and the keys and values of a head. -/
structure Dt (F : FTy → Type) where
  q : FVec F S512x256 .bf16
  K : S16384x256.Idx → Elt F .bf16
  W : S128x16384.Idx → Elt F .bf16

/-- The running maximum, sum and products. -/
structure St (F : FTy → Type) where
  m : S1x512.Idx → Elt F .f32
  l : S1x512.Idx → Elt F .f32
  a : S128x512.Idx → Elt F .f32

/-- The scores of key block `n`. -/
def Dt.sc (d : Dt F) (n : ℕ) : Vec F S512x512 .f32 := k0_pay6 d.q (VecWindow.window d.K (kAt n).1 S512x256.size (kAt n).2)
/-- Block `n` of the values. -/
def Dt.vt (d : Dt F) (n : ℕ) : Vec F S128x512 .bf16 := VecWindow.window d.W (vAt n).1 S128x512.size (vAt n).2
/-- Taking in one block of scores and of values. -/
def St.upd (s : St F) (xs : Vec F S512x512 .f32) (xv : Vec F S128x512 .bf16) : St F :=
  ⟨k0_pay14 (k0_pay8 xs s.m), k0_pay12 (k0_pay11 xs s.m s.l), k0_pay13 (k0_pay7 xv) (k0_pay9 xs s.m) (k0_pay10 xs s.m) s.a⟩
/-- What is held after the first `n` key blocks. -/
def Dt.st (d : Dt F) : ℕ → St F
  | 0 => ⟨k0_pay500, k0_pay501, k0_pay502⟩
  | n + 1 => (d.st n).upd (d.sc n) (d.vt n)
/-- What is held at the end, for query block `j`. -/
def Dt.fin (d : Dt F) (j : ℕ) : St F := (d.st j).upd (k0_pay493 (d.sc j)) (d.vt j)

/-- The memrefs every step works on. -/
structure Ms where
  ks : Memref sig .tc .vmem S16384x256 .bf16
  vs : Memref sig .tc .vmem S128x16384 .bf16
  m7 : Memref sig .tc .vmem S1x512 .f32
  m8 : Memref sig .tc .vmem S1x512 .f32
  m9 : Memref sig .tc .vmem S128x512 .f32

/-- Core `c` holds the keys, the values and the state `s`. -/
def res (c : Dev nD) (M : Ms) (d : Dt F) (s : St F) : sProp 𝕄 :=
  iprop(has c M.ks d.K ∗ has c M.vs d.W ∗ has c M.m7 s.m ∗ has c M.m8 s.l ∗ has c M.m9 s.a)

/-- A score leaves the scores of its block in the buffer. -/
theorem score_runs (c : Dev nD) (M : Ms) (d : Dt F) (s : St F) (b : Memref sig .tc .vmem S512x512 .f32) (n : ℕ) (o : OK) (ho : o = kAt n) (Q : PUnit → sProp 𝕄) :
    iprop(res c M d s ∗ some_ (F := F) c b) ⊢ iprop((res c M d s ∗ has c b (d.sc n) -∗ Q ⟨⟩) -∗ runs c (scoreP M.ks b d.q o) Q) := by
  subst ho
  unfold res scoreP runs
  simp only [wp_bind]
  iintro ⟨⟨Hk, Hr⟩, Hb⟩ K
  iapply (load_window c M.ks d.K (kAt n).2 _ _) $$ Hk
  iintro Hk
  iapply (store_some c b _ _ _ _ _ _) $$ Hb
  iintro Hb
  rw [wp_pure]
  imodintro
  iapply K
  isplitl [Hk Hr]
  · isplitl [Hk]; iexact Hk
    iexact Hr
  · iexact Hb

/-- An update takes in one block. -/
theorem upd_runs (c : Dev nD) (M : Ms) (d : Dt F) (s : St F) (a : Memref sig .tc .vmem S512x512 .f32) (X : S512x512.Idx → Elt F .f32) (f : Vec F S512x512 .f32 → Vec F S512x512 .f32)
    (n : ℕ) (o : OV) (ho : o = vAt n) (Q : PUnit → sProp 𝕄) :
    iprop(res c M d s ∗ has c a X) ⊢ iprop((res c M d (s.upd (f X) (d.vt n)) ∗ has c a X -∗ Q ⟨⟩) -∗ runs c (updP M.vs M.m7 M.m8 M.m9 a f o) Q) := by
  subst ho
  unfold res updP runs
  simp only [wp_bind]
  iintro ⟨⟨Hk, Hv, H7, H8, H9⟩, Ha⟩ K
  iapply (load_window c M.vs d.W (vAt n).2 _ _) $$ Hv
  iintro Hv
  iapply (load_full c a X _ _ _) $$ Ha
  iintro Ha
  iapply (load_full c M.m7 s.m _ _ _) $$ H7
  iintro H7
  iapply (load_full c M.m8 s.l _ _ _) $$ H8
  iintro H8
  ihave H8 := (some_of c M.m8 s.l) $$ H8
  iapply (store_some c M.m8 _ _ _ _ _ _) $$ H8
  iintro H8
  iapply (load_full c M.m9 s.a _ _ _) $$ H9
  iintro H9
  ihave H9 := (some_of c M.m9 s.a) $$ H9
  iapply (store_some c M.m9 _ _ _ _ _ _) $$ H9
  iintro H9
  ihave H7 := (some_of c M.m7 s.m) $$ H7
  iapply (store_some c M.m7 _ _ _ _ _ _) $$ H7
  iintro H7
  rw [wp_pure]
  imodintro
  iapply K
  isplitr [Ha]
  · isplitl [Hk]; iexact Hk
    isplitl [Hv]; iexact Hv
    isplitl [H7]; iexact H7
    isplitl [H8]; iexact H8
    iexact H9
  · iexact Ha

/-- After `n` blocks: their state, the scores of block `n` in one buffer, the other free. -/
def mid (c : Dev nD) (M : Ms) (d : Dt F) (a b : Memref sig .tc .vmem S512x512 .f32) (n : ℕ) : sProp 𝕄 :=
  iprop(res c M d (d.st n) ∗ has c a (d.sc n) ∗ some_ (F := F) c b)

/-- Two steps from block `n`. -/
def two (n : ℕ) : (OK × OV) × (OK × OV) := ((kAt (n + 1), vAt n), (kAt (n + 1 + 1), vAt (n + 1)))
/-- These are the steps from block `n` on. -/
def good : ℕ → List ((OK × OV) × (OK × OV)) → Prop
  | _, [] => True
  | n, x :: xs => x = two n ∧ good (n + 1 + 1) xs

/-- One step. -/
theorem step_runs (c : Dev nD) (M : Ms) (d : Dt F) (a b : Memref sig .tc .vmem S512x512 .f32) (n : ℕ) (Q : PUnit → sProp 𝕄) :
    mid c M d a b n ⊢ iprop((mid c M d b a (n + 1) -∗ Q ⟨⟩) -∗
      runs c (scoreP M.ks b d.q (kAt (n + 1))) fun _ => runs c (updP M.vs M.m7 M.m8 M.m9 a (fun s => s) (vAt n)) Q) := by
  unfold mid
  iintro ⟨Hr, Ha, Hb⟩ K
  iapply (score_runs c M d (d.st n) b (n + 1) _ rfl _) $$ [Hr Hb]
  · isplitl [Hr]; iexact Hr
    iexact Hb
  iintro ⟨Hr, Hb⟩
  iapply (upd_runs c M d (d.st n) a (d.sc n) _ n _ rfl _) $$ [Hr Ha]
  · isplitl [Hr]; iexact Hr
    iexact Ha
  iintro ⟨Hr, Ha⟩
  ihave Ha := (some_of c a _) $$ Ha
  iapply K
  isplitl [Hr]; iexact Hr
  isplitl [Hb]; iexact Hb
  iexact Ha

/-- The steps of a list. -/
theorem grp_runs (c : Dev nD) (M : Ms) (d : Dt F) (a b : Memref sig .tc .vmem S512x512 .f32) (Q : PUnit → sProp 𝕄) :
    ∀ (l : List ((OK × OV) × (OK × OV))) (n : ℕ), good n l →
      mid c M d a b n ⊢ iprop((mid c M d a b (n + 2 * l.length) -∗ Q ⟨⟩) -∗ runs c (grp M.ks M.vs M.m7 M.m8 M.m9 a b d.q l) Q)
  | [], n, _ => by
    unfold grp runs
    iintro H K
    rw [wp_pure]
    imodintro
    iapply K $$ H
  | x :: xs, n, h => by
    obtain ⟨rfl, h'⟩ := h
    have ih := grp_runs c M d a b Q xs (n + 1 + 1) h'
    have e : n + 1 + 1 + 2 * xs.length = n + 2 * (two n :: xs).length := by rw [List.length_cons]; omega
    rw [e] at ih
    unfold grp two runs
    simp only [wp_bind]
    iintro H K
    iapply (step_runs c M d a b n _) $$ H
    iintro H
    iapply (step_runs c M d b a (n + 1) _) $$ H
    iintro H
    iapply ih $$ H K

end Cert.Kernel2Ideal.Hand

end
-- ==== Proof.Fwd.Offsets.lean ====
/-
  How often the loops of the forward attention kernel run, and which blocks their steps are for.
-/
module

public import proofs.«01_k».proof.Proof.Fwd.Steps

@[expose] public section

set_option maxRecDepth 65536

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! How often the loops run, and where the blocks of their steps lie. -/

theorem trips1_eq : ∀ i : grid0.Coords, (k0_t1_loop i).trips = kb i / 16 := by decide +kernel
theorem trips3_eq : ∀ i : grid0.Coords, (k0_t3_loop i).trips = kb i % 16 / 8 := by decide +kernel
theorem trips5_eq : ∀ i : grid0.Coords, (k0_t5_loop i).trips = kb i % 8 / 4 := by decide +kernel
theorem trips7_eq : ∀ i : grid0.Coords, (k0_t7_loop i).trips = kb i % 4 / 2 := by decide +kernel
theorem kb_lt : ∀ i : grid0.Coords, kb i < 32 := by decide +kernel
theorem cond1_iff : ∀ i : grid0.Coords, k0_cond1 i = 1#1 ↔ kb i % 2 = 1 := by decide +kernel
theorem cond2_iff : ∀ i : grid0.Coords, k0_cond2 i = 1#1 ↔ kb i % 2 = 0 := by decide +kernel
theorem off17_eq : ∀ i : grid0.Coords, k0_off17 i = ![512 * kb i, 0] := by decide +kernel
theorem off18_eq : ∀ i : grid0.Coords, kb i % 2 = 1 → k0_off18 i = ![0, 512 * (kb i - 1)] := by decide +kernel
theorem off19_eq : ∀ i : grid0.Coords, k0_off19 i = ![0, 512 * kb i] := by decide +kernel
theorem off20_eq : ∀ i : grid0.Coords, k0_off20 i = ![0, 512 * kb i] := by decide +kernel

theorem k_of {o : OK} {n : ℕ} (h : o.1 = ![512 * n, 0]) (hn : n < 32) : o = kAt n :=
  Subtype.ext (h.trans (by show _ = ![512 * (n % 32), 0]; rw [Nat.mod_eq_of_lt hn]))
theorem v_of {o : OV} {n : ℕ} (h : o.1 = ![0, 512 * n]) (hn : n < 32) : o = vAt n :=
  Subtype.ext (h.trans (by show _ = ![0, 512 * (n % 32)]; rw [Nat.mod_eq_of_lt hn]))
theorem two_of {o1 o3 : OK} {o2 o4 : OV} {B n : ℕ} (h1 : o1.1 = ![512 * (B + 1), 0]) (h2 : o2.1 = ![0, 512 * B]) (h3 : o3.1 = ![512 * (B + 1 + 1), 0])
    (h4 : o4.1 = ![0, 512 * (B + 1)]) (hB : B + 2 < 32) (e : n = B) : ((o1, o2), (o3, o4)) = two n := by
  subst e
  unfold two
  rw [← k_of h1 (by omega), ← v_of h2 (by omega), ← k_of h3 (by omega), ← v_of h4 (by omega)]

theorem off1_eq : ∀ (i : grid0.Coords) (t : Fin (k0_t1_loop i).trips) (r : Fin 16), k0_off1 i t (BitVec.ofNat 32 r.val) = ![512 * (16 * t.val + r.val + 1), 0] := by decide +kernel
theorem off2_eq : ∀ (i : grid0.Coords) (t : Fin (k0_t1_loop i).trips) (r : Fin 16), k0_off2 i t (BitVec.ofNat 32 r.val) = ![0, 512 * (16 * t.val + r.val)] := by decide +kernel

/-- The steps of this loop. -/
theorem good1 (i : grid0.Coords) (t : Fin (k0_t1_loop i).trips) : good (16 * t.val) (list1 i t) := by
  have ht := lt_of_lt_of_eq t.isLt (trips1_eq i)
  have hi := kb_lt i
  have g : ∀ (r n : ℕ) (h1 : r < 16) (h2 : r + 1 < 16), n = 16 * t.val + r → ((⟨k0_off1 i t (BitVec.ofNat 32 r), k0_off1_inb i t ⟨r, h1⟩⟩, ⟨k0_off2 i t (BitVec.ofNat 32 r), k0_off2_inb i t ⟨r, h1⟩⟩),
      (⟨k0_off1 i t (BitVec.ofNat 32 (r + 1)), k0_off1_inb i t ⟨r + 1, h2⟩⟩, ⟨k0_off2 i t (BitVec.ofNat 32 (r + 1)), k0_off2_inb i t ⟨r + 1, h2⟩⟩)) = two n := fun r n h1 h2 e =>
    two_of (off1_eq i t ⟨r, h1⟩) (off2_eq i t ⟨r, h1⟩) (off1_eq i t ⟨r + 1, h2⟩) (off2_eq i t ⟨r + 1, h2⟩) (by omega) e
  exact ⟨g 0 _ (by omega) (by omega) rfl, g 2 _ (by omega) (by omega) rfl, g 4 _ (by omega) (by omega) rfl, g 6 _ (by omega) (by omega) rfl, g 8 _ (by omega) (by omega) rfl, g 10 _ (by omega) (by omega) rfl, g 12 _ (by omega) (by omega) rfl, g 14 _ (by omega) (by omega) rfl, trivial⟩
theorem off5_eq : ∀ (i : grid0.Coords) (t : Fin (k0_t3_loop i).trips) (r : Fin 8), k0_off5 i t (BitVec.ofNat 32 r.val) = ![512 * (kb i / 16 * 16 + 8 * t.val + r.val + 1), 0] := by decide +kernel
theorem off6_eq : ∀ (i : grid0.Coords) (t : Fin (k0_t3_loop i).trips) (r : Fin 8), k0_off6 i t (BitVec.ofNat 32 r.val) = ![0, 512 * (kb i / 16 * 16 + 8 * t.val + r.val)] := by decide +kernel

/-- The steps of this loop. -/
theorem good3 (i : grid0.Coords) (t : Fin (k0_t3_loop i).trips) : good (kb i / 16 * 16 + 8 * t.val) (list3 i t) := by
  have ht := lt_of_lt_of_eq t.isLt (trips3_eq i)
  have hi := kb_lt i
  have g : ∀ (r n : ℕ) (h1 : r < 8) (h2 : r + 1 < 8), n = kb i / 16 * 16 + 8 * t.val + r → ((⟨k0_off5 i t (BitVec.ofNat 32 r), k0_off5_inb i t ⟨r, h1⟩⟩, ⟨k0_off6 i t (BitVec.ofNat 32 r), k0_off6_inb i t ⟨r, h1⟩⟩),
      (⟨k0_off5 i t (BitVec.ofNat 32 (r + 1)), k0_off5_inb i t ⟨r + 1, h2⟩⟩, ⟨k0_off6 i t (BitVec.ofNat 32 (r + 1)), k0_off6_inb i t ⟨r + 1, h2⟩⟩)) = two n := fun r n h1 h2 e =>
    two_of (off5_eq i t ⟨r, h1⟩) (off6_eq i t ⟨r, h1⟩) (off5_eq i t ⟨r + 1, h2⟩) (off6_eq i t ⟨r + 1, h2⟩) (by omega) e
  exact ⟨g 0 _ (by omega) (by omega) rfl, g 2 _ (by omega) (by omega) rfl, g 4 _ (by omega) (by omega) rfl, g 6 _ (by omega) (by omega) rfl, trivial⟩
theorem off9_eq : ∀ (i : grid0.Coords) (t : Fin (k0_t5_loop i).trips) (r : Fin 4), k0_off9 i t (BitVec.ofNat 32 r.val) = ![512 * (kb i / 8 * 8 + 4 * t.val + r.val + 1), 0] := by decide +kernel
theorem off10_eq : ∀ (i : grid0.Coords) (t : Fin (k0_t5_loop i).trips) (r : Fin 4), k0_off10 i t (BitVec.ofNat 32 r.val) = ![0, 512 * (kb i / 8 * 8 + 4 * t.val + r.val)] := by decide +kernel

/-- The steps of this loop. -/
theorem good5 (i : grid0.Coords) (t : Fin (k0_t5_loop i).trips) : good (kb i / 8 * 8 + 4 * t.val) (list5 i t) := by
  have ht := lt_of_lt_of_eq t.isLt (trips5_eq i)
  have hi := kb_lt i
  have g : ∀ (r n : ℕ) (h1 : r < 4) (h2 : r + 1 < 4), n = kb i / 8 * 8 + 4 * t.val + r → ((⟨k0_off9 i t (BitVec.ofNat 32 r), k0_off9_inb i t ⟨r, h1⟩⟩, ⟨k0_off10 i t (BitVec.ofNat 32 r), k0_off10_inb i t ⟨r, h1⟩⟩),
      (⟨k0_off9 i t (BitVec.ofNat 32 (r + 1)), k0_off9_inb i t ⟨r + 1, h2⟩⟩, ⟨k0_off10 i t (BitVec.ofNat 32 (r + 1)), k0_off10_inb i t ⟨r + 1, h2⟩⟩)) = two n := fun r n h1 h2 e =>
    two_of (off9_eq i t ⟨r, h1⟩) (off10_eq i t ⟨r, h1⟩) (off9_eq i t ⟨r + 1, h2⟩) (off10_eq i t ⟨r + 1, h2⟩) (by omega) e
  exact ⟨g 0 _ (by omega) (by omega) rfl, g 2 _ (by omega) (by omega) rfl, trivial⟩
theorem off13_eq : ∀ (i : grid0.Coords) (t : Fin (k0_t7_loop i).trips) (r : Fin 2), k0_off13 i t (BitVec.ofNat 32 r.val) = ![512 * (kb i / 4 * 4 + 2 * t.val + r.val + 1), 0] := by decide +kernel
theorem off14_eq : ∀ (i : grid0.Coords) (t : Fin (k0_t7_loop i).trips) (r : Fin 2), k0_off14 i t (BitVec.ofNat 32 r.val) = ![0, 512 * (kb i / 4 * 4 + 2 * t.val + r.val)] := by decide +kernel

/-- The steps of this loop. -/
theorem good7 (i : grid0.Coords) (t : Fin (k0_t7_loop i).trips) : good (kb i / 4 * 4 + 2 * t.val) (list7 i t) := by
  have ht := lt_of_lt_of_eq t.isLt (trips7_eq i)
  have hi := kb_lt i
  have g : ∀ (r n : ℕ) (h1 : r < 2) (h2 : r + 1 < 2), n = kb i / 4 * 4 + 2 * t.val + r → ((⟨k0_off13 i t (BitVec.ofNat 32 r), k0_off13_inb i t ⟨r, h1⟩⟩, ⟨k0_off14 i t (BitVec.ofNat 32 r), k0_off14_inb i t ⟨r, h1⟩⟩),
      (⟨k0_off13 i t (BitVec.ofNat 32 (r + 1)), k0_off13_inb i t ⟨r + 1, h2⟩⟩, ⟨k0_off14 i t (BitVec.ofNat 32 (r + 1)), k0_off14_inb i t ⟨r + 1, h2⟩⟩)) = two n := fun r n h1 h2 e =>
    two_of (off13_eq i t ⟨r, h1⟩) (off14_eq i t ⟨r, h1⟩) (off13_eq i t ⟨r + 1, h2⟩) (off14_eq i t ⟨r + 1, h2⟩) (by omega) e
  exact ⟨g 0 _ (by omega) (by omega) rfl, trivial⟩
end Cert.Kernel2Ideal.Hand

end
-- ==== Proof.Fwd.Point.lean ====
/-
  The forward attention kernel's body at one grid point: from the blocks it is given, the blocks of the two outputs.
-/
module

public import proofs.«01_k».proof.Proof.Fwd.Offsets

@[expose] public section

set_option maxRecDepth 65536

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- All trips of this loop. -/
theorem loop1_runs (c : Dev nD) (M : Ms) (d : Dt F) (i : grid0.Coords) (a b : Memref sig .tc .vmem S512x512 .f32) (n : ℕ) (hn : n = 0) (n' : ℕ) (hn' : n' = kb i / 16 * 16) (Q : PUnit → sProp 𝕄) :
    mid c M d a b n ⊢ iprop((mid c M d a b n' -∗ Q ⟨⟩) -∗
      runs c (Scf.Loop.for (k0_t1_loop i) (k0_t1_ok i) ⟨⟩ (fun t _ => grp M.ks M.vs M.m7 M.m8 M.m9 a b d.q (list1 i t))) Q) := by
  have h := loop_runs c (k0_t1_loop i) (k0_t1_ok i) (fun t _ => grp M.ks M.vs M.m7 M.m8 M.m9 a b d.q (list1 i t)) (fun k => mid c M d a b (16 * k))
    (fun t Q => by
      have g := grp_runs c M d a b Q (list1 i t) _ (good1 i t)
      have hl : (list1 i t).length = 8 := rfl
      rwa [hl, show 16 * t.val + 2 * 8 = 16 * (t.val + 1) by omega] at g) Q
  rwa [show 16 * 0 = n by omega, show 16 * (k0_t1_loop i).trips = n' by rw [trips1_eq]; omega] at h

/-- All trips of this loop. -/
theorem loop3_runs (c : Dev nD) (M : Ms) (d : Dt F) (i : grid0.Coords) (a b : Memref sig .tc .vmem S512x512 .f32) (n : ℕ) (hn : n = kb i / 16 * 16) (n' : ℕ) (hn' : n' = kb i / 8 * 8) (Q : PUnit → sProp 𝕄) :
    mid c M d a b n ⊢ iprop((mid c M d a b n' -∗ Q ⟨⟩) -∗
      runs c (Scf.Loop.for (k0_t3_loop i) (k0_t3_ok i) ⟨⟩ (fun t _ => grp M.ks M.vs M.m7 M.m8 M.m9 a b d.q (list3 i t))) Q) := by
  have h := loop_runs c (k0_t3_loop i) (k0_t3_ok i) (fun t _ => grp M.ks M.vs M.m7 M.m8 M.m9 a b d.q (list3 i t)) (fun k => mid c M d a b (kb i / 16 * 16 + 8 * k))
    (fun t Q => by
      have g := grp_runs c M d a b Q (list3 i t) _ (good3 i t)
      have hl : (list3 i t).length = 4 := rfl
      rwa [hl, show kb i / 16 * 16 + 8 * t.val + 2 * 4 = kb i / 16 * 16 + 8 * (t.val + 1) by omega] at g) Q
  rwa [show kb i / 16 * 16 + 8 * 0 = n by omega, show kb i / 16 * 16 + 8 * (k0_t3_loop i).trips = n' by rw [trips3_eq]; omega] at h

/-- All trips of this loop. -/
theorem loop5_runs (c : Dev nD) (M : Ms) (d : Dt F) (i : grid0.Coords) (a b : Memref sig .tc .vmem S512x512 .f32) (n : ℕ) (hn : n = kb i / 8 * 8) (n' : ℕ) (hn' : n' = kb i / 4 * 4) (Q : PUnit → sProp 𝕄) :
    mid c M d a b n ⊢ iprop((mid c M d a b n' -∗ Q ⟨⟩) -∗
      runs c (Scf.Loop.for (k0_t5_loop i) (k0_t5_ok i) ⟨⟩ (fun t _ => grp M.ks M.vs M.m7 M.m8 M.m9 a b d.q (list5 i t))) Q) := by
  have h := loop_runs c (k0_t5_loop i) (k0_t5_ok i) (fun t _ => grp M.ks M.vs M.m7 M.m8 M.m9 a b d.q (list5 i t)) (fun k => mid c M d a b (kb i / 8 * 8 + 4 * k))
    (fun t Q => by
      have g := grp_runs c M d a b Q (list5 i t) _ (good5 i t)
      have hl : (list5 i t).length = 2 := rfl
      rwa [hl, show kb i / 8 * 8 + 4 * t.val + 2 * 2 = kb i / 8 * 8 + 4 * (t.val + 1) by omega] at g) Q
  rwa [show kb i / 8 * 8 + 4 * 0 = n by omega, show kb i / 8 * 8 + 4 * (k0_t5_loop i).trips = n' by rw [trips5_eq]; omega] at h

/-- All trips of this loop. -/
theorem loop7_runs (c : Dev nD) (M : Ms) (d : Dt F) (i : grid0.Coords) (a b : Memref sig .tc .vmem S512x512 .f32) (n : ℕ) (hn : n = kb i / 4 * 4) (n' : ℕ) (hn' : n' = kb i / 2 * 2) (Q : PUnit → sProp 𝕄) :
    mid c M d a b n ⊢ iprop((mid c M d a b n' -∗ Q ⟨⟩) -∗
      runs c (Scf.Loop.for (k0_t7_loop i) (k0_t7_ok i) ⟨⟩ (fun t _ => grp M.ks M.vs M.m7 M.m8 M.m9 a b d.q (list7 i t))) Q) := by
  have h := loop_runs c (k0_t7_loop i) (k0_t7_ok i) (fun t _ => grp M.ks M.vs M.m7 M.m8 M.m9 a b d.q (list7 i t)) (fun k => mid c M d a b (kb i / 4 * 4 + 2 * k))
    (fun t Q => by
      have g := grp_runs c M d a b Q (list7 i t) _ (good7 i t)
      have hl : (list7 i t).length = 1 := rfl
      rwa [hl, show kb i / 4 * 4 + 2 * t.val + 2 * 1 = kb i / 4 * 4 + 2 * (t.val + 1) by omega] at g) Q
  rwa [show kb i / 4 * 4 + 2 * 0 = n by omega, show kb i / 4 * 4 + 2 * (k0_t7_loop i).trips = n' by rw [trips7_eq]; omega] at h

/-- After the loops: the diagonal block, and for an odd query block the block before it. -/
theorem diag_runs (c : Dev nD) (M : Ms) (d : Dt F) (i : grid0.Coords) (a b : Memref sig .tc .vmem S512x512 .f32) (Q : PUnit → sProp 𝕄) :
    mid c M d a b (kb i / 2 * 2) ⊢ iprop((res c M d (d.fin (kb i)) ∗ some_ (F := F) c a ∗ some_ (F := F) c b -∗ Q ⟨⟩) -∗
      runs c (oddP M.ks M.vs M.m7 M.m8 M.m9 a b i d.q) fun _ => runs c (evenP M.vs M.m7 M.m8 M.m9 a i) Q) := by
  have hi := kb_lt i
  unfold oddP evenP mid
  rcases Nat.mod_two_eq_zero_or_one (kb i) with h | h
  · have e : kb i / 2 * 2 = kb i := by omega
    rw [dif_neg (fun h1 => by have := (cond1_iff i).mp h1; omega), dif_pos ((cond2_iff i).mpr h), e]
    iintro ⟨Hr, Ha, Hb⟩ K
    unfold runs
    rw [wp_pure]
    imodintro
    iapply (upd_runs c M d (d.st (kb i)) a (d.sc (kb i)) k0_pay493 (kb i) _ (v_of (off20_eq i) hi) _) $$ [Hr Ha]
    · isplitl [Hr]; iexact Hr
      iexact Ha
    iintro ⟨Hr, Ha⟩
    ihave Ha := (some_of c a _) $$ Ha
    iapply K
    isplitl [Hr]; iexact Hr
    isplitl [Ha]; iexact Ha
    iexact Hb
  · obtain ⟨j, hj⟩ : ∃ j, kb i = j + 1 := ⟨kb i - 1, by omega⟩
    have e : kb i / 2 * 2 = j := by omega
    rw [dif_pos ((cond1_iff i).mpr h), dif_neg (fun h1 => by have := (cond2_iff i).mp h1; omega), e]
    unfold runs
    simp only [wp_bind]
    iintro ⟨Hr, Ha, Hb⟩ K
    iapply (score_runs c M d (d.st j) b (kb i) _ (k_of (off17_eq i) hi) _) $$ [Hr Hb]
    · isplitl [Hr]; iexact Hr
      iexact Hb
    iintro ⟨Hr, Hb⟩
    iapply (upd_runs c M d (d.st j) a (d.sc j) (fun s => s) j _ (v_of ((off18_eq i h).trans (by rw [hj]; rfl)) (by omega)) _) $$ [Hr Ha]
    · isplitl [Hr]; iexact Hr
      iexact Ha
    iintro ⟨Hr, Ha⟩
    iapply (upd_runs c M d _ b (d.sc (kb i)) k0_pay493 (kb i) _ (v_of (off19_eq i) hi) _) $$ [Hr Hb]
    · isplitl [Hr]; iexact Hr
      iexact Hb
    iintro ⟨Hr, Hb⟩
    ihave Ha := (some_of c a _) $$ Ha
    ihave Hb := (some_of c b _) $$ Hb
    rw [wp_pure]
    imodintro
    iapply K
    isplitl [Hr]
    · rw [show d.fin (kb i) = ((d.st j).upd (d.sc j) (d.vt j)).upd (k0_pay493 (d.sc (kb i))) (d.vt (kb i)) by unfold Dt.fin; rw [show d.st (kb i) = d.st (j + 1) by rw [hj]]; rfl]
      iexact Hr
    isplitl [Ha]; iexact Ha
    iexact Hb

/-- What the call reads at a grid point, of the blocks the pipeline brings. -/
def dt (X : S512x256.Idx → Elt F .bf16) (K : S16384x256.Idx → Elt F .bf16) (W : S128x16384.Idx → Elt F .bf16) : Dt F := ⟨k0_pay499 X, K, W⟩
/-- The block of the output. -/
def oOut (d : Dt F) (j : ℕ) : Vec F S512x128 .f32 := k0_pay4 (d.fin j).l (d.fin j).a
/-- The block of the saved row. -/
def lOut (d : Dt F) (j : ℕ) : Vec F S1x1x512 .f32 := k0_pay5 (d.fin j).l (d.fin j).m

/-- One grid point: the blocks of the outputs are formed, the inputs kept. -/
theorem point_runs (c : Dev nD) (i : grid0.Coords) (arg2 : Memref sig .tc .vmem S512x256 .bf16) (arg3 : Memref sig .tc .vmem S16384x256 .bf16) (arg4 : Memref sig .tc .vmem S128x16384 .bf16) (arg5 : Memref sig .tc .vmem S512x128 .f32) (arg6 : Memref sig .tc .vmem S1x1x512 .f32) (arg7 : Memref sig .tc .vmem S1x512 .f32) (arg8 : Memref sig .tc .vmem S1x512 .f32) (arg9 : Memref sig .tc .vmem S128x512 .f32) (arg10 : Memref sig .tc .vmem S512x512 .f32) (arg11 : Memref sig .tc .vmem S512x512 .f32)
    (X : S512x256.Idx → Elt F .bf16) (K : S16384x256.Idx → Elt F .bf16) (W : S128x16384.Idx → Elt F .bf16) (Q : PUnit → sProp 𝕄) :
    iprop(has c arg2 X ∗ has c arg3 K ∗ has c arg4 W ∗ some_ (F := F) c arg5 ∗ some_ (F := F) c arg6 ∗ some_ (F := F) c arg7 ∗ some_ (F := F) c arg8 ∗ some_ (F := F) c arg9 ∗ some_ (F := F) c arg10 ∗ some_ (F := F) c arg11)
      ⊢ iprop((has c arg2 X ∗ has c arg3 K ∗ has c arg4 W ∗ has c arg5 (oOut (dt X K W) (kb i)) ∗ has c arg6 (lOut (dt X K W) (kb i)) ∗ some_ (F := F) c arg7 ∗ some_ (F := F) c arg8 ∗ some_ (F := F) c arg9 ∗ some_ (F := F) c arg10 ∗ some_ (F := F) c arg11 -∗ Q ⟨⟩) -∗
        runs c (bodyP arg2 arg3 arg4 arg5 arg6 arg7 arg8 arg9 arg10 arg11 i) Q) := by
  have hi := kb_lt i
  unfold bodyP runs
  simp only [wp_bind]
  iintro ⟨H2, H3, H4, H5, H6, H7, H8, H9, Ha, Hb⟩ Kt
  iapply (load_full c arg2 X _ _ _) $$ H2
  iintro H2
  iapply (store_some c arg7 _ _ _ _ _ _) $$ H7
  iintro H7
  iapply (store_some c arg8 _ _ _ _ _ _) $$ H8
  iintro H8
  iapply (store_some c arg9 _ _ _ _ _ _) $$ H9
  iintro H9
  iapply (score_runs c ⟨arg3, arg4, arg7, arg8, arg9⟩ (dt X K W) ((dt X K W).st 0) arg10 0 _ (k_of rfl (by omega)) _) $$ [H3 H4 H7 H8 H9 Ha]
  · unfold res
    isplitr [Ha]
    · isplitl [H3]; iexact H3
      isplitl [H4]; iexact H4
      isplitl [H7]; iexact H7
      isplitl [H8]; iexact H8
      iexact H9
    · iexact Ha
  iintro ⟨Hr, Ha⟩
  iapply (loop1_runs c ⟨arg3, arg4, arg7, arg8, arg9⟩ (dt X K W) i arg10 arg11 0 rfl _ rfl _) $$ [Hr Ha Hb]
  · unfold mid
    isplitl [Hr]; iexact Hr
    isplitl [Ha]; iexact Ha
    iexact Hb
  iintro H
  iapply (loop3_runs c ⟨arg3, arg4, arg7, arg8, arg9⟩ (dt X K W) i arg10 arg11 _ rfl _ rfl _) $$ H
  iintro H
  iapply (loop5_runs c ⟨arg3, arg4, arg7, arg8, arg9⟩ (dt X K W) i arg10 arg11 _ rfl _ rfl _) $$ H
  iintro H
  iapply (loop7_runs c ⟨arg3, arg4, arg7, arg8, arg9⟩ (dt X K W) i arg10 arg11 _ rfl _ rfl _) $$ H
  iintro H
  iapply (diag_runs c ⟨arg3, arg4, arg7, arg8, arg9⟩ (dt X K W) i arg10 arg11 _) $$ H
  unfold res
  iintro ⟨⟨H3, H4, H7, H8, H9⟩, Ha, Hb⟩
  iapply (load_full c arg8 _ _ _ _) $$ H8
  iintro H8
  iapply (load_full c arg9 _ _ _ _) $$ H9
  iintro H9
  iapply (store_some c arg5 _ _ _ _ _ _) $$ H5
  iintro H5
  iapply (load_full c arg7 _ _ _ _) $$ H7
  iintro H7
  iapply (store_some c arg6 _ _ _ _ _ _) $$ H6
  iintro H6
  ihave H7 := (some_of c arg7 _) $$ H7
  ihave H8 := (some_of c arg8 _) $$ H8
  ihave H9 := (some_of c arg9 _) $$ H9
  rw [wp_pure]
  imodintro
  iapply Kt
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [Ha]; iexact Ha
  iexact Hb

end Cert.Kernel2Ideal.Hand

end
-- ==== Proof.Fwd.Run.lean ====
/-
  The run of the forward attention call: every grid point meets its obligation, so the call ends with the blocks of the
  two outputs that the grid points form; the arguments end unchanged.
-/
module

public import proofs.«01_k».proof.Proof.Fwd.Point
public import proofs.«01_k».proof.Proof.Gen.Kernel2Ideal.Frame.Runs
public import Idealize.ShloMosaic.Lib.Claim

@[expose] public section

set_option maxRecDepth 65536

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What grid point `t` reads. -/
def dtAt (c : Dev nD) (t : Fin cfg0.N) : Dt F := dt (iblk m c 0 t) (iblk m c 1 t) (iblk m c 2 t)

/-- The proof data of the call: the outputs' blocks after each point are what that point forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oOut (dtAt m c t) (kb (grid0.coords t))
    | ⟨4, _⟩ => lOut (dtAt m c t) (kb (grid0.coords t))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oOut (dtAt m c t) (kb (grid0.coords t)) := by dsimp only [dats]
theorem after0_4 (c : Dev nD) (t : Fin cfg0.N) : (dats m 0 c).after 4 t = lOut (dtAt m c t) (kb (grid0.coords t)) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

/-- One grid point, as the pipeline asks for it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2]
  rw [show (dats m 0 c).Φ t.succ = (dats m 0 c).Φ t.castSucc from rfl, show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold dtAt
  iintro ⟨⟨⟨S0, S1, S2, S3, S4⟩, Hg⟩, Ho, ⟨%d0, H0⟩, ⟨%d1, H1⟩, ⟨%d2, H2⟩, ⟨%d3, H3⟩, ⟨%d4, H4⟩⟩
  iapply (point_runs c (grid0.coords t) _ _ _ _ _ _ _ _ _ _ (iblk m c 0 t) (iblk m c 1 t) (iblk m c 2 t) _) $$ [S0 S1 S2 S3 S4 H0 H1 H2 H3 H4]
  · unfold has some_
    isplitl [H0]; iexact H0
    isplitl [H1]; iexact H1
    isplitl [H2]; iexact H2
    isplitl [H3]; iexists _; iexact H3
    isplitl [H4]; iexists _; iexact H4
    isplitl [S0]; iexact S0
    isplitl [S1]; iexact S1
    isplitl [S2]; iexact S2
    isplitl [S3]; iexact S3
    iexact S4
  unfold has some_
  iintro ⟨H0, H1, H2, H3, H4, S0, S1, S2, S3, S4⟩
  isplitl [S0 S1 S2 S3 S4 Hg]
  · isplitr [Hg]
    · isplitl [S0]; iexact S0
      isplitl [S1]; iexact S1
      isplitl [S2]; iexact S2
      isplitl [S3]; iexact S3
      iexact S4
    · iexact Hg
  isplitl [Ho]; iexact Ho
  isplitl [H0]; iexact H0
  isplitl [H1]; iexact H1
  isplitl [H2]; iexact H2
  isplitl [H3]; iexact H3
  iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- The run: the windows' arrays hold what the proof data says, and every semaphore is back at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged, and every semaphore is back at zero. -/
theorem frame_fwd : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Kernel2Ideal.Hand

end
-- ==== Proof.Same.lean ====
/-
  The printed kernels and those over the extended reals have the same text: over the machine's floats the table of one
  is the table of the other, so that a run proved of one is a run of the other.
-/
module

public import proofs.«01_k».proof.Defs
public import proofs.«01_k».proof.Proof.Ideal.Run
public import proofs.«01_k».proof.Proof.Fwd.Run
public import proofs.«01_k».proof.Proof.Gen.Kernel
public import proofs.«01_k».proof.Proof.Gen.Kernel2

@[expose] public section

set_option maxRecDepth 65536

noncomputable section

namespace Cert.Attn

open Idealize.ShloMosaic Idealize.SL.Sem

/-- The forward kernel's two tables are one. -/
theorem defs2_eq : Cert.Kernel2.defs (F := Bits) = Cert.Kernel2Ideal.defs (F := Bits) := by
  have e : Cert.Kernel2.defs₀ (F := Bits) = Cert.Kernel2Ideal.defs₀ (F := Bits) := by
    unfold Cert.Kernel2.defs₀ Cert.Kernel2Ideal.defs₀
    refine congrArg Defs.onTc ?_
    funext l x
    match l, x with
    | 0, (t, s) => rfl
  unfold Cert.Kernel2.defs Cert.Kernel2Ideal.defs
  exact congrArg (Pipeline.defs _) e

/-- The printed forward kernel runs to its end; its arguments stay and its semaphores end at zero. -/
theorem frame_kernel2 : Cert.quiescent_Kernel2 := fun m g _ => by
  rw [defs2_eq]
  exact Cert.Kernel2Ideal.Hand.frame_fwd (F := Bits) m g

/-- Over the machine's floats a named constant is the float it is printed as. -/
abbrev namedBits : Named Bits := ⟨fun _ _ {φ} bits => FloatOps.ofBits (F := Bits) φ bits⟩

set_option maxHeartbeats 4000000 in
/-- The backward kernel's body is the same in both. -/
theorem body_eq : @Cert.Kernel.cc0_attn_bwd Bits _ Cert.Kernel.Gen.facts = @Cert.KernelIdeal.cc0_attn_bwd Bits _ namedBits Cert.KernelIdeal.Gen.facts := rfl

set_option maxHeartbeats 4000000 in
/-- The backward kernel's two programs are one. -/
theorem main_eq : Cert.Kernel.main (F := Bits) = Cert.KernelIdeal.main (F := Bits) := rfl

set_option maxHeartbeats 4000000 in
/-- The backward kernel's two tables are one. -/
theorem defs_eq : Cert.Kernel.defs (F := Bits) = @Cert.KernelIdeal.defs Bits _ namedBits _ := by
  have e : Cert.Kernel.defs₀ (F := Bits) = @Cert.KernelIdeal.defs₀ Bits _ namedBits _ := by
    unfold Cert.Kernel.defs₀ Cert.KernelIdeal.defs₀
    refine congrArg Defs.onTc ?_
    funext l x
    match l, x with
    | 0, (t, s) => rfl
  unfold Cert.Kernel.defs Cert.KernelIdeal.defs
  exact congrArg (Pipeline.defs _) e

set_option maxHeartbeats 4000000 in
/-- The printed backward kernel runs to its end; its arguments stay and its semaphores end at zero. -/
theorem frame_kernel : Cert.quiescent_Kernel := fun m g _ => by
  rw [defs_eq, main_eq]
  exact @Cert.KernelIdeal.Hand.frame_main Bits _ namedBits m g

end Cert.Attn

end
-- ==== Proof.Fwd.Softmax.lean ====
/-
  The forward kernel's running softmax over the extended reals: taking in a block of keys keeps, up to a common factor,
  the sums over the keys so far, and after the block of the diagonal they are the sums over all keys a query sees.
-/
module

public import proofs.«01_k».proof.Proof.Fwd.Steps
public import proofs.«01_k».proof.Proof.Fwd.Point
public import proofs.«01_k».proof.Proof.Value.Blocks

@[expose] public section

set_option maxRecDepth 16384

noncomputable section

namespace Cert.Attn

open Cert.Kernel2Ideal Cert.Kernel2Ideal.Gen Cert.Kernel2Ideal.Hand Idealize.ShloMosaic

variable (a : Ins) (h : Fin 8)

/-- A masked score as the kernel holds it, in units of `log 2`. -/
def ks (x y : Fin 16384) : EReal := if y ≤ x then ((a.s h x y / Real.log 2 : ℝ) : EReal) else ⊥

/-- The factor by which sums relative to `M` differ from those relative to the greatest score. -/
def fac (x : Fin 16384) (M : ℝ) : ℝ := Real.exp (a.m h x - M * Real.log 2)

theorem log2_ne : Real.log 2 ≠ 0 := (Real.log_pos (by norm_num)).ne'

/-- The power of two of a score relative to `M`. -/
theorem exp_ks (x y : Fin 16384) (M : ℝ) : Ideal.exp2 (ks a h x y - (M : EReal)) = ((a.e h x y * fac a h x M : ℝ) : EReal) := by
  unfold ks Ins.e fac
  by_cases hy : y ≤ x
  · rw [if_pos hy, if_pos hy, ← EReal.coe_sub, Ideal.exp2_coe, ← Real.exp_add]
    refine congrArg _ ((Real.rpow_def_of_pos (by norm_num) _).trans (congrArg _ ?_))
    have := log2_ne
    field_simp
    ring
  · rw [if_neg hy, if_neg hy, EReal.bot_sub, Ideal.exp2_bot, zero_mul]; rfl

/-- Changing what the sums are relative to. -/
theorem fac_mul (x : Fin 16384) (M M' : ℝ) : Ideal.exp2 ((M : EReal) - (M' : EReal)) * ((fac a h x M : ℝ) : EReal) = ((fac a h x M' : ℝ) : EReal) := by
  unfold fac
  rw [← EReal.coe_sub, Ideal.exp2_coe, ← EReal.coe_mul]
  refine congrArg _ ?_
  rw [show Real.rpow 2 (M - M') = Real.exp (Real.log 2 * (M - M')) from Real.rpow_def_of_pos (by norm_num) _, ← Real.exp_add]
  exact congrArg _ (by ring)

/-- What query `x`'s column holds after `n` blocks of keys: nothing, or sums over these keys relative to some real number. -/
def Col (x : Fin 16384) (n : ℕ) (mx l : EReal) (acc : Fin 128 → EReal) : Prop :=
  (n = 0 ∧ mx = ⊥ ∧ l = 0 ∧ ∀ d, acc d = 0) ∨ ∃ M : ℝ, mx = (M : EReal)
    ∧ l = (((∑ b ∈ Finset.range n, ∑ i, a.e h x (row b i)) * fac a h x M : ℝ) : EReal)
    ∧ ∀ d, acc d = (((∑ b ∈ Finset.range n, ∑ i, a.v (row b i) h d * a.e h x (row b i)) * fac a h x M : ℝ) : EReal)

variable {a h}

/-- The greatest of a number below infinity and some scores, one of them seen, is real. -/
theorem max_real {x : Fin 16384} {n : ℕ} (h0 : row n 0 ≤ x) {mx : EReal} (hm : mx ≠ ⊤) :
    ∃ M : ℝ, max mx (Finset.univ.sup fun i : Fin 512 => ks a h x (row n i)) = (M : EReal) := by
  refine ⟨_, (EReal.coe_toReal ?_ ?_).symm⟩
  · refine (max_lt (lt_of_le_of_ne le_top hm) ((Finset.sup_lt_iff bot_lt_top).mpr fun i _ => ?_)).ne
    unfold ks; split
    · exact EReal.coe_lt_top _
    · exact bot_lt_top
  · intro hb
    have h1 : ks a h x (row n 0) ≤ ⊥ := by
      rw [← hb]
      exact le_trans (Finset.le_sup (f := fun i : Fin 512 => ks a h x (row n i)) (Finset.mem_univ 0)) (le_max_right _ _)
    unfold ks at h1
    rw [if_pos h0] at h1
    exact EReal.coe_ne_bot _ (le_bot_iff.mp h1)

theorem block_sum (x : Fin 16384) (n : ℕ) (M : ℝ) (f : Fin 512 → ℝ) :
    (∑ i, ((f i : ℝ) : EReal) * Ideal.exp2 (ks a h x (row n i) - (M : EReal))) = (((∑ i, f i * a.e h x (row n i)) * fac a h x M : ℝ) : EReal) := by
  rw [Finset.sum_mul, coe_sum]
  exact Finset.sum_congr rfl fun i _ => by rw [exp_ks, ← EReal.coe_mul, mul_assoc]

/-- Taking in one block. -/
theorem Col.step {x : Fin 16384} {n : ℕ} {mx l : EReal} {acc : Fin 128 → EReal} (C : Col a h x n mx l acc) (h0 : row n 0 ≤ x) {M : EReal}
    (hM : M = max mx (Finset.univ.sup fun i : Fin 512 => ks a h x (row n i))) :
    Col a h x (n + 1) M (Ideal.exp2 (mx - M) * l + ∑ i, Ideal.exp2 (ks a h x (row n i) - M))
      (fun d => Ideal.exp2 (mx - M) * acc d + ∑ i, ((a.v (row n i) h d : ℝ) : EReal) * Ideal.exp2 (ks a h x (row n i) - M)) := by
  have hm : mx ≠ ⊤ := by
    rcases C with ⟨_, e, _⟩ | ⟨N, e, _⟩
    · rw [e]; exact bot_ne_top
    · rw [e]; exact EReal.coe_ne_top _
  obtain ⟨M', e'⟩ := max_real (a := a) (h := h) h0 hm
  rw [e'] at hM
  subst hM
  have one : (∑ i, Ideal.exp2 (ks a h x (row n i) - (M' : EReal))) = (((∑ i, a.e h x (row n i)) * fac a h x M' : ℝ) : EReal) := by
    have := block_sum (a := a) (h := h) x n M' (fun _ => 1)
    simpa only [EReal.coe_one, one_mul] using this
  refine Or.inr ⟨M', rfl, ?_, fun d => ?_⟩
  · rw [one, Finset.sum_range_succ]
    rcases C with ⟨e0, -, el, -⟩ | ⟨N, e, el, -⟩
    · rw [el, mul_zero, zero_add, e0, Finset.sum_range_zero, zero_add]
    · rw [el, e, EReal.coe_mul, mul_left_comm, fac_mul, ← EReal.coe_mul, ← EReal.coe_add, add_mul]
  · beta_reduce
    rw [block_sum x n M' (fun i => a.v (row n i) h d), Finset.sum_range_succ]
    rcases C with ⟨e0, -, -, ea⟩ | ⟨N, e, -, ea⟩
    · rw [ea, mul_zero, zero_add, e0, Finset.sum_range_zero, zero_add]
    · rw [ea, e, EReal.coe_mul, mul_left_comm, fac_mul, ← EReal.coe_mul, ← EReal.coe_add, add_mul]

theorem fac_pos (x : Fin 16384) (M : ℝ) : 0 < fac a h x M := Real.exp_pos _

theorem e_hidden {x y : Fin 16384} (hy : ¬ y ≤ x) : a.e h x y = 0 := by
  unfold Ins.e; rw [if_neg hy]

/-- After the diagonal's block the quotient is the attention's output and the logarithm that of the whole sum. -/
theorem Col.done {b : ℕ} (hb : b < 32) {r : Fin 512} {mx l : EReal} {acc : Fin 128 → EReal} (C : Col a h (row b r) (b + 1) mx l acc) :
    (∀ d, Ideal.div (acc d) l = ((a.o h (row b r) d : ℝ) : EReal))
      ∧ mx + Ideal.div (Ideal.log l) ((Real.log 2 : ℝ) : EReal) = (((a.m h (row b r) + Real.log (a.l h (row b r))) / Real.log 2 : ℝ) : EReal) := by
  rcases C with ⟨e0, -⟩ | ⟨M, e, el, ea⟩
  · omega
  have hl : l = ((a.l h (row b r) * fac a h (row b r) M : ℝ) : EReal) := by
    rw [el, sum_upto b hb (fun y => a.e h (row b r) y) r (fun y hy => e_hidden hy)]
    rfl
  have hpos := mul_pos (l_pos a h (row b r)) (fac_pos (a := a) (h := h) (row b r) M)
  refine ⟨fun d => ?_, ?_⟩
  · rw [ea, sum_upto b hb (fun y => a.v y h d * a.e h (row b r) y) r (fun y hy => by rw [e_hidden hy, mul_zero]), hl, coe_div hpos.ne']
    refine congrArg _ ?_
    rw [mul_div_mul_right _ _ (fac_pos _ _).ne']
    unfold Ins.o Ins.p
    rw [Finset.sum_div]
    exact Finset.sum_congr rfl fun y _ => mul_div_assoc _ _ _
  · rw [hl, Ideal.log_coe, if_neg (not_le.mpr hpos), coe_div log2_ne, e, ← EReal.coe_add]
    refine congrArg _ ?_
    rw [Real.log_mul (l_pos a h _).ne' (fac_pos _ _).ne']
    unfold fac
    rw [Real.log_exp]
    have := log2_ne
    field_simp
    ring

end Cert.Attn

end
-- ==== Proof.Fwd.Payloads.lean ====
/-
  The arithmetic of the forward kernel's body at the extended reals, read at an index, and the running softmax of a grid
  point: what it forms are the attention's output and the logarithm of the sum.
-/
module

public import proofs.«01_k».proof.Proof.Fwd.Softmax
public import proofs.«01_k».proof.Proof.Value.Prologue

@[expose] public section

set_option maxRecDepth 16384

noncomputable section

namespace Cert.Attn

open Cert.Kernel2Ideal Cert.Kernel2Ideal.Gen Cert.Kernel2Ideal.Hand Idealize.ShloMosaic

theorem f6_at (q k : FVec Ideal S512x256 .bf16) (i r : Fin 512) :
    k0_pay6 (F := Ideal) q k (ix2 i r) = ∑ n : Fin 256, k (ix2 i n) * q (ix2 r n) := by
  unfold k0_pay6
  simp only [pointwise]
  exact zero_add _

theorem f8_at (xs : FVec Ideal S512x512 .f32) (x : FVec Ideal S1x512 .f32) (z : Fin 1) (r : Fin 512) :
    k0_pay8 (F := Ideal) xs x (ix2 z r) = max (x (ix2 z r)) (Finset.univ.sup fun i : Fin 512 => xs (ix2 i r)) := by
  unfold k0_pay8
  simp only [pointwise]
  exact congrArg _ (by rw [ofBits_bot]; exact fold_max_bot _)

theorem f9_at (xs : FVec Ideal S512x512 .f32) (x : FVec Ideal S1x512 .f32) (z : Fin 1) (r : Fin 512) :
    k0_pay9 (F := Ideal) xs x (ix2 z r) = Ideal.exp2 (x (ix2 z r) - k0_pay8 (F := Ideal) xs x (ix2 z r)) := by
  unfold k0_pay9
  simp only [pointwise]
  rfl

theorem f10_at (xs : FVec Ideal S512x512 .f32) (x : FVec Ideal S1x512 .f32) (i r : Fin 512) :
    k0_pay10 (F := Ideal) xs x (ix2 i r) = Ideal.exp2 (xs (ix2 i r) - k0_pay8 (F := Ideal) xs x (ix2 0 r)) := by
  unfold k0_pay10
  simp only [pointwise]
  rfl

theorem f12_at (xs : FVec Ideal S512x512 .f32) (x l : FVec Ideal S1x512 .f32) (z : Fin 1) (r : Fin 512) :
    k0_pay12 (k0_pay11 (F := Ideal) xs x l) (ix2 z r) = k0_pay9 (F := Ideal) xs x (ix2 z r) * l (ix2 z r) + ∑ i : Fin 512, k0_pay10 (F := Ideal) xs x (ix2 i r) := by
  unfold k0_pay12 k0_pay11
  simp only [pointwise]

theorem f13_at (w : FVec Ideal S128x512 .bf16) (xs : FVec Ideal S512x512 .f32) (x : FVec Ideal S1x512 .f32) (acc : FVec Ideal S128x512 .f32) (d : Fin 128) (r : Fin 512) :
    k0_pay13 (F := Ideal) (k0_pay7 w) (k0_pay9 xs x) (k0_pay10 xs x) acc (ix2 d r)
      = k0_pay9 (F := Ideal) xs x (ix2 0 r) * acc (ix2 d r) + ∑ i : Fin 512, w (ix2 d i) * k0_pay10 (F := Ideal) xs x (ix2 i r) := by
  unfold k0_pay13 k0_pay7
  simp only [pointwise]
  rw [zero_add]
  rfl

theorem f14_at (x : FVec Ideal S1x512 .f32) (i : S1x512.Idx) : k0_pay14 (F := Ideal) x i = x i := by
  unfold k0_pay14
  simp only [pointwise]

theorem f493_at (xs : FVec Ideal S512x512 .f32) (i r : Fin 512) : k0_pay493 (F := Ideal) xs (ix2 i r) = if i ≤ r then xs (ix2 i r) else ⊥ := by
  unfold k0_pay493
  simp only [pointwise]
  rw [show (List.foldl (fun n a => n * ![512, 512] a + (ix2 i r a).val) 0 [0]) = i.val from by show 0 * 512 + i.val = i.val; omega,
    show (List.foldl (fun n a => n * ![512, 512] a + (ix2 i r a).val) 0 [1]) = r.val from by show 0 * 512 + r.val = r.val; omega,
    WordCmp.cmpi_sle_ofNat (by omega) (by omega)]
  by_cases h : i.val ≤ r.val
  · rw [if_pos (Fin.le_def.mpr h), decide_eq_true h]
    rfl
  · rw [if_neg (fun g => h (Fin.le_def.mp g)), decide_eq_false h]
    exact ofBits_bot

theorem f499_at (x : FVec Ideal S512x256 .bf16) (i : S512x256.Idx) : k0_pay499 (F := Ideal) x i = x i := by
  unfold k0_pay499
  simp only [pointwise]

theorem f500_at (i : S1x512.Idx) : k0_pay500 (F := Ideal) i = ⊥ := by
  unfold k0_pay500
  simp only [pointwise]
  exact ofBits_bot
theorem f501_at (i : S1x512.Idx) : k0_pay501 (F := Ideal) i = 0 := by
  unfold k0_pay501
  simp only [pointwise]
theorem f502_at (i : S128x512.Idx) : k0_pay502 (F := Ideal) i = 0 := by
  unfold k0_pay502
  simp only [pointwise]

theorem f4_at (l : FVec Ideal S1x512 .f32) (acc : FVec Ideal S128x512 .f32) (r : Fin 512) (d : Fin 128) :
    k0_pay4 (F := Ideal) l acc (ix2 r d) = Ideal.div (acc (ix2 d r)) (l (ix2 0 r)) := by
  unfold k0_pay4
  simp only [pointwise]
  rfl

theorem f5_at (l x : FVec Ideal S1x512 .f32) (y z : Fin 1) (r : Fin 512) :
    k0_pay5 (F := Ideal) l x (ix3 y z r) = x (ix2 0 r) + Ideal.div (Ideal.log (l (ix2 0 r))) (Ideal.log (Ideal.ofBits .f32 0x40000000#32)) := by
  unfold k0_pay5
  simp only [pointwise]

variable {a : Ins} {h : Fin 8} {b : ℕ}

/-- What a grid point of query block `b` reads are the numbers `a`. -/
structure HoldsF (a : Ins) (h : Fin 8) (b : ℕ) (d : Dt Ideal) : Prop where
  q : ∀ (r : Fin 512) (n : Fin 256), d.q (ix2 r n) = ((q2 a h (row b r) n : ℝ) : EReal)
  k : ∀ (y : Fin 16384) (n : Fin 256), d.K (ix2 y n) = ((k2 a h y n : ℝ) : EReal)
  v : ∀ (e : Fin 128) (y : Fin 16384), d.W (ix2 e y) = ((a.v y h e : ℝ) : EReal)

variable {d : Dt Ideal} (H : HoldsF a h b d)
include H

/-- The scores of key block `n`. -/
theorem sc_at (n : ℕ) (i r : Fin 512) : d.sc n (ix2 i r) = ((a.s h (row b r) (row n i) / Real.log 2 : ℝ) : EReal) := by
  unfold Dt.sc
  rw [f6_at, ← sum_k2_q2, ← sum_coe_mul]
  refine Finset.sum_congr rfl fun e _ => ?_
  rw [H.q, ← H.k]
  unfold VecWindow.window
  refine congrArg (d.K · * _) (funext fun x => ?_)
  match x with
  | 0 => exact Fin.ext (by rw [Rect.emb_apply]; simp [kAt, ix2, row])
  | 1 => exact Fin.ext (by rw [Rect.emb_apply]; simp [kAt, ix2, row])

/-- Block `n` of the values. -/
theorem vt_at (n : ℕ) (e : Fin 128) (i : Fin 512) : d.vt n (ix2 e i) = ((a.v (row n i) h e : ℝ) : EReal) := by
  unfold Dt.vt
  rw [← H.v]
  unfold VecWindow.window
  refine congrArg d.W (funext fun x => ?_)
  match x with
  | 0 => exact Fin.ext (by rw [Rect.emb_apply]; simp [vAt, ix2, row])
  | 1 => exact Fin.ext (by rw [Rect.emb_apply]; simp [vAt, ix2, row])

omit H

/-- A column of the state. -/
def ColAt (a : Ins) (h : Fin 8) (b : ℕ) (r : Fin 512) (n : ℕ) (s : St Ideal) : Prop :=
  Col a h (row b r) n (s.m (ix2 0 r)) (s.l (ix2 0 r)) fun e => s.a (ix2 e r)

/-- Taking in a block of scores and values takes it in at each column. -/
theorem upd_col {r : Fin 512} {n : ℕ} {s : St Ideal} (C : ColAt a h b r n s) (h0 : row n 0 ≤ row b r) {xs : FVec Ideal S512x512 .f32} {w : FVec Ideal S128x512 .bf16}
    (hx : ∀ i, xs (ix2 i r) = ks a h (row b r) (row n i)) (hw : ∀ e i, w (ix2 e i) = ((a.v (row n i) h e : ℝ) : EReal)) :
    ColAt a h b r (n + 1) (s.upd xs w) := by
  have e := Col.step C h0 (M := k0_pay8 (F := Ideal) xs s.m (ix2 0 r)) (by rw [f8_at]; exact congrArg _ (congrArg _ (funext hx)))
  unfold ColAt St.upd
  dsimp only
  rw [f14_at, f12_at, f9_at]
  simp only [f13_at, f9_at, f10_at, hx, hw]
  exact e

include H

/-- The state below the diagonal. -/
theorem st_col (hb : b < 32) (r : Fin 512) (n : ℕ) (hn : n ≤ b) : ColAt a h b r n (d.st n) := by
  induction n with
  | zero => exact Or.inl ⟨rfl, f500_at (ix2 0 r), f501_at (ix2 0 r), fun e => f502_at (ix2 e r)⟩
  | succ n ih =>
    refine upd_col (ih (by omega)) (row_le hb (by omega) 0 r) (fun i => ?_) (vt_at H n)
    rw [sc_at H]
    unfold ks
    rw [if_pos (row_le hb (by omega) i r)]

/-- The state in the end. -/
theorem fin_col (hb : b < 32) (r : Fin 512) : ColAt a h b r (b + 1) (d.fin b) := by
  refine upd_col (st_col H hb r b le_rfl) ((row_le_iff 0 r).mpr (Fin.zero_le _)) (fun i => ?_) (vt_at H b)
  rw [f493_at, sc_at H]
  unfold ks
  exact if_congr (row_le_iff i r).symm rfl rfl

/-- The output that a grid point forms is the attention's. -/
theorem oOut_at (hb : b < 32) (r : Fin 512) (e : Fin 128) : oOut d b (ix2 r e) = ((a.o h (row b r) e : ℝ) : EReal) := by
  unfold oOut
  rw [f4_at]
  exact (Col.done hb (fin_col H hb r)).1 e

/-- The other result is the logarithm to the base two of the sum of the exponentials. -/
theorem lOut_at (hb : b < 32) (y z : Fin 1) (r : Fin 512) :
    lOut d b (ix3 y z r) = (((a.m h (row b r) + Real.log (a.l h (row b r))) / Real.log 2 : ℝ) : EReal) := by
  unfold lOut
  rw [f5_at, log_two]
  exact (Col.done hb (fin_col H hb r)).2

end Cert.Attn

end
-- ==== Proof.Fwd.Outputs.lean ====
/-
  The forward kernel's blocks read from the arrays that the host makes, and its two result arrays after the run.
-/
module

public import proofs.«01_k».proof.Proof.Fwd.Run
public import proofs.«01_k».proof.Proof.Fwd.Payloads
public import proofs.«01_k».proof.Proof.Value.Outputs

@[expose] public section

set_option maxRecDepth 16384

noncomputable section

namespace Cert.Attn.Fwd

open Cert.Attn Cert.Kernel2Ideal Cert.Kernel2Ideal.Gen Cert.Kernel2Ideal.Hand Idealize.ShloMosaic Idealize.ShloMosaic.TcCoe
open Idealize.ShloMosaic.Pipeline (Dat Cfg Window)

variable (m : (ℓ : Loc nD τ sig) → Buf (Elt Ideal) ℓ) (c : Dev nD)

/-- The kernel's three arguments on a device. -/
abbrev iq : FVec Ideal S16384x8x192 .f32 := m ((c.tc : Thread nD τ).loc main_arg0)
abbrev ik : FVec Ideal S16384x8x192 .f32 := m ((c.tc : Thread nD τ).loc main_arg1)
abbrev iv : FVec Ideal S16384x8x128 .f32 := m ((c.tc : Thread nD τ).loc main_arg2)

theorem V_q : V m c main_v7 = kQ (iq m c) := by
  unfold V
  after_reads_simp
  simp -implicitDefEqProofs only [StableHlo.TRef.toBuf, StableHlo.TRef.ofBuf, cast_cast, cast_eq]
  rfl

theorem V_k : V m c main_v10 = kK (ik m c) := by
  unfold V
  after_reads_simp
  simp -implicitDefEqProofs only [StableHlo.TRef.toBuf, StableHlo.TRef.ofBuf, cast_cast, cast_eq]
  rfl

theorem V_v : V m c main_v13 = kC (iv m c) := by
  unfold V
  after_reads_simp
  rfl

/-! Which block each window is on at grid point `t`. -/
theorem at0 : ∀ t : Fin grid0.N, win0_0.index t 0 = t.val % 32 ∧ win0_0.index t 1 = t.val / 32 := by decide +kernel
theorem at1 : ∀ t : Fin grid0.N, win0_1.index t 0 = 0 ∧ win0_1.index t 1 = t.val / 32 := by decide +kernel
theorem at2 : ∀ t : Fin grid0.N, win0_2.index t 0 = t.val / 32 ∧ win0_2.index t 1 = 0 := by decide +kernel
theorem at3 : ∀ t : Fin grid0.N, win0_3.index t 0 = t.val % 32 ∧ win0_3.index t 1 = t.val / 32 := by decide +kernel
theorem at4 : ∀ t : Fin grid0.N, win0_4.index t 0 = t.val / 32 ∧ win0_4.index t 1 = 0 ∧ win0_4.index t 2 = t.val % 32 := by decide +kernel
theorem kb_at : ∀ t : Fin grid0.N, kb (grid0.coords t) = t.val % 32 := by decide +kernel
theorem lt256 (t : Fin grid0.N) : t.val < 256 := lt_of_lt_of_eq t.isLt N_0

theorem blk0 (t : Fin grid0.N) (r : Fin 512) (n : Fin 256) :
    iblk m c 0 t (ix2 r n) = V m c main_v7 (ix2 (row (t.val % 32) r) ⟨256 * (t.val / 32) + n.val, by have := lt256 t; omega⟩) := by
  have e := at0 t
  blk_ext [iblk, row, e.1, e.2]

theorem blk1 (t : Fin grid0.N) (y : Fin 16384) (n : Fin 256) :
    iblk m c 1 t (ix2 y n) = V m c main_v10 (ix2 y ⟨256 * (t.val / 32) + n.val, by have := lt256 t; omega⟩) := by
  have e := at1 t
  blk_ext [iblk, e.1, e.2]

theorem blk2 (t : Fin grid0.N) (n : Fin 128) (y : Fin 16384) :
    iblk m c 2 t (ix2 n y) = V m c main_v13 (ix2 ⟨128 * (t.val / 32) + n.val, by have := lt256 t; omega⟩ y) := by
  have e := at2 t
  blk_ext [iblk, e.1, e.2]

/-- The output as an array, its blocks those of the grid points. -/
theorem arr3 (G : S16384x1024.Idx → Elt Ideal .f32)
    (h : ∀ (t : Fin grid0.N) (i : Fin 512) (n : Fin 128), oOut (dtAt m c t) (t.val % 32) (ix2 i n)
      = G (ix2 (row (t.val % 32) i) ⟨128 * (t.val / 32) + n.val, by have := lt256 t; omega⟩)) :
    (dats m 0 c).arrAt 3 cfg0.N = G := by
  refine (dats m 0 c).arrAt_eq_of_covers 3 _ (by decide +kernel) fun t hf y => ?_
  have e := at3 t
  have ht := lt256 t
  blk_simp
  rw [after0_3, kb_at]
  obtain ⟨i, n, rfl⟩ : ∃ (i : Fin 512) (n : Fin 128), y = ix2 i n := ⟨y 0, y 1, by funext a; match a with | 0 => rfl | 1 => rfl⟩
  rw [h t i n]
  blk_ext [row, e.1, e.2]

/-- The logarithms as an array, its blocks those of the grid points. -/
theorem arr4 (G : S8x1x16384.Idx → Elt Ideal .f32)
    (h : ∀ (t : Fin grid0.N) (i : Fin 512), lOut (dtAt m c t) (t.val % 32) (ix3 0 0 i)
      = G (ix3 ⟨t.val / 32, by have := lt256 t; omega⟩ 0 (row (t.val % 32) i))) :
    (dats m 0 c).arrAt 4 cfg0.N = G := by
  refine (dats m 0 c).arrAt_eq_of_covers 4 _ (by decide +kernel) fun t hf y => ?_
  have e := at4 t
  have ht := lt256 t
  blk_simp
  rw [after0_4, kb_at]
  obtain ⟨i, rfl⟩ : ∃ (i : Fin 512), y = ix3 0 0 i := ⟨y 2, by
    funext a; match a with | 0 => exact Subsingleton.elim (α := Fin 1) _ _ | 1 => exact Subsingleton.elim (α := Fin 1) _ _ | 2 => rfl⟩
  rw [h t i]
  refine congrArg G ?_
  blk_ext [row, e.1, e.2.1, e.2.2]

variable {m c} {a : Ins} (H : Held (iq m c) (ik m c) (iv m c) (iv m c) a)
include H

/-- What a grid point reads are the numbers that the arguments hold. -/
theorem holds_point (t : Fin grid0.N) : HoldsF a ⟨t.val / 32, by have := lt256 t; omega⟩ (t.val % 32) (dtAt m c t) where
  q r n := by
    have ht := lt256 t
    have e : (dtAt m c t).q (ix2 r n) = iblk m c 0 t (ix2 r n) := f499_at (iblk m c 0 t) (ix2 r n)
    rw [e, blk0, V_q, ← kQ_head H]
    exact congrArg (fun z => kQ (iq m c) (ix2 _ z)) (Fin.ext (Nat.mod_eq_of_lt (show 256 * (t.val / 32) + n.val < 2048 by omega)).symm)
  k y n := by
    have e : (dtAt m c t).K (ix2 y n) = iblk m c 1 t (ix2 y n) := rfl
    rw [e, blk1, V_k]
    exact kK_head H ⟨t.val / 32, by have := lt256 t; omega⟩ y n _
  v e y := by
    have ht := lt256 t
    have e' : (dtAt m c t).W (ix2 e y) = iblk m c 2 t (ix2 e y) := rfl
    rw [e', blk2, V_v, ← H.v]
    refine Eq.trans ?_ ((kC_head H ⟨t.val / 32, by omega⟩ y e).trans (H.c _ _ _).symm)
    exact congrArg (fun z => kC (iv m c) (ix2 z _)) (Fin.ext (Nat.mod_eq_of_lt (show 128 * (t.val / 32) + e.val < 1024 by omega)).symm)

/-- The attention's output after the run. -/
theorem out_o (x : Fin 16384) (n : Fin 1024) : (dats m 0 c).arrAt 3 cfg0.N (ix2 x n) = ((a.o ⟨n.val / 128, by omega⟩ x ⟨n.val % 128, by omega⟩ : ℝ) : EReal) := by
  rw [arr3 m c (fun y => ((a.o ⟨(y 1).val / 128 % 8, by omega⟩ (y 0) ⟨(y 1).val % 128, by omega⟩ : ℝ) : EReal))
    (fun t i e => by
      have ht := lt256 t
      rw [oOut_at (holds_point H t) (by omega)]
      refine congrArg _ ?_
      have e1 : (128 * (t.val / 32) + e.val) % 128 = e.val := by omega
      have e2 : (128 * (t.val / 32) + e.val) / 128 % 8 = t.val / 32 := by omega
      show _ = a.o ⟨(128 * (t.val / 32) + e.val) / 128 % 8, _⟩ (row (t.val % 32) i) ⟨(128 * (t.val / 32) + e.val) % 128, _⟩
      simp only [e1, e2])]
  refine congrArg _ ?_
  show a.o ⟨n.val / 128 % 8, _⟩ x ⟨n.val % 128, _⟩ = _
  have e2 : n.val / 128 % 8 = n.val / 128 := by omega
  simp only [e2]

/-- The logarithms of the sums after the run. -/
theorem out_lse (h : Fin 8) (z : Fin 1) (x : Fin 16384) :
    (dats m 0 c).arrAt 4 cfg0.N (ix3 h z x) = (((a.m h x + Real.log (a.l h x)) / Real.log 2 : ℝ) : EReal) := by
  rw [arr4 m c (fun y => (((a.m (y 0) (y 2) + Real.log (a.l (y 0) (y 2))) / Real.log 2 : ℝ) : EReal))
    (fun t i => lOut_at (holds_point H t) (by omega) 0 0 i)]
  rfl

end Cert.Attn.Fwd

end
-- ==== Proof.Fwd.Equal.lean ====
/-
  The forward reference's two results read at an index, what its precondition says, and the two programs from equal
  finite arguments: the kernel's two result arrays are the reference's.
-/
module

public import proofs.«01_k».proof.Pre_finite2
public import proofs.«01_k».proof.Proof.Gen.Reference2Ideal.Run
public import proofs.«01_k».proof.Proof.Value.Finite
public import proofs.«01_k».proof.Proof.Fwd.Outputs

@[expose] public section

set_option maxRecDepth 16384

noncomputable section

namespace Cert.Attn.Fwd

open Cert.Attn Idealize.ShloMosaic Idealize.ShloMosaic.TcCoe Idealize.SL.Sem

section Reference
open Cert.Reference2Ideal Cert.Reference2Ideal.Gen Cert.Reference2Ideal.Value

variable (m : (ℓ : Loc nD τ sig) → Buf (Elt Ideal) ℓ) (c : Dev nD)

/-- The reference's three arguments on a device. -/
abbrev rq : FVec Ideal S16384x8x192 .f32 := m ((c.tc : Thread nD τ).loc main_arg0)
abbrev rk : FVec Ideal S16384x8x192 .f32 := m ((c.tc : Thread nD τ).loc main_arg1)
abbrev rv : FVec Ideal S16384x8x128 .f32 := m ((c.tc : Thread nD τ).loc main_arg2)

/-- The output, as the reference returns it. -/
theorem res_o : res_main_v35 m c = shapeCast S16384x1024 (transpose S16384x8x128 [2, 0, 1]
    (Host.dotGeneral dot_S16384x8x128_S8x16384x16384_S8x128x16384_0_2_2_1_1_0 none (rv m c) (hP (rq m c) (rk m c)))
    transposes_S8x128x16384_S16384x8x128_2_0_1) shapeCasts_S16384x8x128_S16384x1024 := by
  unfold res_main_v35; rfl

/-- The logarithms, as the reference returns them. -/
def rLse : FVec Ideal S8x1x16384 .f32 :=
  shapeCast S8x1x16384 (Host.divf (addf (kMax (rq m c) (rk m c)) (Host.log (kSum (rq m c) (rk m c))))
    (broadcastInDim S8x16384 ![] bcast_S_S8x16384 (Host.log (constant (F := Ideal) S_ .f32 0x40000000#32)))) shapeCasts_S8x16384_S8x1x16384

/-- The reference runs, and returns the output and the logarithms; its arguments stay. -/
theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = res_main_v35 m c
      ∧ r.2.mem ((c.tc : Thread nD τ).loc main_v36) = rLse m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1, (h c).2.1.trans (by unfold rLse kMax kSum kExp; rfl), (h c).2.2⟩) (run m ρ)

variable {m c} {a : Ins}

/-- The output, at an index of the reference's result. -/
theorem ref_o (H : Held (rq m c) (rk m c) (rv m c) (rv m c) a) (x : Fin 16384) (n : Fin 1024) :
    res_main_v35 m c (ix2 x n) = ((a.o ⟨n.val / 128, by omega⟩ x ⟨n.val % 128, by omega⟩ : ℝ) : EReal) := by
  rw [res_o]
  simp only [pointwise, H.v, hP_at H]
  exact sum_mul_coe _ _

theorem row_at (z : FVec Ideal S8x16384 .f32) (h : Fin 8) (x : Fin 16384) (y : Fin 1) :
    shapeCast S8x1x16384 z shapeCasts_S8x16384_S8x1x16384 (ix3 h y x) = z (ix2 h x) := by
  simp only [pointwise]

/-- The logarithm, at an index of the reference's result. -/
theorem ref_lse (H : Held (rq m c) (rk m c) (rv m c) (rv m c) a) (h : Fin 8) (z : Fin 1) (x : Fin 16384) :
    rLse m c (ix3 h z x) = (((a.m h x + Real.log (a.l h x)) / Real.log 2 : ℝ) : EReal) := by
  unfold rLse
  rw [kMax_eq, kSum_eq, row_at, Host.divf_apply, addf_apply, Host.log_apply, hMax_at H, hSum_at H, ValueIdx.broadcastInDim_scalar_apply,
    Host.log_apply, constant_apply]
  show Ideal.div (((a.m h x : ℝ) : EReal) + Ideal.log ((a.l h x : ℝ) : EReal)) (Ideal.log (Ideal.ofBits .f32 0x40000000#32)) = _
  rw [log_two, Ideal.log_coe, if_neg (not_le.mpr (l_pos a h x)), ← EReal.coe_add, coe_div log_two_pos.ne']

end Reference

/-- The side conditions of the precondition's operations. -/
theorem finite2_facts : Cert.Pre_finite2.Facts where
  bcast_S_S16384x8x192 := by decide
  reducesTo_S16384x8x192_S_d0_1_2 := by decide
  h_S_ := by decide
  bcast_S_S16384x8x128 := by decide
  reducesTo_S16384x8x128_S_d0_1_2 := by decide

instance : Subsingleton Cert.Pre_finite2.S_.Idx := ⟨fun a b => funext fun i => i.elim0⟩

/-- The arguments the precondition lets through hold real arrays. -/
theorem held_of_finite2 [Cert.Pre_finite2.Facts] (q k : FVec Ideal Cert.Pre_finite2.S16384x8x192 .f32) (v : FVec Ideal Cert.Pre_finite2.S16384x8x128 .f32)
    (h : Cert.Pre_finite2.fn (F := Ideal) q k v = fun _ => 1#1) : ∃ a, Held q k v v a := by
  have e := congrFun h (fun i => i.elim0)
  unfold Cert.Pre_finite2.fn at e
  obtain ⟨e, hv⟩ := IntOp.andi_eq_one.1 e
  obtain ⟨hq, hk⟩ := IntOp.andi_eq_one.1 e
  exact held_of_reals q k v v (fun i => real_of_lt _ (Host.reduce_andi_all _ _ _ _ _ hq i)) (fun i => real_of_lt _ (Host.reduce_andi_all _ _ _ _ _ hk i))
    (fun i => real_of_lt _ (Host.reduce_andi_all _ _ _ _ _ hv i)) (fun i => real_of_lt _ (Host.reduce_andi_all _ _ _ _ _ hv i))

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD) {a : Ins}
  (H : Held (iq m c) (ik m c) (iv m c) (iv m c) a) (H' : Held (rq m' c) (rk m' c) (rv m' c) (rv m' c) a)
include H H'

/-- The outputs are equal. -/
theorem o_equal : (Cert.Kernel2Ideal.Hand.dats m 0 c).arrAt 3 Cert.Kernel2Ideal.cfg0.N = Cert.Reference2Ideal.Value.res_main_v35 (F := Ideal) m' c := by
  funext y
  obtain ⟨i, n, rfl⟩ : ∃ (i : Fin 16384) (n : Fin 1024), y = ix2 i n := ⟨y 0, y 1, by funext b; match b with | 0 => rfl | 1 => rfl⟩
  exact (out_o H i n).trans (ref_o H' i n).symm

/-- The logarithms are equal. -/
theorem lse_equal : (Cert.Kernel2Ideal.Hand.dats m 0 c).arrAt 4 Cert.Kernel2Ideal.cfg0.N = rLse m' c := by
  funext y
  obtain ⟨h, z, i, rfl⟩ : ∃ (h : Fin 8) (z : Fin 1) (i : Fin 16384), y = ix3 h z i := ⟨y 0, y 1, y 2, by funext b; match b with | 0 => rfl | 1 => rfl | 2 => rfl⟩
  exact (out_lse H h z i).trans (ref_lse H' h z i).symm

end Cert.Attn.Fwd

end
-- ==== Proof.lean ====
/-
  The claims of the attention's backward and forward kernels: the printed kernels and the references run without a fault
  and leave their arguments and semaphores as they were, the named constant is the logarithm of two, and over the
  extended reals the kernels' results are the references', from any finite arguments: the three gradients, and the
  output with the logarithms of the softmax's sums.
-/
module

public import proofs.«01_k».proof.Defs
public import proofs.«01_k».proof.Proof.Ideal.Run
public import proofs.«01_k».proof.Proof.Value.Equal
public import proofs.«01_k».proof.Proof.Same
public import proofs.«01_k».proof.Proof.Fwd.Equal
public import proofs.«01_k».proof.Proof.Gen.Kernel
public import proofs.«01_k».proof.Proof.Gen.Kernel2
public import proofs.«01_k».proof.Proof.Gen.Kernel2Ideal
public import proofs.«01_k».proof.Proof.Gen.Reference2Ideal.Run
public import proofs.«01_k».proof.Proof.Gen.KernelIdeal
public import proofs.«01_k».proof.Proof.Gen.ReferenceIdeal.Run

@[expose] public section

noncomputable section

namespace Cert.Proof

open Idealize.ShloMosaic Idealize.SL.Sem

/-- The backward kernel over the extended reals runs to its end; its arguments stay and its semaphores end at zero. -/
theorem frame_ideal : Cert.quiescent_KernelIdeal := fun m g _ => Cert.KernelIdeal.Hand.frame_main (F := Ideal) m g

/-- The same of the reference. -/
theorem frame_reference : Cert.quiescent_ReferenceIdeal := fun m g _ =>
  (θ_run _ _ _).mono (fun r h => ⟨fun c => (h c).2.2.2, sem_eq_zero_of_no_sems (by decide) r.2⟩) (Cert.ReferenceIdeal.Value.run (F := Ideal) m g)

/-- The named constant is the logarithm of two. -/
theorem preserves : Cert.preserves_Kernel_KernelIdeal := IdealRules.named_const.statement _ _ _ _ _ rfl

section
local instance : Cert.Pre_finite.Facts := Cert.Attn.finite_facts

/-- The same of the kernel over the extended reals from finite arguments. -/
theorem frame_ideal_finite : Cert.quiescent_KernelIdeal_pre_finite := fun m g _ => Cert.KernelIdeal.Hand.frame_main (F := Ideal) m g

/-- The same of the reference from finite arguments. -/
theorem frame_reference_finite : Cert.quiescent_ReferenceIdeal_pre_finite := fun m g _ => frame_reference m g trivial

/-- From equal finite arguments, the kernel's gradients of the keys, the values and the queries are the reference's. -/
theorem algebraic : Cert.algebraic_KernelIdeal_ReferenceIdeal_pre_finite := fun m g m' g' pre args => by
  refine ⟨fun c => Cert.ReferenceIdeal.Value.res_main_v64 (F := Ideal) m' c, fun c => Cert.ReferenceIdeal.Value.res_main_v66 (F := Ideal) m' c,
    fun c => Cert.ReferenceIdeal.Value.res_main_v69 (F := Ideal) m' c, ?_, Cert.ReferenceIdeal.Value.run (F := Ideal) m' g'⟩
  refine (θ_run _ _ _).mono (fun r h c => ?_) (Cert.KernelIdeal.Hand.run_main (F := Ideal) m g)
  obtain ⟨a, H⟩ := Cert.Attn.held_of_finite _ _ _ _ (pre c)
  obtain ⟨e0, e1, e2, e3⟩ := args c
  have H' : Cert.Attn.Held (Cert.Attn.rq m' c) (Cert.Attn.rk m' c) (Cert.Attn.rv m' c) (Cert.Attn.rc m' c) a := by
    unfold Cert.Attn.rq Cert.Attn.rk Cert.Attn.rv Cert.Attn.rc
    rw [e0, e1, e2, e3]
    exact H
  exact ⟨((h.1.1 c).1 4).trans (Cert.Attn.dk_equal m m' c H H'), ((h.1.1 c).1 5).trans (Cert.Attn.dv_equal m m' c H H'),
    (h.1.2 c Cert.KernelIdeal.main_v49_2 (by decide)).trans (Cert.Attn.dq_equal m m' c H H'), Cert.KernelIdeal.Hand.args_of m r h.1 c⟩

end

/-- The forward kernel over the extended reals runs to its end; its arguments stay and its semaphores end at zero. -/
theorem frame_ideal2 : Cert.quiescent_Kernel2Ideal := fun m g _ => Cert.Kernel2Ideal.Hand.frame_fwd (F := Ideal) m g

/-- The same of its reference. -/
theorem frame_reference2 : Cert.quiescent_Reference2Ideal := fun m g _ =>
  (θ_run _ _ _).mono (fun r h => ⟨fun c => (h c).2.2, sem_eq_zero_of_no_sems (by decide) r.2⟩) (Cert.Attn.Fwd.run_ref m g)

section
local instance : Cert.Pre_finite2.Facts := Cert.Attn.Fwd.finite2_facts

/-- The same of the forward kernel over the extended reals from finite arguments. -/
theorem frame_ideal2_finite : Cert.quiescent_Kernel2Ideal_pre_finite2 := fun m g _ => Cert.Kernel2Ideal.Hand.frame_fwd (F := Ideal) m g

/-- The same of its reference from finite arguments. -/
theorem frame_reference2_finite : Cert.quiescent_Reference2Ideal_pre_finite2 := fun m g _ => frame_reference2 m g trivial

/-- From equal finite arguments, the forward kernel's output and logarithms are the reference's. -/
theorem algebraic2 : Cert.algebraic_Kernel2Ideal_Reference2Ideal_pre_finite2 := fun m g m' g' pre args => by
  refine ⟨fun c => Cert.Reference2Ideal.Value.res_main_v35 (F := Ideal) m' c, fun c => Cert.Attn.Fwd.rLse m' c, ?_, Cert.Attn.Fwd.run_ref m' g'⟩
  refine (θ_run _ _ _).mono (fun r h c => ?_) (θ_run_and (Cert.Kernel2Ideal.Hand.run_main (F := Ideal) m g) (Cert.Kernel2Ideal.Hand.frame_fwd (F := Ideal) m g))
  obtain ⟨a, H⟩ := Cert.Attn.Fwd.held_of_finite2 _ _ _ (pre c)
  obtain ⟨e0, e1, e2⟩ := args c
  have H' : Cert.Attn.Held (Cert.Attn.Fwd.rq m' c) (Cert.Attn.Fwd.rk m' c) (Cert.Attn.Fwd.rv m' c) (Cert.Attn.Fwd.rv m' c) a := by
    unfold Cert.Attn.Fwd.rq Cert.Attn.Fwd.rk Cert.Attn.Fwd.rv
    rw [e0, e1, e2]
    exact H
  exact ⟨((h.1.1 c).1 3).trans (Cert.Attn.Fwd.o_equal m m' c H H'), ((h.1.1 c).1 4).trans (Cert.Attn.Fwd.lse_equal m m' c H H'), h.2.1 c⟩

end

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Attn.finite_facts, Cert.Attn.Fwd.finite2_facts, Cert.Attn.frame_kernel, frame_ideal, frame_ideal_finite, frame_reference,
    frame_reference_finite, Cert.Attn.frame_kernel2, frame_ideal2, frame_ideal2_finite, frame_reference2, frame_reference2_finite, preserves, algebraic,
    trivial, algebraic2⟩

end Cert.Proof

end
